-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_finite [hPre_mla_finite : Cert.Pre_mla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_finite [hPre_mla_finite : Cert.Pre_mla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_ffn_tables : Cert.Pre_ffn_tables.Facts] (m : (ℓ : Loc Cert.Kernel2.nD Cert.Kernel2.τ Cert.Kernel2.sig) → Buf (Elt Bits) ℓ) : Prop :=
  ∀ c : Dev Cert.Kernel2.nD,
    (Cert.Pre_ffn_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_ffn_tables : Cert.Pre_ffn_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_tables [hPre_ffn_tables : Cert.Pre_ffn_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_moe_tables : Cert.Pre_moe_tables.Facts] (m : (ℓ : Loc Cert.Kernel4.nD Cert.Kernel4.τ Cert.Kernel4.sig) → Buf (Elt Bits) ℓ) : Prop :=
  ∀ c : Dev Cert.Kernel4.nD,
    (Cert.Pre_moe_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_moe_tables : Cert.Pre_moe_tables.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_moe_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_moe_tables [hPre_moe_tables : Cert.Pre_moe_tables.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_moe_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_fox_finite [hPre_fox_finite : Cert.Pre_fox_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_fox_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_fox_finite [hPre_fox_finite : Cert.Pre_fox_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_fox_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mla_finite [hKernelIdeal : Cert.KernelIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mla_finite [hReferenceIdeal : Cert.ReferenceIdeal.Facts] [hPre_mla_finite : Cert.Pre_mla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_ffn_tables : Cert.Pre_ffn_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_ffn_tables : Cert.Pre_ffn_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_ffn_tables [hReference2Ideal : Cert.Reference2Ideal.Facts] [hPre_ffn_tables : Cert.Pre_ffn_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_moe_tables : Cert.Pre_moe_tables.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_moe_tables : Cert.Pre_moe_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_moe_tables [hReference4Ideal : Cert.Reference4Ideal.Facts] [hPre_moe_tables : Cert.Pre_moe_tables.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_moe_tables m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_fox_finite [hKernel7Ideal : Cert.Kernel7Ideal.Facts] [hPre_fox_finite : Cert.Pre_fox_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_fox_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_fox_finite [hReference7Ideal : Cert.Reference7Ideal.Facts] [hPre_fox_finite : Cert.Pre_fox_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_fox_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def algebraic_KernelIdeal_ReferenceIdeal_pre_mla_finite [hKernelIdeal : Cert.KernelIdeal.Facts] [hReferenceIdeal : Cert.ReferenceIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_ffn_tables : Cert.Pre_ffn_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_moe_tables : Cert.Pre_moe_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_fox_finite [hKernel7Ideal : Cert.Kernel7Ideal.Facts] [hReference7Ideal : Cert.Reference7Ideal.Facts] [hPre_fox_finite : Cert.Pre_fox_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_fox_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v31) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_mla_finite : Cert.Pre_mla_finite.Facts) (hPre_ffn_tables : Cert.Pre_ffn_tables.Facts) (hPre_moe_tables : Cert.Pre_moe_tables.Facts) (hPre_fox_finite : Cert.Pre_fox_finite.Facts),
    quiescent_Kernel (hKernel := hKernel)
    ∧ quiescent_KernelIdeal (hKernelIdeal := hKernelIdeal)
    ∧ quiescent_KernelIdeal_pre_mla_finite (hKernelIdeal := hKernelIdeal) (hPre_mla_finite := hPre_mla_finite)
    ∧ quiescent_ReferenceIdeal (hReferenceIdeal := hReferenceIdeal)
    ∧ quiescent_ReferenceIdeal_pre_mla_finite (hReferenceIdeal := hReferenceIdeal) (hPre_mla_finite := hPre_mla_finite)
    ∧ quiescent_Kernel2 (hKernel2 := hKernel2) (hPre_ffn_tables := hPre_ffn_tables)
    ∧ quiescent_Kernel2Ideal (hKernel2Ideal := hKernel2Ideal) (hPre_ffn_tables := hPre_ffn_tables)
    ∧ quiescent_Reference2Ideal (hReference2Ideal := hReference2Ideal)
    ∧ quiescent_Reference2Ideal_pre_ffn_tables (hReference2Ideal := hReference2Ideal) (hPre_ffn_tables := hPre_ffn_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_moe_tables := hPre_moe_tables)
    ∧ quiescent_Kernel4Ideal (hKernel4Ideal := hKernel4Ideal) (hPre_moe_tables := hPre_moe_tables)
    ∧ quiescent_Reference4Ideal (hReference4Ideal := hReference4Ideal)
    ∧ quiescent_Reference4Ideal_pre_moe_tables (hReference4Ideal := hReference4Ideal) (hPre_moe_tables := hPre_moe_tables)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_fox_finite (hKernel7Ideal := hKernel7Ideal) (hPre_fox_finite := hPre_fox_finite)
    ∧ quiescent_Reference7Ideal (hReference7Ideal := hReference7Ideal)
    ∧ quiescent_Reference7Ideal_pre_fox_finite (hReference7Ideal := hReference7Ideal) (hPre_fox_finite := hPre_fox_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_mla_finite (hKernelIdeal := hKernelIdeal) (hReferenceIdeal := hReferenceIdeal) (hPre_mla_finite := hPre_mla_finite)
    ∧ preserves_Kernel2_Kernel2Ideal
    ∧ algebraic_Kernel2Ideal_Reference2Ideal (hKernel2Ideal := hKernel2Ideal) (hReference2Ideal := hReference2Ideal) (hPre_ffn_tables := hPre_ffn_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_moe_tables := hPre_moe_tables)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_fox_finite (hKernel7Ideal := hKernel7Ideal) (hReference7Ideal := hReference7Ideal) (hPre_fox_finite := hPre_fox_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_ffn_tables.lean ====
abbrev S8320x2048 : Shape := ⟨2, ![8320, 2048]⟩
abbrev S1x2048x5632 : Shape := ⟨3, ![1, 2048, 5632]⟩
abbrev S1x5632x2048 : Shape := ⟨3, ![1, 5632, 2048]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8320x2048 .bf16) (main_arg1 : FVec F S1x2048x5632 .f32) (main_arg2 : FVec F S1x2048x5632 .f32) (main_arg3 : FVec F S1x5632x2048 .f32) (main_arg4 : IVec S8 32) (main_arg5 : IVec S8 32) : IVec S_ 1 :=
  let main_c : IVec S_ 32 := constantI S_ 32 0#32
  let main_v0 : IVec S8 32 := broadcastInDim S8 ![] bcast_S_S8 main_c
  let main_v1 : IVec S8 1 := cmpi .eq main_arg4 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 1#32
  let main_v3 : IVec S8 32 := broadcastInDim S8 ![] bcast_S_S8 main_c_1
  let main_v4 : IVec S8 1 := cmpi .eq main_arg5 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  main_v6
-- ==== Pre_fox_finite.lean ====
abbrev S4x2048x8x128 : Shape := ⟨4, ![4, 2048, 8, 128]⟩
abbrev S4x2048x2x128 : Shape := ⟨4, ![4, 2048, 2, 128]⟩
abbrev S4x2048x8 : Shape := ⟨3, ![4, 2048, 8]⟩
abbrev S_ : Shape := ⟨0, ![]⟩

class Facts : Prop where
  bcast_S_S4x2048x8x128 : S_.BroadcastsInDim S4x2048x8x128 (![] : Fin 0 → Fin S4x2048x8x128.rank)
  reducesTo_S4x2048x8x128_S_d0_1_2_3 : S4x2048x8x128.ReducesTo [0, 1, 2, 3] S_
  h_S_ : 0 < S_.numel
  bcast_S_S4x2048x2x128 : S_.BroadcastsInDim S4x2048x2x128 (![] : Fin 0 → Fin S4x2048x2x128.rank)
  reducesTo_S4x2048x2x128_S_d0_1_2_3 : S4x2048x2x128.ReducesTo [0, 1, 2, 3] S_
  bcast_S_S4x2048x8 : S_.BroadcastsInDim S4x2048x8 (![] : Fin 0 → Fin S4x2048x8.rank)
  reducesTo_S4x2048x8_S_d0_1_2 : S4x2048x8.ReducesTo [0, 1, 2] S_

variable [Facts]

def fn {F : FTy → Type} [FloatOps F] (main_arg0 : FVec F S4x2048x8x128 .f32) (main_arg1 : FVec F S4x2048x2x128 .f32) (main_arg2 : FVec F S4x2048x2x128 .f32) (main_arg3 : FVec F S4x2048x8 .f32) : IVec S_ 1 :=
  let main_v0 : FVec F S4x2048x8x128 .f32 := Host.absf main_arg0
  let main_cst : FVec F S_ .f32 := constant S_ .f32 0x7F800000#32
  let main_v1 : FVec F S4x2048x8x128 .f32 := broadcastInDim S4x2048x8x128 ![] bcast_S_S4x2048x8x128 main_cst
  let main_v2 : IVec S4x2048x8x128 1 := cmpf .olt main_v0 main_v1
  let main_c : IVec S_ 1 := constantI S_ 1 1#1
  let main_v3 : IVec S_ 1 := (fun x v => Host.reduce IntOp.andi x v reducesTo_S4x2048x8x128_S_d0_1_2_3 h_S_) main_v2 main_c
  let main_v4 : FVec F S4x2048x2x128 .f32 := Host.absf main_arg1
  let main_cst_0 : FVec F S_ .f32 := constant S_ .f32 0x7F800000#32
  let main_v5 : FVec F S4x2048x2x128 .f32 := broadcastInDim S4x2048x2x128 ![] bcast_S_S4x2048x2x128 main_cst_0
  let main_v6 : IVec S4x2048x2x128 1 := cmpf .olt main_v4 main_v5
  let main_c_1 : IVec S_ 1 := constantI S_ 1 1#1
  let main_v7 : IVec S_ 1 := (fun x v => Host.reduce IntOp.andi x v reducesTo_S4x2048x2x128_S_d0_1_2_3 h_S_) main_v6 main_c_1
  let main_v8 : IVec S_ 1 := andi main_v3 main_v7
  let main_v9 : FVec F S4x2048x8 .f32 := Host.absf main_arg3
  let main_cst_2 : FVec F S_ .f32 := constant S_ .f32 0x7F800000#32
  let main_v10 : FVec F S4x2048x8 .f32 := broadcastInDim S4x2048x8 ![] bcast_S_S4x2048x8 main_cst_2
  let main_v11 : IVec S4x2048x8 1 := cmpf .olt main_v9 main_v10
  let main_c_3 : IVec S_ 1 := constantI S_ 1 1#1
  let main_v12 : IVec S_ 1 := (fun x v => Host.reduce IntOp.andi x v reducesTo_S4x2048x8_S_d0_1_2 h_S_) main_v11 main_c_3
  let main_v13 : IVec S_ 1 := andi main_v8 main_v12
  main_v13
-- ==== Pre_mla_finite.lean ====
abbrev S4x2048x8x192 : Shape := ⟨4, ![4, 2048, 8, 192]⟩
abbrev S4x2048x8x128 : Shape := ⟨4, ![4, 2048, 8, 128]⟩
abbrev S_ : Shape := ⟨0, ![]⟩

class Facts : Prop where
  bcast_S_S4x2048x8x192 : S_.BroadcastsInDim S4x2048x8x192 (![] : Fin 0 → Fin S4x2048x8x192.rank)
  reducesTo_S4x2048x8x192_S_d0_1_2_3 : S4x2048x8x192.ReducesTo [0, 1, 2, 3] S_
  h_S_ : 0 < S_.numel

variable [Facts]

def fn {F : FTy → Type} [FloatOps F] (main_arg0 : FVec F S4x2048x8x192 .f32) (main_arg1 : FVec F S4x2048x8x192 .f32) (main_arg2 : FVec F S4x2048x8x128 .bf16) : IVec S_ 1 :=
  let main_v0 : FVec F S4x2048x8x192 .f32 := Host.absf main_arg0
  let main_cst : FVec F S_ .f32 := constant S_ .f32 0x7F800000#32
  let main_v1 : FVec F S4x2048x8x192 .f32 := broadcastInDim S4x2048x8x192 ![] bcast_S_S4x2048x8x192 main_cst
  let main_v2 : IVec S4x2048x8x192 1 := cmpf .olt main_v0 main_v1
  let main_c : IVec S_ 1 := constantI S_ 1 1#1
  let main_v3 : IVec S_ 1 := (fun x v => Host.reduce IntOp.andi x v reducesTo_S4x2048x8x192_S_d0_1_2_3 h_S_) main_v2 main_c
  let main_v4 : FVec F S4x2048x8x192 .f32 := Host.absf main_arg1
  let main_cst_0 : FVec F S_ .f32 := constant S_ .f32 0x7F800000#32
  let main_v5 : FVec F S4x2048x8x192 .f32 := broadcastInDim S4x2048x8x192 ![] bcast_S_S4x2048x8x192 main_cst_0
  let main_v6 : IVec S4x2048x8x192 1 := cmpf .olt main_v4 main_v5
  let main_c_1 : IVec S_ 1 := constantI S_ 1 1#1
  let main_v7 : IVec S_ 1 := (fun x v => Host.reduce IntOp.andi x v reducesTo_S4x2048x8x192_S_d0_1_2_3 h_S_) main_v6 main_c_1
  let main_v8 : IVec S_ 1 := andi main_v3 main_v7
  main_v8
-- ==== Pre_moe_tables.lean ====
abbrev S24576x2048 : Shape := ⟨2, ![24576, 2048]⟩
abbrev S8x2048x2816 : Shape := ⟨3, ![8, 2048, 2816]⟩
abbrev S8x2816x2048 : Shape := ⟨3, ![8, 2816, 2048]⟩
abbrev S24 : Shape := ⟨1, ![24]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : FVec F S24576x2048 .bf16) (main_arg1 : FVec F S8x2048x2816 .f32) (main_arg2 : FVec F S8x2048x2816 .f32) (main_arg3 : FVec F S8x2816x2048 .f32) (main_arg4 : IVec S24 32) (main_arg5 : IVec S24 32) : IVec S_ 1 :=
  let main_c : IVec S_ 32 := constantI S_ 32 0#32
  let main_v0 : IVec S24 32 := broadcastInDim S24 ![] bcast_S_S24 main_c
  let main_v1 : IVec S24 1 := cmpi .sge main_arg4 main_v0
  let main_c_0 : IVec S_ 32 := constantI S_ 32 8#32
  let main_v2 : IVec S24 32 := broadcastInDim S24 ![] bcast_S_S24 main_c_0
  let main_v3 : IVec S24 1 := cmpi .slt main_arg4 main_v2
  let main_v4 : IVec S24 1 := andi main_v1 main_v3
  let main_c_1 : IVec S_ 1 := constantI S_ 1 1#1
  let main_v5 : IVec S_ 1 := (fun x v => Host.reduce IntOp.andi x v reducesTo_S24_S_d0 h_S_) main_v4 main_c_1
  main_v5
-- ==== Kernel.lean ====
abbrev S4x2048x8x192 : Shape := ⟨4, ![4, 2048, 8, 192]⟩
abbrev S4x2048x8x128 : Shape := ⟨4, ![4, 2048, 8, 128]⟩
abbrev S4x8x2048x192 : Shape := ⟨4, ![4, 8, 2048, 192]⟩
abbrev S4x8x2048x128 : Shape := ⟨4, ![4, 8, 2048, 128]⟩
abbrev S4x2048x1024 : Shape := ⟨3, ![4, 2048, 1024]⟩
abbrev S1x1x1024x192 : Shape := ⟨4, ![1, 1, 1024, 192]⟩
abbrev S1x1x1024x128 : Shape := ⟨4, ![1, 1, 1024, 128]⟩
abbrev S1x1024x128 : Shape := ⟨3, ![1, 1024, 128]⟩
abbrev S1024x1 : Shape := ⟨2, ![1024, 1]⟩
abbrev S1024x128 : Shape := ⟨2, ![1024, 128]⟩
abbrev S1024x192 : Shape := ⟨2, ![1024, 192]⟩
abbrev S1024x1024 : Shape := ⟨2, ![1024, 1024]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x8x192, .f32⟩
  | .hbm, ⟨1, _⟩ => ⟨S4x2048x8x192, .f32⟩
  | .hbm, ⟨2, _⟩ => ⟨S4x2048x8x128, .bf16⟩
  | .hbm, ⟨3, _⟩ => ⟨S4x8x2048x192, .f32⟩
  | .hbm, ⟨4, _⟩ => ⟨S4x8x2048x192, .bf16⟩
  | .hbm, ⟨5, _⟩ => ⟨S4x8x2048x192, .f32⟩
  | .hbm, ⟨6, _⟩ => ⟨S4x8x2048x192, .bf16⟩
  | .hbm, ⟨7, _⟩ => ⟨S4x8x2048x128, .bf16⟩
  | .hbm, ⟨8, _⟩ => ⟨S4x2048x1024, .bf16⟩
  | .local _ .vmem, ⟨0, _⟩ => ⟨S1x1x1024x192, .bf16⟩
  | .local _ .vmem, ⟨1, _⟩ => ⟨S1x1x1024x192, .bf16⟩
  | .local _ .vmem, ⟨2, _⟩ => ⟨S1x1x1024x192, .bf16⟩
  | .local _ .vmem, ⟨3, _⟩ => ⟨S1x1x1024x192, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S4x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 8, 2, 2], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : BitVec 32 := Scalar.minsi arg2 arg3
  let c0_i32_5 : BitVec 32 := 0#32
  let c0_i32_6 : BitVec 32 := 0#32
  ![arg0.toNat, v16.toNat, v17.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : BitVec 32 := Scalar.minsi arg2 arg3
  let c0_i32_5 : BitVec 32 := 0#32
  let c0_i32_6 : BitVec 32 := 0#32
  ![arg0.toNat, v16.toNat, v17.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S4x2048x8x192 : Shape := ⟨4, ![4, 2048, 8, 192]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x1024 : Shape := ⟨3, ![4, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x8x192, .f32⟩
  | .hbm, ⟨1, _⟩ => ⟨S4x2048x8x192, .f32⟩
  | .hbm, ⟨2, _⟩ => ⟨S4x2048x8x128, .bf16⟩
  | .hbm, ⟨3, _⟩ => ⟨S4x8x2048x2048, .f32⟩
  | .hbm, ⟨4, _⟩ => ⟨S_, .f32⟩
  | .hbm, ⟨5, _⟩ => ⟨S4x8x2048x2048, .f32⟩
  | .hbm, ⟨6, _⟩ => ⟨S4x8x2048x2048, .f32⟩
  | .hbm, ⟨7, _⟩ => ⟨S2048, .i32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S4x8x2048x2048, .i1⟩
  | .hbm, ⟨16, _⟩ => ⟨S4x8x2048x2048, .f32⟩
  | .hbm, ⟨17, _⟩ => ⟨S4x8x2048x2048, .f32⟩
  | .hbm, ⟨18, _⟩ => ⟨S_, .f32⟩
  | .hbm, ⟨19, _⟩ => ⟨S4x8x2048, .f32⟩
  | .hbm, ⟨20, _⟩ => ⟨S_, .f32⟩
  | .hbm, ⟨21, _⟩ => ⟨S4x8x2048, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x2048x8x128, .f32⟩
  | .hbm, ⟨33, _⟩ => ⟨S4x8x128x2048, .f32⟩
  | .hbm, ⟨34, _⟩ => ⟨S4x2048x8x128, .f32⟩
  | .hbm, ⟨35, _⟩ => ⟨S4x2048x1024, .f32⟩
  | .hbm, ⟨36, _⟩ => ⟨S4x2048x1024, .bf16⟩
  | _, _ => ⟨S4x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel2.lean ====
abbrev S8320x2048 : Shape := ⟨2, ![8320, 2048]⟩
abbrev S1x2048x5632 : Shape := ⟨3, ![1, 2048, 5632]⟩
abbrev S1x5632x2048 : Shape := ⟨3, ![1, 5632, 2048]⟩
abbrev S8 : Shape := ⟨1, ![8]⟩
abbrev S1040x2048 : Shape := ⟨2, ![1040, 2048]⟩
abbrev S1x2048x256 : Shape := ⟨3, ![1, 2048, 256]⟩
abbrev S1 : Shape := ⟨1, ![1]⟩
abbrev S1x256x2048 : Shape := ⟨3, ![1, 256, 2048]⟩
abbrev S2048x256 : Shape := ⟨2, ![2048, 256]⟩
abbrev S1040x256 : Shape := ⟨2, ![1040, 256]⟩
abbrev S256x2048 : Shape := ⟨2, ![256, 2048]⟩

abbrev nBuf : Space → Nat
  | .hbm => 5
  | .vmem => 10
  | .smem => 2
  | _ => 0

abbrev bufTy : (tb : Table) → Fin (tcTables nBuf tb) → BufTy
  | .hbm, ⟨0, _⟩ => ⟨S8320x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1040x2048, .f32⟩
  | .local _ .vmem, ⟨9, _⟩ => ⟨S1040x2048, .f32⟩
  | .local _ .smem, ⟨0, _⟩ => ⟨S8, .i32⟩
  | .local _ .smem, ⟨1, _⟩ => ⟨S8, .i32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 22], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8320x2048 : Shape := ⟨2, ![8320, 2048]⟩
abbrev S1x2048x5632 : Shape := ⟨3, ![1, 2048, 5632]⟩
abbrev S1x5632x2048 : Shape := ⟨3, ![1, 5632, 2048]⟩
abbrev S8 : Shape := ⟨1, ![8]⟩
abbrev S2048x5632 : Shape := ⟨2, ![2048, 5632]⟩
abbrev S8320x5632 : Shape := ⟨2, ![8320, 5632]⟩
abbrev S_ : Shape := ⟨0, ![]⟩
abbrev S5632x2048 : Shape := ⟨2, ![5632, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8, .i32⟩
  | .hbm, ⟨5, _⟩ => ⟨S8, .i32⟩
  | .hbm, ⟨6, _⟩ => ⟨S8320x2048, .f32⟩
  | .hbm, ⟨7, _⟩ => ⟨S2048x5632, .f32⟩
  | .hbm, ⟨8, _⟩ => ⟨S8320x5632, .f32⟩
  | .hbm, ⟨9, _⟩ => ⟨S8320x5632, .f32⟩
  | .hbm, ⟨10, _⟩ => ⟨S8320x5632, .f32⟩
  | .hbm, ⟨11, _⟩ => ⟨S_, .f32⟩
  | .hbm, ⟨12, _⟩ => ⟨S8320x5632, .f32⟩
  | .hbm, ⟨13, _⟩ => ⟨S8320x5632, .f32⟩
  | .hbm, ⟨14, _⟩ => ⟨S_, .f32⟩
  | .hbm, ⟨15, _⟩ => ⟨S8320x5632, .f32⟩
  | .hbm, ⟨16, _⟩ => ⟨S8320x5632, .f32⟩
  | .hbm, ⟨17, _⟩ => ⟨S8320x5632, .f32⟩
  | .hbm, ⟨18, _⟩ => ⟨S2048x5632, .f32⟩
  | .hbm, ⟨19, _⟩ => ⟨S8320x5632, .f32⟩
  | .hbm, ⟨20, _⟩ => ⟨S8320x5632, .f32⟩
  | .hbm, ⟨21, _⟩ => ⟨S5632x2048, .f32⟩
  | .hbm, ⟨22, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Kernel3.lean ====
abbrev S8320x2048 : Shape := ⟨2, ![8320, 2048]⟩
abbrev S2048x2048 : Shape := ⟨2, ![2048, 2048]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8320x2048 : Shape := ⟨2, ![8320, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .f32⟩
  | .hbm, ⟨2, _⟩ => ⟨S8320x2048, .f32⟩
  | .hbm, ⟨3, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S24576x2048 : Shape := ⟨2, ![24576, 2048]⟩
abbrev S8x2048x2816 : Shape := ⟨3, ![8, 2048, 2816]⟩
abbrev S8x2816x2048 : Shape := ⟨3, ![8, 2816, 2048]⟩
abbrev S24 : Shape := ⟨1, ![24]⟩
abbrev S1024x2048 : Shape := ⟨2, ![1024, 2048]⟩
abbrev S1x2048x256 : Shape := ⟨3, ![1, 2048, 256]⟩
abbrev S1 : Shape := ⟨1, ![1]⟩
abbrev S1x256x2048 : Shape := ⟨3, ![1, 256, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 10
  | .smem => 2
  | _ => 0

abbrev bufTy : (tb : Table) → Fin (tcTables nBuf tb) → BufTy
  | .hbm, ⟨0, _⟩ => ⟨S24576x2048, .bf16⟩
  | .hbm, ⟨1, _⟩ => ⟨S8x2048x2816, .f32⟩
  | .hbm, ⟨2, _⟩ => ⟨S8x2048x2816, .f32⟩
  | .hbm, ⟨3, _⟩ => ⟨S8x2816x2048, .f32⟩
  | .hbm, ⟨4, _⟩ => ⟨S24576x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x2048, .f32⟩
  | .local _ .vmem, ⟨9, _⟩ => ⟨S1024x2048, .f32⟩
  | .local _ .smem, ⟨0, _⟩ => ⟨S24, .i32⟩
  | .local _ .smem, ⟨1, _⟩ => ⟨S24, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 11], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let v2 : Index := Scalar.indexCast arg0
  let v3 : BitVec 32 := pf.at 1 (Rect.unit (s := S24) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let v2 : Index := Scalar.indexCast arg0
  let v3 : BitVec 32 := pf.at 1 (Rect.unit (s := S24) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let v2 : Index := Scalar.indexCast arg0
  let v3 : BitVec 32 := pf.at 1 (Rect.unit (s := S24) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S24576x2048 : Shape := ⟨2, ![24576, 2048]⟩
abbrev S8x2048x2816 : Shape := ⟨3, ![8, 2048, 2816]⟩
abbrev S8x2816x2048 : Shape := ⟨3, ![8, 2816, 2048]⟩
abbrev S24 : Shape := ⟨1, ![24]⟩
abbrev S8x2816x24576 : Shape := ⟨3, ![8, 2816, 24576]⟩
abbrev S8x24576x2816 : Shape := ⟨3, ![8, 24576, 2816]⟩
abbrev S_ : Shape := ⟨0, ![]⟩
abbrev S8x24576x2048 : Shape := ⟨3, ![8, 24576, 2048]⟩
abbrev S24x1 : Shape := ⟨2, ![24, 1]⟩
abbrev S24x1024 : Shape := ⟨2, ![24, 1024]⟩
abbrev S24576 : Shape := ⟨1, ![24576]⟩
abbrev S8 : Shape := ⟨1, ![8]⟩
abbrev S8x1 : Shape := ⟨2, ![8, 1]⟩
abbrev S1x24576 : Shape := ⟨2, ![1, 24576]⟩
abbrev S8x24576 : Shape := ⟨2, ![8, 24576]⟩
abbrev S8x24576x1 : Shape := ⟨3, ![8, 24576, 1]⟩

abbrev nBuf : Space → Nat
  | .hbm => 48
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S8x2048x2816, .f32⟩
  | .hbm, ⟨2, _⟩ => ⟨S8x2048x2816, .f32⟩
  | .hbm, ⟨3, _⟩ => ⟨S8x2816x2048, .f32⟩
  | .hbm, ⟨4, _⟩ => ⟨S24, .i32⟩
  | .hbm, ⟨5, _⟩ => ⟨S24, .i32⟩
  | .hbm, ⟨6, _⟩ => ⟨S24576x2048, .f32⟩
  | .hbm, ⟨7, _⟩ => ⟨S8x2816x24576, .f32⟩
  | .hbm, ⟨8, _⟩ => ⟨S8x24576x2816, .f32⟩
  | .hbm, ⟨9, _⟩ => ⟨S8x2816x24576, .f32⟩
  | .hbm, ⟨10, _⟩ => ⟨S8x24576x2816, .f32⟩
  | .hbm, ⟨11, _⟩ => ⟨S8x24576x2816, .f32⟩
  | .hbm, ⟨12, _⟩ => ⟨S8x24576x2816, .f32⟩
  | .hbm, ⟨13, _⟩ => ⟨S_, .f32⟩
  | .hbm, ⟨14, _⟩ => ⟨S8x24576x2816, .f32⟩
  | .hbm, ⟨15, _⟩ => ⟨S8x24576x2816, .f32⟩
  | .hbm, ⟨16, _⟩ => ⟨S_, .f32⟩
  | .hbm, ⟨17, _⟩ => ⟨S8x24576x2816, .f32⟩
  | .hbm, ⟨18, _⟩ => ⟨S8x24576x2816, .f32⟩
  | .hbm, ⟨19, _⟩ => ⟨S8x24576x2816, .f32⟩
  | .hbm, ⟨20, _⟩ => ⟨S8x24576x2816, .f32⟩
  | .hbm, ⟨21, _⟩ => ⟨S8x24576x2048, .f32⟩
  | .hbm, ⟨22, _⟩ => ⟨S24x1, .i32⟩
  | .hbm, ⟨23, _⟩ => ⟨S24x1024, .i32⟩
  | .hbm, ⟨24, _⟩ => ⟨S24576, .i32⟩
  | .hbm, ⟨25, _⟩ => ⟨S_, .i32⟩
  | .hbm, ⟨26, _⟩ => ⟨S24, .i32⟩
  | .hbm, ⟨27, _⟩ => ⟨S24, .i1⟩
  | .hbm, ⟨28, _⟩ => ⟨S24x1, .i1⟩
  | .hbm, ⟨29, _⟩ => ⟨S24x1024, .i1⟩
  | .hbm, ⟨30, _⟩ => ⟨S24576, .i1⟩
  | .hbm, ⟨31, _⟩ => ⟨S8, .i32⟩
  | .hbm, ⟨32, _⟩ => ⟨S8x1, .i32⟩
  | .hbm, ⟨33, _⟩ => ⟨S1x24576, .i32⟩
  | .hbm, ⟨34, _⟩ => ⟨S8x24576, .i32⟩
  | .hbm, ⟨35, _⟩ => ⟨S8x24576, .i32⟩
  | .hbm, ⟨36, _⟩ => ⟨S8x24576, .i1⟩
  | .hbm, ⟨37, _⟩ => ⟨S1x24576, .i1⟩
  | .hbm, ⟨38, _⟩ => ⟨S8x24576, .i1⟩
  | .hbm, ⟨39, _⟩ => ⟨S8x24576, .i1⟩
  | .hbm, ⟨40, _⟩ => ⟨S8x24576x1, .i1⟩
  | .hbm, ⟨41, _⟩ => ⟨S_, .f32⟩
  | .hbm, ⟨42, _⟩ => ⟨S_, .f32⟩
  | .hbm, ⟨43, _⟩ => ⟨S8x24576x2048, .i1⟩
  | .hbm, ⟨44, _⟩ => ⟨S8x24576x2048, .f32⟩
  | .hbm, ⟨45, _⟩ => ⟨S8x24576x2048, .f32⟩
  | .hbm, ⟨46, _⟩ => ⟨S_, .f32⟩
  | .hbm, ⟨47, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_cst_0 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel5.lean ====
abbrev S8320x2048 : Shape := ⟨2, ![8320, 2048]⟩
abbrev S2048x8224 : Shape := ⟨2, ![2048, 8224]⟩
abbrev S8224x2048 : Shape := ⟨2, ![8224, 2048]⟩
abbrev S8320x8224 : Shape := ⟨2, ![8320, 8224]⟩
abbrev S1040x2048 : Shape := ⟨2, ![1040, 2048]⟩
abbrev S512x2048 : Shape := ⟨2, ![512, 2048]⟩
abbrev S1040x512 : Shape := ⟨2, ![1040, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x8224, .f32⟩
  | .hbm, ⟨2, _⟩ => ⟨S8224x2048, .f32⟩
  | .hbm, ⟨3, _⟩ => ⟨S8320x8224, .f32⟩
  | .local _ .vmem, ⟨0, _⟩ => ⟨S1040x2048, .bf16⟩
  | .local _ .vmem, ⟨1, _⟩ => ⟨S1040x2048, .bf16⟩
  | .local _ .vmem, ⟨2, _⟩ => ⟨S512x2048, .f32⟩
  | .local _ .vmem, ⟨3, _⟩ => ⟨S512x2048, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8320x2048 : Shape := ⟨2, ![8320, 2048]⟩
abbrev S2048x8224 : Shape := ⟨2, ![2048, 8224]⟩
abbrev S8320x8224 : Shape := ⟨2, ![8320, 8224]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x8224, .f32⟩
  | .hbm, ⟨2, _⟩ => ⟨S8320x2048, .f32⟩
  | .hbm, ⟨3, _⟩ => ⟨S8320x8224, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8320x2048 : Shape := ⟨2, ![8320, 2048]⟩
abbrev S2048x2376 : Shape := ⟨2, ![2048, 2376]⟩
abbrev S2376x2048 : Shape := ⟨2, ![2376, 2048]⟩
abbrev S8320x2376 : Shape := ⟨2, ![8320, 2376]⟩
abbrev S1040x2048 : Shape := ⟨2, ![1040, 2048]⟩
abbrev S512x2048 : Shape := ⟨2, ![512, 2048]⟩
abbrev S1040x512 : Shape := ⟨2, ![1040, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2376, .f32⟩
  | .hbm, ⟨2, _⟩ => ⟨S2376x2048, .f32⟩
  | .hbm, ⟨3, _⟩ => ⟨S8320x2376, .f32⟩
  | .local _ .vmem, ⟨0, _⟩ => ⟨S1040x2048, .bf16⟩
  | .local _ .vmem, ⟨1, _⟩ => ⟨S1040x2048, .bf16⟩
  | .local _ .vmem, ⟨2, _⟩ => ⟨S512x2048, .f32⟩
  | .local _ .vmem, ⟨3, _⟩ => ⟨S512x2048, .f32⟩
  | .local _ .vmem, ⟨4, _⟩ => ⟨S1040x512, .f32⟩
  | .local _ .vmem, ⟨5, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8320x2048 : Shape := ⟨2, ![8320, 2048]⟩
abbrev S2048x2376 : Shape := ⟨2, ![2048, 2376]⟩
abbrev S8320x2376 : Shape := ⟨2, ![8320, 2376]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2376, .f32⟩
  | .hbm, ⟨2, _⟩ => ⟨S8320x2048, .f32⟩
  | .hbm, ⟨3, _⟩ => ⟨S8320x2376, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S4x2048x8x128 : Shape := ⟨4, ![4, 2048, 8, 128]⟩
abbrev S4x2048x2x128 : Shape := ⟨4, ![4, 2048, 2, 128]⟩
abbrev S4x2048x8 : Shape := ⟨3, ![4, 2048, 8]⟩
abbrev S4x8x2048 : Shape := ⟨3, ![4, 8, 2048]⟩
abbrev S4x8x2048x128 : Shape := ⟨4, ![4, 8, 2048, 128]⟩
abbrev S4x2x2048x128 : Shape := ⟨4, ![4, 2, 2048, 128]⟩
abbrev S4x8x2048x1 : Shape := ⟨4, ![4, 8, 2048, 1]⟩
abbrev S4x8x1x2048 : Shape := ⟨4, ![4, 8, 1, 2048]⟩
abbrev S4x2048x1024 : Shape := ⟨3, ![4, 2048, 1024]⟩
abbrev S1x1x1024x128 : Shape := ⟨4, ![1, 1, 1024, 128]⟩
abbrev S1x1x1024x1 : Shape := ⟨4, ![1, 1, 1024, 1]⟩
abbrev S1x1x1x1024 : Shape := ⟨4, ![1, 1, 1, 1024]⟩
abbrev S1x1024x128 : Shape := ⟨3, ![1, 1024, 128]⟩
abbrev S1024x1 : Shape := ⟨2, ![1024, 1]⟩
abbrev S1024x128 : Shape := ⟨2, ![1024, 128]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x2x128, .f32⟩
  | .hbm, ⟨2, _⟩ => ⟨S4x2048x2x128, .f32⟩
  | .hbm, ⟨3, _⟩ => ⟨S4x2048x8, .f32⟩
  | .hbm, ⟨4, _⟩ => ⟨S4x8x2048, .f32⟩
  | .hbm, ⟨5, _⟩ => ⟨S4x8x2048x128, .f32⟩
  | .hbm, ⟨6, _⟩ => ⟨S4x8x2048x128, .bf16⟩
  | .hbm, ⟨7, _⟩ => ⟨S4x2x2048x128, .f32⟩
  | .hbm, ⟨8, _⟩ => ⟨S4x2x2048x128, .bf16⟩
  | .hbm, ⟨9, _⟩ => ⟨S4x2x2048x128, .f32⟩
  | .hbm, ⟨10, _⟩ => ⟨S4x2x2048x128, .bf16⟩
  | .hbm, ⟨11, _⟩ => ⟨S4x8x2048x1, .f32⟩
  | .hbm, ⟨12, _⟩ => ⟨S4x8x1x2048, .f32⟩
  | .hbm, ⟨13, _⟩ => ⟨S4x2048x1024, .bf16⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x1024x128, .bf16⟩
  | .local _ .vmem, ⟨3, _⟩ => ⟨S1x1x1024x128, .bf16⟩
  | .local _ .vmem, ⟨4, _⟩ => ⟨S1x1x1024x128, .bf16⟩
  | .local _ .vmem, ⟨5, _⟩ => ⟨S1x1x1024x128, .bf16⟩
  | .local _ .vmem, ⟨6, _⟩ => ⟨S1x1x1024x1, .f32⟩
  | .local _ .vmem, ⟨7, _⟩ => ⟨S1x1x1024x1, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024x128, .bf16⟩
  | .local _ .vmem, ⟨11, _⟩ => ⟨S1x1024x128, .bf16⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 8, 2, 2], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.minsi arg2 arg3
  let c0_i32_4 : BitVec 32 := 0#32
  let c0_i32_5 : BitVec 32 := 0#32
  ![arg0.toNat, v16.toNat, v17.toNat, c0_i32_4.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : BitVec 32 := Scalar.minsi arg2 arg3
  let c0_i32_4 : BitVec 32 := 0#32
  let c0_i32_5 : BitVec 32 := 0#32
  ![arg0.toNat, v16.toNat, v17.toNat, c0_i32_4.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg2 arg3
  let c0_i32 : BitVec 32 := 0#32
  let c0_i32_0 : BitVec 32 := 0#32
  ![arg0.toNat, arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== Reference7Ideal.lean ====
abbrev S4x2048x8x128 : Shape := ⟨4, ![4, 2048, 8, 128]⟩
abbrev S4x2048x2x128 : Shape := ⟨4, ![4, 2048, 2, 128]⟩
abbrev S4x2048x8 : Shape := ⟨3, ![4, 2048, 8]⟩
abbrev S4x2048x2x4 : Shape := ⟨4, ![4, 2048, 2, 4]⟩
abbrev S4x2x4x2048 : Shape := ⟨4, ![4, 2, 4, 2048]⟩
abbrev S4x2048x2x4x128 : Shape := ⟨5, ![4, 2048, 2, 4, 128]⟩
abbrev S4x2x2048x2048x4 : Shape := ⟨5, ![4, 2, 2048, 2048, 4]⟩
abbrev S4x2x4x2048x2048 : Shape := ⟨5, ![4, 2, 4, 2048, 2048]⟩
abbrev S_ : Shape := ⟨0, ![]⟩
abbrev S4x2x4x2048x1 : Shape := ⟨5, ![4, 2, 4, 2048, 1]⟩
abbrev S4x2x4x1x2048 : Shape := ⟨5, ![4, 2, 4, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x2x128x4x2048 : Shape := ⟨5, ![4, 2, 128, 4, 2048]⟩
abbrev S4x2048x1024 : Shape := ⟨3, ![4, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x2x128, .f32⟩
  | .hbm, ⟨2, _⟩ => ⟨S4x2048x2x128, .f32⟩
  | .hbm, ⟨3, _⟩ => ⟨S4x2048x8, .f32⟩
  | .hbm, ⟨4, _⟩ => ⟨S4x2048x2x4, .f32⟩
  | .hbm, ⟨5, _⟩ => ⟨S4x2x4x2048, .f32⟩
  | .hbm, ⟨6, _⟩ => ⟨S4x2048x2x4x128, .f32⟩
  | .hbm, ⟨7, _⟩ => ⟨S4x2x2048x2048x4, .f32⟩
  | .hbm, ⟨8, _⟩ => ⟨S4x2x4x2048x2048, .f32⟩
  | .hbm, ⟨9, _⟩ => ⟨S_, .f32⟩
  | .hbm, ⟨10, _⟩ => ⟨S4x2x4x2048x2048, .f32⟩
  | .hbm, ⟨11, _⟩ => ⟨S4x2x4x2048x2048, .f32⟩
  | .hbm, ⟨12, _⟩ => ⟨S4x2x4x2048x1, .f32⟩
  | .hbm, ⟨13, _⟩ => ⟨S4x2x4x2048x2048, .f32⟩
  | .hbm, ⟨14, _⟩ => ⟨S4x2x4x2048x2048, .f32⟩
  | .hbm, ⟨15, _⟩ => ⟨S4x2x4x1x2048, .f32⟩
  | .hbm, ⟨16, _⟩ => ⟨S4x2x4x2048x2048, .f32⟩
  | .hbm, ⟨17, _⟩ => ⟨S4x2x4x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S4x2x4x2048x2048, .i1⟩
  | .hbm, ⟨27, _⟩ => ⟨S4x2x4x2048x2048, .f32⟩
  | .hbm, ⟨28, _⟩ => ⟨S4x2x4x2048x2048, .f32⟩
  | .hbm, ⟨29, _⟩ => ⟨S_, .f32⟩
  | .hbm, ⟨30, _⟩ => ⟨S4x2x4x2048, .f32⟩
  | .hbm, ⟨31, _⟩ => ⟨S_, .f32⟩
  | .hbm, ⟨32, _⟩ => ⟨S4x2x4x2048, .f32⟩
  | .hbm, ⟨33, _⟩ => ⟨S4x2x4x2048, .f32⟩
  | .hbm, ⟨34, _⟩ => ⟨S4x2x4x2048x1, .f32⟩
  | .hbm, ⟨35, _⟩ => ⟨S4x2x4x2048x2048, .f32⟩
  | .hbm, ⟨36, _⟩ => ⟨S4x2x4x2048x2048, .f32⟩
  | .hbm, ⟨37, _⟩ => ⟨S4x2x4x2048x2048, .f32⟩
  | .hbm, ⟨38, _⟩ => ⟨S_, .f32⟩
  | .hbm, ⟨39, _⟩ => ⟨S4x2x4x2048, .f32⟩
  | .hbm, ⟨40, _⟩ => ⟨S4x2x4x2048x1, .f32⟩
  | .hbm, ⟨41, _⟩ => ⟨S4x2x4x2048x2048, .f32⟩
  | .hbm, ⟨42, _⟩ => ⟨S4x2x4x2048x2048, .f32⟩
  | .hbm, ⟨43, _⟩ => ⟨S4x2x128x4x2048, .f32⟩
  | .hbm, ⟨44, _⟩ => ⟨S4x2048x2x4x128, .f32⟩
  | .hbm, ⟨45, _⟩ => ⟨S4x2048x1024, .f32⟩
  | .hbm, ⟨46, _⟩ => ⟨S4x2048x1024, .bf16⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel8.lean ====
abbrev S132x2048 : Shape := ⟨2, ![132, 2048]⟩
abbrev S2048x12288 : Shape := ⟨2, ![2048, 12288]⟩
abbrev S12288 : Shape := ⟨1, ![12288]⟩
abbrev S1x12288 : Shape := ⟨2, ![1, 12288]⟩
abbrev S132x12288 : Shape := ⟨2, ![132, 12288]⟩
abbrev S2048x1024 : Shape := ⟨2, ![2048, 1024]⟩
abbrev S1x1024 : Shape := ⟨2, ![1, 1024]⟩
abbrev S132x1024 : Shape := ⟨2, ![132, 1024]⟩

abbrev nBuf : Space → Nat
  | .hbm => 5
  | .vmem => 7
  | .smem => 0
  | _ => 0

abbrev bufTy : (tb : Table) → Fin (tcTables nBuf tb) → BufTy
  | .hbm, ⟨0, _⟩ => ⟨S132x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S132x12288, .f32⟩
  | .local _ .vmem, ⟨0, _⟩ => ⟨S132x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S132x1024, .f32⟩
  | .local _ .vmem, ⟨6, _⟩ => ⟨S132x1024, .f32⟩
  | _, _ => ⟨S132x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S132x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S132x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S132x2048 : Shape := ⟨2, ![132, 2048]⟩
abbrev S2048x12288 : Shape := ⟨2, ![2048, 12288]⟩
abbrev S12288 : Shape := ⟨1, ![12288]⟩
abbrev S_ : Shape := ⟨0, ![]⟩
abbrev S132x12288 : Shape := ⟨2, ![132, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S132x2048, .f32⟩
  | .hbm, ⟨1, _⟩ => ⟨S2048x12288, .f32⟩
  | .hbm, ⟨2, _⟩ => ⟨S12288, .f32⟩
  | .hbm, ⟨3, _⟩ => ⟨S132x2048, .f32⟩
  | .hbm, ⟨4, _⟩ => ⟨S132x2048, .f32⟩
  | .hbm, ⟨5, _⟩ => ⟨S_, .f32⟩
  | .hbm, ⟨6, _⟩ => ⟨S132x2048, .f32⟩
  | .hbm, ⟨7, _⟩ => ⟨S132x2048, .f32⟩
  | .hbm, ⟨8, _⟩ => ⟨S_, .f32⟩
  | .hbm, ⟨9, _⟩ => ⟨S132x2048, .f32⟩
  | .hbm, ⟨10, _⟩ => ⟨S132x2048, .f32⟩
  | .hbm, ⟨11, _⟩ => ⟨S132x2048, .f32⟩
  | .hbm, ⟨12, _⟩ => ⟨S132x12288, .f32⟩
  | .hbm, ⟨13, _⟩ => ⟨S1x12288, .f32⟩
  | .hbm, ⟨14, _⟩ => ⟨S132x12288, .f32⟩
  | .hbm, ⟨15, _⟩ => ⟨S132x12288, .f32⟩
  | _, _ => ⟨S132x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel9.lean ====
abbrev S8320x512 : Shape := ⟨2, ![8320, 512]⟩
abbrev S512x1536 : Shape := ⟨2, ![512, 1536]⟩
abbrev S8320x1536 : Shape := ⟨2, ![8320, 1536]⟩
abbrev S1040x512 : Shape := ⟨2, ![1040, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x512, .bf16⟩
  | .hbm, ⟨1, _⟩ => ⟨S512x1536, .f32⟩
  | .hbm, ⟨2, _⟩ => ⟨S8320x1536, .f32⟩
  | .local _ .vmem, ⟨0, _⟩ => ⟨S1040x512, .bf16⟩
  | .local _ .vmem, ⟨1, _⟩ => ⟨S1040x512, .bf16⟩
  | .local _ .vmem, ⟨2, _⟩ => ⟨S512x512, .f32⟩
  | .local _ .vmem, ⟨3, _⟩ => ⟨S512x512, .f32⟩
  | .local _ .vmem, ⟨4, _⟩ => ⟨S1040x512, .f32⟩
  | .local _ .vmem, ⟨5, _⟩ => ⟨S1040x512, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8320x512 : Shape := ⟨2, ![8320, 512]⟩
abbrev S512x1536 : Shape := ⟨2, ![512, 1536]⟩
abbrev S8320x1536 : Shape := ⟨2, ![8320, 1536]⟩

abbrev nBuf : Space → Nat
  | .hbm => 4
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S512x1536, .f32⟩
  | .hbm, ⟨2, _⟩ => ⟨S8320x512, .f32⟩
  | .hbm, ⟨3, _⟩ => ⟨S8320x1536, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x512, .f32⟩
  | .local _ .vmem, ⟨3, _⟩ => ⟨S256x512, .f32⟩
  | .local _ .vmem, ⟨4, _⟩ => ⟨S1024x512, .bf16⟩
  | .local _ .vmem, ⟨5, _⟩ => ⟨S1024x512, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x2048, .f32⟩
  | .hbm, ⟨2, _⟩ => ⟨S8192x256, .f32⟩
  | .hbm, ⟨3, _⟩ => ⟨S8192x2048, .f32⟩
  | .hbm, ⟨4, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8320x2048 : Shape := ⟨2, ![8320, 2048]⟩
abbrev S132x12288 : Shape := ⟨2, ![132, 12288]⟩
abbrev S2x8320 : Shape := ⟨2, ![2, 8320]⟩
abbrev S2048 : Shape := ⟨1, ![2048]⟩
abbrev S132x6x2048 : Shape := ⟨3, ![132, 6, 2048]⟩
abbrev S6x132x2048 : Shape := ⟨3, ![6, 132, 2048]⟩
abbrev S6x4x2048 : Shape := ⟨3, ![6, 4, 2048]⟩
abbrev S6x4x128x2048 : Shape := ⟨4, ![6, 4, 128, 2048]⟩
abbrev S6x512x2048 : Shape := ⟨3, ![6, 512, 2048]⟩
abbrev S6x128x2048 : Shape := ⟨3, ![6, 128, 2048]⟩
abbrev S6x640x2048 : Shape := ⟨3, ![6, 640, 2048]⟩
abbrev S1x2048 : Shape := ⟨2, ![1, 2048]⟩
abbrev S128x2048 : Shape := ⟨2, ![128, 2048]⟩
abbrev S1x128x2048 : Shape := ⟨3, ![1, 128, 2048]⟩
abbrev S2x128 : Shape := ⟨2, ![2, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩

abbrev nBuf : Space → Nat
  | .hbm => 15
  | .vmem => 13
  | .smem => 0
  | _ => 0

abbrev bufTy : (tb : Table) → Fin (tcTables nBuf tb) → BufTy
  | .hbm, ⟨0, _⟩ => ⟨S8320x2048, .f32⟩
  | .hbm, ⟨1, _⟩ => ⟨S132x12288, .f32⟩
  | .hbm, ⟨2, _⟩ => ⟨S8320x2048, .f32⟩
  | .hbm, ⟨3, _⟩ => ⟨S8320x2048, .f32⟩
  | .hbm, ⟨4, _⟩ => ⟨S2x8320, .f32⟩
  | .hbm, ⟨5, _⟩ => ⟨S2048, .f32⟩
  | .hbm, ⟨6, _⟩ => ⟨S132x6x2048, .f32⟩
  | .hbm, ⟨7, _⟩ => ⟨S6x132x2048, .f32⟩
  | .hbm, ⟨8, _⟩ => ⟨S6x4x2048, .f32⟩
  | .hbm, ⟨9, _⟩ => ⟨S6x4x128x2048, .f32⟩
  | .hbm, ⟨10, _⟩ => ⟨S6x512x2048, .f32⟩
  | .hbm, ⟨11, _⟩ => ⟨S6x128x2048, .f32⟩
  | .hbm, ⟨12, _⟩ => ⟨S6x640x2048, .f32⟩
  | .hbm, ⟨13, _⟩ => ⟨S1x2048, .f32⟩
  | .hbm, ⟨14, _⟩ => ⟨S8320x2048, .f32⟩
  | .local _ .vmem, ⟨0, _⟩ => ⟨S128x2048, .f32⟩
  | .local _ .vmem, ⟨1, _⟩ => ⟨S128x2048, .f32⟩
  | .local _ .vmem, ⟨2, _⟩ => ⟨S1x128x2048, .f32⟩
  | .local _ .vmem, ⟨3, _⟩ => ⟨S1x128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S2x128, .f32⟩
  | .local _ .vmem, ⟨9, _⟩ => ⟨S2x128, .f32⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c5_i32 : BitVec 32 := 5#32
  let c0_i32_4 : BitVec 32 := 0#32
  let c0_i32_5 : BitVec 32 := 0#32
  ![c5_i32.toNat, v17.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8320x2048 : Shape := ⟨2, ![8320, 2048]⟩
abbrev S132x12288 : Shape := ⟨2, ![132, 12288]⟩
abbrev S2x8320 : Shape := ⟨2, ![2, 8320]⟩
abbrev S2048 : Shape := ⟨1, ![2048]⟩
abbrev S132x2048 : Shape := ⟨2, ![132, 2048]⟩
abbrev S4x2048 : Shape := ⟨2, ![4, 2048]⟩
abbrev S4x2048x2048 : Shape := ⟨3, ![4, 2048, 2048]⟩
abbrev S8192x2048 : Shape := ⟨2, ![8192, 2048]⟩
abbrev S128x2048 : Shape := ⟨2, ![128, 2048]⟩
abbrev S1x8320 : Shape := ⟨2, ![1, 8320]⟩
abbrev S8320 : Shape := ⟨1, ![8320]⟩
abbrev S8320x1 : Shape := ⟨2, ![8320, 1]⟩
abbrev S_ : Shape := ⟨0, ![]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S132x12288, .f32⟩
  | .hbm, ⟨2, _⟩ => ⟨S8320x2048, .f32⟩
  | .hbm, ⟨3, _⟩ => ⟨S8320x2048, .f32⟩
  | .hbm, ⟨4, _⟩ => ⟨S2x8320, .f32⟩
  | .hbm, ⟨5, _⟩ => ⟨S2048, .f32⟩
  | .hbm, ⟨6, _⟩ => ⟨S132x2048, .f32⟩
  | .hbm, ⟨7, _⟩ => ⟨S4x2048, .f32⟩
  | .hbm, ⟨8, _⟩ => ⟨S4x2048x2048, .f32⟩
  | .hbm, ⟨9, _⟩ => ⟨S8192x2048, .f32⟩
  | .hbm, ⟨10, _⟩ => ⟨S128x2048, .f32⟩
  | .hbm, ⟨11, _⟩ => ⟨S8320x2048, .f32⟩
  | .hbm, ⟨12, _⟩ => ⟨S1x8320, .f32⟩
  | .hbm, ⟨13, _⟩ => ⟨S8320, .f32⟩
  | .hbm, ⟨14, _⟩ => ⟨S8320x1, .f32⟩
  | .hbm, ⟨15, _⟩ => ⟨S8320x2048, .f32⟩
  | .hbm, ⟨16, _⟩ => ⟨S8320x2048, .f32⟩
  | .hbm, ⟨17, _⟩ => ⟨S1x8320, .f32⟩
  | .hbm, ⟨18, _⟩ => ⟨S8320, .f32⟩
  | .hbm, ⟨19, _⟩ => ⟨S8320x1, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S8320x2048, .f32⟩
  | .hbm, ⟨25, _⟩ => ⟨S8320x2048, .f32⟩
  | .hbm, ⟨26, _⟩ => ⟨S_, .f32⟩
  | .hbm, ⟨27, _⟩ => ⟨S8320, .f32⟩
  | .hbm, ⟨28, _⟩ => ⟨S8320x1, .f32⟩
  | .hbm, ⟨29, _⟩ => ⟨S_, .f32⟩
  | .hbm, ⟨30, _⟩ => ⟨S8320x1, .f32⟩
  | .hbm, ⟨31, _⟩ => ⟨S8320x1, .f32⟩
  | .hbm, ⟨32, _⟩ => ⟨S_, .f32⟩
  | .hbm, ⟨33, _⟩ => ⟨S8320x1, .f32⟩
  | .hbm, ⟨34, _⟩ => ⟨S8320x1, .f32⟩
  | .hbm, ⟨35, _⟩ => ⟨S8320x1, .f32⟩
  | .hbm, ⟨36, _⟩ => ⟨S8320x2048, .f32⟩
  | .hbm, ⟨37, _⟩ => ⟨S8320x2048, .f32⟩
  | .hbm, ⟨38, _⟩ => ⟨S1x2048, .f32⟩
  | .hbm, ⟨39, _⟩ => ⟨S8320x2048, .f32⟩
  | .hbm, ⟨40, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel12.lean ====
abbrev S128x1x2048 : Shape := ⟨3, ![128, 1, 2048]⟩
abbrev S128x1x16 : Shape := ⟨3, ![128, 1, 16]⟩
abbrev S128x16x128x128 : Shape := ⟨4, ![128, 16, 128, 128]⟩
abbrev S1x1x2048 : Shape := ⟨3, ![1, 1, 2048]⟩
abbrev S1x1x16 : Shape := ⟨3, ![1, 1, 16]⟩
abbrev S1x16x128x128 : Shape := ⟨4, ![1, 16, 128, 128]⟩
abbrev S1x16 : Shape := ⟨2, ![1, 16]⟩
abbrev S128x128 : Shape := ⟨2, ![128, 128]⟩
abbrev S1x1x128x128 : Shape := ⟨4, ![1, 1, 128, 128]⟩
abbrev S1x1 : Shape := ⟨2, ![1, 1]⟩
abbrev S1x1x128 : Shape := ⟨3, ![1, 1, 128]⟩
abbrev S1x128 : Shape := ⟨2, ![1, 128]⟩
abbrev S8x128 : Shape := ⟨2, ![8, 128]⟩
abbrev S1x1x1 : Shape := ⟨3, ![1, 1, 1]⟩
abbrev S128 : Shape := ⟨1, ![128]⟩
abbrev S128x1 : Shape := ⟨2, ![128, 1]⟩

abbrev nBuf : Space → Nat
  | .hbm => 8
  | .vmem => 16
  | .smem => 0
  | _ => 0

abbrev bufTy : (tb : Table) → Fin (tcTables nBuf tb) → BufTy
  | .hbm, ⟨0, _⟩ => ⟨S128x1x2048, .f32⟩
  | .hbm, ⟨1, _⟩ => ⟨S128x1x2048, .f32⟩
  | .hbm, ⟨2, _⟩ => ⟨S128x1x2048, .f32⟩
  | .hbm, ⟨3, _⟩ => ⟨S128x1x16, .f32⟩
  | .hbm, ⟨4, _⟩ => ⟨S128x1x16, .f32⟩
  | .hbm, ⟨5, _⟩ => ⟨S128x16x128x128, .f32⟩
  | .hbm, ⟨6, _⟩ => ⟨S128x1x2048, .f32⟩
  | .hbm, ⟨7, _⟩ => ⟨S128x16x128x128, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x16, .f32⟩
  | .local _ .vmem, ⟨7, _⟩ => ⟨S1x1x16, .f32⟩
  | .local _ .vmem, ⟨8, _⟩ => ⟨S1x1x16, .f32⟩
  | .local _ .vmem, ⟨9, _⟩ => ⟨S1x1x16, .f32⟩
  | .local _ .vmem, ⟨10, _⟩ => ⟨S1x16x128x128, .f32⟩
  | .local _ .vmem, ⟨11, _⟩ => ⟨S1x16x128x128, .f32⟩
  | .local _ .vmem, ⟨12, _⟩ => ⟨S1x1x2048, .f32⟩
  | .local _ .vmem, ⟨13, _⟩ => ⟨S1x1x2048, .f32⟩
  | .local _ .vmem, ⟨14, _⟩ => ⟨S1x16x128x128, .f32⟩
  | .local _ .vmem, ⟨15, _⟩ => ⟨S1x16x128x128, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S128x1x2048 : Shape := ⟨3, ![128, 1, 2048]⟩
abbrev S128x1x16 : Shape := ⟨3, ![128, 1, 16]⟩
abbrev S128x16x128x128 : Shape := ⟨4, ![128, 16, 128, 128]⟩
abbrev S128x16x128 : Shape := ⟨3, ![128, 16, 128]⟩
abbrev S128x16 : Shape := ⟨2, ![128, 16]⟩
abbrev S128x16x1x1 : Shape := ⟨4, ![128, 16, 1, 1]⟩
abbrev S128x16x1 : Shape := ⟨3, ![128, 16, 1]⟩
abbrev S128x16x128x1 : Shape := ⟨4, ![128, 16, 128, 1]⟩
abbrev S128x16x1x128 : Shape := ⟨4, ![128, 16, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x2048, .f32⟩
  | .hbm, ⟨2, _⟩ => ⟨S128x1x2048, .f32⟩
  | .hbm, ⟨3, _⟩ => ⟨S128x1x16, .f32⟩
  | .hbm, ⟨4, _⟩ => ⟨S128x1x16, .f32⟩
  | .hbm, ⟨5, _⟩ => ⟨S128x16x128x128, .f32⟩
  | .hbm, ⟨6, _⟩ => ⟨S128x16x128, .f32⟩
  | .hbm, ⟨7, _⟩ => ⟨S128x16x128, .f32⟩
  | .hbm, ⟨8, _⟩ => ⟨S128x16x128, .f32⟩
  | .hbm, ⟨9, _⟩ => ⟨S128x16, .f32⟩
  | .hbm, ⟨10, _⟩ => ⟨S128x16, .f32⟩
  | .hbm, ⟨11, _⟩ => ⟨S128x16, .f32⟩
  | .hbm, ⟨12, _⟩ => ⟨S128x16x1x1, .f32⟩
  | .hbm, ⟨13, _⟩ => ⟨S128x16x128x128, .f32⟩
  | .hbm, ⟨14, _⟩ => ⟨S128x16x128x128, .f32⟩
  | .hbm, ⟨15, _⟩ => ⟨S128x16x1, .f32⟩
  | .hbm, ⟨16, _⟩ => ⟨S128x16x128, .f32⟩
  | .hbm, ⟨17, _⟩ => ⟨S128x16x128, .f32⟩
  | .hbm, ⟨18, _⟩ => ⟨S128x16x128, .f32⟩
  | .hbm, ⟨19, _⟩ => ⟨S128x16x128, .f32⟩
  | .hbm, ⟨20, _⟩ => ⟨S128x16x128x1, .f32⟩
  | .hbm, ⟨21, _⟩ => ⟨S128x16x1x128, .f32⟩
  | .hbm, ⟨22, _⟩ => ⟨S128x16x128x128, .f32⟩
  | .hbm, ⟨23, _⟩ => ⟨S128x16x128x128, .f32⟩
  | .hbm, ⟨24, _⟩ => ⟨S128x16x128x128, .f32⟩
  | .hbm, ⟨25, _⟩ => ⟨S128x16x128x128, .f32⟩
  | .hbm, ⟨26, _⟩ => ⟨S128x16x128, .f32⟩
  | .hbm, ⟨27, _⟩ => ⟨S128x1x2048, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.FlashRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

/-! The attention body, run once per kind of grid point.

The running state of a row block is a triple: the largest score so far, the sum of the exponentials, and the
weighted sum of the values.  `step` folds one key block into it, `outOf` divides at the end.  There are four kinds
of points: the only block of the first row block (`runA`), a block above the diagonal, where nothing happens
(`runB`), the first block of the second row block (`runC`) and its diagonal block (`runD`). -/

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid words of the row block and of the key block. -/
abbrev rowW (i : grid0.Coords) : BitVec 32 := BitVec.ofNat 32 (i 2).val
abbrev keyW (i : grid0.Coords) : BitVec 32 := BitVec.ofNat 32 (i 3).val

/-- The running state: the largest score, the sum of the exponentials, the weighted sum of the values. -/
abbrev St (F : FTy → Type) : Type := Vec F S1024x1 .f32 × Vec F S1024x1 .f32 × Vec F S1024x128 .f32

/-- The state before the first key block. -/
def init0 : St F := (k0_pay1, k0_pay2, k0_pay3)

/-- One key block folded into the state. -/
def step (i : grid0.Coords) (q k : Vec F S1x1x1024x192 .bf16) (v : Vec F S1x1x1024x128 .bf16) (s : St F) : St F :=
  (k0_pay5 (k0_pay8 (rowW i) (keyW i) q k s.1), k0_pay11 (rowW i) (keyW i) q k s.1 s.2.1,
    k0_pay4 (k0_pay12 (rowW i) (keyW i) q k s.1 s.2.2) (k0_pay13 (rowW i) (keyW i) q k s.1) v)

/-- The block written at the end. -/
def outOf (s : St F) : Vec F S1x1024x128 .bf16 := k0_pay6 s.2.2 s.2.1

/-- The three conditions of the body. -/
abbrev atFirst (i : grid0.Coords) : Prop := (Scalar.cmpi .ne (Scalar.extui (Scalar.cmpi .eq (BitVec.ofNat 32 (i 3).val) 0#32)) 0#32) = 1#1
abbrev atBelow (i : grid0.Coords) : Prop := (Scalar.cmpi .ne (Scalar.extui (Scalar.cmpi .sle (BitVec.ofNat 32 (i 3).val) (BitVec.ofNat 32 (i 2).val))) 0#32) = 1#1
abbrev atLast (i : grid0.Coords) : Prop := k0_cond3 i = 1#1

/-- A whole-shape store, last, is what a read of the buffer gives. -/
theorem read_store {sp : Space} {S : Shape} {e : EltTy} (a : Memref sig .tc sp S e)
    (f : a.view.ty.Contents (Elt F)) {off : Fin S.rank → Nat} (h : off = fun _ => 0) (inb : ∀ a, off a + S.size a ≤ S.size a)
    (w : S.Idx → Elt F e) (L : List (View.Piece (Elt F) S e)) :
    a.view.read (Elt F) (a.view.writes (Elt F) f ((⟨Rect.unit off S.size inb, w⟩ : View.Piece (Elt F) S e) :: L)) = w := by
  rw [View.read_writes_eq_canon a.view f _ (fun y => ⟨_, List.mem_cons_self, View.mem_set_unit_zero h inb y⟩)]
  exact View.canon_cons_unit_zero h inb w L

/-- What a load of the whole shape gives after stores of the whole shape: the last store. -/
theorem readCov_store {sp : Space} {S : Shape} {e : EltTy} (v : View sig .tc sp S e) {off off' : Fin S.rank → Nat}
    (h : off = fun _ => 0) (h' : off' = fun _ => 0) (inb : ∀ a, off a + S.size a ≤ S.size a)
    (inb' : ∀ a, off' a + S.size a ≤ S.size a)
    (w : S.Idx → Elt F e) (L : List (View.Piece (Elt F) S e)) :
    v.readCov ((⟨Rect.unit off S.size inb, w⟩ : View.Piece (Elt F) S e) :: L) (Rect.unit off' S.size inb').toLoadRect = w := by
  rw [View.readCov_eq_canon_ld _ _ _ (fun y => ⟨_, List.mem_cons_self, View.mem_set_unit_zero h inb y⟩),
    View.canon_cons_unit_zero h, View.ld_unit_zero h']

theorem zeros2 : (![0, 0] : Fin 2 → Nat) = fun _ => 0 := by decide
theorem zeros3 : (![0, 0, 0] : Fin 3 → Nat) = fun _ => 0 := by decide
theorem zeros4 : (![0, 0, 0, 0] : Fin 4 → Nat) = fun _ => 0 := by decide

/-- A load of the whole shape gives the contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    View.readAt (Elt F) v (Rect.unit off S.size inb).toLoadRect f = v.read (Elt F) f :=
  View.ld_unit_zero h inb (v.read (Elt F) f)

section
variable (c : Dev nD) (i : grid0.Coords) (arg4 : Memref sig .tc .vmem S1x1x1024x192 .bf16) (harg4 : arg4.IsWhole) (arg5 : Memref sig .tc .vmem S1x1x1024x192 .bf16) (harg5 : arg5.IsWhole) (arg6 : Memref sig .tc .vmem S1x1x1024x128 .bf16) (harg6 : arg6.IsWhole) (arg7 : Memref sig .tc .vmem S1x1024x128 .bf16) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole)
    (x0 x1 : Vec F S1x1x1024x192 .bf16) (x2 : Vec F S1x1x1024x128 .bf16)

/-- What the body holds: its three blocks, an output block and a state. -/
def holds (y : Vec F S1x1024x128 .bf16) (s : St F) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare y ∗ owns (c : Thread nD τ) arg8 fullShare s.1 ∗ owns (c : Thread nD τ) arg9 fullShare s.2.1 ∗ owns (c : Thread nD τ) arg10 fullShare s.2.2)

/-- The only block of the first row block: the state starts here and its quotient is written. -/
theorem runA (h1 : atFirst i) (h2 : atBelow i) (h3 : atLast i) (y : Vec F S1x1024x128 .bf16) (s : St F) (E : Set ℕ) (K : PUnit → sProp 𝕄) :
    iprop(holds c arg4 arg5 arg6 arg7 arg8 arg9 arg10 x0 x1 x2 y s
      ∗ (holds c arg4 arg5 arg6 arg7 arg8 arg9 arg10 x0 x1 x2 (outOf (step i x0 x1 x2 init0)) (step i x0 x1 x2 init0) -∗ K ⟨⟩))
      ⊢ wp frame (wpE (defs₀ (F := F)) Variants.none c none) E (cc0_flash_mla i arg4 harg4 arg5 harg5 arg6 harg6 arg7 harg7 arg8 harg8 arg9 harg9 arg10 harg10) K := by
  simp only [cc0_flash_mla_eq_skeleton]; unfold cc0_flash_mla_skel
  simp only [k0_part1_eq_skeleton]
  unfold holds owns
  iintro ⟨⟨⟨%f0, %hf0, H0⟩, ⟨%f1, %hf1, H1⟩, ⟨%f2, %hf2, H2⟩, ⟨%f3, -, H3⟩, ⟨%fs0, -, HS0⟩, ⟨%fs1, -, HS1⟩, ⟨%fs2, -, HS2⟩⟩, Hk⟩
  obtain rfl := harg4.eq_unread hf0; obtain rfl := harg5.eq_unread hf1; obtain rfl := harg6.eq_unread hf2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]; swap; isplitl [HS0]; swap; isplitl [HS1]; swap
  all_goals
    iexists _; isplitr; swap; · first | iexact H3 | iexact HS0 | iexact HS1 | iexact HS2
    ipureintro
    repeat first | unfold runA.sl.v9 | unfold runA.sl.v10 | unfold runA.sl.HS0_1 | unfold runA.sl.HS0_2 | unfold runA.sl.HS1_1 | unfold runA.sl.HS1_2 | unfold runA.sl.HS2_1 | unfold runA.sl.HS2_2 | unfold runA.sl.r | unfold runA.sl.r_1 | unfold runA.sl.r_2 | unfold runA.sl.v24 | unfold runA.sl.v33 | unfold runA.sl.v41 | unfold runA.sl.v45
    first | rw [read_store _ _ zeros3] | rw [read_store _ _ zeros2]
    try simp only [readAt_whole (S := S1x1x1024x192) _ zeros4, readAt_whole (S := S1x1x1024x128) _ zeros4, readAt_whole (S := S1024x1) _ zeros2, readAt_whole (S := S1024x128) _ zeros2, readCov_store (S := S1024x1) _ zeros2 zeros2, readCov_store (S := S1024x128) _ zeros2 zeros2, Memref.IsWhole.read_unread]
    try rfl

/-- A block above the diagonal: nothing happens. -/
theorem runB (h1 : ¬ atFirst i) (h2 : ¬ atBelow i) (h3 : ¬ atLast i) (y : Vec F S1x1024x128 .bf16) (s : St F) (E : Set ℕ) (K : PUnit → sProp 𝕄) :
    iprop(holds c arg4 arg5 arg6 arg7 arg8 arg9 arg10 x0 x1 x2 y s
      ∗ (holds c arg4 arg5 arg6 arg7 arg8 arg9 arg10 x0 x1 x2 y s -∗ K ⟨⟩))
      ⊢ wp frame (wpE (defs₀ (F := F)) Variants.none c none) E (cc0_flash_mla i arg4 harg4 arg5 harg5 arg6 harg6 arg7 harg7 arg8 harg8 arg9 harg9 arg10 harg10) K := by
  simp only [cc0_flash_mla_eq_skeleton]; unfold cc0_flash_mla_skel
  simp only [k0_part1_eq_skeleton]
  unfold holds owns
  iintro ⟨⟨⟨%f0, %hf0, H0⟩, ⟨%f1, %hf1, H1⟩, ⟨%f2, %hf2, H2⟩, ⟨%f3, %hf3, H3⟩, ⟨%fs0, %hs0, HS0⟩, ⟨%fs1, %hs1, HS1⟩, ⟨%fs2, %hs2, HS2⟩⟩, Hk⟩
  obtain rfl := harg4.eq_unread hf0; obtain rfl := harg5.eq_unread hf1; obtain rfl := harg6.eq_unread hf2
  obtain rfl := harg8.eq_unread hs0; obtain rfl := harg9.eq_unread hs1; obtain rfl := harg10.eq_unread hs2
  obtain rfl := harg7.eq_unread hf3
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

/-- The first block of the second row block: the state starts here. -/
theorem runC (h1 : atFirst i) (h2 : atBelow i) (h3 : ¬ atLast i) (y : Vec F S1x1024x128 .bf16) (s : St F) (E : Set ℕ) (K : PUnit → sProp 𝕄) :
    iprop(holds c arg4 arg5 arg6 arg7 arg8 arg9 arg10 x0 x1 x2 y s
      ∗ (holds c arg4 arg5 arg6 arg7 arg8 arg9 arg10 x0 x1 x2 y (step i x0 x1 x2 init0) -∗ K ⟨⟩))
      ⊢ wp frame (wpE (defs₀ (F := F)) Variants.none c none) E (cc0_flash_mla i arg4 harg4 arg5 harg5 arg6 harg6 arg7 harg7 arg8 harg8 arg9 harg9 arg10 harg10) K := by
  simp only [cc0_flash_mla_eq_skeleton]; unfold cc0_flash_mla_skel
  simp only [k0_part1_eq_skeleton]
  unfold holds owns
  iintro ⟨⟨⟨%f0, %hf0, H0⟩, ⟨%f1, %hf1, H1⟩, ⟨%f2, %hf2, H2⟩, ⟨%f3, %hf3, H3⟩, ⟨%fs0, -, HS0⟩, ⟨%fs1, -, HS1⟩, ⟨%fs2, -, HS2⟩⟩, Hk⟩
  obtain rfl := harg4.eq_unread hf0; obtain rfl := harg5.eq_unread hf1; obtain rfl := harg6.eq_unread hf2
  obtain rfl := harg7.eq_unread hf3
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [HS0]; swap; isplitl [HS1]; swap
  all_goals
    iexists _; isplitr; swap; · first | iexact HS0 | iexact HS1 | iexact HS2
    ipureintro
    repeat first | unfold runC.sl.v9 | unfold runC.sl.v10 | unfold runC.sl.HS0_1 | unfold runC.sl.HS0_2 | unfold runC.sl.HS1_1 | unfold runC.sl.HS1_2 | unfold runC.sl.HS2_1 | unfold runC.sl.HS2_2 | unfold runC.sl.r | unfold runC.sl.r_1 | unfold runC.sl.r_2 | unfold runC.sl.v24 | unfold runC.sl.v33 | unfold runC.sl.v41 | unfold runC.sl.v45
    rw [read_store _ _ zeros2]
    try simp only [readAt_whole (S := S1x1x1024x192) _ zeros4, readAt_whole (S := S1x1x1024x128) _ zeros4, readAt_whole (S := S1024x1) _ zeros2, readAt_whole (S := S1024x128) _ zeros2, readCov_store (S := S1024x1) _ zeros2 zeros2, readCov_store (S := S1024x128) _ zeros2 zeros2, Memref.IsWhole.read_unread]
    try rfl

/-- The diagonal block of the second row block: the state goes on from the block before and its quotient is written. -/
theorem runD (h1 : ¬ atFirst i) (h2 : atBelow i) (h3 : atLast i) (y : Vec F S1x1024x128 .bf16) (s : St F) (E : Set ℕ) (K : PUnit → sProp 𝕄) :
    iprop(holds c arg4 arg5 arg6 arg7 arg8 arg9 arg10 x0 x1 x2 y s
      ∗ (holds c arg4 arg5 arg6 arg7 arg8 arg9 arg10 x0 x1 x2 (outOf (step i x0 x1 x2 s)) (step i x0 x1 x2 s) -∗ K ⟨⟩))
      ⊢ wp frame (wpE (defs₀ (F := F)) Variants.none c none) E (cc0_flash_mla i arg4 harg4 arg5 harg5 arg6 harg6 arg7 harg7 arg8 harg8 arg9 harg9 arg10 harg10) K := by
  simp only [cc0_flash_mla_eq_skeleton]; unfold cc0_flash_mla_skel
  simp only [k0_part1_eq_skeleton]
  unfold holds owns
  iintro ⟨⟨⟨%f0, %hf0, H0⟩, ⟨%f1, %hf1, H1⟩, ⟨%f2, %hf2, H2⟩, ⟨%f3, -, H3⟩, ⟨%fs0, %hs0, HS0⟩, ⟨%fs1, %hs1, HS1⟩, ⟨%fs2, %hs2, HS2⟩⟩, Hk⟩
  obtain rfl := harg4.eq_unread hf0; obtain rfl := harg5.eq_unread hf1; obtain rfl := harg6.eq_unread hf2
  obtain rfl := harg8.eq_unread hs0; obtain rfl := harg9.eq_unread hs1; obtain rfl := harg10.eq_unread hs2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]; swap; isplitl [HS0]; swap; isplitl [HS1]; swap
  all_goals
    iexists _; isplitr; swap; · first | iexact H3 | iexact HS0 | iexact HS1 | iexact HS2
    ipureintro
    repeat first | unfold runD.sl.v9 | unfold runD.sl.v10 | unfold runD.sl.HS0_1 | unfold runD.sl.HS0_2 | unfold runD.sl.HS1_1 | unfold runD.sl.HS1_2 | unfold runD.sl.HS2_1 | unfold runD.sl.HS2_2 | unfold runD.sl.r | unfold runD.sl.r_1 | unfold runD.sl.r_2 | unfold runD.sl.v24 | unfold runD.sl.v33 | unfold runD.sl.v41 | unfold runD.sl.v45
    first | rw [read_store _ _ zeros3] | rw [read_store _ _ zeros2]
    try simp only [readAt_whole (S := S1x1x1024x192) _ zeros4, readAt_whole (S := S1x1x1024x128) _ zeros4, readAt_whole (S := S1024x1) _ zeros2, readAt_whole (S := S1024x128) _ zeros2, readCov_store (S := S1024x1) _ zeros2 zeros2, readCov_store (S := S1024x128) _ zeros2 zeros2, Memref.IsWhole.read_unread]
    try rfl

end

end Cert.Flash

end
-- ==== Proof.FlashFrame.lean ====
module

public import proofs.«01_k».proof.Proof.FlashRun
public import Idealize.ShloMosaic.Lib.Claim

@[expose] public section

/-! The attention call's frame, with what it writes named.

After each grid point the scratch holds `stAt` and the output block `outOf stAt`; the pipeline's proof data say so, the
body's four runs prove it, and the library's launch turns it into the run of the whole call. -/

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kinds of points -/

theorem first_iff : ∀ t : Fin cfg0.N, atFirst (grid0.coords t) ↔ t.val % 2 = 0 :=
  (by decide +kernel : ∀ t : Fin grid0.N, atFirst (grid0.coords t) ↔ t.val % 2 = 0)
theorem below_iff : ∀ t : Fin cfg0.N, atBelow (grid0.coords t) ↔ t.val % 4 ≠ 1 :=
  (by decide +kernel : ∀ t : Fin grid0.N, atBelow (grid0.coords t) ↔ t.val % 4 ≠ 1)
theorem last_iff : ∀ t : Fin cfg0.N, atLast (grid0.coords t) ↔ (t.val % 4 = 0 ∨ t.val % 4 = 3) :=
  (by decide +kernel : ∀ t : Fin grid0.N, atLast (grid0.coords t) ↔ (t.val % 4 = 0 ∨ t.val % 4 = 3))
theorem idle_true : ∀ t : Fin cfg0.N, (t.val % 4 = 1 ∨ t.val % 4 = 2) → cfg0.idle 3 (grid0.coords t) = true :=
  (by decide +kernel : ∀ t : Fin grid0.N, (t.val % 4 = 1 ∨ t.val % 4 = 2) → idle0 3 (grid0.coords t) = true)
theorem idle_false : ∀ t : Fin cfg0.N, (t.val % 4 = 0 ∨ t.val % 4 = 3) → cfg0.idle 3 (grid0.coords t) = false :=
  (by decide +kernel : ∀ t : Fin grid0.N, (t.val % 4 = 0 ∨ t.val % 4 = 3) → idle0 3 (grid0.coords t) = false)

/-- The point before. -/
abbrev before (t : Fin cfg0.N) : Fin cfg0.N := ⟨t.val - 1, Nat.lt_of_le_of_lt (Nat.sub_le _ _) t.isLt⟩

/-! ## What the scratch holds after each point -/

/-- Point `t`'s key block folded into the state `s`. -/
def stepAt (c : Dev nD) (t : Fin cfg0.N) (s : St F) : St F :=
  step (grid0.coords t) (iblk m c 0 t) (iblk m c 1 t) (iblk m c 2 t) s

/-- The state after point `t`. -/
def stAt (c : Dev nD) (t : Fin cfg0.N) : St F :=
  if t.val % 2 = 0 then stepAt m c t init0
  else if t.val % 4 = 1 then stepAt m c (before t) init0
  else stepAt m c t (stepAt m c (before t) init0)

theorem stAt_first (c : Dev nD) (t : Fin cfg0.N) (h : t.val % 2 = 0) : stAt m c t = stepAt m c t init0 := if_pos h
theorem stAt_above (c : Dev nD) (t : Fin cfg0.N) (h : t.val % 4 = 1) : stAt m c t = stAt m c (before t) := by
  rw [stAt_first m c (before t) (by simp only [before]; omega)]
  unfold stAt; rw [if_neg (by omega), if_pos h]
theorem stAt_diag (c : Dev nD) (t : Fin cfg0.N) (h : t.val % 4 = 3) : stAt m c t = stepAt m c t (stAt m c (before t)) := by
  rw [stAt_first m c (before t) (by simp only [before]; omega)]
  unfold stAt; rw [if_neg (by omega), if_neg (by omega)]

/-! ## The staging and scratch memrefs, the invariant -/

abbrev sc0 : Memref sig .tc .vmem S1024x1 .f32 := Memref.whole cc0_scratch0
abbrev sc1 : Memref sig .tc .vmem S1024x1 .f32 := Memref.whole cc0_scratch1
abbrev sc2 : Memref sig .tc .vmem S1024x128 .f32 := Memref.whole cc0_scratch2

theorem launchInv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The scratch at a state, and the generator register at some state. -/
def scratchAt (c : Dev nD) (s : St F) : sProp 𝕄 :=
  iprop(iprop(owns (c : Thread nD τ) sc0 fullShare s.1 ∗ owns (c : Thread nD τ) sc1 fullShare s.2.1 ∗ owns (c : Thread nD τ) sc2 fullShare s.2.2) ∗ (∃ r, prngReg c r))

/-- Before the first point the launch's invariant, afterwards the scratch at the state the point before left. -/
def inv (c : Dev nD) : (n : ℕ) → n ≤ cfg0.N → sProp 𝕄
  | 0, _ => Pipeline.ΦA spec0 c
  | n + 1, hn => scratchAt c (stAt m c ⟨n, hn⟩)

theorem inv_pos (c : Dev nD) (t : Fin cfg0.N) (h : t.val ≤ cfg0.N) (hz : t.val ≠ 0) :
    inv m c t.val h = scratchAt c (stAt m c (before t)) := by
  obtain ⟨n, hn⟩ := t
  cases n with
  | zero => exact absurd rfl hz
  | succ n => rfl

/-- At any point the scratch is at some state. -/
theorem inv_some (c : Dev nD) (t : Fin cfg0.N) (h : t.val ≤ cfg0.N) : inv m c t.val h ⊢ iprop(∃ s : St F, scratchAt c s) := by
  by_cases hz : t.val = 0
  · obtain ⟨n, hn⟩ := t
    obtain rfl : n = 0 := hz
    show (Pipeline.ΦA spec0 c : sProp 𝕄) ⊢ _
    rw [launchInv_eq]
    iintro ⟨⟨⟨%a, H0⟩, ⟨%b, H1⟩, ⟨%d, H2⟩⟩, Hg⟩
    iexists ((a, b, d) : St F)
    unfold scratchAt
    isplitl [H0 H1 H2]
    · isplitl [H0]; · iexact H0
      isplitl [H1]; · iexact H1
      iexact H2
    iexact Hg
  · rw [inv_pos m c t h hz]
    iintro H; iexists _; iexact H

/-- The proof data: the arrays as the region finds them, the inputs' buffers at their blocks, the output's at the quotient
    of the state, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (stAt m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outOf (stAt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem flush_false (t : Fin cfg0.N) (h : t.val % 2 = 0) : (cfg0.win 3).flush t = false := by
  cases e : (cfg0.win 3).flush t
  · rfl
  · have := (flush0_3 t).mp e; omega

/-- Above the diagonal the output's buffer still holds what the point before stored. -/
theorem before_3_above (c : Dev nD) (t : Fin cfg0.N) (h : t.val % 4 = 1) (d) :
    (dats m 0 c).before 3 t d = outOf (stAt m c (before t)) := by
  have ht : t.val ≠ 0 := by omega
  have hf : (cfg0.win 3).flush (before t) = false := flush_false (before t) (by simp only [before]; omega)
  have hi : cfg0.idle 3 (cfg0.grid.coords (before t)) = false := idle_false (before t) (.inl (by simp only [before]; omega))
  rw [(dats m 0 c).before_of_pos 3 t ht ((cfg0.win 3).fetch_out rfl t), hf, if_neg Bool.false_ne_true]
  unfold Dat.left
  rw [hi]
  show (dats m 0 c).kept 3 (before t) d = _
  unfold Dat.kept
  rw [Pipeline.fill_of_clip_none 3 _ (fun _ => rfl) d ((dats m 0 c).after 3 (before t)), Window.fill_cut, after_3]

/-! ## The body at any point -/

abbrev ms_0 (t : Fin cfg0.N) : Memref sig .tc .vmem S1x1x1024x192 .bf16 := win0_0.stage (cfg0.slots t 0)
abbrev ms_1 (t : Fin cfg0.N) : Memref sig .tc .vmem S1x1x1024x192 .bf16 := win0_1.stage (cfg0.slots t 1)
abbrev ms_2 (t : Fin cfg0.N) : Memref sig .tc .vmem S1x1x1024x128 .bf16 := win0_2.stage (cfg0.slots t 2)
abbrev ms_3 (t : Fin cfg0.N) : Memref sig .tc .vmem S1x1024x128 .bf16 := win0_3.stage (cfg0.slots t 3)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- From a run of the body at any contents to what the pipeline asks at a point: the inputs at their blocks, the scratch
    from the state before (`hs`: what is known of it) to the state after, the output from what was there (`hy`) to `y'`,
    which is what the pipeline wants left (`hl`). -/
theorem body_of (c : Dev nD) (t : Fin cfg0.N) (ps : St F → Prop)
    (hs : inv m c t.val (Nat.le_of_lt t.isLt) ⊢ iprop(∃ s : St F, ⌜ps s⌝ ∗ scratchAt c s))
    (y' : Vec F S1x1024x128 .bf16 → Vec F S1x1024x128 .bf16)
    (hl : ∀ d, (owns (c : Thread nD τ) (ms_3 t) fullShare (y' ((dats m 0 c).before 3 t d)) : sProp 𝕄) ⊢ (dats m 0 c).leavesExact 3 t)
    (hrun : ∀ (s : St F), ps s → ∀ (y : Vec F S1x1024x128 .bf16) (K : PUnit → sProp 𝕄),
      iprop(holds c (ms_0 t) (ms_1 t) (ms_2 t) (ms_3 t) sc0 sc1 sc2 (iblk m c 0 t) (iblk m c 1 t) (iblk m c 2 t) y s
        ∗ (holds c (ms_0 t) (ms_1 t) (ms_2 t) (ms_3 t) sc0 sc1 sc2 (iblk m c 0 t) (iblk m c 1 t) (iblk m c 2 t) (y' y) (stAt m c t) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before_0, before_1, before_2]
  rw [show (dats m 0 c).owesAt () t.succ = (dats m 0 c).owesAt () t.castSucc from rfl,
    show (dats m 0 c).Φ t.succ = scratchAt c (stAt m c t) from rfl, inv_castSucc m c t,
    show (dats m 0 c).leavesExact 0 t = owns (c : Thread nD τ) (ms_0 t) fullShare (iblk m c 0 t) from rfl,
    show (dats m 0 c).leavesExact 1 t = owns (c : Thread nD τ) (ms_1 t) fullShare (iblk m c 1 t) from rfl,
    show (dats m 0 c).leavesExact 2 t = owns (c : Thread nD τ) (ms_2 t) fullShare (iblk m c 2 t) from rfl]
  iintro ⟨Hi, Ho, ⟨%d0, H0⟩, ⟨%d1, H1⟩, ⟨%d2, H2⟩, ⟨%d3, H3⟩⟩
  ihave Hj := hs $$ Hi
  icases Hj with ⟨%s, %hps, Hs⟩
  unfold scratchAt
  icases Hs with ⟨⟨HS0, HS1, HS2⟩, Hg⟩
  iapply (hrun s hps ((dats m 0 c).before 3 t d3) _)
  unfold holds
  isplitl [H0 H1 H2 H3 HS0 HS1 HS2]
  · isplitl [H0]; · iexact H0
    isplitl [H1]; · iexact H1
    isplitl [H2]; · iexact H2
    isplitl [H3]; · iexact H3
    isplitl [HS0]; · iexact HS0
    isplitl [HS1]; · iexact HS1
    iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iapply (hl d3); iexact H3

theorem some_state (c : Dev nD) (t : Fin cfg0.N) :
    inv m c t.val (Nat.le_of_lt t.isLt) ⊢ iprop(∃ s : St F, ⌜True⌝ ∗ scratchAt c s) := by
  iintro H
  ihave Hj := (inv_some m c t _) $$ H
  icases Hj with ⟨%s, Hs⟩
  iexists s; isplitr; · ipureintro; trivial
  iexact Hs

theorem state_before (c : Dev nD) (t : Fin cfg0.N) (hz : t.val ≠ 0) :
    inv m c t.val (Nat.le_of_lt t.isLt) ⊢ iprop(∃ s : St F, ⌜s = stAt m c (before t)⌝ ∗ scratchAt c s) := by
  rw [inv_pos m c t _ hz]
  iintro H
  iexists _; isplitr; · ipureintro; rfl
  iexact H

/-- Where the output is stored, the pipeline wants the quotient of the state left. -/
theorem leaves_stored (c : Dev nD) (t : Fin cfg0.N) (h : t.val % 4 = 0 ∨ t.val % 4 = 3) :
    (dats m 0 c).leavesExact 3 t = owns (c : Thread nD τ) (ms_3 t) fullShare (outOf (stAt m c t)) := by
  unfold Dat.leavesExact; rw [show cfg0.idle 3 (cfg0.grid.coords t) = false from idle_false t h, after_3]

theorem sound_body (c : Dev nD) (t : Fin cfg0.N) :
    bodyPre m c t ⊢ wp frame (wpE (defs₀ (F := F)) Variants.none c none) Set.univ (bodyAt0 t) (fun _ => bodyPost m c t) := by
  have h4 : t.val % 4 < 4 := Nat.mod_lt _ (by decide)
  have cases : t.val % 4 = 0 ∨ t.val % 4 = 1 ∨ t.val % 4 = 2 ∨ t.val % 4 = 3 := by omega
  rcases cases with h | h | h | h
  · refine body_of m c t (fun _ => True) (some_state m c t) (fun _ => outOf (stAt m c t)) (fun d => ?_) (fun s _ y K => ?_)
    · rw [leaves_stored m c t (.inl h)]
    · rw [stAt_first m c t (by omega)]
      exact runA c (grid0.coords t) _ _ _ _ _ _ _ _ _ _ _ _ _ _ _ _ _ ((first_iff t).mpr (by omega)) ((below_iff t).mpr (by omega)) ((last_iff t).mpr (.inl h)) y s Set.univ K
  · refine body_of m c t (fun s => s = stAt m c (before t)) (state_before m c t (by omega)) (fun y => y) (fun d => ?_) (fun s hs y K => ?_)
    · rw [before_3_above m c t h, ← stAt_above m c t h]
      unfold Dat.leavesExact
      rw [show cfg0.idle 3 (cfg0.grid.coords t) = true from idle_true t (.inl h), show (cfg0.win 3).flush t = true from (flush0_3 t).mpr (by omega), after_3]
    · rw [stAt_above m c t h, hs]
      exact runB c (grid0.coords t) _ _ _ _ _ _ _ _ _ _ _ _ _ _ _ _ _ (fun e => absurd ((first_iff t).mp e) (by omega)) (fun e => absurd ((below_iff t).mp e) (by omega)) (fun e => absurd ((last_iff t).mp e) (by omega)) y _ Set.univ K
  · refine body_of m c t (fun _ => True) (some_state m c t) (fun y => y) (fun d => ?_) (fun s _ y K => ?_)
    · rw [Pipeline.Dat.leavesExact_idle _ 3 t (idle_true t (.inr h)) (flush_false t (by omega))]
      iintro H; iexists d; iexact H
    · rw [stAt_first m c t (by omega)]
      exact runC c (grid0.coords t) _ _ _ _ _ _ _ _ _ _ _ _ _ _ _ _ _ ((first_iff t).mpr (by omega)) ((below_iff t).mpr (by omega)) (fun e => absurd ((last_iff t).mp e) (by omega)) y s Set.univ K
  · refine body_of m c t (fun s => s = stAt m c (before t)) (state_before m c t (by omega)) (fun _ => outOf (stAt m c t)) (fun d => ?_) (fun s hs y K => ?_)
    · rw [leaves_stored m c t (.inr h)]
    · rw [stAt_diag m c t h, hs]
      exact runD c (grid0.coords t) _ _ _ _ _ _ _ _ _ _ _ _ _ _ _ _ _ (fun e => absurd ((first_iff t).mp e) (by omega)) ((below_iff t).mpr (by omega)) ((last_iff t).mpr (.inr h)) y _ Set.univ K

/-! ## The launch -/

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 :=
  show (Pipeline.ΦA spec0 c : sProp 𝕄) ⊢ inv m c 0 (Nat.zero_le _) from .rfl

theorem inv_out (c : Dev nD) : (dats m 0 c).Φ (Fin.last cfg0.N) ⊢ Pipeline.ΦA spec0 c := by
  show inv m c (127 + 1) _ ⊢ _
  rw [launchInv_eq]
  show scratchAt c _ ⊢ _
  unfold scratchAt
  iintro ⟨⟨H0, H1, H2⟩, Hg⟩
  isplitl [H0 H1 H2]
  · isplitl [H0]; · iexists _; iexact H0
    isplitl [H1]; · iexists _; iexact H1
    iexists _; iexact H2
  iexact Hg

set_option backward.isDefEq.respectTransparency.types false in
/-- The call runs; its arrays end at what the proof data compute, the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The frame: the call runs, its arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Flash

end
-- ==== Proof.FlashMath.lean ====
module

public import Idealize.ShloMosaic.PureOps
public import Idealize.ShloMosaic.Lib.IdealHost

@[expose] public section

/-! The arithmetic of a running softmax on the extended reals.

A row's scores are real numbers or minus infinity, so its exponentials are real numbers `w`, up to the factor
`exp (-μ)` a running maximum `μ` brings.  The values are any extended reals. -/

noncomputable section

namespace Cert.FlashMath

open Idealize.ShloMosaic
open scoped BigOperators

/-- A nonnegative real factor goes under a sum of any extended reals. -/
theorem coe_mul_sum {ι : Type} (S : Finset ι) (a : ℝ) (ha : 0 ≤ a) (f : ι → EReal) :
    (a : EReal) * ∑ j ∈ S, f j = ∑ j ∈ S, (a : EReal) * f j := by
  classical
  induction S using Finset.induction_on with
  | empty => simp
  | insert x S hx ih =>
    rw [Finset.sum_insert hx, Finset.sum_insert hx, ← ih]
    exact EReal.left_distrib_of_nonneg_of_ne_top (EReal.coe_nonneg.2 ha) (EReal.coe_ne_top a) _ _

/-- A sum of real numbers is real. -/
theorem coe_sum {ι : Type} (S : Finset ι) (f : ι → ℝ) : ∑ j ∈ S, (f j : EReal) = ((∑ j ∈ S, f j : ℝ) : EReal) := by
  classical
  induction S using Finset.induction_on with
  | empty => simp
  | insert x S hx ih => rw [Finset.sum_insert hx, Finset.sum_insert hx, ih, EReal.coe_add]

/-- The weight `w` of a score `s`: its exponential. -/
def Weight (s : EReal) (w : ℝ) : Prop := 0 ≤ w ∧ ∀ μ : ℝ, Ideal.exp (s - (μ : EReal)) = ((w * Real.exp (-μ) : ℝ) : EReal)

theorem weight_coe (x : ℝ) : Weight (x : EReal) (Real.exp x) := by
  refine ⟨(Real.exp_pos x).le, fun μ => ?_⟩
  rw [← EReal.coe_sub, ← Real.exp_add, ← sub_eq_add_neg]
  rfl

theorem weight_bot : Weight ⊥ 0 := by
  refine ⟨le_rfl, fun μ => ?_⟩
  rw [show (⊥ : EReal) - (μ : EReal) = ⊥ from rfl, zero_mul]
  rfl

/-- A row's state after keys of total weight `W` and weighted values `A`. -/
def Good (W : ℝ) (A : EReal) (m l a : EReal) : Prop :=
  ∃ μ : ℝ, m = (μ : EReal) ∧ l = ((W * Real.exp (-μ) : ℝ) : EReal) ∧ a = ((Real.exp (-μ) : ℝ) : EReal) * A

section
variable {n : ℕ} (s v : Fin n → EReal) (w : Fin n → ℝ)

/-- The running maximum after a block is a real number. -/
theorem max_real (hs : ∀ j, s j < ⊤) (j0 : Fin n) (h0 : ⊥ < s j0) (m : EReal) (hm : m < ⊤) :
    ∃ μ : ℝ, max m ((Finset.univ : Finset (Fin n)).fold max ⊥ s) = (μ : EReal) := by
  have ht : max m ((Finset.univ : Finset (Fin n)).fold max ⊥ s) < ⊤ :=
    max_lt hm ((Finset.fold_max_lt _).2 ⟨bot_lt_top, fun j _ => hs j⟩)
  have hb : ⊥ < max m ((Finset.univ : Finset (Fin n)).fold max ⊥ s) :=
    lt_max_of_lt_right ((Finset.lt_fold_max _).2 (.inr ⟨j0, Finset.mem_univ _, h0⟩))
  exact ⟨_, (EReal.coe_toReal ht.ne hb.ne').symm⟩

theorem sum_exp (hw : ∀ j, Weight (s j) (w j)) (μ : ℝ) :
    ∑ j, Ideal.exp (s j - (μ : EReal)) = (((∑ j, w j) * Real.exp (-μ) : ℝ) : EReal) := by
  rw [Finset.sum_mul, ← coe_sum]
  exact Finset.sum_congr rfl fun j _ => (hw j).2 μ

theorem sum_exp_mul (hw : ∀ j, Weight (s j) (w j)) (μ : ℝ) :
    ∑ j, Ideal.exp (s j - (μ : EReal)) * v j = ((Real.exp (-μ) : ℝ) : EReal) * ∑ j, (w j : EReal) * v j := by
  rw [coe_mul_sum _ _ (Real.exp_pos _).le]
  refine Finset.sum_congr rfl fun j _ => ?_
  rw [(hw j).2 μ, mul_comm (w j), EReal.coe_mul, mul_assoc]

/-- The first block of keys. -/
theorem first (hs : ∀ j, s j < ⊤) (j0 : Fin n) (h0 : ⊥ < s j0) (hw : ∀ j, Weight (s j) (w j)) (m' : EReal)
    (hm' : m' = max ⊥ ((Finset.univ : Finset (Fin n)).fold max ⊥ s)) :
    Good (∑ j, w j) (∑ j, (w j : EReal) * v j) m' (0 * Ideal.exp (⊥ - m') + ∑ j, Ideal.exp (s j - m'))
      (0 * Ideal.exp (⊥ - m') + ∑ j, Ideal.exp (s j - m') * v j) := by
  obtain ⟨μ, hμ⟩ := max_real s hs j0 h0 ⊥ bot_lt_top
  rw [hμ] at hm'
  subst hm'
  refine ⟨μ, rfl, ?_, ?_⟩
  · rw [zero_mul, zero_add, sum_exp s w hw]
  · rw [zero_mul, zero_add, sum_exp_mul s v w hw]

/-- A further block of keys. -/
theorem next (hs : ∀ j, s j < ⊤) (j0 : Fin n) (h0 : ⊥ < s j0) (hw : ∀ j, Weight (s j) (w j)) (W : ℝ) (A m l a : EReal)
    (hg : Good W A m l a) (m' : EReal) (hm' : m' = max m ((Finset.univ : Finset (Fin n)).fold max ⊥ s)) :
    Good (W + ∑ j, w j) (A + ∑ j, (w j : EReal) * v j) m' (l * Ideal.exp (m - m') + ∑ j, Ideal.exp (s j - m'))
      (a * Ideal.exp (m - m') + ∑ j, Ideal.exp (s j - m') * v j) := by
  obtain ⟨μ, rfl, rfl, rfl⟩ := hg
  obtain ⟨ν, hν⟩ := max_real s hs j0 h0 (μ : EReal) (EReal.coe_lt_top μ)
  rw [hν] at hm'
  subst hm'
  have ha : Ideal.exp ((μ : EReal) - (ν : EReal)) = ((Real.exp (μ - ν) : ℝ) : EReal) := by
    rw [← EReal.coe_sub]; rfl
  have hr : Real.exp (-μ) * Real.exp (μ - ν) = Real.exp (-ν) := by
    rw [← Real.exp_add]; congr 1; ring
  refine ⟨ν, rfl, ?_, ?_⟩
  · rw [sum_exp s w hw, ha, ← EReal.coe_mul, ← EReal.coe_add, mul_assoc, hr, ← add_mul]
  · rw [sum_exp_mul s v w hw, ha, mul_right_comm, ← EReal.coe_mul, hr,
      EReal.left_distrib_of_nonneg_of_ne_top (EReal.coe_nonneg.2 (Real.exp_pos _).le) (EReal.coe_ne_top _)]
end

/-- Dividing by a positive real. -/
theorem div_pos (x : EReal) (r : ℝ) (hr : 0 < r) : Ideal.div x (r : EReal) = ((r⁻¹ : ℝ) : EReal) * x := by
  unfold Ideal.div
  rw [if_neg (by exact_mod_cast hr.ne'), mul_comm, EReal.coe_inv]

/-- The quotient of a row's state. -/
theorem quotient (W : ℝ) (hW : 0 < W) (A m l a : EReal) (hg : Good W A m l a) : Ideal.div a l = ((W⁻¹ : ℝ) : EReal) * A := by
  obtain ⟨μ, rfl, rfl, rfl⟩ := hg
  have he := Real.exp_pos (-μ)
  rw [div_pos _ _ (mul_pos hW he), ← mul_assoc, ← EReal.coe_mul]
  congr 2
  field_simp

/-- The normalised weights: the same quotient, key by key, at any maximum. -/
theorem softmax {n : ℕ} (s v : Fin n → EReal) (w : Fin n → ℝ) (hw : ∀ j, Weight (s j) (w j)) (hW : 0 < ∑ j, w j) (μ : ℝ) :
    ∑ j, v j * Ideal.div (Ideal.exp (s j - (μ : EReal))) (0 + ∑ j, Ideal.exp (s j - (μ : EReal)))
      = (((∑ j, w j)⁻¹ : ℝ) : EReal) * ∑ j, (w j : EReal) * v j := by
  have he := Real.exp_pos (-μ)
  rw [zero_add, sum_exp s w hw, coe_mul_sum _ _ (inv_nonneg.2 hW.le)]
  refine Finset.sum_congr rfl fun j _ => ?_
  rw [div_pos _ _ (mul_pos hW he), (hw j).2 μ, mul_comm (v j), ← EReal.coe_mul,
    ← mul_assoc (((∑ j, w j)⁻¹ : ℝ) : EReal), ← EReal.coe_mul]
  congr 2
  field_simp

/-- The scale of the scores is a real number. -/
theorem scale_real : ∃ r : ℝ, Ideal.ofBits .f32 0x3D93CD3A#32 = (r : EReal) := by
  refine ⟨_, (EReal.coe_toReal ?_ ?_).symm⟩ <;> simp [Ideal.ofBits, Ideal.ieee, -EReal.coe_mul]

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- A scaled product of real rows is real. -/
theorem dot_real {n : ℕ} (x y : Fin n → EReal) (hx : ∀ k, ∃ r : ℝ, x k = (r : EReal)) (hy : ∀ k, ∃ r : ℝ, y k = (r : EReal)) :
    ∃ r : ℝ, (∑ k, x k * y k) * Ideal.ofBits .f32 0x3D93CD3A#32 = (r : EReal) := by
  obtain ⟨c, hc⟩ := scale_real
  choose a ha using hx
  choose b hb using hy
  refine ⟨(∑ k, a k * b k) * c, ?_⟩
  rw [hc, EReal.coe_mul, ← coe_sum]
  congr 1
  refine Finset.sum_congr rfl fun k _ => ?_
  rw [ha, hb, EReal.coe_mul]

end Cert.FlashMath

end
-- ==== Proof.FlashPay.lean ====
module

public import proofs.«01_k».proof.Proof.FlashRun
public import proofs.«01_k».proof.Proof.FlashMath
public import Idealize.ShloMosaic.Lib.ValueIdx
public import Idealize.ShloMosaic.Lib.MatmulPlain

@[expose] public section

/-! The attention body's values, read row by row: one key block's masked scores, and what folding them into the running
state does to a row. -/

set_option maxRecDepth 16384

noncomputable section

namespace Cert.Flash

open Cert.KernelIdeal Cert.KernelIdeal.Gen
open Idealize.ShloMosaic Idealize.ShloMosaic.TcCoe Idealize.ShloMosaic.ValueIdx
open scoped BigOperators

/-- One key block's masked scores: above the diagonal of a diagonal block there is none. -/
def blockSc (diag : Prop) [Decidable diag] (q k : Vec Ideal S1x1x1024x192 .bf16) (r c : Fin 1024) : EReal :=
  if diag ∧ r.val < c.val then ⊥
  else @HMul.hMul EReal EReal EReal instHMul (∑ d : Fin 192, @HMul.hMul EReal EReal EReal instHMul (q (ix4 0 0 r d)) (k (ix4 0 0 c d)))
    (Ideal.ofBits .f32 0x3D93CD3A#32)

variable (a2 a3 : BitVec 32) (q k : Vec Ideal S1x1x1024x192 .bf16)

theorem cast_row (x : Vec Ideal S1x1x1024x192 .bf16) (r : Fin 1024) (d : Fin 192) :
    shapeCast S1024x192 x shapeCasts_S1x1x1024x192_S1024x192 (ix2 r d) = x (ix4 0 0 r d) :=
  shapeCast_apply x _ _ _ (by
    rewrite [Shape.rowMajor_val_four, Shape.rowMajor_val_two]
    show ((0 * 1 + 0) * 1024 + r.val) * 192 + d.val = r.val * 192 + d.val
    omega)

theorem cast_val (x : Vec Ideal S1x1x1024x128 .bf16) (c : Fin 1024) (e : Fin 128) :
    shapeCast S1024x128 x shapeCasts_S1x1x1024x128_S1024x128 (ix2 c e) = x (ix4 0 0 c e) :=
  shapeCast_apply x _ _ _ (by
    rewrite [Shape.rowMajor_val_four, Shape.rowMajor_val_two]
    show ((0 * 1 + 0) * 1024 + c.val) * 128 + e.val = c.val * 128 + e.val
    omega)

theorem cast_col (x : FVec Ideal S1024 .f32) (r : Fin 1024) :
    shapeCast S1024x1 x shapeCasts_S1024_S1024x1 (ix2 r 0) = x (ix1 r) :=
  shapeCast_apply x _ _ _ (by
    rewrite [Shape.rowMajor_val_one, Shape.rowMajor_val_two]
    show r.val = r.val * 1 + 0
    omega)

theorem spread_keys (x : FVec Ideal S1024x1 .f32) (r c : Fin 1024) :
    broadcastTo S1024x1024 x broadcasts_S1024x1_S1024x1024 (ix2 r c) = x (ix2 r 0) :=
  broadcastTo_apply x _ _ _ fun a => match a with | ⟨0, _⟩ => rfl | ⟨1, _⟩ => rfl

theorem spread_vals (x : FVec Ideal S1024x1 .f32) (r : Fin 1024) (e : Fin 128) :
    broadcastTo S1024x128 x broadcasts_S1024x1_S1024x128 (ix2 r e) = x (ix2 r 0) :=
  broadcastTo_apply x _ _ _ fun a => match a with | ⟨0, _⟩ => rfl | ⟨1, _⟩ => rfl

theorem lift_row (r : Fin 1024) (c : Fin (S1024x1024.size 1)) :
    (reduces_S1024x1024_S1024 : S1024x1024.Reduces [1] S1024).lift (ix1 r) c = ix2 r (⟨c.val, c.isLt⟩ : Fin 1024) := by
  funext a; apply Fin.ext
  match a with
  | ⟨0, _⟩ => rfl
  | ⟨1, _⟩ => rfl

theorem mask_bit (r c : Fin 1024) :
    IntOp.andi (IntOp.cmpi .eq a3 a2) (IntOp.cmpi .sgt (BitVec.ofNat 32 c.val) (BitVec.ofNat 32 r.val)) = 1#1
      ↔ (a3 = a2 ∧ r.val < c.val) := by
  have hr : (BitVec.ofNat 32 r.val).toInt = (r.val : Int) := WordCmp.toInt_ofNat_of_lt (by omega)
  have hc : (BitVec.ofNat 32 c.val).toInt = (c.val : Int) := WordCmp.toInt_ofNat_of_lt (by omega)
  rw [IntOp.andi_eq_one]
  unfold IntOp.cmpi
  simp only [BitVec.slt, hr, hc, WordCmp.ofBool_eq_one_iff]
  simp

theorem pay7_apply (r c : Fin 1024) : k0_pay7 a2 a3 q k (ix2 r c) = blockSc (a3 = a2) q k r c := by
  unfold k0_pay7 blockSc
  have hmm : matmul (F := Ideal) (φ₁ := .bf16) (φ₂ := .bf16) dot_S1024x192_S1024x192_S1024x1024_1_1_0_0_n_n none (shapeCast S1024x192 q shapeCasts_S1x1x1024x192_S1024x192)
      (shapeCast S1024x192 k shapeCasts_S1x1x1024x192_S1024x192) (constant S1024x1024 .f32 0x00000000#32) (ix2 r c)
      = ∑ d : Fin 192, @HMul.hMul EReal EReal EReal instHMul (q (ix4 0 0 r d)) (k (ix4 0 0 c d)) := by
    refine (Ideal.matmul_transposedRhs_apply (M := 1024) (K := 192) (N := 1024) none _ _ _ r c).trans ?_
    show Ideal.ofBits .f32 0x00000000#32 + _ = _
    rw [Ideal.ofBits_zero_f32, zero_add]
    refine Finset.sum_congr rfl fun d _ => ?_
    rw [cast_row, cast_row]
  show Scalar.select (IntOp.andi (IntOp.cmpi .eq a3 a2)
      (IntOp.cmpi .sgt (iota .tc S1024x1024 32 [1] iota_S1024x1024_d1_w32 (ix2 r c)) (iota .tc S1024x1024 32 [0] iota_S1024x1024_d0_w32 (ix2 r c))))
    (Ideal.ofBits .f32 0xFF800000#32) (@HMul.hMul EReal EReal EReal instHMul (matmul (F := Ideal) (φ₁ := .bf16) (φ₂ := .bf16) dot_S1024x192_S1024x192_S1024x1024_1_1_0_0_n_n none (shapeCast S1024x192 q shapeCasts_S1x1x1024x192_S1024x192)
      (shapeCast S1024x192 k shapeCasts_S1x1x1024x192_S1024x192) (constant S1024x1024 .f32 0x00000000#32) (ix2 r c)) (Ideal.ofBits .f32 0x3D93CD3A#32)) = _
  rw [hmm, iota_single_apply, iota_single_apply, FlashMath.neg_inf]
  unfold Scalar.select
  by_cases h : a3 = a2 ∧ r.val < c.val
  · rw [if_pos h]; exact if_pos ((mask_bit a2 a3 r c).2 h)
  · rw [if_neg h]; exact if_neg (fun e => h ((mask_bit a2 a3 r c).1 e))

theorem pay8_apply (m : Vec Ideal S1024x1 .f32) (r : Fin 1024) :
    k0_pay8 a2 a3 q k m (ix2 r 0) = max (m (ix2 r 0)) ((Finset.univ : Finset (Fin 1024)).fold max ⊥ (blockSc (a3 = a2) q k r)) := by
  unfold k0_pay8
  show max (m (ix2 r 0)) (shapeCast S1024x1 _ shapeCasts_S1024_S1024x1 (ix2 r 0)) = _
  rw [cast_col]
  refine (congrArg (max (m (ix2 r 0))) (Ideal.multiReduction_maximumf_single _ _ reduces_S1024x1024_S1024 (.inl rfl) rfl (ix1 r))).trans ?_
  show max _ ((Finset.univ : Finset (Fin 1024)).fold max (Ideal.ofBits .f32 0xFF800000#32) _) = _
  rw [FlashMath.neg_inf]
  congr 2
  funext c
  show k0_pay7 a2 a3 q k ((reduces_S1024x1024_S1024 : S1024x1024.Reduces [1] S1024).lift (ix1 r) c) = _
  rw [lift_row]
  exact pay7_apply a2 a3 q k r c

/-- How the state of a row is scaled when the maximum moves. -/
theorem pay9_apply (m : Vec Ideal S1024x1 .f32) (r : Fin 1024) :
    k0_pay9 a2 a3 q k m (ix2 r 0) = Ideal.exp (@HSub.hSub EReal EReal EReal instHSub (m (ix2 r 0)) (k0_pay8 a2 a3 q k m (ix2 r 0))) := rfl

theorem pay10_apply (m : Vec Ideal S1024x1 .f32) (r c : Fin 1024) :
    k0_pay10 a2 a3 q k m (ix2 r c) = Ideal.exp (@HSub.hSub EReal EReal EReal instHSub (blockSc (a3 = a2) q k r c) (k0_pay8 a2 a3 q k m (ix2 r 0))) := by
  unfold k0_pay10
  show Ideal.exp (@HSub.hSub EReal EReal EReal instHSub (k0_pay7 a2 a3 q k (ix2 r c)) (broadcastTo S1024x1024 _ broadcasts_S1024x1_S1024x1024 (ix2 r c))) = _
  rw [pay7_apply, spread_keys]

theorem pay11_apply (m l : Vec Ideal S1024x1 .f32) (r : Fin 1024) :
    k0_pay11 a2 a3 q k m l (ix2 r 0)
      = @HAdd.hAdd EReal EReal EReal instHAdd (@HMul.hMul EReal EReal EReal instHMul (l (ix2 r 0)) (Ideal.exp (@HSub.hSub EReal EReal EReal instHSub (m (ix2 r 0)) (k0_pay8 a2 a3 q k m (ix2 r 0)))))
        (∑ c : Fin 1024, Ideal.exp (@HSub.hSub EReal EReal EReal instHSub (blockSc (a3 = a2) q k r c) (k0_pay8 a2 a3 q k m (ix2 r 0)))) := by
  unfold k0_pay11
  dsimp only
  rw [shapeCast_self]
  show @HAdd.hAdd EReal EReal EReal instHAdd (@HMul.hMul EReal EReal EReal instHMul (l (ix2 r 0)) (k0_pay9 a2 a3 q k m (ix2 r 0))) (shapeCast S1024x1 _ shapeCasts_S1024_S1024x1 (ix2 r 0)) = _
  rw [cast_col, pay9_apply]
  congr 1
  refine (Ideal.multiReduction_add_single _ _ reduces_S1024x1024_S1024 (.inl rfl) rfl (ix1 r)).trans ?_
  show ∑ c : Fin 1024, k0_pay10 a2 a3 q k m ((reduces_S1024x1024_S1024 : S1024x1024.Reduces [1] S1024).lift (ix1 r) c) = _
  refine Finset.sum_congr rfl fun c _ => ?_
  exact (congrArg (k0_pay10 a2 a3 q k m) (lift_row r c)).trans (pay10_apply a2 a3 q k m r c)

theorem pay4_apply (v : Vec Ideal S1x1x1024x128 .bf16) (m : Vec Ideal S1024x1 .f32) (a : Vec Ideal S1024x128 .f32) (r : Fin 1024) (e : Fin 128) :
    k0_pay4 (k0_pay12 a2 a3 q k m a) (k0_pay13 a2 a3 q k m) v (ix2 r e)
      = @HAdd.hAdd EReal EReal EReal instHAdd (@HMul.hMul EReal EReal EReal instHMul (a (ix2 r e)) (Ideal.exp (@HSub.hSub EReal EReal EReal instHSub (m (ix2 r 0)) (k0_pay8 a2 a3 q k m (ix2 r 0)))))
        (∑ c : Fin 1024, @HMul.hMul EReal EReal EReal instHMul (Ideal.exp (@HSub.hSub EReal EReal EReal instHSub (blockSc (a3 = a2) q k r c) (k0_pay8 a2 a3 q k m (ix2 r 0)))) (v (ix4 0 0 c e))) := by
  unfold k0_pay4 k0_pay12 k0_pay13
  dsimp only
  rw [shapeCast_self]
  show @HAdd.hAdd EReal EReal EReal instHAdd (@HMul.hMul EReal EReal EReal instHMul (a (ix2 r e)) (broadcastTo S1024x128 _ broadcasts_S1024x1_S1024x128 (ix2 r e)))
    (matmul (F := Ideal) (φ₁ := .bf16) (φ₂ := .bf16) dot_S1024x1024_S1024x128_S1024x128_1_0_0_1_n_n none _ _ _ (ix2 r e)) = _
  rw [spread_vals, pay9_apply]
  congr 1
  refine (Ideal.matmul_plain_apply (M := 1024) (K := 1024) (N := 128) none _ _ _ r e).trans ?_
  show Ideal.ofBits .f32 0x00000000#32 + _ = _
  rw [Ideal.ofBits_zero_f32, zero_add]
  refine Finset.sum_congr rfl fun c _ => ?_
  rw [cast_val]
  exact congrArg (fun z : EReal => z * (show EReal from v (ix4 0 0 c e))) (pay10_apply a2 a3 q k m r c)

theorem pay6_apply (a : Vec Ideal S1024x128 .f32) (l : Vec Ideal S1024x1 .f32) (r : Fin 1024) (e : Fin 128) :
    k0_pay6 a l (ix3 0 r e) = Ideal.div (a (ix2 r e)) (l (ix2 r 0)) := by
  unfold k0_pay6
  refine (shapeCast_apply _ shapeCasts_S1024x128_S1x1024x128 (ix3 0 r e) (ix2 r e) (by
    rewrite [Shape.rowMajor_val_two, Shape.rowMajor_val_three]
    show r.val * 128 + e.val = (0 * 1024 + r.val) * 128 + e.val
    omega)).trans ?_
  show Ideal.div (a (ix2 r e)) (broadcastTo S1024x128 l broadcasts_S1024x1_S1024x128 (ix2 r e)) = _
  rw [spread_vals]

/-! ## A row of the state -/

/-- A row of the state, at one column of the values, has seen keys of total weight `W` and weighted values `A`. -/
def RowGood (W : ℝ) (A : EReal) (s : St Ideal) (r : Fin 1024) (e : Fin 128) : Prop :=
  FlashMath.Good W A (s.1 (ix2 r 0)) (s.2.1 (ix2 r 0)) (s.2.2 (ix2 r e))

theorem init_1 (r : Fin 1024) : (init0 (F := Ideal)).1 (ix2 r 0) = (⊥ : EReal) := by
  show k0_pay1 (F := Ideal) (ix2 r 0) = _
  unfold k0_pay1; rw [shapeCast_self]; exact FlashMath.neg_inf
theorem init_2 (r : Fin 1024) : (init0 (F := Ideal)).2.1 (ix2 r 0) = (0 : EReal) := by
  show k0_pay2 (F := Ideal) (ix2 r 0) = _
  unfold k0_pay2; rw [shapeCast_self]; exact Ideal.ofBits_zero_f32
theorem init_3 (r : Fin 1024) (e : Fin 128) : (init0 (F := Ideal)).2.2 (ix2 r e) = (0 : EReal) := by
  show k0_pay3 (F := Ideal) (ix2 r e) = _
  unfold k0_pay3; rw [shapeCast_self]; exact Ideal.ofBits_zero_f32

section
variable (i : grid0.Coords) (v : Vec Ideal S1x1x1024x128 .bf16) (s : St Ideal) (r : Fin 1024) (e : Fin 128) (w : Fin 1024 → ℝ)
  (hs : ∀ c, blockSc (keyW i = rowW i) q k r c < ⊤) (h0 : ⊥ < blockSc (keyW i = rowW i) q k r 0)
  (hw : ∀ c, FlashMath.Weight (blockSc (keyW i = rowW i) q k r c) (w c))

theorem step_1 : (step i q k v s).1 (ix2 r 0) = k0_pay8 (rowW i) (keyW i) q k s.1 (ix2 r 0) := by
  show k0_pay5 (F := Ideal) (k0_pay8 (rowW i) (keyW i) q k s.1) (ix2 r 0) = _
  unfold k0_pay5; rw [shapeCast_self]

include hs h0 hw

theorem step_first : RowGood (∑ c, w c) (∑ c, @HMul.hMul EReal EReal EReal instHMul (w c : EReal) (v (ix4 0 0 c e))) (step i q k v init0) r e := by
  unfold RowGood
  rw [step_1, show (step i q k v init0).2.1 (ix2 r 0) = k0_pay11 (rowW i) (keyW i) q k init0.1 init0.2.1 (ix2 r 0) from rfl,
    show (step i q k v init0).2.2 (ix2 r e) = k0_pay4 (k0_pay12 (rowW i) (keyW i) q k init0.1 init0.2.2) (k0_pay13 (rowW i) (keyW i) q k init0.1) v (ix2 r e) from rfl,
    pay11_apply, pay4_apply, init_1, init_2, init_3]
  refine FlashMath.first _ _ w hs 0 h0 hw _ ?_
  rw [pay8_apply, init_1]

theorem step_next (W : ℝ) (A : EReal) (hg : RowGood W A s r e) :
    RowGood (W + ∑ c, w c) (A + ∑ c, @HMul.hMul EReal EReal EReal instHMul (w c : EReal) (v (ix4 0 0 c e))) (step i q k v s) r e := by
  unfold RowGood
  rw [step_1, show (step i q k v s).2.1 (ix2 r 0) = k0_pay11 (rowW i) (keyW i) q k s.1 s.2.1 (ix2 r 0) from rfl,
    show (step i q k v s).2.2 (ix2 r e) = k0_pay4 (k0_pay12 (rowW i) (keyW i) q k s.1 s.2.2) (k0_pay13 (rowW i) (keyW i) q k s.1) v (ix2 r e) from rfl,
    pay11_apply, pay4_apply]
  refine FlashMath.next _ _ w hs 0 h0 hw W A _ _ _ hg _ ?_
  rw [pay8_apply]
end

end Cert.Flash

end
-- ==== Proof.FlashSpec.lean ====
module

public import proofs.«01_k».proof.Proof.Gen.ReferenceIdeal.Run
public import proofs.«01_k».proof.Proof.Gen.ReferenceIdeal.Read
public import proofs.«01_k».proof.Proof.FlashMath
public import Idealize.ShloMosaic.Lib.ValueIdx
public import Idealize.ShloMosaic.Lib.WordCmp
public import Idealize.ShloMosaic.Lib.KernelVsHost

@[expose] public section

/-! Causal attention as one formula, and the reference read as it.

The formula divides at the end: the sum of the keys' weights times their values, over the sum of the weights.  A
weight is the exponential of a score, and zero above the diagonal; for real queries and keys it is a real number. -/

set_option maxRecDepth 16384

noncomputable section

namespace Cert.FlashSpec

open Cert.ReferenceIdeal Cert.ReferenceIdeal.Gen Cert.ReferenceIdeal.Read
open Idealize.ShloMosaic Idealize.ShloMosaic.TcCoe Idealize.ShloMosaic.ValueIdx
open scoped BigOperators

variable (q k : S4x2048x8x192.Idx → EReal) (v : S4x2048x8x128.Idx → EReal)

/-- The score of key `j` for query `i`: none above the diagonal. -/
def sc (b : Fin 4) (h : Fin 8) (i j : Fin 2048) : EReal :=
  if j.val ≤ i.val then (∑ d : Fin 192, q (ix4 b i h d) * k (ix4 b j h d)) * Ideal.ofBits .f32 0x3D93CD3A#32 else ⊥

/-- The key's weight. -/
def wt (b : Fin 4) (h : Fin 8) (i j : Fin 2048) : ℝ := (Ideal.exp (sc q k b h i j)).toReal

/-- One element of the result. -/
def attn (b : Fin 4) (h : Fin 8) (i : Fin 2048) (e : Fin 128) : EReal :=
  (((∑ j, wt q k b h i j)⁻¹ : ℝ) : EReal) * ∑ j, (wt q k b h i j : EReal) * v (ix4 b j h e)

/-- The result, the heads side by side. -/
def spec : S4x2048x1024.Idx → EReal := fun i =>
  attn q k v (i 0) ⟨(i 2).val / 128, by have : (i 2).val < 1024 := (i 2).isLt; omega⟩ (i 1) ⟨(i 2).val % 128, by omega⟩

section
variable (hq : ∀ i, ∃ r : ℝ, q i = (r : EReal)) (hk : ∀ i, ∃ r : ℝ, k i = (r : EReal))
include hq hk

theorem sc_real (b : Fin 4) (h : Fin 8) (i j : Fin 2048) (hij : j.val ≤ i.val) : ∃ r : ℝ, sc q k b h i j = (r : EReal) := by
  unfold sc
  rw [if_pos hij]
  exact FlashMath.dot_real _ _ (fun d => hq _) (fun d => hk _)

theorem sc_lt_top (b : Fin 4) (h : Fin 8) (i j : Fin 2048) : sc q k b h i j < ⊤ := by
  by_cases hij : j.val ≤ i.val
  · obtain ⟨r, hr⟩ := sc_real q k hq hk b h i j hij
    rw [hr]; exact EReal.coe_lt_top r
  · unfold sc; rw [if_neg hij]; exact bot_lt_top

theorem bot_lt_sc (b : Fin 4) (h : Fin 8) (i j : Fin 2048) (hij : j.val ≤ i.val) : ⊥ < sc q k b h i j := by
  obtain ⟨r, hr⟩ := sc_real q k hq hk b h i j hij
  rw [hr]; exact EReal.bot_lt_coe r

theorem weight (b : Fin 4) (h : Fin 8) (i j : Fin 2048) : FlashMath.Weight (sc q k b h i j) (wt q k b h i j) := by
  unfold wt
  by_cases hij : j.val ≤ i.val
  · obtain ⟨r, hr⟩ := sc_real q k hq hk b h i j hij
    rw [hr]; exact FlashMath.weight_coe r
  · unfold sc; rw [if_neg hij]; exact FlashMath.weight_bot

theorem wt_sum_pos (b : Fin 4) (h : Fin 8) (i : Fin 2048) : 0 < ∑ j, wt q k b h i j := by
  refine Finset.sum_pos' (fun j _ => (weight q k hq hk b h i j).1) ⟨⟨0, by decide⟩, Finset.mem_univ _, ?_⟩
  obtain ⟨r, hr⟩ := sc_real q k hq hk b h i ⟨0, by decide⟩ (Nat.zero_le _)
  unfold wt
  rw [hr]; exact Real.exp_pos r
end

theorem wt_above (b : Fin 4) (h : Fin 8) (i j : Fin 2048) (hij : i.val < j.val) : wt q k b h i j = 0 := by
  unfold wt sc
  rw [if_neg (by omega)]
  rfl

/-! ## The reference, stage by stage -/

theorem ref_mask (i : S4x8x2048x2048.Idx) : val_main_call0_v1 (F := Ideal) i = 1#1 ↔ (i 3).val ≤ (i 2).val := by
  rw [val_main_call0_v1_apply, val_main_v8_apply, val_main_v6_apply, val_main_v4_apply, val_main_v3_apply,
    val_main_v7_apply, val_main_v5_apply, val_main_v3_apply]
  have h2 : (i 2).val < 2048 := (i 2).isLt
  have h3 : (i 3).val < 2048 := (i 3).isLt
  show IntOp.cmpi .sge (BitVec.ofNat 32 (i 2).val) (BitVec.ofNat 32 (i 3).val) = 1#1 ↔ _
  have e2 : (BitVec.ofNat 32 (i 2).val).toInt = ((i 2).val : Int) := WordCmp.toInt_ofNat_of_lt (by omega)
  have e3 : (BitVec.ofNat 32 (i 3).val).toInt = ((i 3).val : Int) := WordCmp.toInt_ofNat_of_lt (by omega)
  unfold IntOp.cmpi
  simp only [BitVec.sle, e2, e3, WordCmp.ofBool_eq_one_iff]
  simp

theorem ref_sc (b : Fin 4) (h : Fin 8) (i j : Fin 2048) : val_main_v9 (F := Ideal) q k (ix4 b h i j) = sc q k b h i j := by
  rw [val_main_v9_apply]
  unfold sc Scalar.select
  by_cases hij : j.val ≤ i.val
  · refine Eq.trans (if_pos ((ref_mask (ix4 b h i j)).2 hij)) ?_
    rw [if_pos hij, val_main_v2_apply, val_main_v0_apply, val_main_v1_apply]
    show @HMul.hMul EReal EReal EReal instHMul (∑ d : Fin 192, _) (Ideal.ofBits .f32 0x3D93CD3A#32) = _
    congr 1
    refine Finset.sum_congr rfl fun d _ => ?_
    congr 1
    · exact congrArg q (funext fun a => by match a with | ⟨0, _⟩ => rfl | ⟨1, _⟩ => rfl | ⟨2, _⟩ => rfl | ⟨3, _⟩ => rfl)
    · exact congrArg k (funext fun a => by match a with | ⟨0, _⟩ => rfl | ⟨1, _⟩ => rfl | ⟨2, _⟩ => rfl | ⟨3, _⟩ => rfl)
  · refine Eq.trans (if_neg (fun e => hij ((ref_mask (ix4 b h i j)).1 e))) ?_
    rw [if_neg hij, val_main_call0_v2_apply]
    exact FlashMath.neg_inf

theorem reduces_keys : S4x8x2048x2048.Reduces [3] S4x8x2048 := by decide

theorem ref_max (b : Fin 4) (h : Fin 8) (i : Fin 2048) : val_main_v12 (F := Ideal) q k (ix3 b h i)
    = max ⊥ ((Finset.univ : Finset (Fin 2048)).fold max ⊥ (sc q k b h i)) := by
  rw [val_main_v12_apply, val_main_v11_apply]
  show max (Ideal.ofBits .f32 0xFF800000#32) (val_main_v10 (F := Ideal) q k (ix3 b h i)) = _
  rw [FlashMath.neg_inf]
  unfold val_main_v10 val_main_cst_1
  refine congrArg (max ⊥) ?_
  refine (congrFun (hostReduce_maximumf_eq_multiReduction _ _ _ _ reduces_keys (.inl rfl) rfl) (ix3 b h i)).trans ?_
  refine (Ideal.multiReduction_maximumf_single _ _ reduces_keys (.inl rfl) rfl (ix3 b h i)).trans ?_
  show (Finset.univ : Finset (Fin 2048)).fold max (Ideal.ofBits .f32 0xFF800000#32) _ = _
  rw [FlashMath.neg_inf]
  congr 1
  funext j
  refine Eq.trans ?_ (ref_sc q k b h i j)
  exact congrArg (val_main_v9 (F := Ideal) q k) (funext fun a => Fin.ext (by
    match a with | ⟨0, _⟩ => rfl | ⟨1, _⟩ => rfl | ⟨2, _⟩ => rfl | ⟨3, _⟩ => rfl))

theorem ref_exp (b : Fin 4) (h : Fin 8) (i j : Fin 2048) (μ : ℝ) (hμ : val_main_v12 (F := Ideal) q k (ix3 b h i) = (μ : EReal)) :
    val_main_v16 (F := Ideal) q k (ix4 b h i j) = Ideal.exp (sc q k b h i j - (μ : EReal)) := by
  rw [val_main_v16_apply, val_main_v15_apply, val_main_v14_apply, val_main_v13_apply, ref_sc]
  rw [show idx_main_v13 (idx_main_v14 (ix4 b h i j)) = ix3 b h i from
    funext fun a => by match a with | ⟨0, _⟩ => rfl | ⟨1, _⟩ => rfl | ⟨2, _⟩ => rfl, hμ]
  rfl

theorem ref_div (b : Fin 4) (h : Fin 8) (i j : Fin 2048) (μ : ℝ) (hμ : val_main_v12 (F := Ideal) q k (ix3 b h i) = (μ : EReal)) :
    val_main_v20 (F := Ideal) q k (ix4 b h i j)
      = Ideal.div (Ideal.exp (sc q k b h i j - (μ : EReal))) (0 + ∑ j, Ideal.exp (sc q k b h i j - (μ : EReal))) := by
  rw [val_main_v20_apply, val_main_v19_apply, val_main_v18_apply, val_main_v17_apply, ref_exp q k b h i j μ hμ]
  show Ideal.div (Ideal.exp (sc q k b h i j - (μ : EReal))) (Ideal.ofBits .f32 0x00000000#32 + _) = _
  rw [Ideal.ofBits_zero_f32]
  refine congrArg (fun z => Ideal.div (Ideal.exp (sc q k b h i j - (μ : EReal))) (0 + z)) ?_
  refine Finset.sum_congr rfl fun j' _ => ?_
  refine Eq.trans ?_ (ref_exp q k b h i j' μ hμ)
  exact congrArg (val_main_v16 (F := Ideal) q k) (funext fun a => by
    match a with | ⟨0, _⟩ => rfl | ⟨1, _⟩ => rfl | ⟨2, _⟩ => rfl | ⟨3, _⟩ => rfl)

theorem ref_at (hq : ∀ i, ∃ r : ℝ, q i = (r : EReal)) (hk : ∀ i, ∃ r : ℝ, k i = (r : EReal)) (i : S4x2048x1024.Idx)
    (b : Fin 4) (h : Fin 8) (r : Fin 2048) (e : Fin 128) (hb : b.val = (i 0).val) (hr : r.val = (i 1).val)
    (hh : h.val = (i 2).val / 128) (he : e.val = (i 2).val % 128) : val_main_v25 (F := Ideal) q k v i = attn q k v b h r e := by
  have h0 : (i 0).val < 4 := (i 0).isLt
  have h1 : (i 1).val < 2048 := (i 1).isLt
  have h2 : (i 2).val < 1024 := (i 2).isLt
  rw [val_main_v25_apply]
  show val_main_v24 (F := Ideal) q k v i = _
  rw [val_main_v24_apply, val_main_v23_apply, val_main_v22_apply]
  unfold attn
  obtain ⟨μ, hμ⟩ := FlashMath.max_real (sc q k b h r) (sc_lt_top q k hq hk b h r) ⟨0, by decide⟩
    (bot_lt_sc q k hq hk b h r _ (Nat.zero_le _)) ⊥ bot_lt_top
  rw [← ref_max] at hμ
  refine Eq.trans ?_ (FlashMath.softmax _ (fun j => v (ix4 b j h e)) _ (weight q k hq hk b h r) (wt_sum_pos q k hq hk b h r) μ)
  refine Finset.sum_congr rfl fun j _ => ?_
  rw [← ref_div q k b h r j μ hμ, val_main_v21_apply]
  refine congrArg₂ (fun x y : EReal => x * y) ?_ ?_
  · show v _ = v _
    refine congrArg v (funext fun a => Fin.ext ?_)
    match a with
    | ⟨0, _⟩ => show (((i 0).val * 2048 + (i 1).val) * 1024 + (i 2).val) / 2097152 = b.val; omega
    | ⟨1, _⟩ => rfl
    | ⟨2, _⟩ => show (((i 0).val * 2048 + (i 1).val) * 1024 + (i 2).val) / 128 % 8 = h.val; omega
    | ⟨3, _⟩ => show (((i 0).val * 2048 + (i 1).val) * 1024 + (i 2).val) % 128 = e.val; omega
  · refine congrArg (val_main_v20 (F := Ideal) q k) (funext fun a => Fin.ext ?_)
    match a with
    | ⟨0, _⟩ => show (((i 0).val * 2048 + (i 1).val) * 1024 + (i 2).val) / 2097152 = b.val; omega
    | ⟨1, _⟩ => show (((i 0).val * 2048 + (i 1).val) * 1024 + (i 2).val) / 128 % 8 = h.val; omega
    | ⟨2, _⟩ => show (((i 0).val * 2048 + (i 1).val) * 1024 + (i 2).val) / 1024 % 2048 = r.val; omega
    | ⟨3, _⟩ => rfl

theorem ref_eq (hq : ∀ i, ∃ r : ℝ, q i = (r : EReal)) (hk : ∀ i, ∃ r : ℝ, k i = (r : EReal)) :
    val_main_v25 (F := Ideal) q k v = spec q k v :=
  funext fun i => ref_at q k v hq hk i _ _ _ _ rfl rfl rfl rfl

end Cert.FlashSpec

end
-- ==== Proof.FlashBlocks.lean ====
module

public import proofs.«01_k».proof.Proof.FlashFrame
public import Idealize.ShloMosaic.Lib.ValueIdx

@[expose] public section

/-! The attention call's blocks, read from the arguments: the host transposes put the heads before the rows, and each
grid point's windows take one head's row block and key block. -/

set_option maxRecDepth 16384

noncomputable section

namespace Cert.Flash

open Cert.KernelIdeal Cert.KernelIdeal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

theorem V_q (c : Dev nD) (i : S4x8x2048x192.Idx) :
    V m c main_v1 i = m ((c : Thread nD τ).loc main_arg0) (ix4 (i 0) (i 2) (i 1) (i 3)) := by
  have e : V m c main_v1 = truncf (F := Ideal) .bf16 (transpose S4x8x2048x192 [0, 2, 1, 3] (m ((c : Thread nD τ).loc main_arg0)) transposes_S4x2048x8x192_S4x8x2048x192_0_2_1_3) bitsLt_bf16_f32 := by
    unfold V hostOps0
    simp only [StableHlo.after_cons, StableHlo.after_nil]
    rw [StableHlo.unary_result_ne, StableHlo.unary_result_ne, StableHlo.unary_result_ne, StableHlo.unary_result', StableHlo.unary_result'] <;> decide
  rw [e]
  exact transpose_apply [0, 2, 1, 3] (m ((c : Thread nD τ).loc main_arg0)) transposes_S4x2048x8x192_S4x8x2048x192_0_2_1_3 i (ix4 (i 0) (i 2) (i 1) (i 3))
    (fun b => match b with | ⟨0, _⟩ => rfl | ⟨1, _⟩ => rfl | ⟨2, _⟩ => rfl | ⟨3, _⟩ => rfl)

theorem V_k (c : Dev nD) (i : S4x8x2048x192.Idx) :
    V m c main_v3 i = m ((c : Thread nD τ).loc main_arg1) (ix4 (i 0) (i 2) (i 1) (i 3)) := by
  have e : V m c main_v3 = truncf (F := Ideal) .bf16 (transpose S4x8x2048x192 [0, 2, 1, 3] (m ((c : Thread nD τ).loc main_arg1)) transposes_S4x2048x8x192_S4x8x2048x192_0_2_1_3) bitsLt_bf16_f32 := by
    unfold V hostOps0
    simp only [StableHlo.after_cons, StableHlo.after_nil]
    rw [StableHlo.unary_result_ne, StableHlo.unary_result', StableHlo.unary_result', StableHlo.unary_result_ne, StableHlo.unary_result_ne] <;> decide
  rw [e]
  exact transpose_apply [0, 2, 1, 3] (m ((c : Thread nD τ).loc main_arg1)) transposes_S4x2048x8x192_S4x8x2048x192_0_2_1_3 i (ix4 (i 0) (i 2) (i 1) (i 3))
    (fun b => match b with | ⟨0, _⟩ => rfl | ⟨1, _⟩ => rfl | ⟨2, _⟩ => rfl | ⟨3, _⟩ => rfl)

theorem V_v (c : Dev nD) (i : S4x8x2048x128.Idx) :
    V m c main_v4 i = m ((c : Thread nD τ).loc main_arg2) (ix4 (i 0) (i 2) (i 1) (i 3)) := by
  have e : V m c main_v4 = transpose S4x8x2048x128 [0, 2, 1, 3] (m ((c : Thread nD τ).loc main_arg2)) transposes_S4x2048x8x128_S4x8x2048x128_0_2_1_3 := by
    unfold V hostOps0
    simp only [StableHlo.after_cons, StableHlo.after_nil]
    rw [StableHlo.unary_result', StableHlo.unary_result_ne, StableHlo.unary_result_ne, StableHlo.unary_result_ne, StableHlo.unary_result_ne] <;> decide
  rw [e]
  exact transpose_apply [0, 2, 1, 3] (m ((c : Thread nD τ).loc main_arg2)) transposes_S4x2048x8x128_S4x8x2048x128_0_2_1_3 i (ix4 (i 0) (i 2) (i 1) (i 3))
    (fun b => match b with | ⟨0, _⟩ => rfl | ⟨1, _⟩ => rfl | ⟨2, _⟩ => rfl | ⟨3, _⟩ => rfl)

/-- Where each window's block lies, point by point; the key block above the diagonal is not read. -/
theorem places : ∀ t : Fin cfg0.N,
    (win0_0.index t 0 = t.val / 32 ∧ win0_0.index t 1 = t.val / 4 % 8 ∧ win0_0.index t 2 = t.val / 2 % 2 ∧ win0_0.index t 3 = 0)
      ∧ (win0_1.index t 0 = t.val / 32 ∧ win0_1.index t 1 = t.val / 4 % 8 ∧ win0_1.index t 2 = t.val % 4 / 3 ∧ win0_1.index t 3 = 0)
      ∧ (win0_2.index t 0 = t.val / 32 ∧ win0_2.index t 1 = t.val / 4 % 8 ∧ win0_2.index t 2 = t.val % 4 / 3 ∧ win0_2.index t 3 = 0)
      ∧ (win0_3.index t 0 = t.val / 32 ∧ win0_3.index t 1 = t.val / 2 % 2 ∧ win0_3.index t 2 = t.val / 4 % 8) :=
  (by decide +kernel : ∀ t : Fin grid0.N,
    (win0_0.index t 0 = t.val / 32 ∧ win0_0.index t 1 = t.val / 4 % 8 ∧ win0_0.index t 2 = t.val / 2 % 2 ∧ win0_0.index t 3 = 0)
      ∧ (win0_1.index t 0 = t.val / 32 ∧ win0_1.index t 1 = t.val / 4 % 8 ∧ win0_1.index t 2 = t.val % 4 / 3 ∧ win0_1.index t 3 = 0)
      ∧ (win0_2.index t 0 = t.val / 32 ∧ win0_2.index t 1 = t.val / 4 % 8 ∧ win0_2.index t 2 = t.val % 4 / 3 ∧ win0_2.index t 3 = 0)
      ∧ (win0_3.index t 0 = t.val / 32 ∧ win0_3.index t 1 = t.val / 2 % 2 ∧ win0_3.index t 2 = t.val / 4 % 8))

theorem diag_iff : ∀ t : Fin cfg0.N, keyW (grid0.coords t) = rowW (grid0.coords t) ↔ (t.val % 4 = 0 ∨ t.val % 4 = 3) :=
  (by decide +kernel : ∀ t : Fin grid0.N, keyW (grid0.coords t) = rowW (grid0.coords t) ↔ (t.val % 4 = 0 ∨ t.val % 4 = 3))

/-! ## A point's batch, head, query row and key row -/

theorem N_eq : cfg0.N = 128 := N_0

def bOf (t : Fin cfg0.N) : Fin 4 := ⟨t.val / 32, by have := t.isLt; have := N_eq; omega⟩
def hOf (t : Fin cfg0.N) : Fin 8 := ⟨t.val / 4 % 8, by omega⟩
def rowOf (t : Fin cfg0.N) (r : Fin 1024) : Fin 2048 := ⟨t.val / 2 % 2 * 1024 + r.val, by omega⟩
def keyOf (t : Fin cfg0.N) (r : Fin 1024) : Fin 2048 := ⟨t.val % 4 / 3 * 1024 + r.val, by omega⟩

theorem blk_q (c : Dev nD) (t : Fin cfg0.N) (r : Fin 1024) (d : Fin 192) :
    iblk m c 0 t (ix4 0 0 r d) = m ((c : Thread nD τ).loc main_arg0) (ix4 (bOf t) (rowOf t r) (hOf t) d) := by
  obtain ⟨p0, p1, p2, p3⟩ := (places t).1
  show V m c main_v1 ((win0_0.rect t).emb (ix4 0 0 r d)) = _
  refine (V_q m c _).trans (congrArg (m ((c : Thread nD τ).loc main_arg0)) (funext fun a => Fin.ext ?_))
  match a with
  | ⟨0, _⟩ => exact (Window.rect_emb_val win0_0 t _ (0 : Fin 4)).trans (by rw [p0]; show t.val / 32 * 1 + 0 = t.val / 32; omega)
  | ⟨1, _⟩ => exact (Window.rect_emb_val win0_0 t _ (2 : Fin 4)).trans (by rw [p2]; rfl)
  | ⟨2, _⟩ => exact (Window.rect_emb_val win0_0 t _ (1 : Fin 4)).trans (by rw [p1]; show t.val / 4 % 8 * 1 + 0 = t.val / 4 % 8; omega)
  | ⟨3, _⟩ => exact Window.rect_emb_val_of_index_zero win0_0 t (3 : Fin 4) p3 _

theorem blk_k (c : Dev nD) (t : Fin cfg0.N) (r : Fin 1024) (d : Fin 192) :
    iblk m c 1 t (ix4 0 0 r d) = m ((c : Thread nD τ).loc main_arg1) (ix4 (bOf t) (keyOf t r) (hOf t) d) := by
  obtain ⟨p0, p1, p2, p3⟩ := (places t).2.1
  show V m c main_v3 ((win0_1.rect t).emb (ix4 0 0 r d)) = _
  refine (V_k m c _).trans (congrArg (m ((c : Thread nD τ).loc main_arg1)) (funext fun a => Fin.ext ?_))
  match a with
  | ⟨0, _⟩ => exact (Window.rect_emb_val win0_1 t _ (0 : Fin 4)).trans (by rw [p0]; show t.val / 32 * 1 + 0 = t.val / 32; omega)
  | ⟨1, _⟩ => exact (Window.rect_emb_val win0_1 t _ (2 : Fin 4)).trans (by rw [p2]; rfl)
  | ⟨2, _⟩ => exact (Window.rect_emb_val win0_1 t _ (1 : Fin 4)).trans (by rw [p1]; show t.val / 4 % 8 * 1 + 0 = t.val / 4 % 8; omega)
  | ⟨3, _⟩ => exact Window.rect_emb_val_of_index_zero win0_1 t (3 : Fin 4) p3 _

theorem blk_v (c : Dev nD) (t : Fin cfg0.N) (r : Fin 1024) (e : Fin 128) :
    iblk m c 2 t (ix4 0 0 r e) = m ((c : Thread nD τ).loc main_arg2) (ix4 (bOf t) (keyOf t r) (hOf t) e) := by
  obtain ⟨p0, p1, p2, p3⟩ := (places t).2.2.1
  show V m c main_v4 ((win0_2.rect t).emb (ix4 0 0 r e)) = _
  refine (V_v m c _).trans (congrArg (m ((c : Thread nD τ).loc main_arg2)) (funext fun a => Fin.ext ?_))
  match a with
  | ⟨0, _⟩ => exact (Window.rect_emb_val win0_2 t _ (0 : Fin 4)).trans (by rw [p0]; show t.val / 32 * 1 + 0 = t.val / 32; omega)
  | ⟨1, _⟩ => exact (Window.rect_emb_val win0_2 t _ (2 : Fin 4)).trans (by rw [p2]; rfl)
  | ⟨2, _⟩ => exact (Window.rect_emb_val win0_2 t _ (1 : Fin 4)).trans (by rw [p1]; show t.val / 4 % 8 * 1 + 0 = t.val / 4 % 8; omega)
  | ⟨3, _⟩ => exact Window.rect_emb_val_of_index_zero win0_2 t (3 : Fin 4) p3 _

theorem at3 (t : Fin cfg0.N) (y) : ((win0_3.rect t).emb y 0).val = t.val / 32 + (y 0).val
    ∧ ((win0_3.rect t).emb y 1).val = t.val / 2 % 2 * 1024 + (y 1).val ∧ ((win0_3.rect t).emb y 2).val = t.val / 4 % 8 * 128 + (y 2).val := by
  obtain ⟨p0, p1, p2⟩ := (places t).2.2.2
  exact ⟨(Window.rect_emb_val win0_3 t y (0 : Fin 3)).trans (by rw [p0]; show t.val / 32 * 1 + _ = _; omega),
    (Window.rect_emb_val win0_3 t y (1 : Fin 3)).trans (by rw [p1]; rfl),
    (Window.rect_emb_val win0_3 t y (2 : Fin 3)).trans (by rw [p2]; rfl)⟩

end Cert.Flash

end
-- ==== Proof.FlashValue.lean ====
module

public import proofs.«01_k».proof.Proof.FlashPay
public import proofs.«01_k».proof.Proof.FlashSpec
public import proofs.«01_k».proof.Proof.FlashBlocks

@[expose] public section

/-! The attention call's value: after a row block's last key block each row's quotient is causal attention, and the
blocks written cover the result. -/

set_option maxRecDepth 16384

noncomputable section

namespace Cert.Flash

open Cert.KernelIdeal Cert.KernelIdeal.Gen
open Idealize.ShloMosaic Idealize.ShloMosaic.TcCoe Idealize.ShloMosaic.ValueIdx Idealize.SL.Sem
open Idealize.ShloMosaic.Pipeline (Dat Window)
open Cert.FlashSpec (sc wt attn spec)
open scoped BigOperators

variable (m : (ℓ : Loc nD τ sig) → Buf (Elt Ideal) ℓ)

/-- The arguments as arrays of extended reals. -/
abbrev aQ (c : Dev nD) : S4x2048x8x192.Idx → EReal := m ((c : Thread nD τ).loc main_arg0)
abbrev aK (c : Dev nD) : S4x2048x8x192.Idx → EReal := m ((c : Thread nD τ).loc main_arg1)
abbrev aV (c : Dev nD) : S4x2048x8x128.Idx → EReal := m ((c : Thread nD τ).loc main_arg2)

/-- All 2048 keys are the first 1024 and the last 1024. -/
theorem sum_halves {M : Type} [AddCommMonoid M] (f : Fin 2048 → M) :
    ∑ j, f j = (∑ c : Fin 1024, f ⟨c.val, by omega⟩) + ∑ c : Fin 1024, f ⟨1024 + c.val, by omega⟩ :=
  Fin.sum_univ_add (a := 1024) (b := 1024) f

theorem blockSc_eq (c : Dev nD) (t : Fin cfg0.N) (ht : t.val % 4 ≠ 1) (r j : Fin 1024) :
    blockSc (keyW (grid0.coords t) = rowW (grid0.coords t)) (iblk m c 0 t) (iblk m c 1 t) r j
      = sc (aQ m c) (aK m c) (bOf t) (hOf t) (rowOf t r) (keyOf t j) := by
  unfold blockSc sc
  have hd := diag_iff t
  have hj := j.isLt
  have hr := r.isLt
  have hcond : (keyW (grid0.coords t) = rowW (grid0.coords t) ∧ r.val < j.val) ↔ ¬ ((keyOf t j).val ≤ (rowOf t r).val) := by
    rw [hd]
    show _ ↔ ¬ (t.val % 4 / 3 * 1024 + j.val ≤ t.val / 2 % 2 * 1024 + r.val)
    have h4 : t.val % 4 = 0 ∨ t.val % 4 = 2 ∨ t.val % 4 = 3 := by omega
    rcases h4 with h | h | h
    · have h2 : t.val / 2 % 2 = 0 := by omega
      rw [h, h2]; omega
    · have h2 : t.val / 2 % 2 = 1 := by omega
      rw [h, h2]; omega
    · have h2 : t.val / 2 % 2 = 1 := by omega
      rw [h, h2]; omega
  by_cases hc : (keyOf t j).val ≤ (rowOf t r).val
  · rw [if_pos hc, if_neg (fun e => hcond.1 e hc)]
    refine congrArg (fun z : EReal => z * Ideal.ofBits .f32 0x3D93CD3A#32) (Finset.sum_congr rfl fun d _ => ?_)
    exact congrArg₂ (fun x y : EReal => x * y) (blk_q m c t r d) (blk_k m c t j d)
  · rw [if_neg hc, if_pos (hcond.2 hc)]

section
variable (c : Dev nD) (hq : ∀ i, ∃ r : ℝ, aQ m c i = (r : EReal)) (hk : ∀ i, ∃ r : ℝ, aK m c i = (r : EReal))

/-- The weights and weighted values of one point's key block. -/
def blkW (t : Fin cfg0.N) (r : Fin 1024) : ℝ := ∑ j : Fin 1024, wt (aQ m c) (aK m c) (bOf t) (hOf t) (rowOf t r) (keyOf t j)
def blkA (t : Fin cfg0.N) (r : Fin 1024) (e : Fin 128) : EReal :=
  ∑ j : Fin 1024, (wt (aQ m c) (aK m c) (bOf t) (hOf t) (rowOf t r) (keyOf t j) : EReal) * aV m c (ix4 (bOf t) (keyOf t j) (hOf t) e)

theorem vals_eq (t : Fin cfg0.N) (r : Fin 1024) (e : Fin 128) :
    (∑ j : Fin 1024, @HMul.hMul EReal EReal EReal instHMul (wt (aQ m c) (aK m c) (bOf t) (hOf t) (rowOf t r) (keyOf t j) : EReal) (iblk m c 2 t (ix4 0 0 j e)))
      = blkA m c t r e :=
  Finset.sum_congr rfl fun j _ => congrArg (fun z : EReal => (wt (aQ m c) (aK m c) (bOf t) (hOf t) (rowOf t r) (keyOf t j) : EReal) * z) (blk_v m c t j e)

include hq hk

theorem blk_lt_top (t : Fin cfg0.N) (ht : t.val % 4 ≠ 1) (r j : Fin 1024) :
    blockSc (keyW (grid0.coords t) = rowW (grid0.coords t)) (iblk m c 0 t) (iblk m c 1 t) r j < ⊤ := by
  rw [blockSc_eq m c t ht]; exact FlashSpec.sc_lt_top _ _ hq hk _ _ _ _
theorem bot_lt_blk (t : Fin cfg0.N) (ht : t.val % 4 ≠ 1) (r : Fin 1024) :
    ⊥ < blockSc (keyW (grid0.coords t) = rowW (grid0.coords t)) (iblk m c 0 t) (iblk m c 1 t) r 0 := by
  rw [blockSc_eq m c t ht]
  refine FlashSpec.bot_lt_sc _ _ hq hk _ _ _ _ ?_
  show t.val % 4 / 3 * 1024 + 0 ≤ t.val / 2 % 2 * 1024 + r.val
  have h4 : t.val % 4 = 0 ∨ t.val % 4 = 2 ∨ t.val % 4 = 3 := by omega
  rcases h4 with h | h | h
  · rw [h]; omega
  · rw [h]; omega
  · have h2 : t.val / 2 % 2 = 1 := by omega
    rw [h, h2]; omega
theorem blk_weight (t : Fin cfg0.N) (ht : t.val % 4 ≠ 1) (r j : Fin 1024) :
    FlashMath.Weight (blockSc (keyW (grid0.coords t) = rowW (grid0.coords t)) (iblk m c 0 t) (iblk m c 1 t) r j)
      (wt (aQ m c) (aK m c) (bOf t) (hOf t) (rowOf t r) (keyOf t j)) := by
  rw [blockSc_eq m c t ht]; exact FlashSpec.weight _ _ hq hk _ _ _ _

theorem good_first (t : Fin cfg0.N) (ht : t.val % 2 = 0) (r : Fin 1024) (e : Fin 128) :
    RowGood (blkW m c t r) (blkA m c t r e) (stAt m c t) r e := by
  rw [stAt_first m c t ht, ← vals_eq]
  exact step_first _ _ (grid0.coords t) (iblk m c 2 t) r e _ (blk_lt_top m c hq hk t (by omega) r) (bot_lt_blk m c hq hk t (by omega) r)
    (blk_weight m c hq hk t (by omega) r)

theorem good_diag (t : Fin cfg0.N) (ht : t.val % 4 = 3) (r : Fin 1024) (e : Fin 128) :
    RowGood (blkW m c (before t) r + blkW m c t r) (blkA m c (before t) r e + blkA m c t r e) (stAt m c t) r e := by
  have hg := good_first m c hq hk (before t) (by show (t.val - 1) % 2 = 0; omega) r e
  rw [stAt_diag m c t ht, ← vals_eq m c t]
  exact step_next _ _ (grid0.coords t) (iblk m c 2 t) _ r e _ (blk_lt_top m c hq hk t (by omega) r) (bot_lt_blk m c hq hk t (by omega) r)
    (blk_weight m c hq hk t (by omega) r) _ _ hg

/-- After a row block's last point each row has seen every key. -/
theorem good_all (t : Fin cfg0.N) (ht : t.val % 2 = 1) (r : Fin 1024) (e : Fin 128) :
    RowGood (∑ j, wt (aQ m c) (aK m c) (bOf t) (hOf t) (rowOf t r) j)
      (∑ j, (wt (aQ m c) (aK m c) (bOf t) (hOf t) (rowOf t r) j : EReal) * aV m c (ix4 (bOf t) j (hOf t) e)) (stAt m c t) r e := by
  have hN := N_eq
  have hlt := t.isLt
  have hr := r.isLt
  have hb : bOf (before t) = bOf t := Fin.ext (by show (t.val - 1) / 32 = t.val / 32; omega)
  have hh : hOf (before t) = hOf t := Fin.ext (by show (t.val - 1) / 4 % 8 = t.val / 4 % 8; omega)
  have hrow : rowOf (before t) r = rowOf t r := Fin.ext (by show (t.val - 1) / 2 % 2 * 1024 + r.val = t.val / 2 % 2 * 1024 + r.val; omega)
  have hkey : ∀ j : Fin 1024, keyOf (before t) j = ⟨j.val, by omega⟩ := fun j => Fin.ext (by
    show (t.val - 1) % 4 / 3 * 1024 + j.val = j.val; omega)
  have hW : blkW m c (before t) r = ∑ j : Fin 1024, wt (aQ m c) (aK m c) (bOf t) (hOf t) (rowOf t r) ⟨j.val, by omega⟩ := by
    unfold blkW; rw [hb, hh, hrow]; exact Finset.sum_congr rfl fun j _ => by rw [hkey]
  have hA : blkA m c (before t) r e = ∑ j : Fin 1024, (wt (aQ m c) (aK m c) (bOf t) (hOf t) (rowOf t r) ⟨j.val, by omega⟩ : EReal)
      * aV m c (ix4 (bOf t) ⟨j.val, by omega⟩ (hOf t) e) := by
    unfold blkA; rw [hb, hh, hrow]; exact Finset.sum_congr rfl fun j _ => by rw [hkey]
  rw [sum_halves (fun j => wt (aQ m c) (aK m c) (bOf t) (hOf t) (rowOf t r) j),
    sum_halves (fun j => (wt (aQ m c) (aK m c) (bOf t) (hOf t) (rowOf t r) j : EReal) * aV m c (ix4 (bOf t) j (hOf t) e)), ← hW, ← hA]
  have h4 : t.val % 4 = 1 ∨ t.val % 4 = 3 := by omega
  rcases h4 with h | h
  · have h0 : ∀ j : Fin 1024, wt (aQ m c) (aK m c) (bOf t) (hOf t) (rowOf t r) ⟨1024 + j.val, by omega⟩ = 0 := fun j => by
      refine FlashSpec.wt_above _ _ _ _ _ _ ?_
      show t.val / 2 % 2 * 1024 + r.val < 1024 + j.val
      have h2 : t.val / 2 % 2 = 0 := by omega
      rw [h2]; omega
    rw [Finset.sum_eq_zero (fun j _ => h0 j), Finset.sum_eq_zero (fun j _ => by rw [h0 j, EReal.coe_zero, zero_mul]), add_zero, add_zero,
      stAt_above m c t h]
    exact good_first m c hq hk (before t) (by show (t.val - 1) % 2 = 0; omega) r e
  · have hkey' : ∀ j : Fin 1024, keyOf t j = ⟨1024 + j.val, by omega⟩ := fun j => Fin.ext (by
      show t.val % 4 / 3 * 1024 + j.val = 1024 + j.val; rw [h])
    have hg := good_diag m c hq hk t h r e
    have hW' : blkW m c t r = ∑ j : Fin 1024, wt (aQ m c) (aK m c) (bOf t) (hOf t) (rowOf t r) ⟨1024 + j.val, by omega⟩ := by
      unfold blkW; exact Finset.sum_congr rfl fun j _ => by rw [hkey']
    have hA' : blkA m c t r e = ∑ j : Fin 1024, (wt (aQ m c) (aK m c) (bOf t) (hOf t) (rowOf t r) ⟨1024 + j.val, by omega⟩ : EReal)
        * aV m c (ix4 (bOf t) ⟨1024 + j.val, by omega⟩ (hOf t) e) := by
      unfold blkA; exact Finset.sum_congr rfl fun j _ => by rw [hkey']
    rw [hW', hA'] at hg
    exact hg

theorem out_apply (t : Fin cfg0.N) (ht : t.val % 2 = 1) (r : Fin 1024) (e : Fin 128) :
    outOf (stAt m c t) (ix3 0 r e) = attn (aQ m c) (aK m c) (aV m c) (bOf t) (hOf t) (rowOf t r) e :=
  (pay6_apply _ _ r e).trans (FlashMath.quotient _ (FlashSpec.wt_sum_pos _ _ hq hk _ _ _) _ _ _ _ (good_all m c hq hk t ht r e))

theorem flushed_eq (t : Fin cfg0.N) (hf : (cfg0.win 3).flush t = true) :
    (dats m 0 c).flushed 3 t = (win0_3.blk t).view.read (Elt Ideal) (spec (aQ m c) (aK m c) (aV m c)) := by
  have ht := (flush0_3 t).1 hf
  rw [show (dats m 0 c).flushed 3 t = outOf (stAt m c t) from rfl]
  funext j
  have hj : j = ix3 (0 : Fin 1) (j 1) (j 2) := (eq_ix3 (n0 := 1) (n1 := 1024) (n2 := 128) j).trans
    (congrArg (fun z : Fin 1 => ix3 z (j 1) (j 2)) (Subsingleton.elim (α := Fin 1) (j 0) 0))
  rw [hj]
  refine (out_apply m c hq hk t ht (j 1) (j 2)).trans ?_
  obtain ⟨e0, e1, e2⟩ := at3 t (ix3 (0 : Fin 1) (j 1) (j 2))
  show _ = spec (aQ m c) (aK m c) (aV m c) ((win0_3.rect t).emb (ix3 (0 : Fin 1) (j 1) (j 2)))
  unfold spec
  have h2 : (j 2).val < 128 := (j 2).isLt
  have x0 : bOf t = (win0_3.rect t).emb (ix3 (0 : Fin 1) (j 1) (j 2)) 0 := Fin.ext (e0.trans (Nat.add_zero _)).symm
  have x1 : rowOf t (j 1) = (win0_3.rect t).emb (ix3 (0 : Fin 1) (j 1) (j 2)) 1 := Fin.ext e1.symm
  have e2' : ((win0_3.rect t).emb (ix3 (0 : Fin 1) (j 1) (j 2)) 2).val = t.val / 4 % 8 * 128 + (j 2).val := e2
  rw [← x0, ← x1]
  congr 1
  · exact Fin.ext (by show t.val / 4 % 8 = ((win0_3.rect t).emb (ix3 (0 : Fin 1) (j 1) (j 2)) 2).val / 128; rw [e2']; omega)
  · exact Fin.ext (by show (j 2).val = ((win0_3.rect t).emb (ix3 (0 : Fin 1) (j 1) (j 2)) 2).val % 128; rw [e2']; omega)
end

/-- Every index of the result lies in some written block. -/
theorem cover (i : S4x2048x1024.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 1024 := (i 2).isLt
  have hN := N_eq
  have hlt : (i 0).val * 32 + (i 2).val / 128 * 4 + (i 1).val / 1024 * 2 + 1 < cfg0.N := by omega
  generalize hn : (i 0).val * 32 + (i 2).val / 128 * 4 + (i 1).val / 1024 * 2 + 1 = n at hlt
  obtain ⟨p0, p1, p2⟩ := (places ⟨n, hlt⟩).2.2.2
  refine ⟨⟨n, hlt⟩, (flush0_3 _).2 (by show n % 2 = 1; omega), ?_⟩
  show i ∈ ((View.whole main_v5).slice (win0_3.rect ⟨n, hlt⟩)).set
  rw [View.set_slice_whole, Rect.mem_set_unit]
  intro a
  match a with
  | ⟨0, _⟩ =>
    show win0_3.index ⟨n, hlt⟩ 0 * 1 ≤ (i 0).val ∧ (i 0).val < win0_3.index ⟨n, hlt⟩ 0 * 1 + 1
    rw [p0]; dsimp only; omega
  | ⟨1, _⟩ =>
    show win0_3.index ⟨n, hlt⟩ 1 * 1024 ≤ (i 1).val ∧ (i 1).val < win0_3.index ⟨n, hlt⟩ 1 * 1024 + 1024
    rw [p1]; dsimp only; omega
  | ⟨2, _⟩ =>
    show win0_3.index ⟨n, hlt⟩ 2 * 128 ≤ (i 2).val ∧ (i 2).val < win0_3.index ⟨n, hlt⟩ 2 * 128 + 128
    rw [p2]; dsimp only; omega

theorem final_eq (c : Dev nD) (hq : ∀ i, ∃ r : ℝ, aQ m c i = (r : EReal)) (hk : ∀ i, ∃ r : ℝ, aK m c i = (r : EReal)) :
    (dats m 0 c).arrAt 3 cfg0.N = spec (aQ m c) (aK m c) (aV m c) :=
  (dats m 0 c).arrAt_eq_of_cover 3 _ (fun t hf => flushed_eq m c hq hk t hf) cover

end Cert.Flash

end
-- ==== Proof.FlashClaims.lean ====
module

public import proofs.«01_k».proof.Proof.FlashValue
public import proofs.«01_k».proof.Defs
public import proofs.«01_k».proof.Proof.Gen.Pre_mla_finite
public import Idealize.ShloMosaic.Lib.ReduceAll
public import Idealize.ShloMosaic.Lib.WordCmp
public import Idealize.ShloMosaic.Lib.Quiescent

@[expose] public section

/-! The attention call's claims under finite queries and keys. -/

set_option maxRecDepth 16384

noncomputable section

namespace Cert.FlashClaims

open Idealize.ShloMosaic Idealize.ShloMosaic.TcCoe Idealize.ShloMosaic.ValueIdx Idealize.SL.Sem

theorem bool_one {p : Prop} [Decidable p] (h : BitVec.ofBool (decide p) = 1#1) : p := by
  by_cases hp : p
  · exact hp
  · rw [decide_eq_false hp] at h; exact absurd h (by decide)

/-- An extended real whose size is below infinity is a real number. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [FlashMath.pos_inf] at h
  have h' : max x (-x) < (⊤ : EReal) := bool_one h
  induction x with
  | bot => exact absurd h' (by simp)
  | top => exact absurd h' (by simp)
  | coe r => exact ⟨r, rfl⟩

theorem finite (x0 x1 : FVec Ideal Cert.Pre_mla_finite.S4x2048x8x192 .f32) (x2 : FVec Ideal Cert.Pre_mla_finite.S4x2048x8x128 .bf16)
    (h : Cert.Pre_mla_finite.fn (F := Ideal) x0 x1 x2 = fun _ => 1#1) :
    (∀ j, ∃ r : ℝ, x0 j = (r : EReal)) ∧ ∀ j, ∃ r : ℝ, x1 j = (r : EReal) := by
  have e := congrFun h (fun a => a.elim0)
  haveI : Subsingleton Cert.Pre_mla_finite.S_.Idx := ⟨fun a b => funext fun k => k.elim0⟩
  obtain ⟨ea, eb⟩ := IntOp.andi_eq_one.1 e
  exact ⟨fun j => real_of_abs _ (Host.reduce_andi_all _ _ _ _ _ ea j), fun j => real_of_abs _ (Host.reduce_andi_all _ _ _ _ _ eb j)⟩

theorem frameI_pre : Cert.quiescent_KernelIdeal_pre_mla_finite (hKernelIdeal := Cert.KernelIdeal.Gen.facts)
    (hPre_mla_finite := Cert.Pre_mla_finite.Gen.facts) := fun m ρ _ => Cert.Flash.frame m ρ

theorem frame_ref : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ref_pre : Cert.quiescent_ReferenceIdeal_pre_mla_finite (hReferenceIdeal := Cert.ReferenceIdeal.Gen.facts)
    (hPre_mla_finite := Cert.Pre_mla_finite.Gen.facts) := fun m ρ _ => frame_ref m ρ trivial

theorem algebraic : Cert.algebraic_KernelIdeal_ReferenceIdeal_pre_mla_finite (hKernelIdeal := Cert.KernelIdeal.Gen.facts)
    (hReferenceIdeal := Cert.ReferenceIdeal.Gen.facts) (hPre_mla_finite := Cert.Pre_mla_finite.Gen.facts) := by
  intro m ρ m' ρ' hpre hag
  refine ⟨fun c => (Cert.Flash.dats m 0 c).arrAt 3 Cert.KernelIdeal.cfg0.N, ?_, ?_⟩
  · exact (θ_run Cert.KernelIdeal.defs _ _).mono (fun _ h c => ⟨(h.1 c).1 (3 : Fin 4), h.2 c⟩)
      (θ_run_and (Cert.Flash.run_main m ρ)
        (Cert.KernelIdeal.Gen.frame_of m ρ (Cert.Flash.dats m) (Cert.Flash.A_eq m) (Cert.Flash.run_main m ρ)))
  refine (θ_run Cert.ReferenceIdeal.defs _ _).mono (fun _ h c => ⟨(h c).1.trans ?_, (h c).2⟩)
    (Cert.ReferenceIdeal.Value.run (F := Ideal) m' ρ')
  obtain ⟨hq, hk⟩ := finite _ _ _ (hpre c)
  refine Eq.trans ?_ (Cert.Flash.final_eq m c hq hk).symm
  rw [Cert.ReferenceIdeal.Read.val_main_v25_eq, (hag c).1, (hag c).2.1, (hag c).2.2]
  exact Cert.FlashSpec.ref_eq _ _ _ hq hk

end Cert.FlashClaims

end
-- ==== Proof.FfnValue.lean ====
module

public import proofs.«01_k».proof.Defs
public import proofs.«01_k».proof.Proof.Gen.Kernel2Ideal.Flash
public import proofs.«01_k».proof.Proof.Gen.Reference2Ideal.Run
public import proofs.«01_k».proof.Proof.Gen.Reference2Ideal.Read
public import Idealize.ShloMosaic.Lib.Pipeline.Value
public import Idealize.ShloMosaic.Lib.ValueIdx
public import Idealize.ShloMosaic.Lib.VecWindow
public import Idealize.ShloMosaic.Lib.MatmulPlain
public import Idealize.ShloMosaic.Lib.IdealHost
public import Idealize.ShloMosaic.Lib.Quiescent

@[expose] public section

/-! The feed-forward layer's value: each row tile gathers its 22 blocks of hidden units, which together are all 5632. -/

set_option maxRecDepth 16384

noncomputable section

namespace Cert.FfnValue

open Cert.Kernel2Ideal Cert.Kernel2Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- A row's pre-activation against one hidden unit. -/
def pre (x : S8320x2048.Idx → EReal) (w : S1x2048x5632.Idx → EReal) (r : Fin 8320) (q : Fin 5632) : EReal :=
  ∑ k : Fin 2048, x (ix2 r k) * w (ix3 0 k q)

/-- A hidden unit's activation. -/
def hid (x : S8320x2048.Idx → EReal) (w1 w3 : S1x2048x5632.Idx → EReal) (r : Fin 8320) (q : Fin 5632) : EReal :=
  pre x w1 r q * Ideal.logistic (pre x w1 r q) * pre x w3 r q

/-- One hidden unit's part of a result. -/
def term (x : S8320x2048.Idx → EReal) (w1 w3 : S1x2048x5632.Idx → EReal) (w2 : S1x5632x2048.Idx → EReal)
    (r : Fin 8320) (n : Fin 2048) (q : Fin 5632) : EReal := hid x w1 w3 r q * w2 (ix3 0 q n)

/-- The whole layer. -/
def ffn (x : S8320x2048.Idx → EReal) (w1 w3 : S1x2048x5632.Idx → EReal) (w2 : S1x5632x2048.Idx → EReal) :
    S8320x2048.Idx → EReal := fun i => ∑ q : Fin 5632, term x w1 w3 w2 (i 0) (i 1) q

/-- The hidden unit at place `j` of block `f`. -/
def unitAt (f : Fin 22) (j : Fin 256) : Fin 5632 := ⟨256 * f.val + j.val, by omega⟩

/-- The blocks are all the hidden units. -/
theorem sum_units (g : Fin 5632 → EReal) : ∑ f : Fin 22, ∑ j : Fin 256, g (unitAt f j) = ∑ q, g q := by
  rw [← Fintype.sum_prod_type' (f := fun f j => g (unitAt f j))]
  refine Eq.trans (Finset.sum_congr rfl fun p _ => ?_) (Equiv.sum_comp (finProdFinEquiv : Fin 22 × Fin 256 ≃ Fin (22 * 256)) g)
  exact congrArg g (Fin.ext (by show 256 * p.1.val + p.2.val = p.2.val + 256 * p.1.val; omega))

section
variable (c : Dev nD) (i : grid0.Coords) (arg4 : Memref sig .tc .vmem S1040x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1040x2048 .f32) (harg8 : arg8.IsWhole) (T0 T1 : (S8.Idx → Elt Ideal .i32))
     (x0 : (S1040x2048.Idx → Elt Ideal .bf16)) (x1 x2 : (S1x2048x256.Idx → Elt Ideal .f32)) (x3 : (S1x256x2048.Idx → Elt Ideal .f32)) (xo : (S1040x2048.Idx → Elt Ideal .f32))

theorem pay_congr {a a' : Vec Ideal S1040x2048 .bf16} {b b' d d' : Vec Ideal S1x2048x256 .f32} {o o' : Vec Ideal S1040x2048 .f32} {e e' : Vec Ideal S1x256x2048 .f32}
    (ha : a = a') (hb : b = b') (hd : d = d') (ho : o = o') (he : e = e') : k0_pay2 a b d o e = k0_pay2 a' b' d' o' e' := by
  rw [ha, hb, hd, ho, he]

/-- The first block of a tile starts from zero. -/
theorem outA (h1) (h2) : out0_A_4 c i arg4 harg4 arg5 harg5 arg6 harg6 arg7 harg7 arg8 harg8 T0 T1 x0 x1 x2 x3 h1 h2 = k0_pay2 x0 x1 x2 (k0_pay1 (F := Ideal)) x3 := by
  unfold out0_A_4 kernelRun0_A
  dsimp only
  sl_unfold_words
  refine (View.read_writes_full (s := S1040x2048) VO0_4 _ _ _ _).trans ?_
  exact pay_congr (View.readAt_rep_full (s := S1040x2048) _ _ _) (View.readAt_rep_full (s := S1x2048x256) _ _ _) (View.readAt_rep_full (s := S1x2048x256) _ _ _)
    (View.readCov_full (s := S1040x2048) _ _ _ _ _) (View.readAt_rep_full (s := S1x256x2048) _ _ _)

/-- A later block adds to what is there. -/
theorem outB (h1) (h2) : out0_B_4 c i arg4 harg4 arg5 harg5 arg6 harg6 arg7 harg7 arg8 harg8 T0 T1 x0 x1 x2 x3 xo h1 h2 = k0_pay2 x0 x1 x2 xo x3 := by
  unfold out0_B_4 kernelRun0_B
  dsimp only
  sl_unfold_words
  refine (View.read_writes_full (s := S1040x2048) VO0_4 _ _ _ _).trans ?_
  exact pay_congr (View.readAt_rep_full (s := S1040x2048) _ _ _) (View.readAt_rep_full (s := S1x2048x256) _ _ _) (View.readAt_rep_full (s := S1x2048x256) _ _ _)
    ((View.readAt_full (s := S1040x2048) _ _ _).trans (harg8.read_unread _)) (View.readAt_rep_full (s := S1x256x2048) _ _ _)
end

/-- A block's product of activations, read at an index. -/
theorem pay_apply (x : Vec Ideal S1040x2048 .bf16) (w1 w3 : Vec Ideal S1x2048x256 .f32) (o : Vec Ideal S1040x2048 .f32) (w2 : Vec Ideal S1x256x2048 .f32)
    (r : Fin 1040) (n : Fin 2048) :
    k0_pay2 x w1 w3 o w2 (ix2 r n) = o (ix2 r n) + ∑ j : Fin 256,
      (((∑ k : Fin 2048, x (ix2 r k) * w1 (ix3 0 k j)) * Ideal.logistic (∑ k : Fin 2048, x (ix2 r k) * w1 (ix3 0 k j)))
        * (∑ k : Fin 2048, x (ix2 r k) * w3 (ix3 0 k j))) * w2 (ix3 0 j n) := by
  have hup : ∀ (w : Vec Ideal S1x2048x256 .f32) (j : Fin 256),
      (matmul (F := Ideal) (φ₁ := .bf16) dot_S1040x2048_S2048x256_S1040x256_1_0_0_1_n_n none x (truncf .bf16 (shapeCast S2048x256 w shapeCasts_S1x2048x256_S2048x256) bitsLt_bf16_f32) (constant S1040x256 .f32 0x00000000#32) (ix2 r j) : EReal)
        = ∑ k : Fin 2048, x (ix2 r k) * w (ix3 0 k j) := by
    intro w j
    refine (Ideal.matmul_plain_apply (M := 1040) (K := 2048) (N := 256) none x _ _ r j).trans ?_
    show Ideal.ofBits .f32 0x00000000#32 + _ = _
    rw [Ideal.ofBits_zero_f32, zero_add]
    refine Finset.sum_congr rfl fun k _ => congrArg (x (ix2 r k) * ·) ?_
    show shapeCast S2048x256 w shapeCasts_S1x2048x256_S2048x256 (ix2 k j) = _
    exact shapeCast_apply w shapeCasts_S1x2048x256_S2048x256 (ix2 k j) (ix3 0 k j)
      (by rewrite [Shape.rowMajor_val_three, Shape.rowMajor_val_two]; show (0 * 2048 + k.val) * 256 + j.val = k.val * 256 + j.val; omega)
  unfold k0_pay2
  show (shapeCast S1040x2048 o shapeCasts_S1040x2048_S1040x2048 (ix2 r n) : EReal) + _ = _
  rw [shapeCast_self]
  refine congrArg (o (ix2 r n) + ·) ?_
  refine (Ideal.matmul_plain_apply (M := 1040) (K := 256) (N := 2048) none _ _ _ r n).trans ?_
  show Ideal.ofBits .f32 0x00000000#32 + _ = _
  rw [Ideal.ofBits_zero_f32, zero_add]
  refine Finset.sum_congr rfl fun j _ => ?_
  refine congrArg₂ (· * ·) ?_ ?_
  · show (_ * Ideal.logistic _) * _ = _
    rw [← hup w1 j, ← hup w3 j]
  · show shapeCast S256x2048 w2 shapeCasts_S1x256x2048_S256x2048 (ix2 j n) = _
    exact shapeCast_apply w2 shapeCasts_S1x256x2048_S256x2048 (ix2 j n) (ix3 0 j n)
      (by rewrite [Shape.rowMajor_val_three, Shape.rowMajor_val_two]; show (0 * 256 + j.val) * 2048 + n.val = j.val * 2048 + n.val; omega)

/-- The number of points. -/
theorem N_eq : (cfgA 0).N = 176 := by decide +kernel

/-- Which points start a tile, and where each window's block lies. -/
theorem places : ∀ t : Fin (cfgA 0).N,
    (P0_0 0 t ↔ t.val % 22 = 0) ∧ (((cfgA 0).win 0).index t 0 = t.val / 22 ∧ ((cfgA 0).win 0).index t 1 = 0)
      ∧ (((cfgA 0).win 1).index t 0 = 0 ∧ ((cfgA 0).win 1).index t 1 = 0 ∧ ((cfgA 0).win 1).index t 2 = t.val % 22)
      ∧ (((cfgA 0).win 2).index t 0 = 0 ∧ ((cfgA 0).win 2).index t 1 = 0 ∧ ((cfgA 0).win 2).index t 2 = t.val % 22)
      ∧ (((cfgA 0).win 3).index t 0 = 0 ∧ ((cfgA 0).win 3).index t 1 = t.val % 22 ∧ ((cfgA 0).win 3).index t 2 = 0)
      ∧ (((cfgA 0).win 4).index t 0 = t.val / 22 ∧ ((cfgA 0).win 4).index t 1 = 0)
      ∧ (((cfgA 0).win 4).flush t = true ↔ t.val % 22 = 21) := by
  decide +kernel

/-- Row `r` of tile `a`, and unit `j` of block `f`. -/
def rowN (a : ℕ) (r : Fin 1040) : Fin 8320 := ⟨(a * 1040 + r.val) % 8320, Nat.mod_lt _ (by decide)⟩
def unitN (f : ℕ) (j : Fin 256) : Fin 5632 := ⟨(f * 256 + j.val) % 5632, Nat.mod_lt _ (by decide)⟩

/-- The argument arrays. -/
abbrev aX (c : Dev nD) : S8320x2048.Idx → EReal := m ((c : Thread nD τ).loc main_arg0)
abbrev a1 (c : Dev nD) : S1x2048x5632.Idx → EReal := m ((c : Thread nD τ).loc main_arg1)
abbrev a3 (c : Dev nD) : S1x2048x5632.Idx → EReal := m ((c : Thread nD τ).loc main_arg2)
abbrev a2 (c : Dev nD) : S1x5632x2048.Idx → EReal := m ((c : Thread nD τ).loc main_arg3)

theorem blk0 (c : Dev nD) (t : Fin (cfgA 0).N) (r : Fin 1040) (k : Fin 2048) :
    iblk 0 m ρ c (0 : Fin 5) t (ix2 r k) = aX m c (ix2 (rowN (t.val / 22) r) k) := by
  have hN := N_eq; have ht := t.isLt
  obtain ⟨-, ⟨h0, h1⟩, -⟩ := places t
  show m ((c : Thread nD τ).loc main_arg0) ((((cfgA 0).win 0).rect t).emb (ix2 r k)) = _
  refine congrArg (m ((c : Thread nD τ).loc main_arg0)) (funext fun a => Fin.ext ?_)
  match a with
  | ⟨0, _⟩ =>
    refine (Window.rect_emb_val ((cfgA 0).win 0) t (ix2 r k) (0 : Fin 2)).trans ?_
    rw [h0]; show t.val / 22 * 1040 + r.val = (t.val / 22 * 1040 + r.val) % 8320; omega
  | ⟨1, _⟩ => exact Window.rect_emb_val_of_index_zero ((cfgA 0).win 0) t (1 : Fin 2) h1 _

theorem blk1 (c : Dev nD) (t : Fin (cfgA 0).N) (k : Fin 2048) (j : Fin 256) :
    iblk 0 m ρ c (1 : Fin 5) t (ix3 0 k j) = a1 m c (ix3 0 k (unitN (t.val % 22) j)) := by
  have hN := N_eq; have ht := t.isLt
  obtain ⟨-, -, ⟨h0, h1, h2⟩, -⟩ := places t
  show m ((c : Thread nD τ).loc main_arg1) ((((cfgA 0).win 1).rect t).emb (ix3 0 k j)) = _
  refine congrArg (m ((c : Thread nD τ).loc main_arg1)) (funext fun a => Fin.ext ?_)
  match a with
  | ⟨0, _⟩ => exact Window.rect_emb_val_of_index_zero ((cfgA 0).win 1) t (0 : Fin 3) h0 _
  | ⟨1, _⟩ => exact Window.rect_emb_val_of_index_zero ((cfgA 0).win 1) t (1 : Fin 3) h1 _
  | ⟨2, _⟩ =>
    refine (Window.rect_emb_val ((cfgA 0).win 1) t (ix3 0 k j) (2 : Fin 3)).trans ?_
    rw [h2]; show t.val % 22 * 256 + j.val = (t.val % 22 * 256 + j.val) % 5632; omega

theorem blk2 (c : Dev nD) (t : Fin (cfgA 0).N) (k : Fin 2048) (j : Fin 256) :
    iblk 0 m ρ c (2 : Fin 5) t (ix3 0 k j) = a3 m c (ix3 0 k (unitN (t.val % 22) j)) := by
  have hN := N_eq; have ht := t.isLt
  obtain ⟨-, -, -, ⟨h0, h1, h2⟩, -⟩ := places t
  show m ((c : Thread nD τ).loc main_arg2) ((((cfgA 0).win 2).rect t).emb (ix3 0 k j)) = _
  refine congrArg (m ((c : Thread nD τ).loc main_arg2)) (funext fun a => Fin.ext ?_)
  match a with
  | ⟨0, _⟩ => exact Window.rect_emb_val_of_index_zero ((cfgA 0).win 2) t (0 : Fin 3) h0 _
  | ⟨1, _⟩ => exact Window.rect_emb_val_of_index_zero ((cfgA 0).win 2) t (1 : Fin 3) h1 _
  | ⟨2, _⟩ =>
    refine (Window.rect_emb_val ((cfgA 0).win 2) t (ix3 0 k j) (2 : Fin 3)).trans ?_
    rw [h2]; show t.val % 22 * 256 + j.val = (t.val % 22 * 256 + j.val) % 5632; omega

theorem blk3 (c : Dev nD) (t : Fin (cfgA 0).N) (j : Fin 256) (n : Fin 2048) :
    iblk 0 m ρ c (3 : Fin 5) t (ix3 0 j n) = a2 m c (ix3 0 (unitN (t.val % 22) j) n) := by
  have hN := N_eq; have ht := t.isLt
  obtain ⟨-, -, -, -, ⟨h0, h1, h2⟩, -⟩ := places t
  show m ((c : Thread nD τ).loc main_arg3) ((((cfgA 0).win 3).rect t).emb (ix3 0 j n)) = _
  refine congrArg (m ((c : Thread nD τ).loc main_arg3)) (funext fun a => Fin.ext ?_)
  match a with
  | ⟨0, _⟩ => exact Window.rect_emb_val_of_index_zero ((cfgA 0).win 3) t (0 : Fin 3) h0 _
  | ⟨1, _⟩ =>
    refine (Window.rect_emb_val ((cfgA 0).win 3) t (ix3 0 j n) (1 : Fin 3)).trans ?_
    rw [h1]; show t.val % 22 * 256 + j.val = (t.val % 22 * 256 + j.val) % 5632; omega
  | ⟨2, _⟩ => exact Window.rect_emb_val_of_index_zero ((cfgA 0).win 3) t (2 : Fin 3) h2 _

/-- What one block of hidden units adds to a result. -/
def part (c : Dev nD) (a : ℕ) (r : Fin 1040) (n : Fin 2048) (f : ℕ) : EReal :=
  ∑ j : Fin 256, term (aX m c) (a1 m c) (a3 m c) (a2 m c) (rowN a r) n (unitN f j)

theorem step_apply (c : Dev nD) (t : Fin (cfgA 0).N) (o : Vec Ideal S1040x2048 .f32) (r : Fin 1040) (n : Fin 2048) :
    k0_pay2 (iblk 0 m ρ c (0 : Fin 5) t) (iblk 0 m ρ c (1 : Fin 5) t) (iblk 0 m ρ c (2 : Fin 5) t) o (iblk 0 m ρ c (3 : Fin 5) t) (ix2 r n)
      = o (ix2 r n) + part m c (t.val / 22) r n (t.val % 22) := by
  refine (pay_apply _ _ _ _ _ r n).trans (congrArg (o (ix2 r n) + ·) ?_)
  refine Finset.sum_congr rfl fun j _ => ?_
  have e1 : ∑ k : Fin 2048, @HMul.hMul EReal EReal EReal instHMul (iblk 0 m ρ c (0 : Fin 5) t (ix2 r k)) (iblk 0 m ρ c (1 : Fin 5) t (ix3 0 k j))
      = pre (aX m c) (a1 m c) (rowN (t.val / 22) r) (unitN (t.val % 22) j) :=
    Finset.sum_congr rfl fun k _ => congrArg₂ (· * ·) (blk0 m ρ c t r k) (blk1 m ρ c t k j)
  have e3 : ∑ k : Fin 2048, @HMul.hMul EReal EReal EReal instHMul (iblk 0 m ρ c (0 : Fin 5) t (ix2 r k)) (iblk 0 m ρ c (2 : Fin 5) t (ix3 0 k j))
      = pre (aX m c) (a3 m c) (rowN (t.val / 22) r) (unitN (t.val % 22) j) :=
    Finset.sum_congr rfl fun k _ => congrArg₂ (· * ·) (blk0 m ρ c t r k) (blk2 m ρ c t k j)
  refine congrArg₂ (· * ·) ?_ (blk3 m ρ c t j n)
  exact congrArg₂ (· * ·) (congrArg₂ (· * ·) e1 (congrArg Ideal.logistic e1)) e3

theorem step0_start (c : Dev nD) (t : Fin (cfgA 0).N) (h : t.val % 22 = 0) (prev) (r : Fin 1040) (n : Fin 2048) :
    step0 0 m ρ c t prev (ix2 r n) = part m c (t.val / 22) r n 0 := by
  rw [step0_A 0 m ρ c t prev ((places t).1.2 h), outA]
  refine (step_apply m ρ c t _ r n).trans ?_
  rw [h]
  show Ideal.ofBits .f32 0x00000000#32 + _ = _
  rw [Ideal.ofBits_zero_f32, zero_add]

theorem step0_next (c : Dev nD) (t : Fin (cfgA 0).N) (h : t.val % 22 ≠ 0) (prev) (r : Fin 1040) (n : Fin 2048) :
    step0 0 m ρ c t prev (ix2 r n) = prev (ix2 r n) + part m c (t.val / 22) r n (t.val % 22) := by
  rw [step0_B 0 m ρ c t prev (fun hh => h ((places t).1.1 hh)), outB]
  exact step_apply m ρ c t _ r n

/-- After a point, a tile holds its blocks so far. -/
theorem traj_apply (c : Dev nD) (r : Fin 1040) (n : Fin 2048) : ∀ (t : ℕ) (ht : t < (cfgA 0).N),
    traj0 0 m ρ c t ht (ix2 r n) = ∑ f ∈ Finset.range (t % 22 + 1), part m c (t / 22) r n f
  | 0, ht => by
    refine (step0_start m ρ c ⟨0, ht⟩ rfl _ r n).trans ?_
    show _ = ∑ f ∈ Finset.range (0 + 1), _
    rw [Finset.sum_range_one]
  | t + 1, ht => by
    by_cases h : (t + 1) % 22 = 0
    · refine (step0_start m ρ c ⟨t + 1, ht⟩ h _ r n).trans ?_
      rw [h, zero_add, Finset.sum_range_one]
    · refine (step0_next m ρ c ⟨t + 1, ht⟩ h _ r n).trans ?_
      have e1 : (t + 1) % 22 = t % 22 + 1 := by omega
      have e2 : (t + 1) / 22 = t / 22 := by omega
      show traj0 0 m ρ c t (Nat.lt_of_succ_lt ht) (ix2 r n) + part m c ((t + 1) / 22) r n ((t + 1) % 22) = _
      rw [traj_apply c r n t (Nat.lt_of_succ_lt ht), e1, e2]
      exact (Finset.sum_range_succ _ _).symm

theorem whole_eq (c : Dev nD) (a : ℕ) (r : Fin 1040) (n : Fin 2048) :
    ∑ f ∈ Finset.range 22, part m c a r n f = ffn (aX m c) (a1 m c) (a3 m c) (a2 m c) (ix2 (rowN a r) n) := by
  rw [Finset.sum_range]
  show _ = ∑ q : Fin 5632, term (aX m c) (a1 m c) (a3 m c) (a2 m c) (rowN a r) n q
  rw [← sum_units]
  refine Finset.sum_congr rfl fun f _ => Finset.sum_congr rfl fun j _ => congrArg _ (Fin.ext ?_)
  show (f.val * 256 + j.val) % 5632 = 256 * f.val + j.val
  omega

theorem at4 (t : Fin (cfgA 0).N) (y : S1040x2048.Idx) :
    ((((cfgA 0).win 4).rect t).emb y (0 : Fin 2)).val = t.val / 22 * 1040 + (y 0).val ∧ ((((cfgA 0).win 4).rect t).emb y (1 : Fin 2)).val = (y 1).val :=
  ⟨(Window.rect_emb_val ((cfgA 0).win 4) t y (0 : Fin 2)).trans (by rw [(places t).2.2.2.2.2.1.1]; rfl),
    Window.rect_emb_val_of_index_zero ((cfgA 0).win 4) t (1 : Fin 2) (places t).2.2.2.2.2.1.2 y⟩

theorem flushed_eq (c : Dev nD) (t : Fin (cfgA 0).N) (hf : ((cfgA 0).win 4).flush t = true) :
    (dats 0 m ρ 0 c).flushed 4 t = (((cfgA 0).win 4).blk t).view.read (Elt Ideal) (ffn (aX m c) (a1 m c) (a3 m c) (a2 m c)) := by
  have hN := N_eq; have ht := t.isLt
  have h21 := (places t).2.2.2.2.2.2.1 hf
  rw [show (dats 0 m ρ 0 c).flushed 4 t = traj0 0 m ρ c t.val t.isLt from rfl]
  funext j
  rw [eq_ix2 (n0 := 1040) (n1 := 2048) j]
  refine (traj_apply m ρ c (j 0) (j 1) t.val t.isLt).trans ?_
  rw [h21]
  refine (whole_eq m c _ (j 0) (j 1)).trans ?_
  show ffn _ _ _ _ _ = ffn _ _ _ _ ((((cfgA 0).win 4).rect t).emb (ix2 (j 0) (j 1)))
  refine congrArg (ffn _ _ _ _) (funext fun a => Fin.ext ?_)
  match a with
  | ⟨0, _⟩ =>
    refine Eq.trans ?_ (at4 t (ix2 (j 0) (j 1))).1.symm
    have h0 : (j 0).val < 1040 := (j 0).isLt
    show (t.val / 22 * 1040 + (j 0).val) % 8320 = t.val / 22 * 1040 + (j 0).val
    omega
  | ⟨1, _⟩ => exact (at4 t (ix2 (j 0) (j 1))).2.symm

/-- Every index of the result lies in some tile. -/
theorem cover (i : S8320x2048.Idx) : ∃ t : Fin (cfgA 0).N, ((cfgA 0).win 4).flush t = true ∧ i ∈ (((cfgA 0).win 4).blk t).view.set := by
  have h0 : (i 0).val < 8320 := (i 0).isLt
  have h1 : (i 1).val < 2048 := (i 1).isLt
  have hN := N_eq
  have hlt : (i 0).val / 1040 * 22 + 21 < (cfgA 0).N := by omega
  have hp := places ⟨(i 0).val / 1040 * 22 + 21, hlt⟩
  refine ⟨⟨(i 0).val / 1040 * 22 + 21, hlt⟩, hp.2.2.2.2.2.2.2 (by dsimp only; omega), ?_⟩
  show i ∈ ((View.whole main_v0).slice (((cfgA 0).win 4).rect ⟨(i 0).val / 1040 * 22 + 21, hlt⟩)).set
  rw [View.set_slice_whole, Rect.mem_set_unit]
  intro a
  match a with
  | ⟨0, _⟩ =>
    show ((cfgA 0).win 4).index ⟨(i 0).val / 1040 * 22 + 21, hlt⟩ (0 : Fin 2) * 1040 ≤ (i 0).val ∧ (i 0).val < ((cfgA 0).win 4).index ⟨(i 0).val / 1040 * 22 + 21, hlt⟩ (0 : Fin 2) * 1040 + 1040
    rw [hp.2.2.2.2.2.1.1]; dsimp only; omega
  | ⟨1, _⟩ =>
    show ((cfgA 0).win 4).index ⟨(i 0).val / 1040 * 22 + 21, hlt⟩ (1 : Fin 2) * 2048 ≤ (i 1).val ∧ (i 1).val < ((cfgA 0).win 4).index ⟨(i 0).val / 1040 * 22 + 21, hlt⟩ (1 : Fin 2) * 2048 + 2048
    rw [hp.2.2.2.2.2.1.2]; omega

theorem final_eq (c : Dev nD) : (dats 0 m ρ 0 c).arrAt 4 (cfgA 0).N = ffn (aX m c) (a1 m c) (a3 m c) (a2 m c) :=
  (dats 0 m ρ 0 c).arrAt_eq_of_cover 4 _ (fun t hf => flushed_eq m ρ c t hf) cover

section
open Cert.Reference2Ideal.Read

/-- The plain program computes the same layer. -/
theorem ref_eq (x : S8320x2048.Idx → EReal) (w1 w3 : S1x2048x5632.Idx → EReal) (w2 : S1x5632x2048.Idx → EReal) :
    val_main_v8 (F := Ideal) x w1 w3 w2 = ffn x w1 w3 w2 := by
  have h2 : ∀ (r : Fin 8320) (q : Fin 5632), val_main_v2 (F := Ideal) x w1 (ix2 r q) = pre x w1 r q := fun r q => by
    rw [val_main_v2_apply]
    refine Finset.sum_congr rfl fun k _ => congrArg₂ (· * ·) ?_ ?_
    · exact congrArg x (funext fun a => by match a with | ⟨0, _⟩ => rfl | ⟨1, _⟩ => rfl)
    · rw [val_main_v1_apply]
      refine congrArg w1 (funext fun a => Fin.ext ?_)
      match a with
      | ⟨0, _⟩ => rfl
      | ⟨1, _⟩ => show (k.val * 5632 + q.val) / 5632 % 2048 = k.val; omega
      | ⟨2, _⟩ => show (k.val * 5632 + q.val) % 5632 = q.val; omega
  have h5 : ∀ (r : Fin 8320) (q : Fin 5632), val_main_v5 (F := Ideal) x w3 (ix2 r q) = pre x w3 r q := fun r q => by
    rw [val_main_v5_apply]
    refine Finset.sum_congr rfl fun k _ => congrArg₂ (· * ·) ?_ ?_
    · exact congrArg x (funext fun a => by match a with | ⟨0, _⟩ => rfl | ⟨1, _⟩ => rfl)
    · rw [val_main_v4_apply]
      refine congrArg w3 (funext fun a => Fin.ext ?_)
      match a with
      | ⟨0, _⟩ => rfl
      | ⟨1, _⟩ => show (k.val * 5632 + q.val) / 5632 % 2048 = k.val; omega
      | ⟨2, _⟩ => show (k.val * 5632 + q.val) % 5632 = q.val; omega
  have h6 : ∀ (r : Fin 8320) (q : Fin 5632), val_main_v6 (F := Ideal) x w1 w3 (ix2 r q) = hid x w1 w3 r q := fun r q => by
    rw [val_main_v6_apply, val_main_v3_apply, val_main_call0_v5_apply, val_main_call0_v4_apply, val_main_call0_cst_0_apply,
      val_main_call0_v3_apply, val_main_call0_v2_apply, val_main_call0_cst_apply, val_main_call0_v1_apply, val_main_call0_v0_apply, h2, h5]
    show (pre x w1 r q * Ideal.div (Ideal.ofBits .f32 0x3F800000#32) (Ideal.ofBits .f32 0x3F800000#32 + Ideal.exp (-(pre x w1 r q)))) * pre x w3 r q = _
    rw [Ideal.ofBits_one_f32]
    rfl
  funext i
  rw [val_main_v8_apply]
  refine Finset.sum_congr rfl fun q _ => congrArg₂ (· * ·) ?_ ?_
  · refine Eq.trans (congrArg (val_main_v6 (F := Ideal) x w1 w3) (funext fun a => ?_)) (h6 (i 0) q)
    match a with | ⟨0, _⟩ => rfl | ⟨1, _⟩ => rfl
  · rw [val_main_v7_apply]
    refine congrArg w2 (funext fun a => Fin.ext ?_)
    have h1 : (i 1).val < 2048 := (i 1).isLt
    match a with
    | ⟨0, _⟩ => rfl
    | ⟨1, _⟩ => show (q.val * 2048 + (i 1).val) / 2048 % 5632 = q.val; omega
    | ⟨2, _⟩ => show (q.val * 2048 + (i 1).val) % 2048 = (i 1).val; omega
end

end Cert.FfnValue

end
-- ==== Proof.FfnClaims.lean ====
module

public import proofs.«01_k».proof.Proof.FfnValue
public import proofs.«01_k».proof.Proof.Gen.Kernel2.Flash
public import proofs.«01_k».proof.Proof.Gen.Pre_ffn_tables
public import Idealize.ShloMosaic.Lib.ReduceAll
public import Idealize.ShloMosaic.Lib.WordCmp

@[expose] public section

/-! The feed-forward layer's claims: the tables read off the precondition, the frames and the value. -/

set_option maxRecDepth 16384

noncomputable section

namespace Cert.FfnClaims

open Idealize.ShloMosaic Idealize.ShloMosaic.TcCoe Idealize.ShloMosaic.ValueIdx Idealize.SL.Sem

theorem eq_of_cmpi {x y : BitVec 32} (h : IntOp.cmpi .eq x y = 1#1) : x = y := by
  have h' : BitVec.ofBool (x == y) = 1#1 := h
  cases hb : (x == y) with
  | true => exact eq_of_beq hb
  | false => rw [hb] at h'; exact absurd h' (by decide)

/-- The precondition, read at every word of the two tables. -/
theorem tables {F : FTy → Type} [FloatOps F] (x0 : FVec F Cert.Pre_ffn_tables.S8320x2048 .bf16) (x1 x2 : FVec F Cert.Pre_ffn_tables.S1x2048x5632 .f32)
    (x3 : FVec F Cert.Pre_ffn_tables.S1x5632x2048 .f32) (t0 t1 : IVec Cert.Pre_ffn_tables.S8 32)
    (h : Cert.Pre_ffn_tables.fn (F := F) x0 x1 x2 x3 t0 t1 = fun _ => 1#1) (j : Cert.Pre_ffn_tables.S8.Idx) : t0 j = 0#32 ∧ t1 j = 1#32 := by
  have e := congrFun h (fun a => a.elim0)
  obtain ⟨ea, eb⟩ := IntOp.andi_eq_one.1 e
  haveI : Subsingleton Cert.Pre_ffn_tables.S_.Idx := ⟨fun a b => funext fun k => k.elim0⟩
  exact ⟨eq_of_cmpi (Host.reduce_andi_all _ _ _ _ _ ea j), eq_of_cmpi (Host.reduce_andi_all _ _ _ _ _ eb j)⟩

theorem list0 : ∀ n : Fin 8, (([0#32, 0#32, 0#32, 0#32, 0#32, 0#32, 0#32, 0#32] : List (BitVec 32)).getD n.val 0#32) = 0#32 := by decide
theorem list1 : ∀ n : Fin 8, (([1#32, 1#32, 1#32, 1#32, 1#32, 1#32, 1#32, 1#32] : List (BitVec 32)).getD n.val 0#32) = 1#32 := by decide

theorem pinned (m) (h : Cert.Pre_Kernel2 m) : Cert.Kernel2.Gen.Pinned 0 m :=
  ⟨fun c => funext fun j => ((tables _ _ _ _ _ _ (h c) j).1).trans (list0 (j 0)).symm,
   fun c => funext fun j => ((tables _ _ _ _ _ _ (h c) j).2).trans (list1 (j 0)).symm⟩

theorem pinnedI (m) (h : Cert.Pre_Kernel2Ideal m) : Cert.Kernel2Ideal.Gen.Pinned 0 m :=
  ⟨fun c => funext fun j => ((tables _ _ _ _ _ _ (h c) j).1).trans (list0 (j 0)).symm,
   fun c => funext fun j => ((tables _ _ _ _ _ _ (h c) j).2).trans (list1 (j 0)).symm⟩

theorem frame : Cert.quiescent_Kernel2 (hKernel2 := Cert.Kernel2.Gen.facts) (hPre_ffn_tables := Cert.Pre_ffn_tables.Gen.facts) :=
  fun m ρ h => Cert.Kernel2.Gen.frame 0 m ρ (pinned m h)

theorem frameI : Cert.quiescent_Kernel2Ideal (hKernel2Ideal := Cert.Kernel2Ideal.Gen.facts) (hPre_ffn_tables := Cert.Pre_ffn_tables.Gen.facts) :=
  fun m ρ h => Cert.Kernel2Ideal.Gen.frame 0 m ρ (pinnedI m h)

theorem frame_ref : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_ref_pre : Cert.quiescent_Reference2Ideal_pre_ffn_tables (hReference2Ideal := Cert.Reference2Ideal.Gen.facts)
    (hPre_ffn_tables := Cert.Pre_ffn_tables.Gen.facts) := fun m ρ _ => frame_ref m ρ trivial

theorem algebraic : Cert.algebraic_Kernel2Ideal_Reference2Ideal (hKernel2Ideal := Cert.Kernel2Ideal.Gen.facts)
    (hReference2Ideal := Cert.Reference2Ideal.Gen.facts) (hPre_ffn_tables := Cert.Pre_ffn_tables.Gen.facts) := by
  intro m ρ m' ρ' hpre hag
  refine ⟨fun c => (Cert.Kernel2Ideal.Gen.dats 0 m ρ 0 c).arrAt 4 (Cert.Kernel2Ideal.Gen.cfgA 0).N, ?_, ?_⟩
  · have hp := pinnedI m hpre
    exact (θ_run Cert.Kernel2Ideal.defs _ _).mono (fun _ h c => ⟨(h.1 c).1 (4 : Fin 5), h.2 c⟩)
      (θ_run_and (Cert.Kernel2Ideal.Gen.run_main 0 m ρ hp) (Cert.Kernel2Ideal.Gen.unchanged 0 m ρ hp))
  refine (θ_run Cert.Reference2Ideal.defs _ _).mono (fun _ h c => ⟨(h c).1.trans ?_, (h c).2⟩)
    (Cert.Reference2Ideal.Value.run (F := Ideal) m' ρ')
  refine Eq.trans ?_ (Cert.FfnValue.final_eq m ρ c).symm
  rw [Cert.Reference2Ideal.Read.val_main_v8_eq, (hag c).1, (hag c).2.1, (hag c).2.2.1, (hag c).2.2.2.1]
  exact Cert.FfnValue.ref_eq _ _ _ _

end Cert.FfnClaims

end
-- ==== Proof.OutValue.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.ValueIdx
public import Idealize.ShloMosaic.Lib.MatmulPlain
public import Idealize.ShloMosaic.Lib.Quiescent

@[expose] public section

/-! The output product's value: each point's block of the result is that block of the whole product. -/

set_option maxRecDepth 16384

noncomputable section

namespace Cert.OutValue

open Cert.Kernel3Ideal Cert.Kernel3Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The product of the two argument arrays. -/
def prod (x : S8320x2048.Idx → EReal) (w : S2048x2048.Idx → EReal) : S8320x2048.Idx → EReal :=
  fun i => ∑ k : Fin 2048, x (ix2 (i 0) k) * w (ix2 k (i 1))

/-- Where each window's block lies, point by point. -/
theorem places : ∀ t : Fin cfg0.N,
    win0_0.index t 0 = t.val / 4 ∧ win0_0.index t 1 = 0 ∧ win0_1.index t 0 = 0 ∧ win0_1.index t 1 = t.val % 4
      ∧ win0_2.index t 0 = t.val / 4 ∧ win0_2.index t 1 = t.val % 4 :=
  (by decide +kernel : ∀ t : Fin grid0.N, win0_0.index t 0 = t.val / 4 ∧ win0_0.index t 1 = 0 ∧ win0_1.index t 0 = 0 ∧ win0_1.index t 1 = t.val % 4
      ∧ win0_2.index t 0 = t.val / 4 ∧ win0_2.index t 1 = t.val % 4)

theorem zeros : (![0, 0] : Fin 2 → Nat) = fun _ => 0 := funext fun a => by fin_cases a <;> rfl

/-- The body's product, read at an index. -/
theorem pay_apply (x : Vec Ideal S1040x2048 .bf16) (w : Vec Ideal S2048x512 .f32) (r : Fin 1040) (c : Fin 512) :
    k0_pay1 x w (ix2 r c) = ∑ k : Fin 2048, x (ix2 r k) * w (ix2 k c) := by
  unfold k0_pay1
  refine (Ideal.matmul_plain_apply (M := 1040) (K := 2048) (N := 512) none x _ _ r c).trans ?_
  show Ideal.ofBits .f32 0x00000000#32 + _ = _
  rw [Ideal.ofBits_zero_f32, zero_add]
  rfl

theorem at0 (t : Fin cfg0.N) (y) : ((win0_0.rect t).emb y 0).val = t.val / 4 * 1040 + (y 0).val ∧ ((win0_0.rect t).emb y 1).val = (y 1).val :=
  ⟨(Window.rect_emb_val win0_0 t y 0).trans (by rw [(places t).1]; rfl), Window.rect_emb_val_of_index_zero win0_0 t 1 (places t).2.1 y⟩
theorem at1 (t : Fin cfg0.N) (y) : ((win0_1.rect t).emb y 0).val = (y 0).val ∧ ((win0_1.rect t).emb y 1).val = t.val % 4 * 512 + (y 1).val :=
  ⟨Window.rect_emb_val_of_index_zero win0_1 t 0 (places t).2.2.1 y, (Window.rect_emb_val win0_1 t y 1).trans (by rw [(places t).2.2.2.1]; rfl)⟩
theorem at2 (t : Fin cfg0.N) (y) : ((win0_2.rect t).emb y 0).val = t.val / 4 * 1040 + (y 0).val ∧ ((win0_2.rect t).emb y 1).val = t.val % 4 * 512 + (y 1).val :=
  ⟨(Window.rect_emb_val win0_2 t y 0).trans (by rw [(places t).2.2.2.2.1]; rfl), (Window.rect_emb_val win0_2 t y 1).trans (by rw [(places t).2.2.2.2.2]; rfl)⟩

theorem flushed_eq (c : Dev nD) (t : Fin cfg0.N) :
    (dats m 0 c).flushed 2 t = (win0_2.blk t).view.read (Elt Ideal)
      (prod (m ((c : Thread nD τ).loc main_arg0)) (m ((c : Thread nD τ).loc main_arg1))) := by
  rw [Value.flushed2]
  unfold out0_2
  rw [View.canon_unit_zero zeros, View.ld_unit_zero zeros, View.ld_unit_zero zeros]
  funext j
  obtain ⟨p00, p01, p10, p11, p20, p21⟩ := places t
  rw [eq_ix2 (n0 := 1040) (n1 := 512) j]
  refine (pay_apply _ _ _ _).trans ?_
  show _ = prod _ _ ((win0_2.rect t).emb (ix2 (j 0) (j 1)))
  unfold prod
  refine Finset.sum_congr rfl fun k _ => ?_
  congr 1
  · show V m c (Pipeline.arrRef spec0 0) ((win0_0.rect t).emb (ix2 (j 0) k)) = _
    refine congrArg (m ((c : Thread nD τ).loc main_arg0)) (funext fun a => Fin.ext ?_)
    match a with
    | ⟨0, _⟩ => exact (at0 t _).1.trans (at2 t _).1.symm
    | ⟨1, _⟩ => exact (at0 t _).2
  · show V m c (Pipeline.arrRef spec0 1) ((win0_1.rect t).emb (ix2 k (j 1))) = _
    refine congrArg (m ((c : Thread nD τ).loc main_arg1)) (funext fun a => Fin.ext ?_)
    match a with
    | ⟨0, _⟩ => exact (at1 t _).1
    | ⟨1, _⟩ => exact (at1 t _).2.trans (at2 t _).2.symm

/-- Every index of the result lies in some point's block. -/
theorem cover (i : S8320x2048.Idx) : ∃ t : Fin cfg0.N, (cfg0.win 2).flush t = true ∧ i ∈ ((cfg0.win 2).blk t).view.set := by
  have h0 : (i 0).val < 8320 := (i 0).isLt
  have h1 : (i 1).val < 2048 := (i 1).isLt
  have hN : cfg0.N = 32 := N_0
  have hlt : (i 0).val / 1040 * 4 + (i 1).val / 512 < cfg0.N := by omega
  obtain ⟨-, -, -, -, p20, p21⟩ := places ⟨(i 0).val / 1040 * 4 + (i 1).val / 512, hlt⟩
  refine ⟨⟨(i 0).val / 1040 * 4 + (i 1).val / 512, hlt⟩, flush0_2 _, ?_⟩
  show i ∈ ((View.whole main_v0).slice (win0_2.rect ⟨(i 0).val / 1040 * 4 + (i 1).val / 512, hlt⟩)).set
  rw [View.set_slice_whole, Rect.mem_set_unit]
  intro a
  match a with
  | ⟨0, _⟩ =>
    show win0_2.index ⟨(i 0).val / 1040 * 4 + (i 1).val / 512, hlt⟩ 0 * 1040 ≤ (i 0).val ∧ (i 0).val < win0_2.index ⟨(i 0).val / 1040 * 4 + (i 1).val / 512, hlt⟩ 0 * 1040 + 1040
    rw [p20]; dsimp only; omega
  | ⟨1, _⟩ =>
    show win0_2.index ⟨(i 0).val / 1040 * 4 + (i 1).val / 512, hlt⟩ 1 * 512 ≤ (i 1).val ∧ (i 1).val < win0_2.index ⟨(i 0).val / 1040 * 4 + (i 1).val / 512, hlt⟩ 1 * 512 + 512
    rw [p21]; dsimp only; omega

theorem final_eq (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

/-- The host product is the same sum. -/
theorem ref_eq (x : S8320x2048.Idx → EReal) (w : S2048x2048.Idx → EReal) :
    Cert.Reference3Ideal.Read.val_main_v1 (F := Ideal) x w = prod x w := by
  funext i
  rw [Cert.Reference3Ideal.Read.val_main_v1_apply]
  unfold prod
  refine Finset.sum_congr rfl fun k _ => ?_
  congr 1
  · show x _ = x _
    exact congrArg x (funext fun a => by match a with | ⟨0, _⟩ => rfl | ⟨1, _⟩ => rfl)
  · exact congrArg w (funext fun a => by match a with | ⟨0, _⟩ => rfl | ⟨1, _⟩ => rfl)

theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (dats m 0 c).arrAt 2 cfg0.N, Value.run_blocks m ρ, ?_⟩
  refine (θ_run Cert.Reference3Ideal.defs _ _).mono (fun _ h c => ⟨(h c).1.trans ?_, (h c).2⟩)
    (Cert.Reference3Ideal.Value.run (F := Ideal) m' ρ')
  refine Eq.trans ?_ (final_eq m c).symm
  rw [Cert.Reference3Ideal.Read.val_main_v1_eq, (hag c).1, (hag c).2]
  exact ref_eq _ _

theorem frame_ref : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

end Cert.OutValue

end
-- ==== Proof.MoeTabs.lean ====
module

public import proofs.«01_k».proof.Proof.Gen.Kernel4Ideal.Flash.Runs
public import Idealize.ShloMosaic.Lib.Pipeline.ValueKit.Geometry

@[expose] public section

/-! The grouped layer's pipeline at any tables of tiles: which expert a tile takes (below eight) and whether it is valid. -/

set_option maxRecDepth 16384
set_option Elab.async false

noncomputable section

namespace Cert.Moe

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables, every tile's expert one of the eight. -/
structure Tabs where
  T0 : S24.Idx → BitVec 32
  T1 : S24.Idx → BitVec 32
  lt : ∀ x, (T0 x).toNat < 8

/-- A point's tile, as an index of a table. -/
def tileAt (i : grid0.Coords) : S24.Idx := fun a => match a with | ⟨0, _⟩ => ⟨(i 0).val, (i 0).isLt⟩

theorem first_emb (i : grid0.Coords) (inb : ∀ a, k0_off1 i a + S1.size a ≤ S24.size a)
    (y : (Rect.unit (s := S24) (k0_off1 i) S1.size inb).shape.Idx) (hy : ∀ a, (y a).val = 0) :
    (Rect.unit (s := S24) (k0_off1 i) S1.size inb).emb y = tileAt i :=
  funext fun a => Fin.ext (by
    match a with
    | ⟨0, _⟩ =>
      refine (ValueKit.rect_emb_unit_val _ _ _ _ _).trans ?_
      rw [hy ⟨0, _⟩, k0_off1_eq]; rfl)

variable (ch : Tabs)

set_option backward.proofsInPublic true in
/-- The tables' contents. -/
def pfN : pre0.Contents (Elt Ideal) := fun | ⟨0, _⟩ => ch.T0 | ⟨1, _⟩ => ch.T1 | ⟨_ + 2, h⟩ => absurd h (by simp)

theorem word_at (T : S24.Idx → BitVec 32) (i : grid0.Coords) (inb : ∀ a, k0_off1 i a + S1.size a ≤ S24.size a)
    (y : (Rect.unit (s := S24) (k0_off1 i) S1.size inb).shape.Idx) (hy : ∀ a, (y a).val = 0) :
    T ((Rect.unit (s := S24) (k0_off1 i) S1.size inb).emb y) = T (tileAt i) :=
  congrArg T (first_emb i inb y hy)

/-- The block a weight's window takes: the point's own, or the last for a tile that is not valid. -/
def fEff (i : grid0.Coords) : BitVec 32 := Scalar.select (Scalar.cmpi .sgt (ch.T1 (tileAt i)) 0#32) (BitVec.ofNat 32 (i 1).val) 10#32

theorem fEff_le (i : grid0.Coords) : (fEff ch i).toNat ≤ 10 := by
  have h1 : (i 1).val < 11 := (i 1).isLt
  unfold fEff Scalar.select
  split
  · rw [BitVec.toNat_ofNat]; omega
  · decide

theorem tr1 (i : grid0.Coords) : cc0_transform_1 (F := Ideal) k0_off1_inb numel1_S1 (pfN ch) i = ![(ch.T0 (tileAt i)).toNat, 0, (fEff ch i).toNat] := by
  have e0 : (pfN ch).at 0 (Rect.unit (s := S24) (k0_off1 i) S1.size (k0_off1_inb i)) numel1_S1 = ch.T0 (tileAt i) := word_at ch.T0 i _ _ fun _ => rfl
  have e1 : (pfN ch).at 1 (Rect.unit (s := S24) (k0_off1 i) S1.size (k0_off1_inb i)) numel1_S1 = ch.T1 (tileAt i) := word_at ch.T1 i _ _ fun _ => rfl
  show ![((pfN ch).at 0 (Rect.unit (s := S24) (k0_off1 i) S1.size (k0_off1_inb i)) numel1_S1 : BitVec 32).toNat, 0, (Scalar.select (Scalar.cmpi .sgt ((pfN ch).at 1 (Rect.unit (s := S24) (k0_off1 i) S1.size (k0_off1_inb i)) numel1_S1) 0#32) (BitVec.ofNat 32 (i 1).val) 10#32 : BitVec 32).toNat] = _
  rw [e0, e1]
  rfl

theorem tr2 (i : grid0.Coords) : cc0_transform_2 (F := Ideal) k0_off1_inb numel1_S1 (pfN ch) i = ![(ch.T0 (tileAt i)).toNat, 0, (fEff ch i).toNat] := tr1 ch i

theorem tr3 (i : grid0.Coords) : cc0_transform_3 (F := Ideal) k0_off1_inb numel1_S1 (pfN ch) i = ![(ch.T0 (tileAt i)).toNat, (fEff ch i).toNat, 0] := by
  have e0 : (pfN ch).at 0 (Rect.unit (s := S24) (k0_off1 i) S1.size (k0_off1_inb i)) numel1_S1 = ch.T0 (tileAt i) := word_at ch.T0 i _ _ fun _ => rfl
  have e1 : (pfN ch).at 1 (Rect.unit (s := S24) (k0_off1 i) S1.size (k0_off1_inb i)) numel1_S1 = ch.T1 (tileAt i) := word_at ch.T1 i _ _ fun _ => rfl
  show ![((pfN ch).at 0 (Rect.unit (s := S24) (k0_off1 i) S1.size (k0_off1_inb i)) numel1_S1 : BitVec 32).toNat, (Scalar.select (Scalar.cmpi .sgt ((pfN ch).at 1 (Rect.unit (s := S24) (k0_off1 i) S1.size (k0_off1_inb i)) numel1_S1) 0#32) (BitVec.ofNat 32 (i 1).val) 10#32 : BitVec 32).toNat, 0] = _
  rw [e0, e1]
  rfl

/-- Every block the windows take lies in its array. -/
theorem ok_pfN : ok0 (F := Ideal) (pfN ch) := by
  refine ⟨fun i => ⟨fun a => ?_, .inl rfl⟩, fun i => ⟨fun a => ?_, .inl rfl⟩, fun i => ⟨fun a => ?_, .inl rfl⟩⟩ <;>
    [rw [tr1]; rw [tr2]; rw [tr3]] <;>
    have h0 := ch.lt (tileAt i) <;> have h1 := fEff_le ch i
  · match a with
    | ⟨0, _⟩ => show ((ch.T0 (tileAt i)).toNat + 1) * 1 ≤ 8; omega
    | ⟨1, _⟩ => show (0 + 1) * 2048 ≤ 2048; omega
    | ⟨2, _⟩ => show ((fEff ch i).toNat + 1) * 256 ≤ 2816; omega
  · match a with
    | ⟨0, _⟩ => show ((ch.T0 (tileAt i)).toNat + 1) * 1 ≤ 8; omega
    | ⟨1, _⟩ => show (0 + 1) * 2048 ≤ 2048; omega
    | ⟨2, _⟩ => show ((fEff ch i).toNat + 1) * 256 ≤ 2816; omega
  · match a with
    | ⟨0, _⟩ => show ((ch.T0 (tileAt i)).toNat + 1) * 1 ≤ 8; omega
    | ⟨1, _⟩ => show ((fEff ch i).toNat + 1) * 256 ≤ 2816; omega
    | ⟨2, _⟩ => show (0 + 1) * 2048 ≤ 2048; omega

/-- The admissible contents, the pipeline at them (`cfgA ch`: 264 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x2048x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x2048x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x256x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := k0_cond1 (crd ch t) = 1#1
abbrev P0_1 (t : Fin (cfgA ch).N) : Prop := k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1

/-- `(cfgA ch).fresh 4`: a tile's first point finds nothing of its own in the buffer. -/
def frTab0_4 (n : ℕ) : Bool := n % 11 == 0

/-- Tables for what does not depend on them. -/
def tabs0 : Tabs := ⟨fun _ => 0#32, fun _ => 0#32, fun _ => by decide⟩

theorem facts0 : ∀ t : Fin (cfgA tabs0).N, (P0_0 tabs0 t ↔ t.val % 11 = 0) ∧ (((cfgA tabs0).win (4 : Fin 5)).flush t = true ↔ t.val % 11 = 10) := by decide +kernel

theorem first_iff (t : Fin (cfgA ch).N) : P0_0 ch t ↔ t.val % 11 = 0 := (facts0 t).1
theorem flush_iff (t : Fin (cfgA ch).N) : ((cfgA ch).win (4 : Fin 5)).flush t = true ↔ t.val % 11 = 10 := (facts0 t).2

/-- Whether a tile is valid, as the body's own test of the word it loads. -/
abbrev goodW (w : BitVec 32) : Prop := k0_cond2 w = 1#1

theorem second_iff (t : Fin (cfgA ch).N) : P0_1 ch t ↔ goodW (ch.T1 (tileAt (crd ch t))) := by
  have e : View.readAt (Elt Ideal) (tbM0_1).view (Rect.unit (s := S24) (k0_off1 (crd ch t)) S1.size (k0_off1_inb (crd ch t))).toLoadRect (ch.T1) (Shape.Idx.first (numel1_S1.symm ▸ Nat.one_pos)) = ch.T1 (tileAt (crd ch t)) :=
    word_at ch.T1 (crd ch t) (k0_off1_inb (crd ch t)) _ fun _ => rfl
  show k0_cond2 _ = 1#1 ↔ _
  rw [e]

theorem idle_eq (t : Fin (cfgA ch).N) : (cfgA ch).idle (4 : Fin 5) ((cfgA ch).grid.coords t) = (!decide (P0_0 ch t) && !decide (P0_1 ch t)) := by
  have e : (pfN ch).atD 1 (k0_off1 (crd ch t)) = ch.T1 (tileAt (crd ch t)) := by
    have hb : ∀ a, k0_off1 (crd ch t) a + 1 ≤ S24.size a := fun a => by
      match a with
      | ⟨0, _⟩ => exact k0_off1_inb (crd ch t) 0
    refine (dif_pos hb).trans ?_
    refine congrArg ch.T1 (funext fun a => Fin.ext ?_)
    match a with
    | ⟨0, _⟩ => show k0_off1 (crd ch t) 0 = (crd ch t 0).val; rw [k0_off1_eq]; rfl
  show (!(k0_cond1 (crd ch t) == 1#1) && !(k0_cond2 ((pfN ch).atD 1 (k0_off1 (crd ch t))) == 1#1)) = _
  rw [e]
  have hb : ∀ w : BitVec 1, (w == 1#1) = decide (w = 1#1) := by decide
  rw [hb, hb, decide_eq_decide.2 (second_iff ch t)]

/-- Every fact the run takes at a point. -/
theorem frTab0_4_step (t : Fin (cfgA ch).N) :
    frTab0_4 (t.val + 1) = (((cfgA ch).win (4 : Fin 5)).flush t || ((cfgA ch).idle (4 : Fin 5) ((cfgA ch).grid.coords t) && frTab0_4 t.val)) := by
  have hf := flush_iff ch t
  have h1 := first_iff ch t
  rw [idle_eq]
  unfold frTab0_4
  cases h : ((cfgA ch).win (4 : Fin 5)).flush t with
  | true =>
    have := hf.1 h
    simp only [Bool.true_or, beq_iff_eq]; omega
  | false =>
    have hn : ¬ t.val % 11 = 10 := fun hh => by rw [hf.2 hh] at h; exact absurd h (by decide)
    by_cases h0 : t.val % 11 = 0
    · have := h1.2 h0
      rw [decide_eq_true this]
      simp only [Bool.not_true, Bool.false_and, Bool.or_false, beq_eq_false_iff_ne]; omega
    · rw [beq_eq_false_iff_ne.2 h0]
      simp only [Bool.and_false, Bool.or_false, beq_eq_false_iff_ne]; omega

theorem sched_first (t : Fin (cfgA ch).N) (q0 : P0_0 ch t) :
    (cfgA ch).idle (4 : Fin 5) ((cfgA ch).grid.coords t) = false ∧ ((cfgA ch).win (4 : Fin 5)).flush t = false ∧ frTab0_4 t.val = true := by
  have h0 := (first_iff ch t).1 q0
  refine ⟨by rw [idle_eq, decide_eq_true q0]; rfl, ?_, beq_iff_eq.2 h0⟩
  rw [← Bool.not_eq_true]; intro h; have := (flush_iff ch t).1 h; omega

theorem sched_later (t : Fin (cfgA ch).N) (q0 : ¬P0_0 ch t) : frTab0_4 t.val = false :=
  beq_eq_false_iff_ne.2 fun h => q0 ((first_iff ch t).2 h)

theorem idle_later (t : Fin (cfgA ch).N) (q0 : ¬P0_0 ch t) (b : Bool) (q1 : decide (P0_1 ch t) = b) :
    (cfgA ch).idle (4 : Fin 5) ((cfgA ch).grid.coords t) = !b := by
  rw [idle_eq, decide_eq_false q0, q1]; rfl

end Cert.Moe

end
-- ==== Proof.MoeFrame.lean ====
module

public import proofs.«01_k».proof.Proof.MoeTabs
public import Idealize.ShloMosaic.Lib.Pipeline.Quiescent
public import Idealize.ShloMosaic.Lib.Claim

@[expose] public section

/-! The grouped layer's run at any tables: the buffer's contents point by point, the body's obligation, the launch and the frame. -/

set_option maxRecDepth 16384
set_option Elab.async false

noncomputable section

namespace Cert.Moe

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra. -/
abbrev EP : Emb (UR sig nD τ) 𝕄 := emb₁

/-- The launch memory holds the tables. -/
def Pinned (ch : Tabs) (m : (ℓ : Loc nD τ sig) → Buf (Elt Ideal) ℓ) : Prop :=
  (∀ c : Dev nD, m ((c : Thread nD τ).loc main_arg4) = ch.T0)
  ∧ (∀ c : Dev nD, m ((c : Thread nD τ).loc main_arg5) = ch.T1)

variable (ch : Tabs)
variable (m : (ℓ : Loc nD τ sig) → Buf (Elt Ideal) ℓ) (ρ : Dev nD → PrngReg)

theorem freshF0_4 (t : Fin (cfgA ch).N) : (cfgA ch).fresh (4 : Fin 5) t.val = frTab0_4 t.val :=
  Pipeline.Cfg.fresh_tab (cfgA ch) (4 : Fin 5) frTab0_4 rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tabs) (t : Fin (cfgA ch).N), P0_0 ch t → P0_1 ch t →
    (k0_cond1 (crd ch t) = 1#1) ∧ ((k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1) ∧ (True)) := fun ch t h0 h1 => ⟨h0, h1, trivial⟩

theorem hypsR0_A : ∀ (ch : Tabs) (t : Fin (cfgA ch).N), P0_0 ch t → P0_1 ch t →
    (k0_cond1 (crd ch t) = 1#1) ∧ ((k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1) ∧ (True)) := hyps0_A

/-- At a point of path A: the idle table, the write-backs and which buffers hold junk (decided over the
    freshness tables `frTab`/`sfrTab`, restated over `Cfg.fresh`/`sfresh` by their agreement). -/
theorem sched0_A : ∀ (ch : Tabs) (t : Fin (cfgA ch).N), P0_0 ch t → P0_1 ch t →
    (cfgA ch).idle (4 : Fin 5) ((cfgA ch).grid.coords t) = false ∧ ((cfgA ch).win (4 : Fin 5)).flush t = false ∧ (cfgA ch).fresh (4 : Fin 5) t.val = true := by
  intro ch t q0 q1; rw [freshF0_4 ch t]; exact sched_first ch t q0

/-- At a point of path B, the path's hypotheses hold of the words the body reads there (the pinned tables read,
    a pinned window's word AS the word `pinBlk ch t (r.idx x)`; the checks among them cited from `ChecksAt`). -/
theorem hyps0_B : ∀ (ch : Tabs) (t : Fin (cfgA ch).N), ¬P0_0 ch t → P0_1 ch t →
    (¬(k0_cond1 (crd ch t) = 1#1)) ∧ ((k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1) ∧ (True)) := fun ch t h0 h1 => ⟨h0, h1, trivial⟩

theorem hypsR0_B : ∀ (ch : Tabs) (t : Fin (cfgA ch).N), ¬P0_0 ch t → P0_1 ch t →
    (¬(k0_cond1 (crd ch t) = 1#1)) ∧ ((k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1) ∧ (True)) := hyps0_B

/-- At a point of path B: the idle table, the write-backs and which buffers hold junk (decided over the
    freshness tables `frTab`/`sfrTab`, restated over `Cfg.fresh`/`sfresh` by their agreement). -/
theorem sched0_B : ∀ (ch : Tabs) (t : Fin (cfgA ch).N), ¬P0_0 ch t → P0_1 ch t →
    (cfgA ch).idle (4 : Fin 5) ((cfgA ch).grid.coords t) = false ∧ (cfgA ch).fresh (4 : Fin 5) t.val = false := by
  intro ch t q0 q1; rw [freshF0_4 ch t]; exact ⟨idle_later ch t q0 true (decide_eq_true q1), sched_later ch t q0⟩

/-- At a point of path C, the path's hypotheses hold of the words the body reads there (the pinned tables read,
    a pinned window's word AS the word `pinBlk ch t (r.idx x)`; the checks among them cited from `ChecksAt`). -/
theorem hyps0_C : ∀ (ch : Tabs) (t : Fin (cfgA ch).N), P0_0 ch t → ¬P0_1 ch t →
    (k0_cond1 (crd ch t) = 1#1) ∧ ((¬(k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1)) ∧ (True)) := fun ch t h0 h1 => ⟨h0, h1, trivial⟩

theorem hypsR0_C : ∀ (ch : Tabs) (t : Fin (cfgA ch).N), P0_0 ch t → ¬P0_1 ch t →
    (k0_cond1 (crd ch t) = 1#1) ∧ ((¬(k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1)) ∧ (True)) := hyps0_C

/-- At a point of path C: the idle table, the write-backs and which buffers hold junk (decided over the
    freshness tables `frTab`/`sfrTab`, restated over `Cfg.fresh`/`sfresh` by their agreement). -/
theorem sched0_C : ∀ (ch : Tabs) (t : Fin (cfgA ch).N), P0_0 ch t → ¬P0_1 ch t →
    (cfgA ch).idle (4 : Fin 5) ((cfgA ch).grid.coords t) = false ∧ ((cfgA ch).win (4 : Fin 5)).flush t = false ∧ (cfgA ch).fresh (4 : Fin 5) t.val = true := by
  intro ch t q0 q1; rw [freshF0_4 ch t]; exact sched_first ch t q0

/-- At a point of path D, the path's hypotheses hold of the words the body reads there (the pinned tables read,
    a pinned window's word AS the word `pinBlk ch t (r.idx x)`; the checks among them cited from `ChecksAt`). -/
theorem hyps0_D : ∀ (ch : Tabs) (t : Fin (cfgA ch).N), ¬P0_0 ch t → ¬P0_1 ch t →
    (¬(k0_cond1 (crd ch t) = 1#1)) ∧ ((¬(k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1)) ∧ (True)) := fun ch t h0 h1 => ⟨h0, h1, trivial⟩

theorem hypsR0_D : ∀ (ch : Tabs) (t : Fin (cfgA ch).N), ¬P0_0 ch t → ¬P0_1 ch t →
    (¬(k0_cond1 (crd ch t) = 1#1)) ∧ ((¬(k0_cond2 (View.readAt (Elt Ideal) (tbM0_1).view (Rect.unit (s := S24) (k0_off1 (crd ch t)) S1.size (k0_off1_inb (crd ch t))).toLoadRect (ch.T1) (Shape.Idx.first (numel1_S1.symm ▸ Nat.one_pos))) = 1#1)) ∧ (True)) := hyps0_D

/-- At a point of path D: the idle table, the write-backs and which buffers hold junk (decided over the
    freshness tables `frTab`/`sfrTab`, restated over `Cfg.fresh`/`sfresh` by their agreement). -/
theorem sched0_D : ∀ (ch : Tabs) (t : Fin (cfgA ch).N), ¬P0_0 ch t → ¬P0_1 ch t →
    (cfgA ch).idle (4 : Fin 5) ((cfgA ch).grid.coords t) = true ∧ (cfgA ch).fresh (4 : Fin 5) t.val = false := by
  intro ch t q0 q1; rw [freshF0_4 ch t]; exact ⟨idle_later ch t q0 false (decide_eq_false q1), sched_later ch t q0⟩

/-! ## What the outputs and scratches hold after each point -/

/-- ONE STEP of the trajectory: what the outputs' current buffers and the scratches hold after the body at point `t`
    (output 4), from what they held before (`prev`): the path the decisions select at `t`, its
    run's contents; an output the path leaves idle keeps what it held (junk — `default`, named by nothing — where fresh). -/
def step0 (c : Dev nD) (t : Fin (cfgA ch).N) (prev : (S1024x2048.Idx → Elt Ideal .f32)) : (S1024x2048.Idx → Elt Ideal .f32) :=
  if q0 : P0_0 ch t then
    if q1 : P0_1 ch t then
      out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1
    else
      out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_C ch t q0 q1).1 (hypsR0_C ch t q0 q1).2.1
  else
    if q1 : P0_1 ch t then
      out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) prev (hypsR0_B ch t q0 q1).1 (hypsR0_B ch t q0 q1).2.1
    else
      (if (cfgA ch).fresh (4 : Fin 5) t.val then default else prev)

/-- THE TRAJECTORY: after position `n`. -/
def traj0 (c : Dev nD) : (n : ℕ) → n < (cfgA ch).N → (S1024x2048.Idx → Elt Ideal .f32)
  | 0, h => step0 ch m ρ c ⟨0, h⟩ default
  | n + 1, h => step0 ch m ρ c ⟨n + 1, h⟩ (traj0 c n (Nat.lt_of_succ_lt h))

/-- What they held BEFORE point `t` (junk before the first). -/
def prev0 (c : Dev nD) (t : Fin (cfgA ch).N) : (S1024x2048.Idx → Elt Ideal .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x2048.Idx → Elt Ideal .f32)) (q0 : P0_0 ch t) (q1 : P0_1 ch t) :
    step0 ch m ρ c t prev = out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 := by
  unfold step0; simp only [dif_pos q0, dif_pos q1]

/-- `step0` at a point of path B. -/
theorem step0_B (c : Dev nD) (t : Fin (cfgA ch).N) (prev : (S1024x2048.Idx → Elt Ideal .f32)) (q0 : ¬P0_0 ch t) (q1 : P0_1 ch t) :
    step0 ch m ρ c t prev = out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) prev (hypsR0_B ch t q0 q1).1 (hypsR0_B ch t q0 q1).2.1 := by
  unfold step0; simp only [dif_neg q0, dif_pos q1]

/-- `step0` at a point of path C. -/
theorem step0_C (c : Dev nD) (t : Fin (cfgA ch).N) (prev : (S1024x2048.Idx → Elt Ideal .f32)) (q0 : P0_0 ch t) (q1 : ¬P0_1 ch t) :
    step0 ch m ρ c t prev = out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_C ch t q0 q1).1 (hypsR0_C ch t q0 q1).2.1 := by
  unfold step0; simp only [dif_pos q0, dif_neg q1]

/-- `step0` at a point of path D. -/
theorem step0_D (c : Dev nD) (t : Fin (cfgA ch).N) (prev : (S1024x2048.Idx → Elt Ideal .f32)) (q0 : ¬P0_0 ch t) (q1 : ¬P0_1 ch t) :
    step0 ch m ρ c t prev = (if (cfgA ch).fresh (4 : Fin 5) t.val then default else prev) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S1024x2048.Idx → Elt Ideal .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} ch.T0) ∗ (tbM0_1.view.loc (c : Thread nD τ) ↦{fullShare.right} ch.T1))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -⟩ := sched0_A ch t q0 q1
      rw [i4] at hi; exact absurd hi (by decide)
    · obtain ⟨i4, -, -⟩ := sched0_C ch t q0 q1
      rw [i4] at hi; exact absurd hi (by decide)
  · by_cases q1 : P0_1 ch t
    · obtain ⟨i4, -⟩ := sched0_B ch t q0 q1
      rw [i4] at hi; exact absurd hi (by decide)
    · rw [step0_D ch m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe (crd ch t) (Memref.whole main_arg4) (Memref.isWhole_whole _) (Memref.whole main_arg5) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4⟩ := sched0_A ch t q0 q1
      have F0 := hypsR0_A ch t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C ch t q0 q1
      have F0 := hypsR0_C ch t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 ch t
    · obtain ⟨i4, fr4⟩ := sched0_B ch t q0 q1
      have F0 := hypsR0_B ch t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) _ k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D ch t q0 q1
      have F0 := hypsR0_D ch t q0 q1
      have k0_h1 := F0.1; have F1 := F0.2
      have k0_h2 := F1.1; have F2 := F1.2
      clear F0 F1 F2
      cases f4 : ((cfgA ch).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr4, Bool.false_eq_true, ↓reduceIte]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg4) ↦{q 0} v 0) ∗ (((c : Thread nD τ).loc main_arg5) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _), ((h c).2 0).trans (hp.1 c).symm, ((h c).2 1).trans (hp.2 c).symm⟩) (run_main ch m ρ hp)

/-- THE FRAME under the pinning: from a launch memory whose tables and steering words are member `ch`'s, every weakly fair
    execution terminates, nothing faults, every argument array ends unchanged and every semaphore counter of the machine reads
    zero at every final state — `Cert.quiescent_Kernel4Ideal`'s post.
     -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Moe

end
-- ==== Proof.MoeValue.lean ====
module

public import proofs.«01_k».proof.Proof.MoeFrame
public import Idealize.ShloMosaic.Lib.Pipeline.Value
public import Idealize.ShloMosaic.Lib.ValueIdx
public import Idealize.ShloMosaic.Lib.VecWindow
public import Idealize.ShloMosaic.Lib.MatmulPlain
public import Idealize.ShloMosaic.Lib.IdealHost
public import Idealize.ShloMosaic.Lib.Quiescent

@[expose] public section

/-! The grouped layer's value: a valid tile gathers the 11 blocks of its expert's hidden units, together all 2816; any other holds zero. -/

set_option maxRecDepth 16384

noncomputable section

namespace Cert.MoeValue

open Cert.Kernel4Ideal Cert.Kernel4Ideal.Gen Cert.Moe
open Idealize.ShloMosaic Idealize.ShloMosaic.TcCoe Idealize.ShloMosaic.ValueIdx Idealize.SL.Sem
open Idealize.ShloMosaic.Pipeline (Dat Window)
open scoped BigOperators

variable (ch : Tabs) (m : (ℓ : Loc nD τ sig) → Buf (Elt Ideal) ℓ) (ρ : Dev nD → PrngReg)

/-- A row's pre-activation against one hidden unit of expert `e`. -/
def pre (x : S24576x2048.Idx → EReal) (w : S8x2048x2816.Idx → EReal) (e : Fin 8) (r : Fin 24576) (q : Fin 2816) : EReal :=
  ∑ k : Fin 2048, x (ix2 r k) * w (ix3 e k q)

/-- A hidden unit's activation. -/
def hid (x : S24576x2048.Idx → EReal) (w1 w3 : S8x2048x2816.Idx → EReal) (e : Fin 8) (r : Fin 24576) (q : Fin 2816) : EReal :=
  pre x w1 e r q * Ideal.logistic (pre x w1 e r q) * pre x w3 e r q

/-- One hidden unit's part of a result. -/
def term (x : S24576x2048.Idx → EReal) (w1 w3 : S8x2048x2816.Idx → EReal) (w2 : S8x2816x2048.Idx → EReal)
    (e : Fin 8) (r : Fin 24576) (n : Fin 2048) (q : Fin 2816) : EReal := hid x w1 w3 e r q * w2 (ix3 e q n)

/-- Tile `a`, as an index of a table. -/
def tileIx (a : ℕ) : S24.Idx := fun k => match k with | ⟨0, _⟩ => ⟨a % 24, Nat.mod_lt _ (by decide)⟩

/-- Tile `a`'s expert. -/
def expertOf (t0 : S24.Idx → BitVec 32) (a : ℕ) : Fin 8 := ⟨(t0 (tileIx a)).toNat % 8, Nat.mod_lt _ (by decide)⟩

/-- Whether tile `a` is valid. -/
def validOf (t1 : S24.Idx → BitVec 32) (a : ℕ) : Prop := IntOp.cmpi .sgt (t1 (tileIx a)) 0#32 = 1#1

instance (t1 : S24.Idx → BitVec 32) (a : ℕ) : Decidable (validOf t1 a) := by unfold validOf; infer_instance

/-- The whole layer: a row of a valid tile goes through its tile's expert. -/
def moe (x : S24576x2048.Idx → EReal) (w1 w3 : S8x2048x2816.Idx → EReal) (w2 : S8x2816x2048.Idx → EReal)
    (t0 t1 : S24.Idx → BitVec 32) : S24576x2048.Idx → EReal := fun i =>
  if validOf t1 ((i 0).val / 1024) then ∑ q : Fin 2816, term x w1 w3 w2 (expertOf t0 ((i 0).val / 1024)) (i 0) (i 1) q else 0

/-- The hidden unit at place `j` of block `f`. -/
def unitAt (f : Fin 11) (j : Fin 256) : Fin 2816 := ⟨256 * f.val + j.val, by omega⟩

/-- The blocks are all the hidden units. -/
theorem sum_units (g : Fin 2816 → EReal) : ∑ f : Fin 11, ∑ j : Fin 256, g (unitAt f j) = ∑ q, g q := by
  rw [← Fintype.sum_prod_type' (f := fun f j => g (unitAt f j))]
  refine Eq.trans (Finset.sum_congr rfl fun p _ => ?_) (Equiv.sum_comp (finProdFinEquiv : Fin 11 × Fin 256 ≃ Fin (11 * 256)) g)
  exact congrArg g (Fin.ext (by show 256 * p.1.val + p.2.val = p.2.val + 256 * p.1.val; omega))

section
variable (c : Dev nD) (i : grid0.Coords) (arg4 : Memref sig .tc .vmem S1024x2048 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1024x2048 .f32) (harg8 : arg8.IsWhole) (T0 T1 : (S24.Idx → Elt Ideal .i32))
     (x0 : (S1024x2048.Idx → Elt Ideal .bf16)) (x1 x2 : (S1x2048x256.Idx → Elt Ideal .f32)) (x3 : (S1x256x2048.Idx → Elt Ideal .f32)) (xo : (S1024x2048.Idx → Elt Ideal .f32))

theorem pay_congr {a a' : Vec Ideal S1024x2048 .bf16} {b b' d d' : Vec Ideal S1x2048x256 .f32} {o o' : Vec Ideal S1024x2048 .f32} {e e' : Vec Ideal S1x256x2048 .f32}
    (ha : a = a') (hb : b = b') (hd : d = d') (ho : o = o') (he : e = e') : k0_pay2 a b d o e = k0_pay2 a' b' d' o' e' := by
  rw [ha, hb, hd, ho, he]

/-- The first block of a tile starts from zero. -/
theorem outA (h1) (h2) : out0_A_4 c i arg4 harg4 arg5 harg5 arg6 harg6 arg7 harg7 arg8 harg8 T0 T1 x0 x1 x2 x3 h1 h2 = k0_pay2 x0 x1 x2 (k0_pay1 (F := Ideal)) x3 := by
  unfold out0_A_4 kernelRun0_A
  dsimp only
  sl_unfold_words
  refine (View.read_writes_full (s := S1024x2048) VO0_4 _ _ _ _).trans ?_
  exact pay_congr (View.readAt_rep_full (s := S1024x2048) _ _ _) (View.readAt_rep_full (s := S1x2048x256) _ _ _) (View.readAt_rep_full (s := S1x2048x256) _ _ _)
    (View.readCov_full (s := S1024x2048) _ _ _ _ _) (View.readAt_rep_full (s := S1x256x2048) _ _ _)

/-- A later block adds to what is there. -/
theorem outB (h1) (h2) : out0_B_4 c i arg4 harg4 arg5 harg5 arg6 harg6 arg7 harg7 arg8 harg8 T0 T1 x0 x1 x2 x3 xo h1 h2 = k0_pay2 x0 x1 x2 xo x3 := by
  unfold out0_B_4 kernelRun0_B
  dsimp only
  sl_unfold_words
  refine (View.read_writes_full (s := S1024x2048) VO0_4 _ _ _ _).trans ?_
  exact pay_congr (View.readAt_rep_full (s := S1024x2048) _ _ _) (View.readAt_rep_full (s := S1x2048x256) _ _ _) (View.readAt_rep_full (s := S1x2048x256) _ _ _)
    ((View.readAt_full (s := S1024x2048) _ _ _).trans (harg8.read_unread _)) (View.readAt_rep_full (s := S1x256x2048) _ _ _)

/-- A tile that is not valid starts, and stays, at zero. -/
theorem outC (h1) (h2) : out0_C_4 c i arg4 harg4 arg5 harg5 arg6 harg6 arg7 harg7 arg8 harg8 T0 T1 x0 x1 x2 x3 h1 h2 = k0_pay1 (F := Ideal) := by
  unfold out0_C_4 kernelRun0_C
  dsimp only
  sl_unfold_words
  exact View.read_writes_full (s := S1024x2048) VO0_4 _ _ _ _
end

/-- A block's product of activations, read at an index. -/
theorem pay_apply (x : Vec Ideal S1024x2048 .bf16) (w1 w3 : Vec Ideal S1x2048x256 .f32) (o : Vec Ideal S1024x2048 .f32) (w2 : Vec Ideal S1x256x2048 .f32)
    (r : Fin 1024) (n : Fin 2048) :
    k0_pay2 x w1 w3 o w2 (ix2 r n) = o (ix2 r n) + ∑ j : Fin 256,
      (((∑ k : Fin 2048, x (ix2 r k) * w1 (ix3 0 k j)) * Ideal.logistic (∑ k : Fin 2048, x (ix2 r k) * w1 (ix3 0 k j)))
        * (∑ k : Fin 2048, x (ix2 r k) * w3 (ix3 0 k j))) * w2 (ix3 0 j n) := by
  have hup : ∀ (w : Vec Ideal S1x2048x256 .f32) (j : Fin 256),
      (matmul (F := Ideal) (φ₁ := .bf16) dot_S1024x2048_S2048x256_S1024x256_1_0_0_1_n_n none x (truncf .bf16 (shapeCast S2048x256 w shapeCasts_S1x2048x256_S2048x256) bitsLt_bf16_f32) (constant S1024x256 .f32 0x00000000#32) (ix2 r j) : EReal)
        = ∑ k : Fin 2048, x (ix2 r k) * w (ix3 0 k j) := by
    intro w j
    refine (Ideal.matmul_plain_apply (M := 1024) (K := 2048) (N := 256) none x _ _ r j).trans ?_
    show Ideal.ofBits .f32 0x00000000#32 + _ = _
    rw [Ideal.ofBits_zero_f32, zero_add]
    refine Finset.sum_congr rfl fun k _ => congrArg (x (ix2 r k) * ·) ?_
    show shapeCast S2048x256 w shapeCasts_S1x2048x256_S2048x256 (ix2 k j) = _
    exact shapeCast_apply w shapeCasts_S1x2048x256_S2048x256 (ix2 k j) (ix3 0 k j)
      (by rewrite [Shape.rowMajor_val_three, Shape.rowMajor_val_two]; show (0 * 2048 + k.val) * 256 + j.val = k.val * 256 + j.val; omega)
  unfold k0_pay2
  show (shapeCast S1024x2048 o shapeCasts_S1024x2048_S1024x2048 (ix2 r n) : EReal) + _ = _
  rw [shapeCast_self]
  refine congrArg (o (ix2 r n) + ·) ?_
  refine (Ideal.matmul_plain_apply (M := 1024) (K := 256) (N := 2048) none _ _ _ r n).trans ?_
  show Ideal.ofBits .f32 0x00000000#32 + _ = _
  rw [Ideal.ofBits_zero_f32, zero_add]
  refine Finset.sum_congr rfl fun j _ => ?_
  refine congrArg₂ (· * ·) ?_ ?_
  · show (_ * Ideal.logistic _) * _ = _
    rw [← hup w1 j, ← hup w3 j]
  · show shapeCast S256x2048 w2 shapeCasts_S1x256x2048_S256x2048 (ix2 j n) = _
    exact shapeCast_apply w2 shapeCasts_S1x256x2048_S256x2048 (ix2 j n) (ix3 0 j n)
      (by rewrite [Shape.rowMajor_val_three, Shape.rowMajor_val_two]; show (0 * 256 + j.val) * 2048 + n.val = j.val * 2048 + n.val; omega)

/-- The number of points. -/
theorem N_eq : (cfgA ch).N = 264 := (by decide +kernel : (cfgA tabs0).N = 264)

/-- Each point's coordinates, and where the rows' windows lie. -/
theorem places0 : ∀ t : Fin (cfgA tabs0).N,
    ((crd tabs0 t 0).val = t.val / 11 ∧ (crd tabs0 t 1).val = t.val % 11)
      ∧ (((cfgA tabs0).win 0).index t 0 = t.val / 11 ∧ ((cfgA tabs0).win 0).index t 1 = 0)
      ∧ (((cfgA tabs0).win 4).index t 0 = t.val / 11 ∧ ((cfgA tabs0).win 4).index t 1 = 0) := by
  decide +kernel

theorem places (t : Fin (cfgA ch).N) :
    ((crd ch t 0).val = t.val / 11 ∧ (crd ch t 1).val = t.val % 11)
      ∧ (((cfgA ch).win 0).index t (0 : Fin 2) = t.val / 11 ∧ ((cfgA ch).win 0).index t (1 : Fin 2) = 0)
      ∧ (((cfgA ch).win 4).index t (0 : Fin 2) = t.val / 11 ∧ ((cfgA ch).win 4).index t (1 : Fin 2) = 0) := places0 t

theorem tile_eq (t : Fin (cfgA ch).N) : tileAt (crd ch t) = tileIx (t.val / 11) := by
  have hN := N_eq ch; have ht := t.isLt
  refine funext fun a => Fin.ext ?_
  match a with
  | ⟨0, _⟩ => show (crd ch t 0).val = t.val / 11 % 24; rw [(places ch t).1.1]; omega

theorem good_iff (w : BitVec 32) : goodW w ↔ IntOp.cmpi .sgt w 0#32 = 1#1 := by
  have h : ∀ b : BitVec 1, (Scalar.cmpi .ne (Scalar.extui b : BitVec 32) 0#32 = 1#1 ↔ b = 1#1) := by decide
  exact h (Scalar.cmpi .sgt w 0#32)

theorem second_valid (t : Fin (cfgA ch).N) : P0_1 ch t ↔ validOf ch.T1 (t.val / 11) := by
  rw [second_iff, tile_eq, good_iff]; rfl

/-- A valid tile's windows take the point's own block. -/
theorem fEff_eq (t : Fin (cfgA ch).N) (hv : validOf ch.T1 (t.val / 11)) : (fEff ch (crd ch t)).toNat = t.val % 11 := by
  unfold fEff
  rw [tile_eq, show Scalar.cmpi .sgt (ch.T1 (tileIx (t.val / 11))) 0#32 = 1#1 from hv]
  show (BitVec.ofNat 32 (crd ch t 1).val).toNat = _
  rw [(places ch t).1.2, BitVec.toNat_ofNat]; omega

theorem expert_val (t : Fin (cfgA ch).N) : (ch.T0 (tileAt (crd ch t))).toNat = (expertOf ch.T0 (t.val / 11)).val := by
  have h := ch.lt (tileIx (t.val / 11))
  rw [tile_eq]; show _ = _ % 8; omega

theorem index1 (t : Fin (cfgA ch).N) (hv : validOf ch.T1 (t.val / 11)) :
    ((cfgA ch).win 1).index t = ![(expertOf ch.T0 (t.val / 11)).val, 0, t.val % 11] := by
  refine Eq.trans (tr1 ch (crd ch t)) ?_
  rw [expert_val, fEff_eq ch t hv]
theorem index2 (t : Fin (cfgA ch).N) (hv : validOf ch.T1 (t.val / 11)) :
    ((cfgA ch).win 2).index t = ![(expertOf ch.T0 (t.val / 11)).val, 0, t.val % 11] := by
  refine Eq.trans (tr2 ch (crd ch t)) ?_
  rw [expert_val, fEff_eq ch t hv]
theorem index3 (t : Fin (cfgA ch).N) (hv : validOf ch.T1 (t.val / 11)) :
    ((cfgA ch).win 3).index t = ![(expertOf ch.T0 (t.val / 11)).val, t.val % 11, 0] := by
  refine Eq.trans (tr3 ch (crd ch t)) ?_
  rw [expert_val, fEff_eq ch t hv]

/-- Row `r` of tile `a`, and unit `j` of block `f`. -/
def rowN (a : ℕ) (r : Fin 1024) : Fin 24576 := ⟨(a * 1024 + r.val) % 24576, Nat.mod_lt _ (by decide)⟩
def unitN (f : ℕ) (j : Fin 256) : Fin 2816 := ⟨(f * 256 + j.val) % 2816, Nat.mod_lt _ (by decide)⟩

/-- The argument arrays. -/
abbrev aX (c : Dev nD) : S24576x2048.Idx → EReal := m ((c : Thread nD τ).loc main_arg0)
abbrev a1 (c : Dev nD) : S8x2048x2816.Idx → EReal := m ((c : Thread nD τ).loc main_arg1)
abbrev a3 (c : Dev nD) : S8x2048x2816.Idx → EReal := m ((c : Thread nD τ).loc main_arg2)
abbrev a2 (c : Dev nD) : S8x2816x2048.Idx → EReal := m ((c : Thread nD τ).loc main_arg3)

theorem blk0 (c : Dev nD) (t : Fin (cfgA ch).N) (r : Fin 1024) (k : Fin 2048) :
    iblk ch m ρ c (0 : Fin 5) t (ix2 r k) = aX m c (ix2 (rowN (t.val / 11) r) k) := by
  have hN := N_eq ch; have ht := t.isLt
  obtain ⟨-, ⟨h0, h1⟩, -⟩ := places ch t
  show m ((c : Thread nD τ).loc main_arg0) ((((cfgA ch).win 0).rect t).emb (ix2 r k)) = _
  refine congrArg (m ((c : Thread nD τ).loc main_arg0)) (funext fun a => Fin.ext ?_)
  match a with
  | ⟨0, _⟩ =>
    refine (Window.rect_emb_val ((cfgA ch).win 0) t (ix2 r k) (0 : Fin 2)).trans ?_
    rw [h0]; show t.val / 11 * 1024 + r.val = (t.val / 11 * 1024 + r.val) % 24576; omega
  | ⟨1, _⟩ => exact Window.rect_emb_val_of_index_zero ((cfgA ch).win 0) t (1 : Fin 2) h1 _

theorem blk1 (c : Dev nD) (t : Fin (cfgA ch).N) (hv : validOf ch.T1 (t.val / 11)) (k : Fin 2048) (j : Fin 256) :
    iblk ch m ρ c (1 : Fin 5) t (ix3 0 k j) = a1 m c (ix3 (expertOf ch.T0 (t.val / 11)) k (unitN (t.val % 11) j)) := by
  have hN := N_eq ch; have ht := t.isLt
  have hi := index1 ch t hv
  show m ((c : Thread nD τ).loc main_arg1) ((((cfgA ch).win 1).rect t).emb (ix3 0 k j)) = _
  refine congrArg (m ((c : Thread nD τ).loc main_arg1)) (funext fun a => Fin.ext ?_)
  match a with
  | ⟨0, _⟩ =>
    refine (Window.rect_emb_val ((cfgA ch).win 1) t (ix3 0 k j) (0 : Fin 3)).trans ?_
    rw [hi]; show (expertOf ch.T0 (t.val / 11)).val * 1 + 0 = (expertOf ch.T0 (t.val / 11)).val; omega
  | ⟨1, _⟩ => exact Window.rect_emb_val_of_index_zero ((cfgA ch).win 1) t (1 : Fin 3) (congrFun hi (1 : Fin 3)) _
  | ⟨2, _⟩ =>
    refine (Window.rect_emb_val ((cfgA ch).win 1) t (ix3 0 k j) (2 : Fin 3)).trans ?_
    rw [hi]; show t.val % 11 * 256 + j.val = (t.val % 11 * 256 + j.val) % 2816; omega

theorem blk2 (c : Dev nD) (t : Fin (cfgA ch).N) (hv : validOf ch.T1 (t.val / 11)) (k : Fin 2048) (j : Fin 256) :
    iblk ch m ρ c (2 : Fin 5) t (ix3 0 k j) = a3 m c (ix3 (expertOf ch.T0 (t.val / 11)) k (unitN (t.val % 11) j)) := by
  have hN := N_eq ch; have ht := t.isLt
  have hi := index2 ch t hv
  show m ((c : Thread nD τ).loc main_arg2) ((((cfgA ch).win 2).rect t).emb (ix3 0 k j)) = _
  refine congrArg (m ((c : Thread nD τ).loc main_arg2)) (funext fun a => Fin.ext ?_)
  match a with
  | ⟨0, _⟩ =>
    refine (Window.rect_emb_val ((cfgA ch).win 2) t (ix3 0 k j) (0 : Fin 3)).trans ?_
    rw [hi]; show (expertOf ch.T0 (t.val / 11)).val * 1 + 0 = (expertOf ch.T0 (t.val / 11)).val; omega
  | ⟨1, _⟩ => exact Window.rect_emb_val_of_index_zero ((cfgA ch).win 2) t (1 : Fin 3) (congrFun hi (1 : Fin 3)) _
  | ⟨2, _⟩ =>
    refine (Window.rect_emb_val ((cfgA ch).win 2) t (ix3 0 k j) (2 : Fin 3)).trans ?_
    rw [hi]; show t.val % 11 * 256 + j.val = (t.val % 11 * 256 + j.val) % 2816; omega

theorem blk3 (c : Dev nD) (t : Fin (cfgA ch).N) (hv : validOf ch.T1 (t.val / 11)) (j : Fin 256) (n : Fin 2048) :
    iblk ch m ρ c (3 : Fin 5) t (ix3 0 j n) = a2 m c (ix3 (expertOf ch.T0 (t.val / 11)) (unitN (t.val % 11) j) n) := by
  have hN := N_eq ch; have ht := t.isLt
  have hi := index3 ch t hv
  show m ((c : Thread nD τ).loc main_arg3) ((((cfgA ch).win 3).rect t).emb (ix3 0 j n)) = _
  refine congrArg (m ((c : Thread nD τ).loc main_arg3)) (funext fun a => Fin.ext ?_)
  match a with
  | ⟨0, _⟩ =>
    refine (Window.rect_emb_val ((cfgA ch).win 3) t (ix3 0 j n) (0 : Fin 3)).trans ?_
    rw [hi]; show (expertOf ch.T0 (t.val / 11)).val * 1 + 0 = (expertOf ch.T0 (t.val / 11)).val; omega
  | ⟨1, _⟩ =>
    refine (Window.rect_emb_val ((cfgA ch).win 3) t (ix3 0 j n) (1 : Fin 3)).trans ?_
    rw [hi]; show t.val % 11 * 256 + j.val = (t.val % 11 * 256 + j.val) % 2816; omega
  | ⟨2, _⟩ => exact Window.rect_emb_val_of_index_zero ((cfgA ch).win 3) t (2 : Fin 3) (congrFun hi (2 : Fin 3)) _

/-- What one block of hidden units adds to a result. -/
def part (c : Dev nD) (a : ℕ) (r : Fin 1024) (n : Fin 2048) (f : ℕ) : EReal :=
  ∑ j : Fin 256, term (aX m c) (a1 m c) (a3 m c) (a2 m c) (expertOf ch.T0 a) (rowN a r) n (unitN f j)

theorem step_apply (c : Dev nD) (t : Fin (cfgA ch).N) (hv : validOf ch.T1 (t.val / 11)) (o : Vec Ideal S1024x2048 .f32) (r : Fin 1024) (n : Fin 2048) :
    k0_pay2 (iblk ch m ρ c (0 : Fin 5) t) (iblk ch m ρ c (1 : Fin 5) t) (iblk ch m ρ c (2 : Fin 5) t) o (iblk ch m ρ c (3 : Fin 5) t) (ix2 r n)
      = o (ix2 r n) + part ch m c (t.val / 11) r n (t.val % 11) := by
  refine (pay_apply _ _ _ _ _ r n).trans (congrArg (o (ix2 r n) + ·) ?_)
  refine Finset.sum_congr rfl fun j _ => ?_
  have e1 : ∑ k : Fin 2048, @HMul.hMul EReal EReal EReal instHMul (iblk ch m ρ c (0 : Fin 5) t (ix2 r k)) (iblk ch m ρ c (1 : Fin 5) t (ix3 0 k j))
      = pre (aX m c) (a1 m c) (expertOf ch.T0 (t.val / 11)) (rowN (t.val / 11) r) (unitN (t.val % 11) j) :=
    Finset.sum_congr rfl fun k _ => congrArg₂ (· * ·) (blk0 ch m ρ c t r k) (blk1 ch m ρ c t hv k j)
  have e3 : ∑ k : Fin 2048, @HMul.hMul EReal EReal EReal instHMul (iblk ch m ρ c (0 : Fin 5) t (ix2 r k)) (iblk ch m ρ c (2 : Fin 5) t (ix3 0 k j))
      = pre (aX m c) (a3 m c) (expertOf ch.T0 (t.val / 11)) (rowN (t.val / 11) r) (unitN (t.val % 11) j) :=
    Finset.sum_congr rfl fun k _ => congrArg₂ (· * ·) (blk0 ch m ρ c t r k) (blk2 ch m ρ c t hv k j)
  refine congrArg₂ (· * ·) ?_ (blk3 ch m ρ c t hv j n)
  exact congrArg₂ (· * ·) (congrArg₂ (· * ·) e1 (congrArg Ideal.logistic e1)) e3

theorem step0_start (c : Dev nD) (t : Fin (cfgA ch).N) (hv : validOf ch.T1 (t.val / 11)) (h : t.val % 11 = 0) (prev) (r : Fin 1024) (n : Fin 2048) :
    step0 ch m ρ c t prev (ix2 r n) = part ch m c (t.val / 11) r n 0 := by
  rw [step0_A ch m ρ c t prev ((first_iff ch t).2 h) ((second_valid ch t).2 hv), outA]
  refine (step_apply ch m ρ c t hv _ r n).trans ?_
  rw [h]
  show Ideal.ofBits .f32 0x00000000#32 + _ = _
  rw [Ideal.ofBits_zero_f32, zero_add]

theorem step0_next (c : Dev nD) (t : Fin (cfgA ch).N) (hv : validOf ch.T1 (t.val / 11)) (h : t.val % 11 ≠ 0) (prev) (r : Fin 1024) (n : Fin 2048) :
    step0 ch m ρ c t prev (ix2 r n) = prev (ix2 r n) + part ch m c (t.val / 11) r n (t.val % 11) := by
  rw [step0_B ch m ρ c t prev (fun hh => h ((first_iff ch t).1 hh)) ((second_valid ch t).2 hv), outB]
  exact step_apply ch m ρ c t hv _ r n

theorem step0_zero (c : Dev nD) (t : Fin (cfgA ch).N) (hv : ¬validOf ch.T1 (t.val / 11)) (h : t.val % 11 = 0) (prev) (r : Fin 1024) (n : Fin 2048) :
    step0 ch m ρ c t prev (ix2 r n) = (0 : EReal) := by
  rw [step0_C ch m ρ c t prev ((first_iff ch t).2 h) (fun hh => hv ((second_valid ch t).1 hh)), outC]
  show Ideal.ofBits .f32 0x00000000#32 = _
  exact Ideal.ofBits_zero_f32

theorem step0_keep (c : Dev nD) (t : Fin (cfgA ch).N) (hv : ¬validOf ch.T1 (t.val / 11)) (h : t.val % 11 ≠ 0) (prev) :
    step0 ch m ρ c t prev = prev := by
  have q0 : ¬P0_0 ch t := fun hh => h ((first_iff ch t).1 hh)
  rw [step0_D ch m ρ c t prev q0 (fun hh => hv ((second_valid ch t).1 hh)), freshF0_4 ch t, sched_later ch t q0]
  rfl

/-- After a point, a valid tile holds its blocks so far, any other zero. -/
theorem traj_apply (c : Dev nD) (r : Fin 1024) (n : Fin 2048) : ∀ (t : ℕ) (ht : t < (cfgA ch).N),
    traj0 ch m ρ c t ht (ix2 r n) = if validOf ch.T1 (t / 11) then ∑ f ∈ Finset.range (t % 11 + 1), part ch m c (t / 11) r n f else (0 : EReal)
  | 0, ht => by
    by_cases hv : validOf ch.T1 (0 / 11)
    · refine (step0_start ch m ρ c ⟨0, ht⟩ hv rfl _ r n).trans ?_
      rw [if_pos hv]
      show _ = ∑ f ∈ Finset.range (0 + 1), _
      rw [Finset.sum_range_one]
    · rw [if_neg hv]; exact step0_zero ch m ρ c ⟨0, ht⟩ hv rfl _ r n
  | t + 1, ht => by
    by_cases hv : validOf ch.T1 ((t + 1) / 11)
    · rw [if_pos hv]
      by_cases h : (t + 1) % 11 = 0
      · refine (step0_start ch m ρ c ⟨t + 1, ht⟩ hv h _ r n).trans ?_
        rw [h, zero_add, Finset.sum_range_one]
      · refine (step0_next ch m ρ c ⟨t + 1, ht⟩ hv h _ r n).trans ?_
        have e1 : (t + 1) % 11 = t % 11 + 1 := by omega
        have e2 : (t + 1) / 11 = t / 11 := by omega
        show traj0 ch m ρ c t (Nat.lt_of_succ_lt ht) (ix2 r n) + part ch m c ((t + 1) / 11) r n ((t + 1) % 11) = _
        rw [traj_apply c r n t (Nat.lt_of_succ_lt ht), e1, e2, if_pos (e2 ▸ hv)]
        exact (Finset.sum_range_succ _ _).symm
    · rw [if_neg hv]
      by_cases h : (t + 1) % 11 = 0
      · exact step0_zero ch m ρ c ⟨t + 1, ht⟩ hv h _ r n
      · have e2 : (t + 1) / 11 = t / 11 := by omega
        refine (congrFun (step0_keep ch m ρ c ⟨t + 1, ht⟩ hv h _) (ix2 r n)).trans ?_
        rw [traj_apply c r n t (Nat.lt_of_succ_lt ht), if_neg (e2 ▸ hv)]

theorem whole_eq (c : Dev nD) (a : ℕ) (ha : a < 24) (r : Fin 1024) (n : Fin 2048) :
    (if validOf ch.T1 a then ∑ f ∈ Finset.range 11, part ch m c a r n f else (0 : EReal))
      = moe (aX m c) (a1 m c) (a3 m c) (a2 m c) ch.T0 ch.T1 (ix2 (rowN a r) n) := by
  have hr : (rowN a r).val / 1024 = a := by show (a * 1024 + r.val) % 24576 / 1024 = a; omega
  show _ = if validOf ch.T1 ((rowN a r).val / 1024) then ∑ q : Fin 2816, term (aX m c) (a1 m c) (a3 m c) (a2 m c) (expertOf ch.T0 ((rowN a r).val / 1024)) (rowN a r) n q else 0
  rw [hr]
  refine if_congr Iff.rfl ?_ rfl
  rw [Finset.sum_range, ← sum_units]
  refine Finset.sum_congr rfl fun f _ => Finset.sum_congr rfl fun j _ => congrArg _ (Fin.ext ?_)
  show (f.val * 256 + j.val) % 2816 = 256 * f.val + j.val
  omega

theorem at4 (t : Fin (cfgA ch).N) (y : S1024x2048.Idx) :
    ((((cfgA ch).win 4).rect t).emb y (0 : Fin 2)).val = t.val / 11 * 1024 + (y 0).val ∧ ((((cfgA ch).win 4).rect t).emb y (1 : Fin 2)).val = (y 1).val :=
  ⟨(Window.rect_emb_val ((cfgA ch).win 4) t y (0 : Fin 2)).trans (by rw [(places ch t).2.2.1]; rfl),
    Window.rect_emb_val_of_index_zero ((cfgA ch).win 4) t (1 : Fin 2) (places ch t).2.2.2 y⟩

theorem flushed_eq (c : Dev nD) (t : Fin (cfgA ch).N) (hf : ((cfgA ch).win 4).flush t = true) :
    (dats ch m ρ 0 c).flushed 4 t = (((cfgA ch).win 4).blk t).view.read (Elt Ideal) (moe (aX m c) (a1 m c) (a3 m c) (a2 m c) ch.T0 ch.T1) := by
  have hN := N_eq ch; have ht := t.isLt
  have h10 := (flush_iff ch t).1 hf
  rw [show (dats ch m ρ 0 c).flushed 4 t = traj0 ch m ρ c t.val t.isLt from rfl]
  funext j
  rw [eq_ix2 (n0 := 1024) (n1 := 2048) j]
  refine (traj_apply ch m ρ c (j 0) (j 1) t.val t.isLt).trans ?_
  rw [h10]
  refine (whole_eq ch m c _ (by omega) (j 0) (j 1)).trans ?_
  show moe _ _ _ _ _ _ _ = moe _ _ _ _ _ _ ((((cfgA ch).win 4).rect t).emb (ix2 (j 0) (j 1)))
  refine congrArg (moe _ _ _ _ _ _) (funext fun a => Fin.ext ?_)
  match a with
  | ⟨0, _⟩ =>
    refine Eq.trans ?_ (at4 ch t (ix2 (j 0) (j 1))).1.symm
    have h0 : (j 0).val < 1024 := (j 0).isLt
    show (t.val / 11 * 1024 + (j 0).val) % 24576 = t.val / 11 * 1024 + (j 0).val
    omega
  | ⟨1, _⟩ => exact (at4 ch t (ix2 (j 0) (j 1))).2.symm

/-- Every index of the result lies in some tile. -/
theorem cover (i : S24576x2048.Idx) : ∃ t : Fin (cfgA ch).N, ((cfgA ch).win 4).flush t = true ∧ i ∈ (((cfgA ch).win 4).blk t).view.set := by
  have h0 : (i 0).val < 24576 := (i 0).isLt
  have h1 : (i 1).val < 2048 := (i 1).isLt
  have hN := N_eq ch
  have hlt : (i 0).val / 1024 * 11 + 10 < (cfgA ch).N := by omega
  have hp := places ch ⟨(i 0).val / 1024 * 11 + 10, hlt⟩
  refine ⟨⟨(i 0).val / 1024 * 11 + 10, hlt⟩, (flush_iff ch _).2 (by dsimp only; omega), ?_⟩
  show i ∈ ((View.whole main_v0).slice (((cfgA ch).win 4).rect ⟨(i 0).val / 1024 * 11 + 10, hlt⟩)).set
  refine (congrArg (i ∈ ·) (View.set_slice_whole main_v0 (((cfgA ch).win 4).rect ⟨(i 0).val / 1024 * 11 + 10, hlt⟩))).mpr ?_
  refine (Rect.mem_set_unit (s := S24576x2048)).2 ?_
  intro a
  match a with
  | ⟨0, _⟩ =>
    show ((cfgA ch).win 4).index ⟨(i 0).val / 1024 * 11 + 10, hlt⟩ (0 : Fin 2) * 1024 ≤ (i 0).val ∧ (i 0).val < ((cfgA ch).win 4).index ⟨(i 0).val / 1024 * 11 + 10, hlt⟩ (0 : Fin 2) * 1024 + 1024
    rw [hp.2.2.1]; dsimp only; omega
  | ⟨1, _⟩ =>
    show ((cfgA ch).win 4).index ⟨(i 0).val / 1024 * 11 + 10, hlt⟩ (1 : Fin 2) * 2048 ≤ (i 1).val ∧ (i 1).val < ((cfgA ch).win 4).index ⟨(i 0).val / 1024 * 11 + 10, hlt⟩ (1 : Fin 2) * 2048 + 2048
    rw [hp.2.2.2]; omega

theorem final_eq (c : Dev nD) : (dats ch m ρ 0 c).arrAt 4 (cfgA ch).N = moe (aX m c) (a1 m c) (a3 m c) (a2 m c) ch.T0 ch.T1 :=
  (dats ch m ρ 0 c).arrAt_eq_of_cover 4 _ (fun t hf => flushed_eq ch m ρ c t hf) (cover ch)

end Cert.MoeValue

end
-- ==== Proof.MoeRef.lean ====
module

public import proofs.«01_k».proof.Proof.MoeValue
public import proofs.«01_k».proof.Proof.Gen.Reference4Ideal.Run
public import proofs.«01_k».proof.Proof.Gen.Reference4Ideal.Read
public import Idealize.ShloMosaic.Lib.WordCmp

@[expose] public section

/-! The plain program's value: of the eight experts' results for a row, only its own tile's is kept. -/

set_option maxRecDepth 16384

noncomputable section

namespace Cert.MoeRef

open Cert.Reference4Ideal Cert.Reference4Ideal.Read Cert.MoeValue
open Idealize.ShloMosaic Idealize.ShloMosaic.TcCoe Idealize.ShloMosaic.ValueIdx Idealize.SL.Sem
open scoped BigOperators

variable (x : S24576x2048.Idx → EReal) (w1 w3 : S8x2048x2816.Idx → EReal) (w2 : S8x2816x2048.Idx → EReal) (t0 t1 : S24.Idx → BitVec 32)

theorem pre_eq1 (e : Fin 8) (r : Fin 24576) (q : Fin 2816) : val_main_v2 (F := Ideal) x w1 (ix3 e r q) = pre x w1 e r q := by
  rw [val_main_v2_apply, val_main_v1_apply]
  refine Finset.sum_congr rfl fun k _ => (mul_comm _ _).trans (congrArg₂ (· * ·) ?_ ?_)
  · exact congrArg x (funext fun a => by match a with | ⟨0, _⟩ => rfl | ⟨1, _⟩ => rfl)
  · exact congrArg w1 (funext fun a => by match a with | ⟨0, _⟩ => rfl | ⟨1, _⟩ => rfl | ⟨2, _⟩ => rfl)

theorem pre_eq3 (e : Fin 8) (r : Fin 24576) (q : Fin 2816) : val_main_v4 (F := Ideal) x w3 (ix3 e r q) = pre x w3 e r q := by
  rw [val_main_v4_apply, val_main_v3_apply]
  refine Finset.sum_congr rfl fun k _ => (mul_comm _ _).trans (congrArg₂ (· * ·) ?_ ?_)
  · exact congrArg x (funext fun a => by match a with | ⟨0, _⟩ => rfl | ⟨1, _⟩ => rfl)
  · exact congrArg w3 (funext fun a => by match a with | ⟨0, _⟩ => rfl | ⟨1, _⟩ => rfl | ⟨2, _⟩ => rfl)

theorem hid_eq (e : Fin 8) (r : Fin 24576) (q : Fin 2816) : val_main_v6 (F := Ideal) x w1 w3 (ix3 e r q) = hid x w1 w3 e r q := by
  rw [val_main_v6_apply, val_main_v5_apply, val_main_call0_v5_apply, val_main_call0_v4_apply, val_main_call0_cst_0_apply,
    val_main_call0_v3_apply, val_main_call0_v2_apply, val_main_call0_cst_apply, val_main_call0_v1_apply, val_main_call0_v0_apply, pre_eq1, pre_eq3]
  show (pre x w1 e r q * Ideal.div (Ideal.ofBits .f32 0x3F800000#32) (Ideal.ofBits .f32 0x3F800000#32 + Ideal.exp (-(pre x w1 e r q)))) * pre x w3 e r q = _
  rw [Ideal.ofBits_one_f32]
  rfl

/-- An expert's result for a row. -/
theorem expert_eq (e : Fin 8) (r : Fin 24576) (n : Fin 2048) :
    val_main_v7 (F := Ideal) x w1 w3 w2 (ix3 e r n) = ∑ q : Fin 2816, term x w1 w3 w2 e r n q := by
  rw [val_main_v7_apply]
  refine Finset.sum_congr rfl fun q _ => congrArg₂ (· * ·) ?_ ?_
  · refine Eq.trans (congrArg (val_main_v6 (F := Ideal) x w1 w3) (funext fun a => ?_)) (hid_eq x w1 w3 e r q)
    match a with | ⟨0, _⟩ => rfl | ⟨1, _⟩ => rfl | ⟨2, _⟩ => rfl
  · exact congrArg w2 (funext fun a => by match a with | ⟨0, _⟩ => rfl | ⟨1, _⟩ => rfl | ⟨2, _⟩ => rfl)

/-- Whether an expert is a row's own. -/
theorem mask_eq (e : Fin 8) (r : Fin 24576) (n : Fin 2048) :
    val_main_call1_v1 (F := Ideal) t0 t1 (ix3 e r n)
      = IntOp.andi (IntOp.cmpi .eq (BitVec.ofNat 32 e.val) (t0 (tileIx (r.val / 1024)))) (IntOp.cmpi .sgt (t1 (tileIx (r.val / 1024))) 0#32) := by
  have hr := r.isLt
  rw [val_main_call1_v1_apply, val_main_v25_apply, val_main_v24_apply]
  refine congrArg₂ IntOp.andi ?_ ?_
  · rw [val_main_v21_apply, val_main_v19_apply, val_main_v17_apply, val_main_v16_apply, val_main_v20_apply, val_main_v18_apply,
      val_main_v10_apply, val_main_v9_apply, val_main_v8_apply]
    refine congrArg (IntOp.cmpi .eq (BitVec.ofNat 32 e.val)) (congrArg t0 (funext fun a => Fin.ext ?_))
    match a with
    | ⟨0, _⟩ => show r.val / 1024 = r.val / 1024 % 24; omega
  · rw [val_main_v23_apply, val_main_v22_apply, val_main_v15_apply, val_main_v14_apply, val_main_v13_apply, val_main_v12_apply,
      val_main_v11_apply, val_main_c_apply]
    refine congrArg (IntOp.cmpi .sgt · 0#32) (congrArg t1 (funext fun a => Fin.ext ?_))
    match a with
    | ⟨0, _⟩ => show r.val / 1024 = r.val / 1024 % 24; omega

theorem eq_iff (e : Fin 8) (a : ℕ) (hlt : ∀ j, (t0 j).toNat < 8) :
    IntOp.cmpi .eq (BitVec.ofNat 32 e.val) (t0 (tileIx a)) = 1#1 ↔ e = expertOf t0 a := by
  have h := hlt (tileIx a)
  have he := e.isLt
  rw [WordCmp.cmpi_eq_eq_toNat, BitVec.toNat_ofNat, Fin.ext_iff]
  show _ ↔ e.val = (t0 (tileIx a)).toNat % 8
  have hb : ∀ p : Prop, [Decidable p] → (BitVec.ofBool (decide p) = 1#1 ↔ p) := fun p _ => by
    by_cases hp : p
    · simp [hp]
    · simp [hp]
  rw [hb]; omega

/-- One expert's share of a row's sum. -/
theorem pick_eq (e : Fin 8) (r : Fin 24576) (n : Fin 2048) (hlt : ∀ j, (t0 j).toNat < 8) :
    val_main_v26 (F := Ideal) x w1 w3 w2 t0 t1 (ix3 e r n)
      = if e = expertOf t0 (r.val / 1024) ∧ validOf t1 (r.val / 1024) then ∑ q : Fin 2816, term x w1 w3 w2 e r n q else (0 : EReal) := by
  rw [val_main_v26_apply, mask_eq, expert_eq, val_main_call1_v2_apply, val_main_call1_v0_apply, val_main_cst_apply]
  show (if IntOp.andi _ _ = 1#1 then _ else Ideal.ofBits .f32 0x00000000#32) = _
  rw [Ideal.ofBits_zero_f32]
  exact if_congr (IntOp.andi_eq_one.trans (and_congr (eq_iff t0 e _ hlt) Iff.rfl)) rfl rfl

/-- The plain program computes the same layer. -/
theorem ref_eq (hlt : ∀ j, (t0 j).toNat < 8) : val_main_v27 (F := Ideal) x w1 w3 w2 t0 t1 = moe x w1 w3 w2 t0 t1 := by
  funext i
  rw [val_main_v27_apply, val_main_cst_0_apply]
  show Ideal.ofBits .f32 0x00000000#32 + _ = _
  rw [Ideal.ofBits_zero_f32, zero_add]
  have hs : ∀ e : Fin 8, val_main_v26 (F := Ideal) x w1 w3 w2 t0 t1 (idx_main_v27 i e)
      = if e = expertOf t0 ((i 0).val / 1024) ∧ validOf t1 ((i 0).val / 1024) then ∑ q : Fin 2816, term x w1 w3 w2 e (i 0) (i 1) q else (0 : EReal) := fun e => by
    refine Eq.trans (congrArg _ (funext fun a => ?_)) (pick_eq x w1 w3 w2 t0 t1 e (i 0) (i 1) hlt)
    match a with | ⟨0, _⟩ => rfl | ⟨1, _⟩ => rfl | ⟨2, _⟩ => rfl
  refine (Finset.sum_congr rfl fun e _ => hs e).trans ?_
  show _ = if validOf t1 ((i 0).val / 1024) then _ else 0
  by_cases hv : validOf t1 ((i 0).val / 1024)
  · rw [if_pos hv]
    refine (Finset.sum_eq_single (expertOf t0 ((i 0).val / 1024)) (fun e _ hne => if_neg fun hh => hne hh.1) (fun h => absurd (Finset.mem_univ _) h)).trans ?_
    exact if_pos ⟨rfl, hv⟩
  · rw [if_neg hv]
    exact Finset.sum_eq_zero fun e _ => if_neg fun hh => hv hh.2

end Cert.MoeRef

end
-- ==== Proof.MoeBitsTabs.lean ====
module

public import proofs.«01_k».proof.Proof.Gen.Kernel4.Flash.Runs
public import Idealize.ShloMosaic.Lib.Pipeline.ValueKit.Geometry

@[expose] public section

/-! The grouped layer's pipeline at any tables of tiles: which expert a tile takes (below eight) and whether it is valid. -/

set_option maxRecDepth 16384
set_option Elab.async false

noncomputable section

namespace Cert.MoeBits

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The two tables, every tile's expert one of the eight. -/
structure Tabs where
  T0 : S24.Idx → BitVec 32
  T1 : S24.Idx → BitVec 32
  lt : ∀ x, (T0 x).toNat < 8

/-- A point's tile, as an index of a table. -/
def tileAt (i : grid0.Coords) : S24.Idx := fun a => match a with | ⟨0, _⟩ => ⟨(i 0).val, (i 0).isLt⟩

theorem first_emb (i : grid0.Coords) (inb : ∀ a, k0_off1 i a + S1.size a ≤ S24.size a)
    (y : (Rect.unit (s := S24) (k0_off1 i) S1.size inb).shape.Idx) (hy : ∀ a, (y a).val = 0) :
    (Rect.unit (s := S24) (k0_off1 i) S1.size inb).emb y = tileAt i :=
  funext fun a => Fin.ext (by
    match a with
    | ⟨0, _⟩ =>
      refine (ValueKit.rect_emb_unit_val _ _ _ _ _).trans ?_
      rw [hy ⟨0, _⟩, k0_off1_eq]; rfl)

variable (ch : Tabs)

set_option backward.proofsInPublic true in
/-- The tables' contents. -/
def pfN : pre0.Contents (Elt Bits) := fun | ⟨0, _⟩ => ch.T0 | ⟨1, _⟩ => ch.T1 | ⟨_ + 2, h⟩ => absurd h (by simp)

theorem word_at (T : S24.Idx → BitVec 32) (i : grid0.Coords) (inb : ∀ a, k0_off1 i a + S1.size a ≤ S24.size a)
    (y : (Rect.unit (s := S24) (k0_off1 i) S1.size inb).shape.Idx) (hy : ∀ a, (y a).val = 0) :
    T ((Rect.unit (s := S24) (k0_off1 i) S1.size inb).emb y) = T (tileAt i) :=
  congrArg T (first_emb i inb y hy)

/-- The block a weight's window takes: the point's own, or the last for a tile that is not valid. -/
def fEff (i : grid0.Coords) : BitVec 32 := Scalar.select (Scalar.cmpi .sgt (ch.T1 (tileAt i)) 0#32) (BitVec.ofNat 32 (i 1).val) 10#32

theorem fEff_le (i : grid0.Coords) : (fEff ch i).toNat ≤ 10 := by
  have h1 : (i 1).val < 11 := (i 1).isLt
  unfold fEff Scalar.select
  split
  · rw [BitVec.toNat_ofNat]; omega
  · decide

theorem tr1 (i : grid0.Coords) : cc0_transform_1 (F := Bits) k0_off1_inb numel1_S1 (pfN ch) i = ![(ch.T0 (tileAt i)).toNat, 0, (fEff ch i).toNat] := by
  have e0 : (pfN ch).at 0 (Rect.unit (s := S24) (k0_off1 i) S1.size (k0_off1_inb i)) numel1_S1 = ch.T0 (tileAt i) := word_at ch.T0 i _ _ fun _ => rfl
  have e1 : (pfN ch).at 1 (Rect.unit (s := S24) (k0_off1 i) S1.size (k0_off1_inb i)) numel1_S1 = ch.T1 (tileAt i) := word_at ch.T1 i _ _ fun _ => rfl
  show ![((pfN ch).at 0 (Rect.unit (s := S24) (k0_off1 i) S1.size (k0_off1_inb i)) numel1_S1 : BitVec 32).toNat, 0, (Scalar.select (Scalar.cmpi .sgt ((pfN ch).at 1 (Rect.unit (s := S24) (k0_off1 i) S1.size (k0_off1_inb i)) numel1_S1) 0#32) (BitVec.ofNat 32 (i 1).val) 10#32 : BitVec 32).toNat] = _
  rw [e0, e1]
  rfl

theorem tr2 (i : grid0.Coords) : cc0_transform_2 (F := Bits) k0_off1_inb numel1_S1 (pfN ch) i = ![(ch.T0 (tileAt i)).toNat, 0, (fEff ch i).toNat] := tr1 ch i

theorem tr3 (i : grid0.Coords) : cc0_transform_3 (F := Bits) k0_off1_inb numel1_S1 (pfN ch) i = ![(ch.T0 (tileAt i)).toNat, (fEff ch i).toNat, 0] := by
  have e0 : (pfN ch).at 0 (Rect.unit (s := S24) (k0_off1 i) S1.size (k0_off1_inb i)) numel1_S1 = ch.T0 (tileAt i) := word_at ch.T0 i _ _ fun _ => rfl
  have e1 : (pfN ch).at 1 (Rect.unit (s := S24) (k0_off1 i) S1.size (k0_off1_inb i)) numel1_S1 = ch.T1 (tileAt i) := word_at ch.T1 i _ _ fun _ => rfl
  show ![((pfN ch).at 0 (Rect.unit (s := S24) (k0_off1 i) S1.size (k0_off1_inb i)) numel1_S1 : BitVec 32).toNat, (Scalar.select (Scalar.cmpi .sgt ((pfN ch).at 1 (Rect.unit (s := S24) (k0_off1 i) S1.size (k0_off1_inb i)) numel1_S1) 0#32) (BitVec.ofNat 32 (i 1).val) 10#32 : BitVec 32).toNat, 0] = _
  rw [e0, e1]
  rfl

/-- Every block the windows take lies in its array. -/
theorem ok_pfN : ok0 (F := Bits) (pfN ch) := by
  refine ⟨fun i => ⟨fun a => ?_, .inl rfl⟩, fun i => ⟨fun a => ?_, .inl rfl⟩, fun i => ⟨fun a => ?_, .inl rfl⟩⟩ <;>
    [rw [tr1]; rw [tr2]; rw [tr3]] <;>
    have h0 := ch.lt (tileAt i) <;> have h1 := fEff_le ch i
  · match a with
    | ⟨0, _⟩ => show ((ch.T0 (tileAt i)).toNat + 1) * 1 ≤ 8; omega
    | ⟨1, _⟩ => show (0 + 1) * 2048 ≤ 2048; omega
    | ⟨2, _⟩ => show ((fEff ch i).toNat + 1) * 256 ≤ 2816; omega
  · match a with
    | ⟨0, _⟩ => show ((ch.T0 (tileAt i)).toNat + 1) * 1 ≤ 8; omega
    | ⟨1, _⟩ => show (0 + 1) * 2048 ≤ 2048; omega
    | ⟨2, _⟩ => show ((fEff ch i).toNat + 1) * 256 ≤ 2816; omega
  · match a with
    | ⟨0, _⟩ => show ((ch.T0 (tileAt i)).toNat + 1) * 1 ≤ 8; omega
    | ⟨1, _⟩ => show ((fEff ch i).toNat + 1) * 256 ≤ 2816; omega
    | ⟨2, _⟩ => show (0 + 1) * 2048 ≤ 2048; omega

/-- The admissible contents, the pipeline at them (`cfgA ch`: 264 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x2048x256 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x2048x256 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x256x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := k0_cond1 (crd ch t) = 1#1
abbrev P0_1 (t : Fin (cfgA ch).N) : Prop := k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1

/-- `(cfgA ch).fresh 4`: a tile's first point finds nothing of its own in the buffer. -/
def frTab0_4 (n : ℕ) : Bool := n % 11 == 0

/-- Tables for what does not depend on them. -/
def tabs0 : Tabs := ⟨fun _ => 0#32, fun _ => 0#32, fun _ => by decide⟩

theorem facts0 : ∀ t : Fin (cfgA tabs0).N, (P0_0 tabs0 t ↔ t.val % 11 = 0) ∧ (((cfgA tabs0).win (4 : Fin 5)).flush t = true ↔ t.val % 11 = 10) := by decide +kernel

theorem first_iff (t : Fin (cfgA ch).N) : P0_0 ch t ↔ t.val % 11 = 0 := (facts0 t).1
theorem flush_iff (t : Fin (cfgA ch).N) : ((cfgA ch).win (4 : Fin 5)).flush t = true ↔ t.val % 11 = 10 := (facts0 t).2

/-- Whether a tile is valid, as the body's own test of the word it loads. -/
abbrev goodW (w : BitVec 32) : Prop := k0_cond2 w = 1#1

theorem second_iff (t : Fin (cfgA ch).N) : P0_1 ch t ↔ goodW (ch.T1 (tileAt (crd ch t))) := by
  have e : View.readAt (Elt Bits) (tbM0_1).view (Rect.unit (s := S24) (k0_off1 (crd ch t)) S1.size (k0_off1_inb (crd ch t))).toLoadRect (ch.T1) (Shape.Idx.first (numel1_S1.symm ▸ Nat.one_pos)) = ch.T1 (tileAt (crd ch t)) :=
    word_at ch.T1 (crd ch t) (k0_off1_inb (crd ch t)) _ fun _ => rfl
  show k0_cond2 _ = 1#1 ↔ _
  rw [e]

theorem idle_eq (t : Fin (cfgA ch).N) : (cfgA ch).idle (4 : Fin 5) ((cfgA ch).grid.coords t) = (!decide (P0_0 ch t) && !decide (P0_1 ch t)) := by
  have e : (pfN ch).atD 1 (k0_off1 (crd ch t)) = ch.T1 (tileAt (crd ch t)) := by
    have hb : ∀ a, k0_off1 (crd ch t) a + 1 ≤ S24.size a := fun a => by
      match a with
      | ⟨0, _⟩ => exact k0_off1_inb (crd ch t) 0
    refine (dif_pos hb).trans ?_
    refine congrArg ch.T1 (funext fun a => Fin.ext ?_)
    match a with
    | ⟨0, _⟩ => show k0_off1 (crd ch t) 0 = (crd ch t 0).val; rw [k0_off1_eq]; rfl
  show (!(k0_cond1 (crd ch t) == 1#1) && !(k0_cond2 ((pfN ch).atD 1 (k0_off1 (crd ch t))) == 1#1)) = _
  rw [e]
  have hb : ∀ w : BitVec 1, (w == 1#1) = decide (w = 1#1) := by decide
  rw [hb, hb, decide_eq_decide.2 (second_iff ch t)]

/-- Every fact the run takes at a point. -/
theorem frTab0_4_step (t : Fin (cfgA ch).N) :
    frTab0_4 (t.val + 1) = (((cfgA ch).win (4 : Fin 5)).flush t || ((cfgA ch).idle (4 : Fin 5) ((cfgA ch).grid.coords t) && frTab0_4 t.val)) := by
  have hf := flush_iff ch t
  have h1 := first_iff ch t
  rw [idle_eq]
  unfold frTab0_4
  cases h : ((cfgA ch).win (4 : Fin 5)).flush t with
  | true =>
    have := hf.1 h
    simp only [Bool.true_or, beq_iff_eq]; omega
  | false =>
    have hn : ¬ t.val % 11 = 10 := fun hh => by rw [hf.2 hh] at h; exact absurd h (by decide)
    by_cases h0 : t.val % 11 = 0
    · have := h1.2 h0
      rw [decide_eq_true this]
      simp only [Bool.not_true, Bool.false_and, Bool.or_false, beq_eq_false_iff_ne]; omega
    · rw [beq_eq_false_iff_ne.2 h0]
      simp only [Bool.and_false, Bool.or_false, beq_eq_false_iff_ne]; omega

theorem sched_first (t : Fin (cfgA ch).N) (q0 : P0_0 ch t) :
    (cfgA ch).idle (4 : Fin 5) ((cfgA ch).grid.coords t) = false ∧ ((cfgA ch).win (4 : Fin 5)).flush t = false ∧ frTab0_4 t.val = true := by
  have h0 := (first_iff ch t).1 q0
  refine ⟨by rw [idle_eq, decide_eq_true q0]; rfl, ?_, beq_iff_eq.2 h0⟩
  rw [← Bool.not_eq_true]; intro h; have := (flush_iff ch t).1 h; omega

theorem sched_later (t : Fin (cfgA ch).N) (q0 : ¬P0_0 ch t) : frTab0_4 t.val = false :=
  beq_eq_false_iff_ne.2 fun h => q0 ((first_iff ch t).2 h)

theorem idle_later (t : Fin (cfgA ch).N) (q0 : ¬P0_0 ch t) (b : Bool) (q1 : decide (P0_1 ch t) = b) :
    (cfgA ch).idle (4 : Fin 5) ((cfgA ch).grid.coords t) = !b := by
  rw [idle_eq, decide_eq_false q0, q1]; rfl

end Cert.MoeBits

end
-- ==== Proof.MoeBitsFrame.lean ====
module

public import proofs.«01_k».proof.Proof.MoeBitsTabs
public import Idealize.ShloMosaic.Lib.Pipeline.Quiescent
public import Idealize.ShloMosaic.Lib.Claim

@[expose] public section

/-! The grouped layer's run at any tables: the buffer's contents point by point, the body's obligation, the launch and the frame. -/

set_option maxRecDepth 16384
set_option Elab.async false

noncomputable section

namespace Cert.MoeBits

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra. -/
abbrev EP : Emb (UR sig nD τ) 𝕄 := emb₁

/-- The launch memory holds the tables. -/
def Pinned (ch : Tabs) (m : (ℓ : Loc nD τ sig) → Buf (Elt Bits) ℓ) : Prop :=
  (∀ c : Dev nD, m ((c : Thread nD τ).loc main_arg4) = ch.T0)
  ∧ (∀ c : Dev nD, m ((c : Thread nD τ).loc main_arg5) = ch.T1)

variable (ch : Tabs)
variable (m : (ℓ : Loc nD τ sig) → Buf (Elt Bits) ℓ) (ρ : Dev nD → PrngReg)

theorem freshF0_4 (t : Fin (cfgA ch).N) : (cfgA ch).fresh (4 : Fin 5) t.val = frTab0_4 t.val :=
  Pipeline.Cfg.fresh_tab (cfgA ch) (4 : Fin 5) frTab0_4 rfl (frTab0_4_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Tabs) (t : Fin (cfgA ch).N), P0_0 ch t → P0_1 ch t →
    (k0_cond1 (crd ch t) = 1#1) ∧ ((k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1) ∧ (True)) := fun ch t h0 h1 => ⟨h0, h1, trivial⟩

theorem hypsR0_A : ∀ (ch : Tabs) (t : Fin (cfgA ch).N), P0_0 ch t → P0_1 ch t →
    (k0_cond1 (crd ch t) = 1#1) ∧ ((k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1) ∧ (True)) := hyps0_A

/-- At a point of path A: the idle table, the write-backs and which buffers hold junk (decided over the
    freshness tables `frTab`/`sfrTab`, restated over `Cfg.fresh`/`sfresh` by their agreement). -/
theorem sched0_A : ∀ (ch : Tabs) (t : Fin (cfgA ch).N), P0_0 ch t → P0_1 ch t →
    (cfgA ch).idle (4 : Fin 5) ((cfgA ch).grid.coords t) = false ∧ ((cfgA ch).win (4 : Fin 5)).flush t = false ∧ (cfgA ch).fresh (4 : Fin 5) t.val = true := by
  intro ch t q0 q1; rw [freshF0_4 ch t]; exact sched_first ch t q0

/-- At a point of path B, the path's hypotheses hold of the words the body reads there (the pinned tables read,
    a pinned window's word AS the word `pinBlk ch t (r.idx x)`; the checks among them cited from `ChecksAt`). -/
theorem hyps0_B : ∀ (ch : Tabs) (t : Fin (cfgA ch).N), ¬P0_0 ch t → P0_1 ch t →
    (¬(k0_cond1 (crd ch t) = 1#1)) ∧ ((k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1) ∧ (True)) := fun ch t h0 h1 => ⟨h0, h1, trivial⟩

theorem hypsR0_B : ∀ (ch : Tabs) (t : Fin (cfgA ch).N), ¬P0_0 ch t → P0_1 ch t →
    (¬(k0_cond1 (crd ch t) = 1#1)) ∧ ((k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1) ∧ (True)) := hyps0_B

/-- At a point of path B: the idle table, the write-backs and which buffers hold junk (decided over the
    freshness tables `frTab`/`sfrTab`, restated over `Cfg.fresh`/`sfresh` by their agreement). -/
theorem sched0_B : ∀ (ch : Tabs) (t : Fin (cfgA ch).N), ¬P0_0 ch t → P0_1 ch t →
    (cfgA ch).idle (4 : Fin 5) ((cfgA ch).grid.coords t) = false ∧ (cfgA ch).fresh (4 : Fin 5) t.val = false := by
  intro ch t q0 q1; rw [freshF0_4 ch t]; exact ⟨idle_later ch t q0 true (decide_eq_true q1), sched_later ch t q0⟩

/-- At a point of path C, the path's hypotheses hold of the words the body reads there (the pinned tables read,
    a pinned window's word AS the word `pinBlk ch t (r.idx x)`; the checks among them cited from `ChecksAt`). -/
theorem hyps0_C : ∀ (ch : Tabs) (t : Fin (cfgA ch).N), P0_0 ch t → ¬P0_1 ch t →
    (k0_cond1 (crd ch t) = 1#1) ∧ ((¬(k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1)) ∧ (True)) := fun ch t h0 h1 => ⟨h0, h1, trivial⟩

theorem hypsR0_C : ∀ (ch : Tabs) (t : Fin (cfgA ch).N), P0_0 ch t → ¬P0_1 ch t →
    (k0_cond1 (crd ch t) = 1#1) ∧ ((¬(k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1)) ∧ (True)) := hyps0_C

/-- At a point of path C: the idle table, the write-backs and which buffers hold junk (decided over the
    freshness tables `frTab`/`sfrTab`, restated over `Cfg.fresh`/`sfresh` by their agreement). -/
theorem sched0_C : ∀ (ch : Tabs) (t : Fin (cfgA ch).N), P0_0 ch t → ¬P0_1 ch t →
    (cfgA ch).idle (4 : Fin 5) ((cfgA ch).grid.coords t) = false ∧ ((cfgA ch).win (4 : Fin 5)).flush t = false ∧ (cfgA ch).fresh (4 : Fin 5) t.val = true := by
  intro ch t q0 q1; rw [freshF0_4 ch t]; exact sched_first ch t q0

/-- At a point of path D, the path's hypotheses hold of the words the body reads there (the pinned tables read,
    a pinned window's word AS the word `pinBlk ch t (r.idx x)`; the checks among them cited from `ChecksAt`). -/
theorem hyps0_D : ∀ (ch : Tabs) (t : Fin (cfgA ch).N), ¬P0_0 ch t → ¬P0_1 ch t →
    (¬(k0_cond1 (crd ch t) = 1#1)) ∧ ((¬(k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1)) ∧ (True)) := fun ch t h0 h1 => ⟨h0, h1, trivial⟩

theorem hypsR0_D : ∀ (ch : Tabs) (t : Fin (cfgA ch).N), ¬P0_0 ch t → ¬P0_1 ch t →
    (¬(k0_cond1 (crd ch t) = 1#1)) ∧ ((¬(k0_cond2 (View.readAt (Elt Bits) (tbM0_1).view (Rect.unit (s := S24) (k0_off1 (crd ch t)) S1.size (k0_off1_inb (crd ch t))).toLoadRect (ch.T1) (Shape.Idx.first (numel1_S1.symm ▸ Nat.one_pos))) = 1#1)) ∧ (True)) := hyps0_D

/-- At a point of path D: the idle table, the write-backs and which buffers hold junk (decided over the
    freshness tables `frTab`/`sfrTab`, restated over `Cfg.fresh`/`sfresh` by their agreement). -/
theorem sched0_D : ∀ (ch : Tabs) (t : Fin (cfgA ch).N), ¬P0_0 ch t → ¬P0_1 ch t →
    (cfgA ch).idle (4 : Fin 5) ((cfgA ch).grid.coords t) = true ∧ (cfgA ch).fresh (4 : Fin 5) t.val = false := by
  intro ch t q0 q1; rw [freshF0_4 ch t]; exact ⟨idle_later ch t q0 false (decide_eq_false q1), sched_later ch t q0⟩

/-! ## What the outputs and scratches hold after each point -/

/-- ONE STEP of the trajectory: what the outputs' current buffers and the scratches hold after the body at point `t`
    (output 4), from what they held before (`prev`): the path the decisions select at `t`, its
    run's contents; an output the path leaves idle keeps what it held (junk — `default`, named by nothing — where fresh). -/
def step0 (c : Dev nD) (t : Fin (cfgA ch).N) (prev : (S1024x2048.Idx → Elt Bits .f32)) : (S1024x2048.Idx → Elt Bits .f32) :=
  if q0 : P0_0 ch t then
    if q1 : P0_1 ch t then
      out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1
    else
      out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_C ch t q0 q1).1 (hypsR0_C ch t q0 q1).2.1
  else
    if q1 : P0_1 ch t then
      out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) prev (hypsR0_B ch t q0 q1).1 (hypsR0_B ch t q0 q1).2.1
    else
      (if (cfgA ch).fresh (4 : Fin 5) t.val then default else prev)

/-- THE TRAJECTORY: after position `n`. -/
def traj0 (c : Dev nD) : (n : ℕ) → n < (cfgA ch).N → (S1024x2048.Idx → Elt Bits .f32)
  | 0, h => step0 ch m ρ c ⟨0, h⟩ default
  | n + 1, h => step0 ch m ρ c ⟨n + 1, h⟩ (traj0 c n (Nat.lt_of_succ_lt h))

/-- What they held BEFORE point `t` (junk before the first). -/
def prev0 (c : Dev nD) (t : Fin (cfgA ch).N) : (S1024x2048.Idx → Elt Bits .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x2048.Idx → Elt Bits .f32)) (q0 : P0_0 ch t) (q1 : P0_1 ch t) :
    step0 ch m ρ c t prev = out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_A ch t q0 q1).1 (hypsR0_A ch t q0 q1).2.1 := by
  unfold step0; simp only [dif_pos q0, dif_pos q1]

/-- `step0` at a point of path B. -/
theorem step0_B (c : Dev nD) (t : Fin (cfgA ch).N) (prev : (S1024x2048.Idx → Elt Bits .f32)) (q0 : ¬P0_0 ch t) (q1 : P0_1 ch t) :
    step0 ch m ρ c t prev = out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) prev (hypsR0_B ch t q0 q1).1 (hypsR0_B ch t q0 q1).2.1 := by
  unfold step0; simp only [dif_neg q0, dif_pos q1]

/-- `step0` at a point of path C. -/
theorem step0_C (c : Dev nD) (t : Fin (cfgA ch).N) (prev : (S1024x2048.Idx → Elt Bits .f32)) (q0 : P0_0 ch t) (q1 : ¬P0_1 ch t) :
    step0 ch m ρ c t prev = out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) (hypsR0_C ch t q0 q1).1 (hypsR0_C ch t q0 q1).2.1 := by
  unfold step0; simp only [dif_pos q0, dif_neg q1]

/-- `step0` at a point of path D. -/
theorem step0_D (c : Dev nD) (t : Fin (cfgA ch).N) (prev : (S1024x2048.Idx → Elt Bits .f32)) (q0 : ¬P0_0 ch t) (q1 : ¬P0_1 ch t) :
    step0 ch m ρ c t prev = (if (cfgA ch).fresh (4 : Fin 5) t.val then default else prev) := by
  unfold step0; simp only [dif_neg q0, dif_neg q1]

/-! ## The pipeline's proof data -/

/-- What the tracked buffers held before position `t` of `Fin (N+1)` (the invariant's index). -/
def prev0T (c : Dev nD) (t : Fin ((cfgA ch).N + 1)) : (S1024x2048.Idx → Elt Bits .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} ch.T0) ∗ (tbM0_1.view.loc (c : Thread nD τ) ↦{fullShare.right} ch.T1))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -⟩ := sched0_A ch t q0 q1
      rw [i4] at hi; exact absurd hi (by decide)
    · obtain ⟨i4, -, -⟩ := sched0_C ch t q0 q1
      rw [i4] at hi; exact absurd hi (by decide)
  · by_cases q1 : P0_1 ch t
    · obtain ⟨i4, -⟩ := sched0_B ch t q0 q1
      rw [i4] at hi; exact absurd hi (by decide)
    · rw [step0_D ch m ρ c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe (crd ch t) (Memref.whole main_arg4) (Memref.isWhole_whole _) (Memref.whole main_arg5) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4⟩ := sched0_A ch t q0 q1
      have F0 := hypsR0_A ch t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C ch t q0 q1
      have F0 := hypsR0_C ch t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 ch t
    · obtain ⟨i4, fr4⟩ := sched0_B ch t q0 q1
      have F0 := hypsR0_B ch t q0 q1
      have k0_h1 := F0.1; have F1 := F0.2
      have k0_h2 := F1.1; have F2 := F1.2
      clear F0 F1 F2
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) _ k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D ch t q0 q1
      have F0 := hypsR0_D ch t q0 q1
      have k0_h1 := F0.1; have F1 := F0.2
      have k0_h2 := F1.1; have F2 := F1.2
      clear F0 F1 F2
      cases f4 : ((cfgA ch).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr4, Bool.false_eq_true, ↓reduceIte]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.T0) (ch.T1) (iblk ch m ρ c (0 : Fin 5) t) (iblk ch m ρ c (1 : Fin 5) t) (iblk ch m ρ c (2 : Fin 5) t) (iblk ch m ρ c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg4) ↦{q 0} v 0) ∗ (((c : Thread nD τ).loc main_arg5) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are member `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _), ((h c).2 0).trans (hp.1 c).symm, ((h c).2 1).trans (hp.2 c).symm⟩) (run_main ch m ρ hp)

/-- THE FRAME under the pinning: from a launch memory whose tables and steering words are member `ch`'s, every weakly fair
    execution terminates, nothing faults, every argument array ends unchanged and every semaphore counter of the machine reads
    zero at every final state — `Cert.quiescent_Kernel4`'s post.
     -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.MoeBits

end
-- ==== Proof.MoeClaims.lean ====
module

public import proofs.«01_k».proof.Proof.MoeRef
public import proofs.«01_k».proof.Proof.MoeBitsFrame
public import proofs.«01_k».proof.Defs
public import proofs.«01_k».proof.Proof.Gen.Pre_moe_tables
public import Idealize.ShloMosaic.Lib.ReduceAll
public import Idealize.ShloMosaic.Lib.WordCmp
public import Idealize.ShloMosaic.Lib.Quiescent

@[expose] public section

/-! The grouped layer's claims: the tables read off the precondition, the frames and the value. -/

set_option maxRecDepth 16384

noncomputable section

namespace Cert.MoeClaims

open Idealize.ShloMosaic Idealize.ShloMosaic.TcCoe Idealize.ShloMosaic.ValueIdx Idealize.SL.Sem

theorem bool_one {p : Prop} [Decidable p] (h : BitVec.ofBool (decide p) = 1#1) : p := by
  by_cases hp : p
  · exact hp
  · rw [decide_eq_false hp] at h; exact absurd h (by decide)

/-- A word between zero and eight, as a number. -/
theorem small {x : BitVec 32} (h0 : IntOp.cmpi .sge x 0#32 = 1#1) (h8 : IntOp.cmpi .slt x 8#32 = 1#1) : x.toNat < 8 := by
  rw [WordCmp.cmpi_sge_zero] at h0
  have hx := bool_one h0
  rw [WordCmp.cmpi_slt_eq] at h8
  have h8' := bool_one h8
  rw [show (8#32 : BitVec 32).toInt = 8 from by decide, BitVec.toInt_eq_toNat_of_lt (by omega)] at h8'
  omega

/-- The precondition, read at every word of the table. -/
theorem tables {F : FTy → Type} [FloatOps F] (x0 : FVec F Cert.Pre_moe_tables.S24576x2048 .bf16) (x1 x2 : FVec F Cert.Pre_moe_tables.S8x2048x2816 .f32)
    (x3 : FVec F Cert.Pre_moe_tables.S8x2816x2048 .f32) (t0 t1 : IVec Cert.Pre_moe_tables.S24 32)
    (h : Cert.Pre_moe_tables.fn (F := F) x0 x1 x2 x3 t0 t1 = fun _ => 1#1) (j : Cert.Pre_moe_tables.S24.Idx) : (t0 j).toNat < 8 := by
  have e := congrFun h (fun a => a.elim0)
  haveI : Subsingleton Cert.Pre_moe_tables.S_.Idx := ⟨fun a b => funext fun k => k.elim0⟩
  obtain ⟨ea, eb⟩ := IntOp.andi_eq_one.1 (Host.reduce_andi_all _ _ _ _ _ e j)
  exact small ea eb

/-- The tables the launch memory holds. -/
def tabs (m) (h : Cert.Pre_Kernel4 m) : Cert.MoeBits.Tabs :=
  ⟨m (((0 : Dev Cert.Kernel4.nD).tc : Thread Cert.Kernel4.nD Cert.Kernel4.τ).loc Cert.Kernel4.main_arg4),
   m (((0 : Dev Cert.Kernel4.nD).tc : Thread Cert.Kernel4.nD Cert.Kernel4.τ).loc Cert.Kernel4.main_arg5), fun j => tables _ _ _ _ _ _ (h 0) j⟩

theorem pinned (m) (h : Cert.Pre_Kernel4 m) : Cert.MoeBits.Pinned (tabs m h) m :=
  ⟨fun c => by rw [Subsingleton.elim c 0]; rfl, fun c => by rw [Subsingleton.elim c 0]; rfl⟩

def tabsI (m) (h : Cert.Pre_Kernel4Ideal m) : Cert.Moe.Tabs :=
  ⟨m (((0 : Dev Cert.Kernel4Ideal.nD).tc : Thread Cert.Kernel4Ideal.nD Cert.Kernel4Ideal.τ).loc Cert.Kernel4Ideal.main_arg4),
   m (((0 : Dev Cert.Kernel4Ideal.nD).tc : Thread Cert.Kernel4Ideal.nD Cert.Kernel4Ideal.τ).loc Cert.Kernel4Ideal.main_arg5), fun j => tables _ _ _ _ _ _ (h 0) j⟩

theorem pinnedI (m) (h : Cert.Pre_Kernel4Ideal m) : Cert.Moe.Pinned (tabsI m h) m :=
  ⟨fun c => by rw [Subsingleton.elim c 0]; rfl, fun c => by rw [Subsingleton.elim c 0]; rfl⟩

theorem frame : Cert.quiescent_Kernel4 (hKernel4 := Cert.Kernel4.Gen.facts) (hPre_moe_tables := Cert.Pre_moe_tables.Gen.facts) :=
  fun m ρ h => Cert.MoeBits.frame (tabs m h) m ρ (pinned m h)

theorem frameI : Cert.quiescent_Kernel4Ideal (hKernel4Ideal := Cert.Kernel4Ideal.Gen.facts) (hPre_moe_tables := Cert.Pre_moe_tables.Gen.facts) :=
  fun m ρ h => Cert.Moe.frame (tabsI m h) m ρ (pinnedI m h)

theorem frame_ref : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_ref_pre : Cert.quiescent_Reference4Ideal_pre_moe_tables (hReference4Ideal := Cert.Reference4Ideal.Gen.facts)
    (hPre_moe_tables := Cert.Pre_moe_tables.Gen.facts) := fun m ρ _ => frame_ref m ρ trivial

theorem algebraic : Cert.algebraic_Kernel4Ideal_Reference4Ideal (hKernel4Ideal := Cert.Kernel4Ideal.Gen.facts)
    (hReference4Ideal := Cert.Reference4Ideal.Gen.facts) (hPre_moe_tables := Cert.Pre_moe_tables.Gen.facts) := by
  intro m ρ m' ρ' hpre hag
  have hp := pinnedI m hpre
  refine ⟨fun c => (Cert.Moe.dats (tabsI m hpre) m ρ 0 c).arrAt 4 (Cert.Moe.cfgA (tabsI m hpre)).N, ?_, ?_⟩
  · exact (θ_run Cert.Kernel4Ideal.defs _ _).mono (fun _ h c => ⟨(h.1 c).1 (4 : Fin 5), h.2 c⟩)
      (θ_run_and (Cert.Moe.run_main (tabsI m hpre) m ρ hp) (Cert.Moe.unchanged (tabsI m hpre) m ρ hp))
  refine (θ_run Cert.Reference4Ideal.defs _ _).mono (fun _ h c => ⟨(h c).1.trans ?_, (h c).2⟩)
    (Cert.Reference4Ideal.Value.run (F := Ideal) m' ρ')
  refine Eq.trans ?_ (Cert.MoeValue.final_eq (tabsI m hpre) m ρ c).symm
  rw [Cert.Reference4Ideal.Read.val_main_v27_eq, (hag c).1, (hag c).2.1, (hag c).2.2.1, (hag c).2.2.2.1, (hag c).2.2.2.2.1, (hag c).2.2.2.2.2]
  refine (congrArg₂ (Cert.Reference4Ideal.Read.val_main_v27 (F := Ideal) _ _ _ _) (hp.1 c) (hp.2 c)).trans ?_
  exact Cert.MoeRef.ref_eq _ _ _ _ _ _ (tabsI m hpre).lt

end Cert.MoeClaims

end
-- ==== Proof.ProjBitsFrame.lean ====
module

public import proofs.«01_k».proof.Proof.Gen.Kernel5.Launch
public import Idealize.ShloMosaic.PureOps.BitExact
public import proofs.«01_k».proof.Proof.Gen.Kernel5.Skeleton
public import Idealize.ShloMosaic.Lib.Pipeline.FrameBody
public import Idealize.ShloMosaic.Lib.Pipeline.Value
public import Idealize.ShloMosaic.Lib.Tactic
public import Idealize.ShloMosaic.Lib.Claim

@[expose] public section

/-! The run of layer 1's input projection on machine words.

The last block of weight rows and the last block of output columns overhang their arrays. The frame says nothing of the
output, so nothing is stated of what its buffer holds; the two operands' buffers keep their blocks. -/

set_option maxRecDepth 16384

noncomputable section

namespace Cert.ProjBits

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

/-! ## The body's run -/

section
variable {F : FTy → Type} [FloatOps F]

local notation "𝕄" => MT nD τ sig Unit (Elt F) ℕ (UR sig nD τ) ℕ

theorem zeros : (![0, 0] : Fin 2 → Nat) = fun _ => 0 := by decide

/-- A whole-shape store, last, is what a read of the buffer gives. -/
theorem read_store {sp : Space} {S : Shape} {e : EltTy} (a : Memref sig .tc sp S e)
    (f : a.view.ty.Contents (Elt F)) {off : Fin S.rank → Nat} (h : off = fun _ => 0) (inb : ∀ a, off a + S.size a ≤ S.size a)
    (w : S.Idx → Elt F e) (L : List (View.Piece (Elt F) S e)) :
    a.view.read (Elt F) (a.view.writes (Elt F) f ((⟨Rect.unit off S.size inb, w⟩ : View.Piece (Elt F) S e) :: L)) = w := by
  rw [View.read_writes_eq_canon a.view f _ (fun y => ⟨_, List.mem_cons_self, View.mem_set_unit_zero h inb y⟩)]
  exact View.canon_cons_unit_zero h inb w L

/-- A load of the whole shape gives the contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    View.readAt (Elt F) v (Rect.unit off S.size inb).toLoadRect f = v.read (Elt F) f :=
  View.ld_unit_zero h inb (v.read (Elt F) f)

/-- On whole buffers: the two operands stay, the output becomes their product. -/
theorem run_body (c : Dev nD) (i : grid0.Coords) (a : Memref sig .tc .vmem S1040x2048 .bf16) (ha : a.IsWhole)
    (b : Memref sig .tc .vmem S512x2048 .f32) (hb : b.IsWhole) (o : Memref sig .tc .vmem S1040x512 .f32) (ho : o.IsWhole)
    (x : Vec F S1040x2048 .bf16) (w : Vec F S512x2048 .f32) (y : Vec F S1040x512 .f32) (E : Set ℕ) (K : PUnit → sProp 𝕄) :
    iprop((owns (c : Thread nD τ) a fullShare x ∗ owns (c : Thread nD τ) b fullShare w ∗ owns (c : Thread nD τ) o fullShare y)
      ∗ (iprop(owns (c : Thread nD τ) a fullShare x ∗ owns (c : Thread nD τ) b fullShare w ∗ owns (c : Thread nD τ) o fullShare (k0_pay1 x w)) -∗ K ⟨⟩))
      ⊢ wp frame (wpE (defs₀ (F := F)) Variants.none c none) E (cc0_proj1 i a ha b hb o ho) K := by
  simp only [cc0_proj1_eq_skeleton]; unfold cc0_proj1_skel
  unfold owns
  iintro ⟨⟨⟨%f0, %hf0, H0⟩, ⟨%f1, %hf1, H1⟩, ⟨%f2, -, H2⟩⟩, Hk⟩
  obtain rfl := ha.eq_unread hf0; obtain rfl := hb.eq_unread hf1
  sl_exec
  sl_step
  iapply Hk
  isplitl [H0]
  · iexists _; isplitr; · ipureintro; exact ha.read_unread _
    iexact H0
  isplitl [H1]
  · iexists _; isplitr; · ipureintro; exact hb.read_unread _
    iexact H1
  iexists _; isplitr; swap; · iexact H2
  ipureintro
  rw [read_store _ _ zeros, readAt_whole (S := S1040x2048) _ zeros, readAt_whole (S := S512x2048) _ zeros, hf0, hf1]
end

/-! ## The arrays when the region is entered -/

section
variable {F : FTy → Type} [FloatOps F]
variable (m : (ℓ : Loc nD τ sig) → Buf (Elt F) ℓ)

/-- Core `c`'s buffers after the host's transposition of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
end

/-! ## The proof data -/

local notation "𝕄" => MT nD τ sig Unit (Elt Bits) ℕ (UR sig nD τ) ℕ

variable (m : (ℓ : Loc nD τ sig) → Buf (Elt Bits) ℓ) (ρ : Dev nD → PrngReg)

/-- The activations' block, and the part of the weight rows' block inside the array. -/
def xblk (c : Dev nD) (t : Fin cfg0.N) : S1040x2048.Idx → Elt Bits .bf16 := (win0_0.blk t).view.read (Elt Bits) (V m c main_arg0)
def wblk (c : Dev nD) (t : Fin cfg0.N) : (win0_1.xblock (grid0.coords t)).Idx → Elt Bits .f32 := (win0_1.blk t).view.read (Elt Bits) (V m c main_v0)

/-- The weight rows' block filled out with zero words. -/
def wfull (c : Dev nD) (t : Fin cfg0.N) : S512x2048.Idx → Elt Bits .f32 :=
  win0_1.fill (grid0.coords t) (fun _ => FloatOps.ofBits (F := Bits) .f32 0#32) (wblk m c t)

/-- The output's window is forgotten. -/
abbrev forgets : Fin cfg0.W → Bool := fun | 0 => false | 1 => false | 2 => true | ⟨_ + 3, h⟩ => absurd h (Nat.not_lt.2 (Nat.le_add_left _ _))

def dats (_ : Fin 1) (c : Dev nD) : Dat τ (Elt Bits) Unit ℕ (UR sig nD τ) ℕ cfg0 c where
  A w := V m c (Pipeline.arrRef spec0 w)
  after w t := match w with
    | ⟨0, _⟩ => xblk m c t
    | ⟨1, _⟩ => wfull m c t
    | ⟨2, _⟩ => k0_pay1 (F := Bits) (xblk m c t) (wfull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = xblk m c t := by dsimp only [dats]
theorem after_1 (c : Dev nD) (t : Fin cfg0.N) : (dats m 0 c).after 1 t = wfull m c t := by dsimp only [dats]

theorem before_0 (c : Dev nD) (t : Fin cfg0.N) (d) : (dats m 0 c).before 0 t d = xblk m c t :=
  ((dats m 0 c).before_in_eq_fetched 0 rfl (fun _ => rfl) (fun _ _ _ => rfl) (fun t => by rw [after_0]; unfold Dat.blockOf xblk; rw [A_eq]; try rfl) t d).trans
    (by unfold Dat.fetched Dat.blockOf xblk; rw [A_eq]; try rfl)
theorem before_1 (c : Dev nD) (t : Fin cfg0.N) (d) : (dats m 0 c).before 1 t d = win0_1.fill (grid0.coords t) d (wblk m c t) :=
  ((dats m 0 c).before_in_eq_fetched 1 rfl (fun _ => rfl)
    (fun t t' h => funext fun a => by
      show Pipeline.Clip.of (win0_1.index t a) _ _ = Pipeline.Clip.of (win0_1.index t' a) _ _
      rw [show win0_1.index t = win0_1.index t' from h])
    (fun t => by rw [after_1]; unfold wfull; refine (win0_1.cut_fill _ _ _).trans ?_; unfold Dat.blockOf wblk; rw [A_eq]; try rfl) t d).trans
    (by unfold Dat.fetched Dat.blockOf wblk; rw [A_eq]; try rfl)

theorem body_obligation (c : Dev nD) : BodyObligationLoose (dats m 0 c) (defs₀ (F := Bits)) Variants.none () Set.univ forgets := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (run_body (F := Bits) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (xblk m c t) (win0_1.fill (grid0.coords t) d1 (wblk m c t)) d2 Set.univ _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hw : win0_1.cut (grid0.coords t) (wfull m c t) = wblk m c t := win0_1.cut_fill _ _ _
  isplitl [H0]
  · change _ ⊢ owns (c : Thread nD τ) (win0_0.stage (cfg0.slots t 0)) fullShare ((dats m 0 c).after 0 t)
    rw [after_0]; try iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [after_1, hw]; try iexact H1
  · iexists _; iexact H2

/-! ## The launch -/

set_option backward.isDefEq.respectTransparency.types false in
/-- The call runs; the operands end as launched, the counters at zero. -/
theorem run_quiescent : θ_run defs (onTc (τ := τ) (main (F := Bits))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m) (hA := A_eq m) (hΦ := fun _ _ => rfl)

/-- The arguments unchanged, the counters at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
      (h.1.arr_in c (0 : Fin 3) rfl).trans ((A_eq m c 0).trans (V_main_arg0 m c)),
      ((h.1 c).2 main_arg1 (Pipeline.mem_restRefs_of main_arg1 (by decide) (by decide))).trans (V_main_arg1 m c)⟩, h.2⟩)
    (run_quiescent m ρ)

end Cert.ProjBits

end
-- ==== Proof.ProjFrame.lean ====
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.Value
public import Idealize.ShloMosaic.Lib.Tactic
public import Idealize.ShloMosaic.Lib.ValueIdx
public import Idealize.ShloMosaic.Lib.MatmulPlain
public import Idealize.ShloMosaic.Lib.Claim

@[expose] public section

/-! The run of layer 1's input projection over the extended reals.

The last block of weight rows, and so the last block of output columns, overhangs its array. Past the array's end the
weight block holds anything; an output column depends on its own weight row only, so the columns inside the array are
the product's whatever is past the end. The proof data name the blocks on the part inside the array. -/

set_option maxRecDepth 16384

noncomputable section

namespace Cert.Proj

open Cert.Kernel5Ideal Cert.Kernel5Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open scoped BigOperators

/-! ## The body's run -/

section
variable {F : FTy → Type} [FloatOps F]

local notation "𝕄" => MT nD τ sig Unit (Elt F) ℕ (UR sig nD τ) ℕ

theorem zeros : (![0, 0] : Fin 2 → Nat) = fun _ => 0 := by decide

/-- A whole-shape store, last, is what a read of the buffer gives. -/
theorem read_store {sp : Space} {S : Shape} {e : EltTy} (a : Memref sig .tc sp S e)
    (f : a.view.ty.Contents (Elt F)) {off : Fin S.rank → Nat} (h : off = fun _ => 0) (inb : ∀ a, off a + S.size a ≤ S.size a)
    (w : S.Idx → Elt F e) (L : List (View.Piece (Elt F) S e)) :
    a.view.read (Elt F) (a.view.writes (Elt F) f ((⟨Rect.unit off S.size inb, w⟩ : View.Piece (Elt F) S e) :: L)) = w := by
  rw [View.read_writes_eq_canon a.view f _ (fun y => ⟨_, List.mem_cons_self, View.mem_set_unit_zero h inb y⟩)]
  exact View.canon_cons_unit_zero h inb w L

/-- A load of the whole shape gives the contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    View.readAt (Elt F) v (Rect.unit off S.size inb).toLoadRect f = v.read (Elt F) f :=
  View.ld_unit_zero h inb (v.read (Elt F) f)

/-- On whole buffers: the two operands stay, the output becomes their product. -/
theorem run_body (c : Dev nD) (i : grid0.Coords) (a : Memref sig .tc .vmem S1040x2048 .bf16) (ha : a.IsWhole)
    (b : Memref sig .tc .vmem S512x2048 .f32) (hb : b.IsWhole) (o : Memref sig .tc .vmem S1040x512 .f32) (ho : o.IsWhole)
    (x : Vec F S1040x2048 .bf16) (w : Vec F S512x2048 .f32) (y : Vec F S1040x512 .f32) (E : Set ℕ) (K : PUnit → sProp 𝕄) :
    iprop((owns (c : Thread nD τ) a fullShare x ∗ owns (c : Thread nD τ) b fullShare w ∗ owns (c : Thread nD τ) o fullShare y)
      ∗ (iprop(owns (c : Thread nD τ) a fullShare x ∗ owns (c : Thread nD τ) b fullShare w ∗ owns (c : Thread nD τ) o fullShare (k0_pay1 x w)) -∗ K ⟨⟩))
      ⊢ wp frame (wpE (defs₀ (F := F)) Variants.none c none) E (cc0_proj1 i a ha b hb o ho) K := by
  simp only [cc0_proj1_eq_skeleton]; unfold cc0_proj1_skel
  unfold owns
  iintro ⟨⟨⟨%f0, %hf0, H0⟩, ⟨%f1, %hf1, H1⟩, ⟨%f2, -, H2⟩⟩, Hk⟩
  obtain rfl := ha.eq_unread hf0; obtain rfl := hb.eq_unread hf1
  sl_exec
  sl_step
  iapply Hk
  isplitl [H0]
  · iexists _; isplitr; · ipureintro; exact ha.read_unread _
    iexact H0
  isplitl [H1]
  · iexists _; isplitr; · ipureintro; exact hb.read_unread _
    iexact H1
  iexists _; isplitr; swap; · iexact H2
  ipureintro
  rw [read_store _ _ zeros, readAt_whole (S := S1040x2048) _ zeros, readAt_whole (S := S512x2048) _ zeros, hf0, hf1]
end

/-! ## The arrays when the region is entered -/

section
variable {F : FTy → Type} [FloatOps F]
variable (m : (ℓ : Loc nD τ sig) → Buf (Elt F) ℓ)

/-- Core `c`'s buffers after the host's transposition of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
end

/-! ## The product at an index, and the columns inside the array -/

/-- The body's product, read at an index. -/
theorem pay_apply (x : Vec Ideal S1040x2048 .bf16) (w : Vec Ideal S512x2048 .f32) (r : Fin 1040) (c : Fin 512) :
    k0_pay1 x w (ix2 r c) = ∑ k : Fin 2048, x (ix2 r k) * w (ix2 c k) := by
  unfold k0_pay1
  refine (Ideal.matmul_transposedRhs_apply (M := 1040) (K := 2048) (N := 512) none x _ _ r c).trans ?_
  show Ideal.ofBits .f32 0x00000000#32 + _ = _
  rw [Ideal.ofBits_zero_f32, zero_add, shapeCast_self]
  rfl

/-- Filled out with anything, a weight row inside the array is the same. -/
theorem fill_inside (i : grid0.Coords) (d d' : S512x2048.Idx → EReal) (g : (win0_1.xblock i).Idx → EReal)
    (c : Fin 512) (hc : c.val < win0_1.xsize i 0) (k : Fin 2048) :
    win0_1.fill i d g (ix2 c k) = win0_1.fill i d' g (ix2 c k) := by
  have h : win0_1.moved i (ix2 c k) = true := (win0_1.moved_iff i _).mpr fun a => by
    match a with
    | ⟨0, _⟩ => exact hc
    | ⟨1, _⟩ => exact k.isLt
  unfold Window.fill
  rw [dif_pos h, dif_pos h]

/-- So the output columns inside the array are the same. -/
theorem cut_pay (i : grid0.Coords) (x : Vec Ideal S1040x2048 .bf16) (d d' : S512x2048.Idx → EReal) (g : (win0_1.xblock i).Idx → EReal) :
    win0_2.cut i (k0_pay1 (F := Ideal) x (win0_1.fill i d g)) = win0_2.cut i (k0_pay1 (F := Ideal) x (win0_1.fill i d' g)) := by
  funext j
  have hr : (j 0).val < 1040 := Nat.lt_of_lt_of_le (j 0).isLt (win0_2.xsize_le i 0)
  have hc : (j 1).val < 512 := Nat.lt_of_lt_of_le (j 1).isLt (win0_2.xsize_le i 1)
  have e : win0_2.xinj i j = (ix2 (⟨(j 0).val, hr⟩ : Fin 1040) (⟨(j 1).val, hc⟩ : Fin 512) : S1040x512.Idx) := funext fun a => by
    match a with
    | ⟨0, _⟩ => rfl
    | ⟨1, _⟩ => rfl
  show k0_pay1 (F := Ideal) x _ (win0_2.xinj i j) = k0_pay1 (F := Ideal) x _ (win0_2.xinj i j)
  rw [e, pay_apply, pay_apply]
  exact Finset.sum_congr rfl fun k _ => by rw [fill_inside i d d' g ⟨(j 1).val, hc⟩ (j 1).isLt k]

/-! ## The proof data -/

local notation "𝕄" => MT nD τ sig Unit (Elt Ideal) ℕ (UR sig nD τ) ℕ

variable (m : (ℓ : Loc nD τ sig) → Buf (Elt Ideal) ℓ) (ρ : Dev nD → PrngReg)

/-- The activations' block, and the part of the weight rows' block inside the array. -/
def xblk (c : Dev nD) (t : Fin cfg0.N) : S1040x2048.Idx → EReal := (win0_0.blk t).view.read (Elt Ideal) (V m c main_arg0)
def wblk (c : Dev nD) (t : Fin cfg0.N) : (win0_1.xblock (grid0.coords t)).Idx → EReal := (win0_1.blk t).view.read (Elt Ideal) (V m c main_v0)

/-- The weight rows' block filled out with zeros. -/
def wfull (c : Dev nD) (t : Fin cfg0.N) : S512x2048.Idx → EReal := win0_1.fill (grid0.coords t) (fun _ => 0) (wblk m c t)

def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => wfull m c t
    | ⟨2, _⟩ => k0_pay1 (F := Ideal) (xblk m c t) (wfull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = xblk m c t := by dsimp only [dats]
theorem after_1 (c : Dev nD) (t : Fin cfg0.N) : (dats m 0 c).after 1 t = wfull m c t := by dsimp only [dats]
theorem after_2 (c : Dev nD) (t : Fin cfg0.N) : (dats m 0 c).after 2 t = k0_pay1 (F := Ideal) (xblk m c t) (wfull m c t) := by dsimp only [dats]

theorem before_0 (c : Dev nD) (t : Fin cfg0.N) (d) : (dats m 0 c).before 0 t d = xblk m c t :=
  ((dats m 0 c).before_in_eq_fetched 0 rfl (fun _ => rfl) (fun _ _ _ => rfl) (fun t => by rw [after_0]; unfold Dat.blockOf xblk; rw [A_eq]; try rfl) t d).trans
    (by unfold Dat.fetched Dat.blockOf xblk; rw [A_eq]; try rfl)
theorem before_1 (c : Dev nD) (t : Fin cfg0.N) (d) : (dats m 0 c).before 1 t d = win0_1.fill (grid0.coords t) d (wblk m c t) :=
  ((dats m 0 c).before_in_eq_fetched 1 rfl (fun _ => rfl)
    (fun t t' h => funext fun a => by
      show Pipeline.Clip.of (win0_1.index t a) _ _ = Pipeline.Clip.of (win0_1.index t' a) _ _
      rw [show win0_1.index t = win0_1.index t' from h])
    (fun t => by rw [after_1]; unfold wfull; refine (win0_1.cut_fill _ _ _).trans ?_; unfold Dat.blockOf wblk; rw [A_eq]; try rfl) t d).trans
    (by unfold Dat.fetched Dat.blockOf wblk; rw [A_eq]; try rfl)

theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (run_body (F := Ideal) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (xblk m c t) (win0_1.fill (grid0.coords t) d1 (wblk m c t)) ((dats m 0 c).before 2 t d2) Set.univ _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hw : win0_1.cut (grid0.coords t) (wfull m c t) = wblk m c t := win0_1.cut_fill _ _ _
  isplitl [H0]
  · change _ ⊢ owns (c : Thread nD τ) (win0_0.stage (cfg0.slots t 0)) fullShare ((dats m 0 c).after 0 t)
    rw [after_0]; try iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [after_1, hw]; try iexact H1
  · iexists k0_pay1 (F := Ideal) (xblk m c t) (win0_1.fill (grid0.coords t) d1 (wblk m c t))
    change _ ⊢ owns (c : Thread nD τ) (win0_2.stage (cfg0.slots t 2)) fullShare
      (win0_2.fill (grid0.coords t) (k0_pay1 (F := Ideal) (xblk m c t) (win0_1.fill (grid0.coords t) d1 (wblk m c t))) (win0_2.cut (grid0.coords t) ((dats m 0 c).after 2 t)))
    rw [after_2]
    have hf : win0_2.fill (grid0.coords t) (k0_pay1 (F := Ideal) (xblk m c t) (win0_1.fill (grid0.coords t) d1 (wblk m c t)))
        (win0_2.cut (grid0.coords t) (k0_pay1 (F := Ideal) (xblk m c t) (wfull m c t)))
        = k0_pay1 (F := Ideal) (xblk m c t) (win0_1.fill (grid0.coords t) d1 (wblk m c t)) :=
      (congrArg (win0_2.fill (grid0.coords t) (k0_pay1 (F := Ideal) (xblk m c t) (win0_1.fill (grid0.coords t) d1 (wblk m c t))))
        (cut_pay (grid0.coords t) (xblk m c t) d1 (fun _ => 0) (wblk m c t)).symm).trans (win0_2.fill_cut _ _)
    rw [hf]; try iexact H2

/-! ## The launch -/

set_option backward.isDefEq.respectTransparency.types false in
/-- The call runs; its arrays end at what the proof data compute, the counters at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m) (hA := A_eq m) (hΦ := fun _ _ => rfl)

/-- The result named, the arguments unchanged, the counters at zero. -/
theorem run_blocks : θ_run defs (onTc (τ := τ) (main (F := Ideal))) ⟨m, fun _ => 0, ρ⟩ (fun r => (∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 (2 : Fin 3),
      ((h.1 c).1 (0 : Fin 3)).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩)
    (run_quiescent m ρ)

end Cert.Proj

end
-- ==== Proof.ProjValue.lean ====
module

public import proofs.«01_k».proof.Defs
public import proofs.«01_k».proof.Proof.ProjFrame
public import proofs.«01_k».proof.Proof.Gen.Reference5Ideal.Run
public import proofs.«01_k».proof.Proof.Gen.Reference5Ideal.Read
public import Idealize.ShloMosaic.Lib.Quiescent
public import Idealize.ShloMosaic.Lib.StableHlo.Run

@[expose] public section

/-! The value of layer 1's input projection: each point's block of the result, cut at the array's end, is that block of the product. -/

set_option maxRecDepth 16384

noncomputable section

namespace Cert.Proj

open Cert.Kernel5Ideal Cert.Kernel5Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The product of the two argument arrays. -/
def prod (x : S8320x2048.Idx → EReal) (w : S2048x8224.Idx → EReal) : S8320x8224.Idx → EReal :=
  fun i => ∑ k : Fin 2048, x (ix2 (i 0) k) * w (ix2 k (i 1))

/-- Where each window's block lies, point by point. -/
theorem places : ∀ t : Fin cfg0.N,
    win0_0.index t 0 = t.val / 17 ∧ win0_0.index t 1 = 0 ∧ win0_1.index t 0 = t.val % 17 ∧ win0_1.index t 1 = 0
      ∧ win0_2.index t 0 = t.val / 17 ∧ win0_2.index t 1 = t.val % 17 :=
  (by decide +kernel : ∀ t : Fin grid0.N, win0_0.index t 0 = t.val / 17 ∧ win0_0.index t 1 = 0 ∧ win0_1.index t 0 = t.val % 17 ∧ win0_1.index t 1 = 0
      ∧ win0_2.index t 0 = t.val / 17 ∧ win0_2.index t 1 = t.val % 17)

/-- How much of the output's block lies inside the array. -/
theorem extents : ∀ t : Fin cfg0.N, win0_2.xsize (grid0.coords t) 0 = 1040
    ∧ t.val % 17 * 512 + win0_2.xsize (grid0.coords t) 1 = min (t.val % 17 * 512 + 512) 8224 :=
  (by decide +kernel : ∀ t : Fin grid0.N, win0_2.xsize (grid0.coords t) 0 = 1040
    ∧ t.val % 17 * 512 + win0_2.xsize (grid0.coords t) 1 = min (t.val % 17 * 512 + 512) 8224)

theorem at0 (t : Fin cfg0.N) (y) : ((win0_0.rect t).emb y 0).val = t.val / 17 * 1040 + (y 0).val ∧ ((win0_0.rect t).emb y 1).val = (y 1).val :=
  ⟨(Window.rect_emb_val win0_0 t y 0).trans (by rw [(places t).1]; rfl), Window.rect_emb_val_of_index_zero win0_0 t 1 (places t).2.1 y⟩
theorem at1 (t : Fin cfg0.N) (y) : ((win0_1.rect t).emb y 0).val = t.val % 17 * 512 + (y 0).val ∧ ((win0_1.rect t).emb y 1).val = (y 1).val :=
  ⟨(Window.rect_emb_val win0_1 t y 0).trans (by rw [(places t).2.2.1]; rfl), Window.rect_emb_val_of_index_zero win0_1 t 1 (places t).2.2.2.1 y⟩
theorem at2 (t : Fin cfg0.N) (y) : ((win0_2.rect t).emb y 0).val = t.val / 17 * 1040 + (y 0).val ∧ ((win0_2.rect t).emb y 1).val = t.val % 17 * 512 + (y 1).val :=
  ⟨(Window.rect_emb_val win0_2 t y 0).trans (by rw [(places t).2.2.2.2.1]; rfl), (Window.rect_emb_val win0_2 t y 1).trans (by rw [(places t).2.2.2.2.2]; rfl)⟩

/-- The transposed weight, read at an index. -/
theorem V_weight (c : Dev nD) (n : Fin 8224) (k : Fin 2048) :
    (V m c main_v0 : S8224x2048.Idx → EReal) (ix2 n k) = (m ((c : Thread nD τ).loc main_arg1) : S2048x8224.Idx → EReal) (ix2 k n) := by
  have e : V m c main_v0 = transpose S8224x2048 [1, 0] (m ((c : Thread nD τ).loc main_arg1)) transposes_S2048x8224_S8224x2048_1_0 := by
    unfold V
    after_results
  rw [e]
  exact transpose_apply [1, 0] (m ((c : Thread nD τ).loc main_arg1)) transposes_S2048x8224_S8224x2048_1_0 (ix2 n k) (ix2 k n)
    (fun k => by match k with | ⟨0, _⟩ => rfl | ⟨1, _⟩ => rfl)

/-- A weight row inside the array, read at an index. -/
theorem wfull_apply (c : Dev nD) (t : Fin cfg0.N) (q : Fin 512) (hq : q.val < win0_1.xsize (grid0.coords t) 0) (k : Fin 2048)
    (hn : t.val % 17 * 512 + q.val < 8224) :
    wfull m c t (ix2 q k) = (m ((c : Thread nD τ).loc main_arg1) : S2048x8224.Idx → EReal) (ix2 k ⟨t.val % 17 * 512 + q.val, hn⟩) := by
  have hm : win0_1.moved (grid0.coords t) (ix2 q k) = true := (win0_1.moved_iff _ _).mpr fun a => by
    match a with
    | ⟨0, _⟩ => exact hq
    | ⟨1, _⟩ => exact k.isLt
  unfold wfull Window.fill
  rw [dif_pos hm, ← V_weight m c]
  show V m c main_v0 ((win0_1.rect t).emb _) = _
  refine congrArg (V m c main_v0) (funext fun a => Fin.ext ?_)
  match a with
  | ⟨0, _⟩ => exact (at1 t _).1
  | ⟨1, _⟩ => exact (at1 t _).2

/-- The activations' block, read at an index. -/
theorem xblk_apply (c : Dev nD) (t : Fin cfg0.N) (r : Fin 1040) (k : Fin 2048) (hn : t.val / 17 * 1040 + r.val < 8320) :
    xblk m c t (ix2 r k) = (m ((c : Thread nD τ).loc main_arg0) : S8320x2048.Idx → EReal) (ix2 ⟨t.val / 17 * 1040 + r.val, hn⟩ k) := by
  show V m c main_arg0 ((win0_0.rect t).emb (ix2 r k)) = _
  rw [V_main_arg0]
  refine congrArg (m ((c : Thread nD τ).loc main_arg0)) (funext fun a => Fin.ext ?_)
  match a with
  | ⟨0, _⟩ => exact (at0 t _).1
  | ⟨1, _⟩ => exact (at0 t _).2

/-- The point's payload, read at an index inside the array. -/
theorem pay_inside (c : Dev nD) (t : Fin cfg0.N) (r : Fin 1040) (q : Fin 512) (hq : q.val < win0_1.xsize (grid0.coords t) 0)
    (h0 : t.val / 17 * 1040 + r.val < 8320) (h1 : t.val % 17 * 512 + q.val < 8224) :
    k0_pay1 (F := Ideal) (xblk m c t) (wfull m c t) (ix2 r q)
      = prod (m ((c : Thread nD τ).loc main_arg0)) (m ((c : Thread nD τ).loc main_arg1)) (ix2 ⟨t.val / 17 * 1040 + r.val, h0⟩ ⟨t.val % 17 * 512 + q.val, h1⟩) :=
  (pay_apply _ _ _ _).trans (Finset.sum_congr rfl fun k _ => congr (congrArg _ (xblk_apply m c t r k h0)) (wfull_apply m c t q hq k h1))

theorem flushed_eq (c : Dev nD) (t : Fin cfg0.N) :
    (dats m 0 c).flushed 2 t = (win0_2.blk t).view.read (Elt Ideal)
      (prod (m ((c : Thread nD τ).loc main_arg0)) (m ((c : Thread nD τ).loc main_arg1))) := by
  show win0_2.cut (grid0.coords t) ((dats m 0 c).after 2 t) = _
  rw [after_2]
  funext j
  have x1 := (extents t).2
  have hj : (j 1).val < win0_2.xsize (grid0.coords t) 1 := (j 1).isLt
  have hr : (j 0).val < 1040 := Nat.lt_of_lt_of_le (j 0).isLt (Nat.le_of_eq (extents t).1)
  have hc : (j 1).val < 512 := by omega
  have h1 : t.val % 17 * 512 + (j 1).val < 8224 := by omega
  have h0 : t.val / 17 * 1040 + (j 0).val < 8320 := by
    have hN : t.val < 136 := Nat.lt_of_lt_of_eq t.isLt N_0
    omega
  have e : win0_2.xinj (grid0.coords t) j = (ix2 (⟨(j 0).val, hr⟩ : Fin 1040) (⟨(j 1).val, hc⟩ : Fin 512) : S1040x512.Idx) := funext fun a => by
    match a with
    | ⟨0, _⟩ => rfl
    | ⟨1, _⟩ => rfl
  have e' : (win0_2.rect t).emb j = (ix2 ⟨t.val / 17 * 1040 + (j 0).val, h0⟩ ⟨t.val % 17 * 512 + (j 1).val, h1⟩ : S8320x8224.Idx) := funext fun a => Fin.ext (by
    match a with
    | ⟨0, _⟩ => exact (at2 t j).1
    | ⟨1, _⟩ => exact (at2 t j).2)
  refine (congrArg (k0_pay1 (F := Ideal) (xblk m c t) (wfull m c t)) e).trans ?_
  refine (pay_inside m c t _ _ hj h0 h1).trans ?_
  exact (congrArg (prod (m ((c : Thread nD τ).loc main_arg0)) (m ((c : Thread nD τ).loc main_arg1))) e').symm

theorem flush_2 : ∀ t : Fin cfg0.N, (cfg0.win 2).flush t = true :=
  (by decide +kernel : ∀ t : Fin grid0.N, win0_2.flush t = true)

/-- Every index of the result lies in some point's block. -/
theorem cover (i : S8320x8224.Idx) : ∃ t : Fin cfg0.N, (cfg0.win 2).flush t = true ∧ i ∈ ((cfg0.win 2).blk t).view.set := by
  have h0 : (i 0).val < 8320 := (i 0).isLt
  have h1 : (i 1).val < 8224 := (i 1).isLt
  have hN : cfg0.N = 136 := N_0
  have hlt : (i 0).val / 1040 * 17 + (i 1).val / 512 < cfg0.N := by omega
  obtain ⟨-, -, -, -, p20, p21⟩ := places ⟨(i 0).val / 1040 * 17 + (i 1).val / 512, hlt⟩
  obtain ⟨x0, x1⟩ := extents ⟨(i 0).val / 1040 * 17 + (i 1).val / 512, hlt⟩
  refine ⟨⟨(i 0).val / 1040 * 17 + (i 1).val / 512, hlt⟩, flush_2 _, ?_⟩
  show i ∈ ((View.whole main_v1).slice (win0_2.rect ⟨(i 0).val / 1040 * 17 + (i 1).val / 512, hlt⟩)).set
  rw [View.set_slice_whole, Rect.mem_set_unit]
  intro a
  match a with
  | ⟨0, _⟩ =>
    show win0_2.index ⟨(i 0).val / 1040 * 17 + (i 1).val / 512, hlt⟩ 0 * 1040 ≤ (i 0).val ∧ (i 0).val < win0_2.index ⟨(i 0).val / 1040 * 17 + (i 1).val / 512, hlt⟩ 0 * 1040 + win0_2.xsize (grid0.coords ⟨(i 0).val / 1040 * 17 + (i 1).val / 512, hlt⟩) 0
    rw [p20, x0]; dsimp only; omega
  | ⟨1, _⟩ =>
    show win0_2.index ⟨(i 0).val / 1040 * 17 + (i 1).val / 512, hlt⟩ 1 * 512 ≤ (i 1).val ∧ (i 1).val < win0_2.index ⟨(i 0).val / 1040 * 17 + (i 1).val / 512, hlt⟩ 1 * 512 + win0_2.xsize (grid0.coords ⟨(i 0).val / 1040 * 17 + (i 1).val / 512, hlt⟩) 1
    rw [p21, x1]; dsimp only; omega

theorem final_eq (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

/-- The host product is the same sum. -/
theorem ref_eq (x : S8320x2048.Idx → EReal) (w : S2048x8224.Idx → EReal) :
    Cert.Reference5Ideal.Read.val_main_v1 (F := Ideal) x w = prod x w := by
  funext i
  rw [Cert.Reference5Ideal.Read.val_main_v1_apply]
  unfold prod
  refine Finset.sum_congr rfl fun k _ => ?_
  congr 1
  · show x _ = x _
    exact congrArg x (funext fun a => by match a with | ⟨0, _⟩ => rfl | ⟨1, _⟩ => rfl)
  · exact congrArg w (funext fun a => by match a with | ⟨0, _⟩ => rfl | ⟨1, _⟩ => rfl)

theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (dats m 0 c).arrAt 2 cfg0.N, (θ_run defs _ _).mono (fun _ h => h.1) (run_blocks m ρ), ?_⟩
  refine (θ_run Cert.Reference5Ideal.defs _ _).mono (fun _ h c => ⟨(h c).1.trans ?_, (h c).2⟩)
    (Cert.Reference5Ideal.Value.run (F := Ideal) m' ρ')
  refine Eq.trans ?_ (final_eq m c).symm
  rw [Cert.Reference5Ideal.Read.val_main_v1_eq, (hag c).1, (hag c).2]
  exact ref_eq _ _

theorem frame : Cert.quiescent_Kernel5Ideal (hKernel5Ideal := Cert.Kernel5Ideal.Gen.facts) := fun m ρ _ =>
  (θ_run defs _ _).mono (fun _ h => ⟨fun c => (h.1 c).2, h.2⟩) (run_blocks m ρ)

theorem frame_ref : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

end Cert.Proj

end
-- ==== Proof.ProjZeroBitsFrame.lean ====
module

public import proofs.«01_k».proof.Proof.Gen.Kernel6.Launch
public import Idealize.ShloMosaic.PureOps.BitExact
public import proofs.«01_k».proof.Proof.Gen.Kernel6.Skeleton
public import Idealize.ShloMosaic.Lib.Pipeline.FrameBody
public import Idealize.ShloMosaic.Lib.Pipeline.Value
public import Idealize.ShloMosaic.Lib.Tactic
public import Idealize.ShloMosaic.Lib.Claim

@[expose] public section

/-! The run of layer 0's input projection on machine words.

The last block of weight rows and the last block of output columns overhang their arrays. The frame says nothing of the
output, so nothing is stated of what its buffer holds; the two operands' buffers keep their blocks. -/

set_option maxRecDepth 16384

noncomputable section

namespace Cert.ProjZeroBits

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

/-! ## The body's run -/

section
variable {F : FTy → Type} [FloatOps F]

local notation "𝕄" => MT nD τ sig Unit (Elt F) ℕ (UR sig nD τ) ℕ

theorem zeros : (![0, 0] : Fin 2 → Nat) = fun _ => 0 := by decide

/-- A whole-shape store, last, is what a read of the buffer gives. -/
theorem read_store {sp : Space} {S : Shape} {e : EltTy} (a : Memref sig .tc sp S e)
    (f : a.view.ty.Contents (Elt F)) {off : Fin S.rank → Nat} (h : off = fun _ => 0) (inb : ∀ a, off a + S.size a ≤ S.size a)
    (w : S.Idx → Elt F e) (L : List (View.Piece (Elt F) S e)) :
    a.view.read (Elt F) (a.view.writes (Elt F) f ((⟨Rect.unit off S.size inb, w⟩ : View.Piece (Elt F) S e) :: L)) = w := by
  rw [View.read_writes_eq_canon a.view f _ (fun y => ⟨_, List.mem_cons_self, View.mem_set_unit_zero h inb y⟩)]
  exact View.canon_cons_unit_zero h inb w L

/-- A load of the whole shape gives the contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    View.readAt (Elt F) v (Rect.unit off S.size inb).toLoadRect f = v.read (Elt F) f :=
  View.ld_unit_zero h inb (v.read (Elt F) f)

/-- On whole buffers: the two operands stay, the output becomes their product. -/
theorem run_body (c : Dev nD) (i : grid0.Coords) (a : Memref sig .tc .vmem S1040x2048 .bf16) (ha : a.IsWhole)
    (b : Memref sig .tc .vmem S512x2048 .f32) (hb : b.IsWhole) (o : Memref sig .tc .vmem S1040x512 .f32) (ho : o.IsWhole)
    (x : Vec F S1040x2048 .bf16) (w : Vec F S512x2048 .f32) (y : Vec F S1040x512 .f32) (E : Set ℕ) (K : PUnit → sProp 𝕄) :
    iprop((owns (c : Thread nD τ) a fullShare x ∗ owns (c : Thread nD τ) b fullShare w ∗ owns (c : Thread nD τ) o fullShare y)
      ∗ (iprop(owns (c : Thread nD τ) a fullShare x ∗ owns (c : Thread nD τ) b fullShare w ∗ owns (c : Thread nD τ) o fullShare (k0_pay1 x w)) -∗ K ⟨⟩))
      ⊢ wp frame (wpE (defs₀ (F := F)) Variants.none c none) E (cc0_proj0 i a ha b hb o ho) K := by
  simp only [cc0_proj0_eq_skeleton]; unfold cc0_proj0_skel
  unfold owns
  iintro ⟨⟨⟨%f0, %hf0, H0⟩, ⟨%f1, %hf1, H1⟩, ⟨%f2, -, H2⟩⟩, Hk⟩
  obtain rfl := ha.eq_unread hf0; obtain rfl := hb.eq_unread hf1
  sl_exec
  sl_step
  iapply Hk
  isplitl [H0]
  · iexists _; isplitr; · ipureintro; exact ha.read_unread _
    iexact H0
  isplitl [H1]
  · iexists _; isplitr; · ipureintro; exact hb.read_unread _
    iexact H1
  iexists _; isplitr; swap; · iexact H2
  ipureintro
  rw [read_store _ _ zeros, readAt_whole (S := S1040x2048) _ zeros, readAt_whole (S := S512x2048) _ zeros, hf0, hf1]
end

/-! ## The arrays when the region is entered -/

section
variable {F : FTy → Type} [FloatOps F]
variable (m : (ℓ : Loc nD τ sig) → Buf (Elt F) ℓ)

/-- Core `c`'s buffers after the host's transposition of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
end

/-! ## The proof data -/

local notation "𝕄" => MT nD τ sig Unit (Elt Bits) ℕ (UR sig nD τ) ℕ

variable (m : (ℓ : Loc nD τ sig) → Buf (Elt Bits) ℓ) (ρ : Dev nD → PrngReg)

/-- The activations' block, and the part of the weight rows' block inside the array. -/
def xblk (c : Dev nD) (t : Fin cfg0.N) : S1040x2048.Idx → Elt Bits .bf16 := (win0_0.blk t).view.read (Elt Bits) (V m c main_arg0)
def wblk (c : Dev nD) (t : Fin cfg0.N) : (win0_1.xblock (grid0.coords t)).Idx → Elt Bits .f32 := (win0_1.blk t).view.read (Elt Bits) (V m c main_v0)

/-- The weight rows' block filled out with zero words. -/
def wfull (c : Dev nD) (t : Fin cfg0.N) : S512x2048.Idx → Elt Bits .f32 :=
  win0_1.fill (grid0.coords t) (fun _ => FloatOps.ofBits (F := Bits) .f32 0#32) (wblk m c t)

/-- The output's window is forgotten. -/
abbrev forgets : Fin cfg0.W → Bool := fun | 0 => false | 1 => false | 2 => true | ⟨_ + 3, h⟩ => absurd h (Nat.not_lt.2 (Nat.le_add_left _ _))

def dats (_ : Fin 1) (c : Dev nD) : Dat τ (Elt Bits) Unit ℕ (UR sig nD τ) ℕ cfg0 c where
  A w := V m c (Pipeline.arrRef spec0 w)
  after w t := match w with
    | ⟨0, _⟩ => xblk m c t
    | ⟨1, _⟩ => wfull m c t
    | ⟨2, _⟩ => k0_pay1 (F := Bits) (xblk m c t) (wfull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = xblk m c t := by dsimp only [dats]
theorem after_1 (c : Dev nD) (t : Fin cfg0.N) : (dats m 0 c).after 1 t = wfull m c t := by dsimp only [dats]

theorem before_0 (c : Dev nD) (t : Fin cfg0.N) (d) : (dats m 0 c).before 0 t d = xblk m c t :=
  ((dats m 0 c).before_in_eq_fetched 0 rfl (fun _ => rfl) (fun _ _ _ => rfl) (fun t => by rw [after_0]; unfold Dat.blockOf xblk; rw [A_eq]; try rfl) t d).trans
    (by unfold Dat.fetched Dat.blockOf xblk; rw [A_eq]; try rfl)
theorem before_1 (c : Dev nD) (t : Fin cfg0.N) (d) : (dats m 0 c).before 1 t d = win0_1.fill (grid0.coords t) d (wblk m c t) :=
  ((dats m 0 c).before_in_eq_fetched 1 rfl (fun _ => rfl)
    (fun t t' h => funext fun a => by
      show Pipeline.Clip.of (win0_1.index t a) _ _ = Pipeline.Clip.of (win0_1.index t' a) _ _
      rw [show win0_1.index t = win0_1.index t' from h])
    (fun t => by rw [after_1]; unfold wfull; refine (win0_1.cut_fill _ _ _).trans ?_; unfold Dat.blockOf wblk; rw [A_eq]; try rfl) t d).trans
    (by unfold Dat.fetched Dat.blockOf wblk; rw [A_eq]; try rfl)

theorem body_obligation (c : Dev nD) : BodyObligationLoose (dats m 0 c) (defs₀ (F := Bits)) Variants.none () Set.univ forgets := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (run_body (F := Bits) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (xblk m c t) (win0_1.fill (grid0.coords t) d1 (wblk m c t)) d2 Set.univ _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hw : win0_1.cut (grid0.coords t) (wfull m c t) = wblk m c t := win0_1.cut_fill _ _ _
  isplitl [H0]
  · change _ ⊢ owns (c : Thread nD τ) (win0_0.stage (cfg0.slots t 0)) fullShare ((dats m 0 c).after 0 t)
    rw [after_0]; try iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [after_1, hw]; try iexact H1
  · iexists _; iexact H2

/-! ## The launch -/

set_option backward.isDefEq.respectTransparency.types false in
/-- The call runs; the operands end as launched, the counters at zero. -/
theorem run_quiescent : θ_run defs (onTc (τ := τ) (main (F := Bits))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := body_obligation m) (hshare := fun c => (dats m 0 c).share_full fun _ => rfl)
    (howed := fun _ _ => rfl) (V := V m) (hmain := hmain m) (hA := A_eq m) (hΦ := fun _ _ => rfl)

/-- The arguments unchanged, the counters at zero. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
      (h.1.arr_in c (0 : Fin 3) rfl).trans ((A_eq m c 0).trans (V_main_arg0 m c)),
      ((h.1 c).2 main_arg1 (Pipeline.mem_restRefs_of main_arg1 (by decide) (by decide))).trans (V_main_arg1 m c)⟩, h.2⟩)
    (run_quiescent m ρ)

end Cert.ProjZeroBits

end
-- ==== Proof.ProjZeroFrame.lean ====
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.Value
public import Idealize.ShloMosaic.Lib.Tactic
public import Idealize.ShloMosaic.Lib.ValueIdx
public import Idealize.ShloMosaic.Lib.MatmulPlain
public import Idealize.ShloMosaic.Lib.Claim

@[expose] public section

/-! The run of layer 0's input projection over the extended reals.

The last block of weight rows, and so the last block of output columns, overhangs its array. Past the array's end the
weight block holds anything; an output column depends on its own weight row only, so the columns inside the array are
the product's whatever is past the end. The proof data name the blocks on the part inside the array. -/

set_option maxRecDepth 16384

noncomputable section

namespace Cert.ProjZero

open Cert.Kernel6Ideal Cert.Kernel6Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open scoped BigOperators

/-! ## The body's run -/

section
variable {F : FTy → Type} [FloatOps F]

local notation "𝕄" => MT nD τ sig Unit (Elt F) ℕ (UR sig nD τ) ℕ

theorem zeros : (![0, 0] : Fin 2 → Nat) = fun _ => 0 := by decide

/-- A whole-shape store, last, is what a read of the buffer gives. -/
theorem read_store {sp : Space} {S : Shape} {e : EltTy} (a : Memref sig .tc sp S e)
    (f : a.view.ty.Contents (Elt F)) {off : Fin S.rank → Nat} (h : off = fun _ => 0) (inb : ∀ a, off a + S.size a ≤ S.size a)
    (w : S.Idx → Elt F e) (L : List (View.Piece (Elt F) S e)) :
    a.view.read (Elt F) (a.view.writes (Elt F) f ((⟨Rect.unit off S.size inb, w⟩ : View.Piece (Elt F) S e) :: L)) = w := by
  rw [View.read_writes_eq_canon a.view f _ (fun y => ⟨_, List.mem_cons_self, View.mem_set_unit_zero h inb y⟩)]
  exact View.canon_cons_unit_zero h inb w L

/-- A load of the whole shape gives the contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    View.readAt (Elt F) v (Rect.unit off S.size inb).toLoadRect f = v.read (Elt F) f :=
  View.ld_unit_zero h inb (v.read (Elt F) f)

/-- On whole buffers: the two operands stay, the output becomes their product. -/
theorem run_body (c : Dev nD) (i : grid0.Coords) (a : Memref sig .tc .vmem S1040x2048 .bf16) (ha : a.IsWhole)
    (b : Memref sig .tc .vmem S512x2048 .f32) (hb : b.IsWhole) (o : Memref sig .tc .vmem S1040x512 .f32) (ho : o.IsWhole)
    (x : Vec F S1040x2048 .bf16) (w : Vec F S512x2048 .f32) (y : Vec F S1040x512 .f32) (E : Set ℕ) (K : PUnit → sProp 𝕄) :
    iprop((owns (c : Thread nD τ) a fullShare x ∗ owns (c : Thread nD τ) b fullShare w ∗ owns (c : Thread nD τ) o fullShare y)
      ∗ (iprop(owns (c : Thread nD τ) a fullShare x ∗ owns (c : Thread nD τ) b fullShare w ∗ owns (c : Thread nD τ) o fullShare (k0_pay1 x w)) -∗ K ⟨⟩))
      ⊢ wp frame (wpE (defs₀ (F := F)) Variants.none c none) E (cc0_proj0 i a ha b hb o ho) K := by
  simp only [cc0_proj0_eq_skeleton]; unfold cc0_proj0_skel
  unfold owns
  iintro ⟨⟨⟨%f0, %hf0, H0⟩, ⟨%f1, %hf1, H1⟩, ⟨%f2, -, H2⟩⟩, Hk⟩
  obtain rfl := ha.eq_unread hf0; obtain rfl := hb.eq_unread hf1
  sl_exec
  sl_step
  iapply Hk
  isplitl [H0]
  · iexists _; isplitr; · ipureintro; exact ha.read_unread _
    iexact H0
  isplitl [H1]
  · iexists _; isplitr; · ipureintro; exact hb.read_unread _
    iexact H1
  iexists _; isplitr; swap; · iexact H2
  ipureintro
  rw [read_store _ _ zeros, readAt_whole (S := S1040x2048) _ zeros, readAt_whole (S := S512x2048) _ zeros, hf0, hf1]
end

/-! ## The arrays when the region is entered -/

section
variable {F : FTy → Type} [FloatOps F]
variable (m : (ℓ : Loc nD τ sig) → Buf (Elt F) ℓ)

/-- Core `c`'s buffers after the host's transposition of the weight. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
end

/-! ## The product at an index, and the columns inside the array -/

/-- The body's product, read at an index. -/
theorem pay_apply (x : Vec Ideal S1040x2048 .bf16) (w : Vec Ideal S512x2048 .f32) (r : Fin 1040) (c : Fin 512) :
    k0_pay1 x w (ix2 r c) = ∑ k : Fin 2048, x (ix2 r k) * w (ix2 c k) := by
  unfold k0_pay1
  refine (Ideal.matmul_transposedRhs_apply (M := 1040) (K := 2048) (N := 512) none x _ _ r c).trans ?_
  show Ideal.ofBits .f32 0x00000000#32 + _ = _
  rw [Ideal.ofBits_zero_f32, zero_add, shapeCast_self]
  rfl

/-- Filled out with anything, a weight row inside the array is the same. -/
theorem fill_inside (i : grid0.Coords) (d d' : S512x2048.Idx → EReal) (g : (win0_1.xblock i).Idx → EReal)
    (c : Fin 512) (hc : c.val < win0_1.xsize i 0) (k : Fin 2048) :
    win0_1.fill i d g (ix2 c k) = win0_1.fill i d' g (ix2 c k) := by
  have h : win0_1.moved i (ix2 c k) = true := (win0_1.moved_iff i _).mpr fun a => by
    match a with
    | ⟨0, _⟩ => exact hc
    | ⟨1, _⟩ => exact k.isLt
  unfold Window.fill
  rw [dif_pos h, dif_pos h]

/-- So the output columns inside the array are the same. -/
theorem cut_pay (i : grid0.Coords) (x : Vec Ideal S1040x2048 .bf16) (d d' : S512x2048.Idx → EReal) (g : (win0_1.xblock i).Idx → EReal) :
    win0_2.cut i (k0_pay1 (F := Ideal) x (win0_1.fill i d g)) = win0_2.cut i (k0_pay1 (F := Ideal) x (win0_1.fill i d' g)) := by
  funext j
  have hr : (j 0).val < 1040 := Nat.lt_of_lt_of_le (j 0).isLt (win0_2.xsize_le i 0)
  have hc : (j 1).val < 512 := Nat.lt_of_lt_of_le (j 1).isLt (win0_2.xsize_le i 1)
  have e : win0_2.xinj i j = (ix2 (⟨(j 0).val, hr⟩ : Fin 1040) (⟨(j 1).val, hc⟩ : Fin 512) : S1040x512.Idx) := funext fun a => by
    match a with
    | ⟨0, _⟩ => rfl
    | ⟨1, _⟩ => rfl
  show k0_pay1 (F := Ideal) x _ (win0_2.xinj i j) = k0_pay1 (F := Ideal) x _ (win0_2.xinj i j)
  rw [e, pay_apply, pay_apply]
  exact Finset.sum_congr rfl fun k _ => by rw [fill_inside i d d' g ⟨(j 1).val, hc⟩ (j 1).isLt k]

/-! ## The proof data -/

local notation "𝕄" => MT nD τ sig Unit (Elt Ideal) ℕ (UR sig nD τ) ℕ

variable (m : (ℓ : Loc nD τ sig) → Buf (Elt Ideal) ℓ) (ρ : Dev nD → PrngReg)

/-- The activations' block, and the part of the weight rows' block inside the array. -/
def xblk (c : Dev nD) (t : Fin cfg0.N) : S1040x2048.Idx → EReal := (win0_0.blk t).view.read (Elt Ideal) (V m c main_arg0)
def wblk (c : Dev nD) (t : Fin cfg0.N) : (win0_1.xblock (grid0.coords t)).Idx → EReal := (win0_1.blk t).view.read (Elt Ideal) (V m c main_v0)

/-- The weight rows' block filled out with zeros. -/
def wfull (c : Dev nD) (t : Fin cfg0.N) : S512x2048.Idx → EReal := win0_1.fill (grid0.coords t) (fun _ => 0) (wblk m c t)

def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => wfull m c t
    | ⟨2, _⟩ => k0_pay1 (F := Ideal) (xblk m c t) (wfull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = xblk m c t := by dsimp only [dats]
theorem after_1 (c : Dev nD) (t : Fin cfg0.N) : (dats m 0 c).after 1 t = wfull m c t := by dsimp only [dats]
theorem after_2 (c : Dev nD) (t : Fin cfg0.N) : (dats m 0 c).after 2 t = k0_pay1 (F := Ideal) (xblk m c t) (wfull m c t) := by dsimp only [dats]

theorem before_0 (c : Dev nD) (t : Fin cfg0.N) (d) : (dats m 0 c).before 0 t d = xblk m c t :=
  ((dats m 0 c).before_in_eq_fetched 0 rfl (fun _ => rfl) (fun _ _ _ => rfl) (fun t => by rw [after_0]; unfold Dat.blockOf xblk; rw [A_eq]; try rfl) t d).trans
    (by unfold Dat.fetched Dat.blockOf xblk; rw [A_eq]; try rfl)
theorem before_1 (c : Dev nD) (t : Fin cfg0.N) (d) : (dats m 0 c).before 1 t d = win0_1.fill (grid0.coords t) d (wblk m c t) :=
  ((dats m 0 c).before_in_eq_fetched 1 rfl (fun _ => rfl)
    (fun t t' h => funext fun a => by
      show Pipeline.Clip.of (win0_1.index t a) _ _ = Pipeline.Clip.of (win0_1.index t' a) _ _
      rw [show win0_1.index t = win0_1.index t' from h])
    (fun t => by rw [after_1]; unfold wfull; refine (win0_1.cut_fill _ _ _).trans ?_; unfold Dat.blockOf wblk; rw [A_eq]; try rfl) t d).trans
    (by unfold Dat.fetched Dat.blockOf wblk; rw [A_eq]; try rfl)

theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (run_body (F := Ideal) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (xblk m c t) (win0_1.fill (grid0.coords t) d1 (wblk m c t)) ((dats m 0 c).before 2 t d2) Set.univ _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hw : win0_1.cut (grid0.coords t) (wfull m c t) = wblk m c t := win0_1.cut_fill _ _ _
  isplitl [H0]
  · change _ ⊢ owns (c : Thread nD τ) (win0_0.stage (cfg0.slots t 0)) fullShare ((dats m 0 c).after 0 t)
    rw [after_0]; try iexact H0
  isplitl [H1]
  · iexists d1
    change _ ⊢ owns (c : Thread nD τ) (win0_1.stage (cfg0.slots t 1)) fullShare (win0_1.fill (grid0.coords t) d1 (win0_1.cut (grid0.coords t) ((dats m 0 c).after 1 t)))
    rw [after_1, hw]; try iexact H1
  · iexists k0_pay1 (F := Ideal) (xblk m c t) (win0_1.fill (grid0.coords t) d1 (wblk m c t))
    change _ ⊢ owns (c : Thread nD τ) (win0_2.stage (cfg0.slots t 2)) fullShare
      (win0_2.fill (grid0.coords t) (k0_pay1 (F := Ideal) (xblk m c t) (win0_1.fill (grid0.coords t) d1 (wblk m c t))) (win0_2.cut (grid0.coords t) ((dats m 0 c).after 2 t)))
    rw [after_2]
    have hf : win0_2.fill (grid0.coords t) (k0_pay1 (F := Ideal) (xblk m c t) (win0_1.fill (grid0.coords t) d1 (wblk m c t)))
        (win0_2.cut (grid0.coords t) (k0_pay1 (F := Ideal) (xblk m c t) (wfull m c t)))
        = k0_pay1 (F := Ideal) (xblk m c t) (win0_1.fill (grid0.coords t) d1 (wblk m c t)) :=
      (congrArg (win0_2.fill (grid0.coords t) (k0_pay1 (F := Ideal) (xblk m c t) (win0_1.fill (grid0.coords t) d1 (wblk m c t))))
        (cut_pay (grid0.coords t) (xblk m c t) d1 (fun _ => 0) (wblk m c t)).symm).trans (win0_2.fill_cut _ _)
    rw [hf]; try iexact H2

/-! ## The launch -/

set_option backward.isDefEq.respectTransparency.types false in
/-- The call runs; its arrays end at what the proof data compute, the counters at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m) (hA := A_eq m) (hΦ := fun _ _ => rfl)

/-- The result named, the arguments unchanged, the counters at zero. -/
theorem run_blocks : θ_run defs (onTc (τ := τ) (main (F := Ideal))) ⟨m, fun _ => 0, ρ⟩ (fun r => (∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 (2 : Fin 3),
      ((h.1 c).1 (0 : Fin 3)).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩)
    (run_quiescent m ρ)

end Cert.ProjZero

end
-- ==== Proof.ProjZeroValue.lean ====
module

public import proofs.«01_k».proof.Defs
public import proofs.«01_k».proof.Proof.ProjZeroFrame
public import proofs.«01_k».proof.Proof.Gen.Reference6Ideal.Run
public import proofs.«01_k».proof.Proof.Gen.Reference6Ideal.Read
public import Idealize.ShloMosaic.Lib.Quiescent
public import Idealize.ShloMosaic.Lib.StableHlo.Run

@[expose] public section

/-! The value of layer 0's input projection: each point's block of the result, cut at the array's end, is that block of the product. -/

set_option maxRecDepth 16384

noncomputable section

namespace Cert.ProjZero

open Cert.Kernel6Ideal Cert.Kernel6Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The product of the two argument arrays. -/
def prod (x : S8320x2048.Idx → EReal) (w : S2048x2376.Idx → EReal) : S8320x2376.Idx → EReal :=
  fun i => ∑ k : Fin 2048, x (ix2 (i 0) k) * w (ix2 k (i 1))

/-- Where each window's block lies, point by point. -/
theorem places : ∀ t : Fin cfg0.N,
    win0_0.index t 0 = t.val / 5 ∧ win0_0.index t 1 = 0 ∧ win0_1.index t 0 = t.val % 5 ∧ win0_1.index t 1 = 0
      ∧ win0_2.index t 0 = t.val / 5 ∧ win0_2.index t 1 = t.val % 5 :=
  (by decide +kernel : ∀ t : Fin grid0.N, win0_0.index t 0 = t.val / 5 ∧ win0_0.index t 1 = 0 ∧ win0_1.index t 0 = t.val % 5 ∧ win0_1.index t 1 = 0
      ∧ win0_2.index t 0 = t.val / 5 ∧ win0_2.index t 1 = t.val % 5)

/-- How much of the output's block lies inside the array. -/
theorem extents : ∀ t : Fin cfg0.N, win0_2.xsize (grid0.coords t) 0 = 1040
    ∧ t.val % 5 * 512 + win0_2.xsize (grid0.coords t) 1 = min (t.val % 5 * 512 + 512) 2376 :=
  (by decide +kernel : ∀ t : Fin grid0.N, win0_2.xsize (grid0.coords t) 0 = 1040
    ∧ t.val % 5 * 512 + win0_2.xsize (grid0.coords t) 1 = min (t.val % 5 * 512 + 512) 2376)

theorem at0 (t : Fin cfg0.N) (y) : ((win0_0.rect t).emb y 0).val = t.val / 5 * 1040 + (y 0).val ∧ ((win0_0.rect t).emb y 1).val = (y 1).val :=
  ⟨(Window.rect_emb_val win0_0 t y 0).trans (by rw [(places t).1]; rfl), Window.rect_emb_val_of_index_zero win0_0 t 1 (places t).2.1 y⟩
theorem at1 (t : Fin cfg0.N) (y) : ((win0_1.rect t).emb y 0).val = t.val % 5 * 512 + (y 0).val ∧ ((win0_1.rect t).emb y 1).val = (y 1).val :=
  ⟨(Window.rect_emb_val win0_1 t y 0).trans (by rw [(places t).2.2.1]; rfl), Window.rect_emb_val_of_index_zero win0_1 t 1 (places t).2.2.2.1 y⟩
theorem at2 (t : Fin cfg0.N) (y) : ((win0_2.rect t).emb y 0).val = t.val / 5 * 1040 + (y 0).val ∧ ((win0_2.rect t).emb y 1).val = t.val % 5 * 512 + (y 1).val :=
  ⟨(Window.rect_emb_val win0_2 t y 0).trans (by rw [(places t).2.2.2.2.1]; rfl), (Window.rect_emb_val win0_2 t y 1).trans (by rw [(places t).2.2.2.2.2]; rfl)⟩

/-- The transposed weight, read at an index. -/
theorem V_weight (c : Dev nD) (n : Fin 2376) (k : Fin 2048) :
    (V m c main_v0 : S2376x2048.Idx → EReal) (ix2 n k) = (m ((c : Thread nD τ).loc main_arg1) : S2048x2376.Idx → EReal) (ix2 k n) := by
  have e : V m c main_v0 = transpose S2376x2048 [1, 0] (m ((c : Thread nD τ).loc main_arg1)) transposes_S2048x2376_S2376x2048_1_0 := by
    unfold V
    after_results
  rw [e]
  exact transpose_apply [1, 0] (m ((c : Thread nD τ).loc main_arg1)) transposes_S2048x2376_S2376x2048_1_0 (ix2 n k) (ix2 k n)
    (fun k => by match k with | ⟨0, _⟩ => rfl | ⟨1, _⟩ => rfl)

/-- A weight row inside the array, read at an index. -/
theorem wfull_apply (c : Dev nD) (t : Fin cfg0.N) (q : Fin 512) (hq : q.val < win0_1.xsize (grid0.coords t) 0) (k : Fin 2048)
    (hn : t.val % 5 * 512 + q.val < 2376) :
    wfull m c t (ix2 q k) = (m ((c : Thread nD τ).loc main_arg1) : S2048x2376.Idx → EReal) (ix2 k ⟨t.val % 5 * 512 + q.val, hn⟩) := by
  have hm : win0_1.moved (grid0.coords t) (ix2 q k) = true := (win0_1.moved_iff _ _).mpr fun a => by
    match a with
    | ⟨0, _⟩ => exact hq
    | ⟨1, _⟩ => exact k.isLt
  unfold wfull Window.fill
  rw [dif_pos hm, ← V_weight m c]
  show V m c main_v0 ((win0_1.rect t).emb _) = _
  refine congrArg (V m c main_v0) (funext fun a => Fin.ext ?_)
  match a with
  | ⟨0, _⟩ => exact (at1 t _).1
  | ⟨1, _⟩ => exact (at1 t _).2

/-- The activations' block, read at an index. -/
theorem xblk_apply (c : Dev nD) (t : Fin cfg0.N) (r : Fin 1040) (k : Fin 2048) (hn : t.val / 5 * 1040 + r.val < 8320) :
    xblk m c t (ix2 r k) = (m ((c : Thread nD τ).loc main_arg0) : S8320x2048.Idx → EReal) (ix2 ⟨t.val / 5 * 1040 + r.val, hn⟩ k) := by
  show V m c main_arg0 ((win0_0.rect t).emb (ix2 r k)) = _
  rw [V_main_arg0]
  refine congrArg (m ((c : Thread nD τ).loc main_arg0)) (funext fun a => Fin.ext ?_)
  match a with
  | ⟨0, _⟩ => exact (at0 t _).1
  | ⟨1, _⟩ => exact (at0 t _).2

/-- The point's payload, read at an index inside the array. -/
theorem pay_inside (c : Dev nD) (t : Fin cfg0.N) (r : Fin 1040) (q : Fin 512) (hq : q.val < win0_1.xsize (grid0.coords t) 0)
    (h0 : t.val / 5 * 1040 + r.val < 8320) (h1 : t.val % 5 * 512 + q.val < 2376) :
    k0_pay1 (F := Ideal) (xblk m c t) (wfull m c t) (ix2 r q)
      = prod (m ((c : Thread nD τ).loc main_arg0)) (m ((c : Thread nD τ).loc main_arg1)) (ix2 ⟨t.val / 5 * 1040 + r.val, h0⟩ ⟨t.val % 5 * 512 + q.val, h1⟩) :=
  (pay_apply _ _ _ _).trans (Finset.sum_congr rfl fun k _ => congr (congrArg _ (xblk_apply m c t r k h0)) (wfull_apply m c t q hq k h1))

theorem flushed_eq (c : Dev nD) (t : Fin cfg0.N) :
    (dats m 0 c).flushed 2 t = (win0_2.blk t).view.read (Elt Ideal)
      (prod (m ((c : Thread nD τ).loc main_arg0)) (m ((c : Thread nD τ).loc main_arg1))) := by
  show win0_2.cut (grid0.coords t) ((dats m 0 c).after 2 t) = _
  rw [after_2]
  funext j
  have x1 := (extents t).2
  have hj : (j 1).val < win0_2.xsize (grid0.coords t) 1 := (j 1).isLt
  have hr : (j 0).val < 1040 := Nat.lt_of_lt_of_le (j 0).isLt (Nat.le_of_eq (extents t).1)
  have hc : (j 1).val < 512 := by omega
  have h1 : t.val % 5 * 512 + (j 1).val < 2376 := by omega
  have h0 : t.val / 5 * 1040 + (j 0).val < 8320 := by
    have hN : t.val < 40 := Nat.lt_of_lt_of_eq t.isLt N_0
    omega
  have e : win0_2.xinj (grid0.coords t) j = (ix2 (⟨(j 0).val, hr⟩ : Fin 1040) (⟨(j 1).val, hc⟩ : Fin 512) : S1040x512.Idx) := funext fun a => by
    match a with
    | ⟨0, _⟩ => rfl
    | ⟨1, _⟩ => rfl
  have e' : (win0_2.rect t).emb j = (ix2 ⟨t.val / 5 * 1040 + (j 0).val, h0⟩ ⟨t.val % 5 * 512 + (j 1).val, h1⟩ : S8320x2376.Idx) := funext fun a => Fin.ext (by
    match a with
    | ⟨0, _⟩ => exact (at2 t j).1
    | ⟨1, _⟩ => exact (at2 t j).2)
  refine (congrArg (k0_pay1 (F := Ideal) (xblk m c t) (wfull m c t)) e).trans ?_
  refine (pay_inside m c t _ _ hj h0 h1).trans ?_
  exact (congrArg (prod (m ((c : Thread nD τ).loc main_arg0)) (m ((c : Thread nD τ).loc main_arg1))) e').symm

theorem flush_2 : ∀ t : Fin cfg0.N, (cfg0.win 2).flush t = true :=
  (by decide +kernel : ∀ t : Fin grid0.N, win0_2.flush t = true)

/-- Every index of the result lies in some point's block. -/
theorem cover (i : S8320x2376.Idx) : ∃ t : Fin cfg0.N, (cfg0.win 2).flush t = true ∧ i ∈ ((cfg0.win 2).blk t).view.set := by
  have h0 : (i 0).val < 8320 := (i 0).isLt
  have h1 : (i 1).val < 2376 := (i 1).isLt
  have hN : cfg0.N = 40 := N_0
  have hlt : (i 0).val / 1040 * 5 + (i 1).val / 512 < cfg0.N := by omega
  obtain ⟨-, -, -, -, p20, p21⟩ := places ⟨(i 0).val / 1040 * 5 + (i 1).val / 512, hlt⟩
  obtain ⟨x0, x1⟩ := extents ⟨(i 0).val / 1040 * 5 + (i 1).val / 512, hlt⟩
  refine ⟨⟨(i 0).val / 1040 * 5 + (i 1).val / 512, hlt⟩, flush_2 _, ?_⟩
  show i ∈ ((View.whole main_v1).slice (win0_2.rect ⟨(i 0).val / 1040 * 5 + (i 1).val / 512, hlt⟩)).set
  rw [View.set_slice_whole, Rect.mem_set_unit]
  intro a
  match a with
  | ⟨0, _⟩ =>
    show win0_2.index ⟨(i 0).val / 1040 * 5 + (i 1).val / 512, hlt⟩ 0 * 1040 ≤ (i 0).val ∧ (i 0).val < win0_2.index ⟨(i 0).val / 1040 * 5 + (i 1).val / 512, hlt⟩ 0 * 1040 + win0_2.xsize (grid0.coords ⟨(i 0).val / 1040 * 5 + (i 1).val / 512, hlt⟩) 0
    rw [p20, x0]; dsimp only; omega
  | ⟨1, _⟩ =>
    show win0_2.index ⟨(i 0).val / 1040 * 5 + (i 1).val / 512, hlt⟩ 1 * 512 ≤ (i 1).val ∧ (i 1).val < win0_2.index ⟨(i 0).val / 1040 * 5 + (i 1).val / 512, hlt⟩ 1 * 512 + win0_2.xsize (grid0.coords ⟨(i 0).val / 1040 * 5 + (i 1).val / 512, hlt⟩) 1
    rw [p21, x1]; dsimp only; omega

theorem final_eq (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

/-- The host product is the same sum. -/
theorem ref_eq (x : S8320x2048.Idx → EReal) (w : S2048x2376.Idx → EReal) :
    Cert.Reference6Ideal.Read.val_main_v1 (F := Ideal) x w = prod x w := by
  funext i
  rw [Cert.Reference6Ideal.Read.val_main_v1_apply]
  unfold prod
  refine Finset.sum_congr rfl fun k _ => ?_
  congr 1
  · show x _ = x _
    exact congrArg x (funext fun a => by match a with | ⟨0, _⟩ => rfl | ⟨1, _⟩ => rfl)
  · exact congrArg w (funext fun a => by match a with | ⟨0, _⟩ => rfl | ⟨1, _⟩ => rfl)

theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (dats m 0 c).arrAt 2 cfg0.N, (θ_run defs _ _).mono (fun _ h => h.1) (run_blocks m ρ), ?_⟩
  refine (θ_run Cert.Reference6Ideal.defs _ _).mono (fun _ h c => ⟨(h c).1.trans ?_, (h c).2⟩)
    (Cert.Reference6Ideal.Value.run (F := Ideal) m' ρ')
  refine Eq.trans ?_ (final_eq m c).symm
  rw [Cert.Reference6Ideal.Read.val_main_v1_eq, (hag c).1, (hag c).2]
  exact ref_eq _ _

theorem frame : Cert.quiescent_Kernel6Ideal (hKernel6Ideal := Cert.Kernel6Ideal.Gen.facts) := fun m ρ _ =>
  (θ_run defs _ _).mono (fun _ h => ⟨fun c => (h.1 c).2, h.2⟩) (run_blocks m ρ)

theorem frame_ref : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

end Cert.ProjZero

end
-- ==== Proof.FoxRun.lean ====
module

public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Gen.Kernel7Ideal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

/-! The forgetting heads' attention body, run once per kind of grid point.

The running state of a row block is a triple: the largest score so far, the sum of the exponentials, and the
weighted sum of the values.  `step` folds one key block into it, `outOf` divides at the end.  There are four kinds
of points: the only block of the first row block (`runA`), a block above the diagonal, where nothing happens
(`runB`), the first block of the second row block (`runC`) and its diagonal block (`runD`). -/

set_option maxRecDepth 16384

noncomputable section

namespace Cert.Fox

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid words of the row block and of the key block. -/
abbrev rowW (i : grid0.Coords) : BitVec 32 := BitVec.ofNat 32 (i 2).val
abbrev keyW (i : grid0.Coords) : BitVec 32 := BitVec.ofNat 32 (i 3).val

/-- The running state: the largest score, the sum of the exponentials, the weighted sum of the values. -/
abbrev St (F : FTy → Type) : Type := Vec F S1024x1 .f32 × Vec F S1024x1 .f32 × Vec F S1024x128 .f32

/-- The state before the first key block. -/
def init0 : St F := (k0_pay1, k0_pay2, k0_pay3)

/-- One key block folded into the state. -/
def step (i : grid0.Coords) (q k v : Vec F S1x1x1024x128 .bf16) (f : Vec F S1x1x1024x1 .f32) (g : Vec F S1x1x1x1024 .f32) (s : St F) : St F :=
  (k0_pay6 (k0_pay9 (rowW i) (keyW i) q k f g s.1), k0_pay4 (k0_pay12 (rowW i) (keyW i) q k f g s.1 s.2.1) (k0_pay13 (rowW i) (keyW i) q k f g s.1),
    k0_pay5 (k0_pay10 (rowW i) (keyW i) q k f g s.1) (k0_pay11 (rowW i) (keyW i) q k f g s.1) s.2.2 v)

/-- The block written at the end. -/
def outOf (s : St F) : Vec F S1x1024x128 .bf16 := k0_pay7 s.2.2 s.2.1

/-- The three conditions of the body. -/
abbrev atFirst (i : grid0.Coords) : Prop := (Scalar.cmpi .ne (Scalar.extui (Scalar.cmpi .eq (BitVec.ofNat 32 (i 3).val) 0#32)) 0#32) = 1#1
abbrev atBelow (i : grid0.Coords) : Prop := (Scalar.cmpi .ne (Scalar.extui (Scalar.cmpi .sle (BitVec.ofNat 32 (i 3).val) (BitVec.ofNat 32 (i 2).val))) 0#32) = 1#1
abbrev atLast (i : grid0.Coords) : Prop := k0_cond3 i = 1#1

/-- A whole-shape store, last, is what a read of the buffer gives. -/
theorem read_store {sp : Space} {S : Shape} {e : EltTy} (a : Memref sig .tc sp S e)
    (f : a.view.ty.Contents (Elt F)) {off : Fin S.rank → Nat} (h : off = fun _ => 0) (inb : ∀ a, off a + S.size a ≤ S.size a)
    (w : S.Idx → Elt F e) (L : List (View.Piece (Elt F) S e)) :
    a.view.read (Elt F) (a.view.writes (Elt F) f ((⟨Rect.unit off S.size inb, w⟩ : View.Piece (Elt F) S e) :: L)) = w := by
  rw [View.read_writes_eq_canon a.view f _ (fun y => ⟨_, List.mem_cons_self, View.mem_set_unit_zero h inb y⟩)]
  exact View.canon_cons_unit_zero h inb w L

/-- What a load of the whole shape gives after stores of the whole shape: the last store. -/
theorem readCov_store {sp : Space} {S : Shape} {e : EltTy} (v : View sig .tc sp S e) {off off' : Fin S.rank → Nat}
    (h : off = fun _ => 0) (h' : off' = fun _ => 0) (inb : ∀ a, off a + S.size a ≤ S.size a)
    (inb' : ∀ a, off' a + S.size a ≤ S.size a)
    (w : S.Idx → Elt F e) (L : List (View.Piece (Elt F) S e)) :
    v.readCov ((⟨Rect.unit off S.size inb, w⟩ : View.Piece (Elt F) S e) :: L) (Rect.unit off' S.size inb').toLoadRect = w := by
  rw [View.readCov_eq_canon_ld _ _ _ (fun y => ⟨_, List.mem_cons_self, View.mem_set_unit_zero h inb y⟩),
    View.canon_cons_unit_zero h, View.ld_unit_zero h']

theorem zeros2 : (![0, 0] : Fin 2 → Nat) = fun _ => 0 := by decide
theorem zeros3 : (![0, 0, 0] : Fin 3 → Nat) = fun _ => 0 := by decide
theorem zeros4 : (![0, 0, 0, 0] : Fin 4 → Nat) = fun _ => 0 := by decide

/-- A load of the whole shape gives the contents. -/
theorem readAt_whole {sp : Space} {S : Shape} {e : EltTy} (v : View sig .tc sp S e) {off : Fin S.rank → Nat}
    (h : off = fun _ => 0) (inb : ∀ a, off a + S.size a ≤ S.size a) (f : v.ty.Contents (Elt F)) :
    View.readAt (Elt F) v (Rect.unit off S.size inb).toLoadRect f = v.read (Elt F) f :=
  View.ld_unit_zero h inb (v.read (Elt F) f)

section
variable (c : Dev nD) (i : grid0.Coords) (arg4 : Memref sig .tc .vmem S1x1x1024x128 .bf16) (harg4 : arg4.IsWhole) (arg5 : Memref sig .tc .vmem S1x1x1024x128 .bf16) (harg5 : arg5.IsWhole) (arg6 : Memref sig .tc .vmem S1x1x1024x128 .bf16) (harg6 : arg6.IsWhole) (arg7 : Memref sig .tc .vmem S1x1x1024x1 .f32) (harg7 : arg7.IsWhole) (arg8 : Memref sig .tc .vmem S1x1x1x1024 .f32) (harg8 : arg8.IsWhole) (arg9 : Memref sig .tc .vmem S1x1024x128 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole)
    (x0 x1 x2 : Vec F S1x1x1024x128 .bf16) (x3 : Vec F S1x1x1024x1 .f32) (x4 : Vec F S1x1x1x1024 .f32)

/-- What the body holds: its five blocks, an output block and a state. -/
def holds (y : Vec F S1x1024x128 .bf16) (s : St F) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4
    ∗ owns (c : Thread nD τ) arg9 fullShare y ∗ owns (c : Thread nD τ) arg10 fullShare s.1 ∗ owns (c : Thread nD τ) arg11 fullShare s.2.1 ∗ owns (c : Thread nD τ) arg12 fullShare s.2.2)

/-- The only block of the first row block: the state starts here and its quotient is written. -/
theorem runA (h1 : atFirst i) (h2 : atBelow i) (h3 : atLast i) (y : Vec F S1x1024x128 .bf16) (s : St F) (E : Set ℕ) (K : PUnit → sProp 𝕄) :
    iprop(holds c arg4 arg5 arg6 arg7 arg8 arg9 arg10 arg11 arg12 x0 x1 x2 x3 x4 y s
      ∗ (holds c arg4 arg5 arg6 arg7 arg8 arg9 arg10 arg11 arg12 x0 x1 x2 x3 x4 (outOf (step i x0 x1 x2 x3 x4 init0)) (step i x0 x1 x2 x3 x4 init0) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12) K := by
  simp only [cc0_flash_fox_eq_skeleton]; unfold cc0_flash_fox_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%fs0, -, HS0⟩, ⟨%fs1, -, HS1⟩, ⟨%fs2, -, HS2⟩⟩, Hk⟩
  obtain rfl := harg4.eq_unread hf0; obtain rfl := harg5.eq_unread hf1; obtain rfl := harg6.eq_unread hf2; obtain rfl := harg7.eq_unread hf3; obtain rfl := harg8.eq_unread hf4
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]; swap; isplitl [HS0]; swap; isplitl [HS1]; swap
  all_goals
    iexists _; isplitr; swap; · first | iexact H5 | iexact HS0 | iexact HS1 | iexact HS2
    ipureintro
    repeat first | unfold runA.sl.v9 | unfold runA.sl.v10 | unfold runA.sl.v11 | unfold runA.sl.v16 | unfold runA.sl.v20 | unfold runA.sl.v32 | unfold runA.sl.v41 | unfold runA.sl.v46 | unfold runA.sl.v49 | unfold runA.sl.v53 | unfold runA.sl.v57 | unfold runA.sl.v60 | unfold runA.sl.HS0_1 | unfold runA.sl.HS0_2 | unfold runA.sl.HS1_1 | unfold runA.sl.HS1_2 | unfold runA.sl.HS2_1 | unfold runA.sl.HS2_2 | unfold runA.sl.r | unfold runA.sl.r_1 | unfold runA.sl.r_2 | unfold runA.sl.r_3 | unfold runA.sl.r_4
    first | rw [read_store _ _ zeros3] | rw [read_store _ _ zeros2]
    try simp only [readAt_whole (S := S1x1x1024x1) _ zeros4, readAt_whole (S := S1x1x1x1024) _ zeros4, readAt_whole (S := S1x1x1024x128) _ zeros4, readAt_whole (S := S1024x1) _ zeros2, readAt_whole (S := S1024x128) _ zeros2, readCov_store (S := S1024x1) _ zeros2 zeros2, readCov_store (S := S1024x128) _ zeros2 zeros2, Memref.IsWhole.read_unread]
    try rfl

/-- A block above the diagonal: nothing happens. -/
theorem runB (h1 : ¬ atFirst i) (h2 : ¬ atBelow i) (h3 : ¬ atLast i) (y : Vec F S1x1024x128 .bf16) (s : St F) (E : Set ℕ) (K : PUnit → sProp 𝕄) :
    iprop(holds c arg4 arg5 arg6 arg7 arg8 arg9 arg10 arg11 arg12 x0 x1 x2 x3 x4 y s
      ∗ (holds c arg4 arg5 arg6 arg7 arg8 arg9 arg10 arg11 arg12 x0 x1 x2 x3 x4 y s -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12) K := by
  simp only [cc0_flash_fox_eq_skeleton]; unfold cc0_flash_fox_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, ⟨%fs2, %hs2, HS2⟩⟩, Hk⟩
  obtain rfl := harg4.eq_unread hf0; obtain rfl := harg5.eq_unread hf1; obtain rfl := harg6.eq_unread hf2; obtain rfl := harg7.eq_unread hf3; obtain rfl := harg8.eq_unread hf4
  obtain rfl := harg10.eq_unread hs0; obtain rfl := harg11.eq_unread hs1; obtain rfl := harg12.eq_unread hs2
  obtain rfl := harg9.eq_unread hf5
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]
  · iexists _; isplitr; · ipureintro; exact harg10.read_unread _
    iexact HS0
  isplitl [HS1]
  · iexists _; isplitr; · ipureintro; exact harg11.read_unread _
    iexact HS1
  iexists _; isplitr; · ipureintro; exact harg12.read_unread _
  iexact HS2

/-- The first block of the second row block: the state starts here. -/
theorem runC (h1 : atFirst i) (h2 : atBelow i) (h3 : ¬ atLast i) (y : Vec F S1x1024x128 .bf16) (s : St F) (E : Set ℕ) (K : PUnit → sProp 𝕄) :
    iprop(holds c arg4 arg5 arg6 arg7 arg8 arg9 arg10 arg11 arg12 x0 x1 x2 x3 x4 y s
      ∗ (holds c arg4 arg5 arg6 arg7 arg8 arg9 arg10 arg11 arg12 x0 x1 x2 x3 x4 y (step i x0 x1 x2 x3 x4 init0) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12) K := by
  simp only [cc0_flash_fox_eq_skeleton]; unfold cc0_flash_fox_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, -, HS0⟩, ⟨%fs1, -, HS1⟩, ⟨%fs2, -, HS2⟩⟩, Hk⟩
  obtain rfl := harg4.eq_unread hf0; obtain rfl := harg5.eq_unread hf1; obtain rfl := harg6.eq_unread hf2; obtain rfl := harg7.eq_unread hf3; obtain rfl := harg8.eq_unread hf4
  obtain rfl := harg9.eq_unread hf5
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [HS0]; swap; isplitl [HS1]; swap
  all_goals
    iexists _; isplitr; swap; · first | iexact HS0 | iexact HS1 | iexact HS2
    ipureintro
    repeat first | unfold runC.sl.v9 | unfold runC.sl.v10 | unfold runC.sl.v11 | unfold runC.sl.v16 | unfold runC.sl.v20 | unfold runC.sl.v32 | unfold runC.sl.v41 | unfold runC.sl.v46 | unfold runC.sl.v49 | unfold runC.sl.v53 | unfold runC.sl.v57 | unfold runC.sl.v60 | unfold runC.sl.HS0_1 | unfold runC.sl.HS0_2 | unfold runC.sl.HS1_1 | unfold runC.sl.HS1_2 | unfold runC.sl.HS2_1 | unfold runC.sl.HS2_2 | unfold runC.sl.r | unfold runC.sl.r_1 | unfold runC.sl.r_2 | unfold runC.sl.r_3 | unfold runC.sl.r_4
    rw [read_store _ _ zeros2]
    try simp only [readAt_whole (S := S1x1x1024x1) _ zeros4, readAt_whole (S := S1x1x1x1024) _ zeros4, readAt_whole (S := S1x1x1024x128) _ zeros4, readAt_whole (S := S1024x1) _ zeros2, readAt_whole (S := S1024x128) _ zeros2, readCov_store (S := S1024x1) _ zeros2 zeros2, readCov_store (S := S1024x128) _ zeros2 zeros2, Memref.IsWhole.read_unread]
    try rfl

/-- The diagonal block of the second row block: the state goes on from the block before and its quotient is written. -/
theorem runD (h1 : ¬ atFirst i) (h2 : atBelow i) (h3 : atLast i) (y : Vec F S1x1024x128 .bf16) (s : St F) (E : Set ℕ) (K : PUnit → sProp 𝕄) :
    iprop(holds c arg4 arg5 arg6 arg7 arg8 arg9 arg10 arg11 arg12 x0 x1 x2 x3 x4 y s
      ∗ (holds c arg4 arg5 arg6 arg7 arg8 arg9 arg10 arg11 arg12 x0 x1 x2 x3 x4 (outOf (step i x0 x1 x2 x3 x4 s)) (step i x0 x1 x2 x3 x4 s) -∗ K ⟨⟩))
      ⊢ wp frame (wpE (defs₀ (F := F)) Variants.none c none) E (cc0_flash_fox i arg4 harg4 arg5 harg5 arg6 harg6 arg7 harg7 arg8 harg8 arg9 harg9 arg10 harg10 arg11 harg11 arg12 harg12) K := by
  simp only [cc0_flash_fox_eq_skeleton]; unfold cc0_flash_fox_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, -, H5⟩, ⟨%fs0, %hs0, HS0⟩, ⟨%fs1, %hs1, HS1⟩, ⟨%fs2, %hs2, HS2⟩⟩, Hk⟩
  obtain rfl := harg4.eq_unread hf0; obtain rfl := harg5.eq_unread hf1; obtain rfl := harg6.eq_unread hf2; obtain rfl := harg7.eq_unread hf3; obtain rfl := harg8.eq_unread hf4
  obtain rfl := harg10.eq_unread hs0; obtain rfl := harg11.eq_unread hs1; obtain rfl := harg12.eq_unread hs2
  sl_exec (disch := first | sl_exact h1 | sl_exact h2 | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]; swap; isplitl [HS0]; swap; isplitl [HS1]; swap
  all_goals
    iexists _; isplitr; swap; · first | iexact H5 | iexact HS0 | iexact HS1 | iexact HS2
    ipureintro
    repeat first | unfold runD.sl.v9 | unfold runD.sl.v10 | unfold runD.sl.v11 | unfold runD.sl.v16 | unfold runD.sl.v20 | unfold runD.sl.v32 | unfold runD.sl.v41 | unfold runD.sl.v46 | unfold runD.sl.v49 | unfold runD.sl.v53 | unfold runD.sl.v57 | unfold runD.sl.v60 | unfold runD.sl.HS0_1 | unfold runD.sl.HS0_2 | unfold runD.sl.HS1_1 | unfold runD.sl.HS1_2 | unfold runD.sl.HS2_1 | unfold runD.sl.HS2_2 | unfold runD.sl.r | unfold runD.sl.r_1 | unfold runD.sl.r_2 | unfold runD.sl.r_3 | unfold runD.sl.r_4
    first | rw [read_store _ _ zeros3] | rw [read_store _ _ zeros2]
    try simp only [readAt_whole (S := S1x1x1024x1) _ zeros4, readAt_whole (S := S1x1x1x1024) _ zeros4, readAt_whole (S := S1x1x1024x128) _ zeros4, readAt_whole (S := S1024x1) _ zeros2, readAt_whole (S := S1024x128) _ zeros2, readCov_store (S := S1024x1) _ zeros2 zeros2, readCov_store (S := S1024x128) _ zeros2 zeros2, Memref.IsWhole.read_unread]
    try rfl

end

end Cert.Fox

end
-- ==== Proof.FoxFrame.lean ====
module

public import proofs.«01_k».proof.Proof.FoxRun
public import Idealize.ShloMosaic.Lib.Claim

@[expose] public section

/-! The frame of the forgetting heads' attention call, with what it writes named.

After each grid point the scratch holds `stAt` and the output block `outOf stAt`; the pipeline's proof data say so, the
body's four runs prove it, and the library's launch turns it into the run of the whole call. -/

set_option maxRecDepth 16384

noncomputable section

namespace Cert.Fox

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kinds of points -/

theorem first_iff : ∀ t : Fin cfg0.N, atFirst (grid0.coords t) ↔ t.val % 2 = 0 :=
  (by decide +kernel : ∀ t : Fin grid0.N, atFirst (grid0.coords t) ↔ t.val % 2 = 0)
theorem below_iff : ∀ t : Fin cfg0.N, atBelow (grid0.coords t) ↔ t.val % 4 ≠ 1 :=
  (by decide +kernel : ∀ t : Fin grid0.N, atBelow (grid0.coords t) ↔ t.val % 4 ≠ 1)
theorem last_iff : ∀ t : Fin cfg0.N, atLast (grid0.coords t) ↔ (t.val % 4 = 0 ∨ t.val % 4 = 3) :=
  (by decide +kernel : ∀ t : Fin grid0.N, atLast (grid0.coords t) ↔ (t.val % 4 = 0 ∨ t.val % 4 = 3))
theorem idle_true : ∀ t : Fin cfg0.N, (t.val % 4 = 1 ∨ t.val % 4 = 2) → cfg0.idle 5 (grid0.coords t) = true :=
  (by decide +kernel : ∀ t : Fin grid0.N, (t.val % 4 = 1 ∨ t.val % 4 = 2) → idle0 5 (grid0.coords t) = true)
theorem idle_false : ∀ t : Fin cfg0.N, (t.val % 4 = 0 ∨ t.val % 4 = 3) → cfg0.idle 5 (grid0.coords t) = false :=
  (by decide +kernel : ∀ t : Fin grid0.N, (t.val % 4 = 0 ∨ t.val % 4 = 3) → idle0 5 (grid0.coords t) = false)

/-- The point before. -/
abbrev before (t : Fin cfg0.N) : Fin cfg0.N := ⟨t.val - 1, Nat.lt_of_le_of_lt (Nat.sub_le _ _) t.isLt⟩

/-! ## What the scratch holds after each point -/

/-- Point `t`'s key block folded into the state `s`. -/
def stepAt (c : Dev nD) (t : Fin cfg0.N) (s : St F) : St F :=
  step (grid0.coords t) (iblk m c 0 t) (iblk m c 1 t) (iblk m c 2 t) (iblk m c 3 t) (iblk m c 4 t) s

/-- The state after point `t`. -/
def stAt (c : Dev nD) (t : Fin cfg0.N) : St F :=
  if t.val % 2 = 0 then stepAt m c t init0
  else if t.val % 4 = 1 then stepAt m c (before t) init0
  else stepAt m c t (stepAt m c (before t) init0)

theorem stAt_first (c : Dev nD) (t : Fin cfg0.N) (h : t.val % 2 = 0) : stAt m c t = stepAt m c t init0 := if_pos h
theorem stAt_above (c : Dev nD) (t : Fin cfg0.N) (h : t.val % 4 = 1) : stAt m c t = stAt m c (before t) := by
  rw [stAt_first m c (before t) (by simp only [before]; omega)]
  unfold stAt; rw [if_neg (by omega), if_pos h]
theorem stAt_diag (c : Dev nD) (t : Fin cfg0.N) (h : t.val % 4 = 3) : stAt m c t = stepAt m c t (stAt m c (before t)) := by
  rw [stAt_first m c (before t) (by simp only [before]; omega)]
  unfold stAt; rw [if_neg (by omega), if_neg (by omega)]

/-! ## The staging and scratch memrefs, the invariant -/

abbrev sc0 : Memref sig .tc .vmem S1024x1 .f32 := Memref.whole cc0_scratch0
abbrev sc1 : Memref sig .tc .vmem S1024x1 .f32 := Memref.whole cc0_scratch1
abbrev sc2 : Memref sig .tc .vmem S1024x128 .f32 := Memref.whole cc0_scratch2

theorem launchInv_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The scratch at a state, and the generator register at some state. -/
def scratchAt (c : Dev nD) (s : St F) : sProp 𝕄 :=
  iprop(iprop(owns (c : Thread nD τ) sc0 fullShare s.1 ∗ owns (c : Thread nD τ) sc1 fullShare s.2.1 ∗ owns (c : Thread nD τ) sc2 fullShare s.2.2) ∗ (∃ r, prngReg c r))

/-- Before the first point the launch's invariant, afterwards the scratch at the state the point before left. -/
def inv (c : Dev nD) : (n : ℕ) → n ≤ cfg0.N → sProp 𝕄
  | 0, _ => Pipeline.ΦA spec0 c
  | n + 1, hn => scratchAt c (stAt m c ⟨n, hn⟩)

theorem inv_pos (c : Dev nD) (t : Fin cfg0.N) (h : t.val ≤ cfg0.N) (hz : t.val ≠ 0) :
    inv m c t.val h = scratchAt c (stAt m c (before t)) := by
  obtain ⟨n, hn⟩ := t
  cases n with
  | zero => exact absurd rfl hz
  | succ n => rfl

/-- At any point the scratch is at some state. -/
theorem inv_some (c : Dev nD) (t : Fin cfg0.N) (h : t.val ≤ cfg0.N) : inv m c t.val h ⊢ iprop(∃ s : St F, scratchAt c s) := by
  by_cases hz : t.val = 0
  · obtain ⟨n, hn⟩ := t
    obtain rfl : n = 0 := hz
    show (Pipeline.ΦA spec0 c : sProp 𝕄) ⊢ _
    rw [launchInv_eq]
    iintro ⟨⟨⟨%a, H0⟩, ⟨%b, H1⟩, ⟨%d, H2⟩⟩, Hg⟩
    iexists ((a, b, d) : St F)
    unfold scratchAt
    isplitl [H0 H1 H2]
    · isplitl [H0]; · iexact H0
      isplitl [H1]; · iexact H1
      iexact H2
    iexact Hg
  · rw [inv_pos m c t h hz]
    iintro H; iexists _; iexact H

/-- The proof data: the arrays as the region finds them, the inputs' buffers at their blocks, the output's at the quotient
    of the state, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (stAt m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outOf (stAt m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem flush_false (t : Fin cfg0.N) (h : t.val % 2 = 0) : (cfg0.win 5).flush t = false := by
  cases e : (cfg0.win 5).flush t
  · rfl
  · have := (flush0_5 t).mp e; omega

/-- Above the diagonal the output's buffer still holds what the point before stored. -/
theorem before_5_above (c : Dev nD) (t : Fin cfg0.N) (h : t.val % 4 = 1) (d) :
    (dats m 0 c).before 5 t d = outOf (stAt m c (before t)) := by
  have ht : t.val ≠ 0 := by omega
  have hf : (cfg0.win 5).flush (before t) = false := flush_false (before t) (by simp only [before]; omega)
  have hi : cfg0.idle 5 (cfg0.grid.coords (before t)) = false := idle_false (before t) (.inl (by simp only [before]; omega))
  rw [(dats m 0 c).before_of_pos 5 t ht ((cfg0.win 5).fetch_out rfl t), hf, if_neg Bool.false_ne_true]
  unfold Dat.left
  rw [hi]
  show (dats m 0 c).kept 5 (before t) d = _
  unfold Dat.kept
  rw [Pipeline.fill_of_clip_none 5 _ (fun _ => rfl) d ((dats m 0 c).after 5 (before t)), Window.fill_cut, after_5]

/-! ## The body at any point -/

abbrev ms_0 (t : Fin cfg0.N) : Memref sig .tc .vmem S1x1x1024x128 .bf16 := win0_0.stage (cfg0.slots t 0)
abbrev ms_1 (t : Fin cfg0.N) : Memref sig .tc .vmem S1x1x1024x128 .bf16 := win0_1.stage (cfg0.slots t 1)
abbrev ms_2 (t : Fin cfg0.N) : Memref sig .tc .vmem S1x1x1024x128 .bf16 := win0_2.stage (cfg0.slots t 2)
abbrev ms_3 (t : Fin cfg0.N) : Memref sig .tc .vmem S1x1x1024x1 .f32 := win0_3.stage (cfg0.slots t 3)
abbrev ms_4 (t : Fin cfg0.N) : Memref sig .tc .vmem S1x1x1x1024 .f32 := win0_4.stage (cfg0.slots t 4)
abbrev ms_5 (t : Fin cfg0.N) : Memref sig .tc .vmem S1x1024x128 .bf16 := win0_5.stage (cfg0.slots t 5)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

/-- From a run of the body at any contents to what the pipeline asks at a point: the inputs at their blocks, the scratch
    from the state before (`hs`: what is known of it) to the state after, the output from what was there (`hy`) to `y'`,
    which is what the pipeline wants left (`hl`). -/
theorem body_of (c : Dev nD) (t : Fin cfg0.N) (ps : St F → Prop)
    (hs : inv m c t.val (Nat.le_of_lt t.isLt) ⊢ iprop(∃ s : St F, ⌜ps s⌝ ∗ scratchAt c s))
    (y' : Vec F S1x1024x128 .bf16 → Vec F S1x1024x128 .bf16)
    (hl : ∀ d, (owns (c : Thread nD τ) (ms_5 t) fullShare (y' ((dats m 0 c).before 5 t d)) : sProp 𝕄) ⊢ (dats m 0 c).leavesExact 5 t)
    (hrun : ∀ (s : St F), ps s → ∀ (y : Vec F S1x1024x128 .bf16) (K : PUnit → sProp 𝕄),
      iprop(holds c (ms_0 t) (ms_1 t) (ms_2 t) (ms_3 t) (ms_4 t) (ms_5 t) sc0 sc1 sc2 (iblk m c 0 t) (iblk m c 1 t) (iblk m c 2 t) (iblk m c 3 t) (iblk m c 4 t) y s
        ∗ (holds c (ms_0 t) (ms_1 t) (ms_2 t) (ms_3 t) (ms_4 t) (ms_5 t) sc0 sc1 sc2 (iblk m c 0 t) (iblk m c 1 t) (iblk m c 2 t) (iblk m c 3 t) (iblk m c 4 t) (y' y) (stAt m c t) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).owesAt () t.succ = (dats m 0 c).owesAt () t.castSucc from rfl,
    show (dats m 0 c).Φ t.succ = scratchAt c (stAt m c t) from rfl, inv_castSucc m c t,
    show (dats m 0 c).leavesExact 0 t = owns (c : Thread nD τ) (ms_0 t) fullShare (iblk m c 0 t) from rfl,
    show (dats m 0 c).leavesExact 1 t = owns (c : Thread nD τ) (ms_1 t) fullShare (iblk m c 1 t) from rfl,
    show (dats m 0 c).leavesExact 2 t = owns (c : Thread nD τ) (ms_2 t) fullShare (iblk m c 2 t) from rfl,
    show (dats m 0 c).leavesExact 3 t = owns (c : Thread nD τ) (ms_3 t) fullShare (iblk m c 3 t) from rfl,
    show (dats m 0 c).leavesExact 4 t = owns (c : Thread nD τ) (ms_4 t) fullShare (iblk m c 4 t) from rfl]
  iintro ⟨Hi, Ho, ⟨%d0, H0⟩, ⟨%d1, H1⟩, ⟨%d2, H2⟩, ⟨%d3, H3⟩, ⟨%d4, H4⟩, ⟨%d5, H5⟩⟩
  ihave Hj := hs $$ Hi
  icases Hj with ⟨%s, %hps, Hs⟩
  unfold scratchAt
  icases Hs with ⟨⟨HS0, HS1, HS2⟩, Hg⟩
  iapply (hrun s hps ((dats m 0 c).before 5 t d5) _)
  unfold holds
  isplitl [H0 H1 H2 H3 H4 H5 HS0 HS1 HS2]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (hl d5); iexact H5

theorem some_state (c : Dev nD) (t : Fin cfg0.N) :
    inv m c t.val (Nat.le_of_lt t.isLt) ⊢ iprop(∃ s : St F, ⌜True⌝ ∗ scratchAt c s) := by
  iintro H
  ihave Hj := (inv_some m c t _) $$ H
  icases Hj with ⟨%s, Hs⟩
  iexists s; isplitr; · ipureintro; trivial
  iexact Hs

theorem state_before (c : Dev nD) (t : Fin cfg0.N) (hz : t.val ≠ 0) :
    inv m c t.val (Nat.le_of_lt t.isLt) ⊢ iprop(∃ s : St F, ⌜s = stAt m c (before t)⌝ ∗ scratchAt c s) := by
  rw [inv_pos m c t _ hz]
  iintro H
  iexists _; isplitr; · ipureintro; rfl
  iexact H

/-- Where the output is stored, the pipeline wants the quotient of the state left. -/
theorem leaves_stored (c : Dev nD) (t : Fin cfg0.N) (h : t.val % 4 = 0 ∨ t.val % 4 = 3) :
    (dats m 0 c).leavesExact 5 t = owns (c : Thread nD τ) (ms_5 t) fullShare (outOf (stAt m c t)) := by
  unfold Dat.leavesExact; rw [show cfg0.idle 5 (cfg0.grid.coords t) = false from idle_false t h, after_5]

theorem sound_body (c : Dev nD) (t : Fin cfg0.N) :
    bodyPre m c t ⊢ wp frame (wpE (defs₀ (F := F)) Variants.none c none) Set.univ (bodyAt0 t) (fun _ => bodyPost m c t) := by
  have h4 : t.val % 4 < 4 := Nat.mod_lt _ (by decide)
  have cases : t.val % 4 = 0 ∨ t.val % 4 = 1 ∨ t.val % 4 = 2 ∨ t.val % 4 = 3 := by omega
  rcases cases with h | h | h | h
  · refine body_of m c t (fun _ => True) (some_state m c t) (fun _ => outOf (stAt m c t)) (fun d => ?_) (fun s _ y K => ?_)
    · rw [leaves_stored m c t (.inl h)]
    · rw [stAt_first m c t (by omega)]
      exact runA c (grid0.coords t) _ _ _ _ _ _ _ _ _ _ _ _ _ _ _ _ _ _ _ _ _ _ _ ((first_iff t).mpr (by omega)) ((below_iff t).mpr (by omega)) ((last_iff t).mpr (.inl h)) y s Set.univ K
  · refine body_of m c t (fun s => s = stAt m c (before t)) (state_before m c t (by omega)) (fun y => y) (fun d => ?_) (fun s hs y K => ?_)
    · rw [before_5_above m c t h, ← stAt_above m c t h]
      unfold Dat.leavesExact
      rw [show cfg0.idle 5 (cfg0.grid.coords t) = true from idle_true t (.inl h), show (cfg0.win 5).flush t = true from (flush0_5 t).mpr (by omega), after_5]
    · rw [stAt_above m c t h, hs]
      exact runB c (grid0.coords t) _ _ _ _ _ _ _ _ _ _ _ _ _ _ _ _ _ _ _ _ _ _ _ (fun e => absurd ((first_iff t).mp e) (by omega)) (fun e => absurd ((below_iff t).mp e) (by omega)) (fun e => absurd ((last_iff t).mp e) (by omega)) y _ Set.univ K
  · refine body_of m c t (fun _ => True) (some_state m c t) (fun y => y) (fun d => ?_) (fun s _ y K => ?_)
    · rw [Pipeline.Dat.leavesExact_idle _ 5 t (idle_true t (.inr h)) (flush_false t (by omega))]
      iintro H; iexists d; iexact H
    · rw [stAt_first m c t (by omega)]
      exact runC c (grid0.coords t) _ _ _ _ _ _ _ _ _ _ _ _ _ _ _ _ _ _ _ _ _ _ _ ((first_iff t).mpr (by omega)) ((below_iff t).mpr (by omega)) (fun e => absurd ((last_iff t).mp e) (by omega)) y s Set.univ K
  · refine body_of m c t (fun s => s = stAt m c (before t)) (state_before m c t (by omega)) (fun _ => outOf (stAt m c t)) (fun d => ?_) (fun s hs y K => ?_)
    · rw [leaves_stored m c t (.inr h)]
    · rw [stAt_diag m c t h, hs]
      exact runD c (grid0.coords t) _ _ _ _ _ _ _ _ _ _ _ _ _ _ _ _ _ _ _ _ _ _ _ (fun e => absurd ((first_iff t).mp e) (by omega)) ((below_iff t).mpr (by omega)) ((last_iff t).mpr (.inr h)) y _ Set.univ K

/-! ## The launch -/

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 :=
  show (Pipeline.ΦA spec0 c : sProp 𝕄) ⊢ inv m c 0 (Nat.zero_le _) from .rfl

theorem inv_out (c : Dev nD) : (dats m 0 c).Φ (Fin.last cfg0.N) ⊢ Pipeline.ΦA spec0 c := by
  show inv m c (127 + 1) _ ⊢ _
  rw [launchInv_eq]
  show scratchAt c _ ⊢ _
  unfold scratchAt
  iintro ⟨⟨H0, H1, H2⟩, Hg⟩
  isplitl [H0 H1 H2]
  · isplitl [H0]; · iexists _; iexact H0
    isplitl [H1]; · iexists _; iexact H1
    iexists _; iexact H2
  iexact Hg

set_option backward.isDefEq.respectTransparency.types false in
/-- The call runs; its arrays end at what the proof data compute, the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The frame: the call runs, its arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Fox

end
-- ==== Proof.FoxPay.lean ====
module

public import proofs.«01_k».proof.Proof.FoxRun
public import proofs.«01_k».proof.Proof.FlashMath
public import Idealize.ShloMosaic.Lib.ValueIdx
public import Idealize.ShloMosaic.Lib.MatmulPlain

@[expose] public section

/-! The forgetting heads' attention body's values, read row by row: one key block's masked scores with their forget
biases, and what folding them into the running
state does to a row. -/

set_option maxRecDepth 16384

noncomputable section

namespace Cert.Fox

open Cert.Kernel7Ideal Cert.Kernel7Ideal.Gen
open Idealize.ShloMosaic Idealize.ShloMosaic.TcCoe Idealize.ShloMosaic.ValueIdx
open scoped BigOperators

/-- One key block's masked scores: above the diagonal of a diagonal block there is none. -/
def blockSc (diag : Prop) [Decidable diag] (q k : Vec Ideal S1x1x1024x128 .bf16) (f : Vec Ideal S1x1x1024x1 .f32) (g : Vec Ideal S1x1x1x1024 .f32) (r c : Fin 1024) : EReal :=
  if diag ∧ r.val < c.val then ⊥
  else @HSub.hSub EReal EReal EReal instHSub (@HAdd.hAdd EReal EReal EReal instHAdd (@HMul.hMul EReal EReal EReal instHMul (∑ d : Fin 128, @HMul.hMul EReal EReal EReal instHMul (q (ix4 0 0 r d)) (k (ix4 0 0 c d)))
    (Ideal.ofBits .f32 0x3DB504F3#32)) (f (ix4 0 0 r 0))) (g (ix4 0 0 0 c))

variable (a2 a3 : BitVec 32) (q k : Vec Ideal S1x1x1024x128 .bf16) (f : Vec Ideal S1x1x1024x1 .f32) (g : Vec Ideal S1x1x1x1024 .f32)

theorem cast_val (x : Vec Ideal S1x1x1024x128 .bf16) (c : Fin 1024) (e : Fin 128) :
    shapeCast S1024x128 x shapeCasts_S1x1x1024x128_S1024x128 (ix2 c e) = x (ix4 0 0 c e) :=
  shapeCast_apply x _ _ _ (by
    rewrite [Shape.rowMajor_val_four, Shape.rowMajor_val_two]
    show ((0 * 1 + 0) * 1024 + c.val) * 128 + e.val = c.val * 128 + e.val
    omega)

theorem cast_query (x : Vec Ideal S1x1x1024x1 .f32) (r : Fin 1024) :
    shapeCast S1024x1 x shapeCasts_S1x1x1024x1_S1024x1 (ix2 r 0) = x (ix4 0 0 r 0) :=
  shapeCast_apply x _ _ _ (by
    rewrite [Shape.rowMajor_val_four, Shape.rowMajor_val_two]
    show ((0 * 1 + 0) * 1024 + r.val) * 1 + 0 = r.val * 1 + 0
    omega)

theorem cast_key (x : Vec Ideal S1x1x1x1024 .f32) (c : Fin 1024) :
    shapeCast S1x1024 x shapeCasts_S1x1x1x1024_S1x1024 (ix2 0 c) = x (ix4 0 0 0 c) :=
  shapeCast_apply x _ _ _ (by
    rewrite [Shape.rowMajor_val_four, Shape.rowMajor_val_two]
    show ((0 * 1 + 0) * 1 + 0) * 1024 + c.val = 0 * 1024 + c.val
    omega)

theorem cast_col (x : FVec Ideal S1024 .f32) (r : Fin 1024) :
    shapeCast S1024x1 x shapeCasts_S1024_S1024x1 (ix2 r 0) = x (ix1 r) :=
  shapeCast_apply x _ _ _ (by
    rewrite [Shape.rowMajor_val_one, Shape.rowMajor_val_two]
    show r.val = r.val * 1 + 0
    omega)

theorem spread_keys (x : FVec Ideal S1024x1 .f32) (r c : Fin 1024) :
    broadcastTo S1024x1024 x broadcasts_S1024x1_S1024x1024 (ix2 r c) = x (ix2 r 0) :=
  broadcastTo_apply x _ _ _ fun a => match a with | ⟨0, _⟩ => rfl | ⟨1, _⟩ => rfl

theorem spread_rows (x : FVec Ideal S1x1024 .f32) (r c : Fin 1024) :
    broadcastTo S1024x1024 x broadcasts_S1x1024_S1024x1024 (ix2 r c) = x (ix2 0 c) :=
  broadcastTo_apply x _ _ _ fun a => match a with | ⟨0, _⟩ => rfl | ⟨1, _⟩ => rfl

theorem spread_vals (x : FVec Ideal S1024x1 .f32) (r : Fin 1024) (e : Fin 128) :
    broadcastTo S1024x128 x broadcasts_S1024x1_S1024x128 (ix2 r e) = x (ix2 r 0) :=
  broadcastTo_apply x _ _ _ fun a => match a with | ⟨0, _⟩ => rfl | ⟨1, _⟩ => rfl

theorem lift_row (r : Fin 1024) (c : Fin (S1024x1024.size 1)) :
    (reduces_S1024x1024_S1024 : S1024x1024.Reduces [1] S1024).lift (ix1 r) c = ix2 r (⟨c.val, c.isLt⟩ : Fin 1024) := by
  funext a; apply Fin.ext
  match a with
  | ⟨0, _⟩ => rfl
  | ⟨1, _⟩ => rfl

theorem mask_bit (r c : Fin 1024) :
    IntOp.andi (IntOp.cmpi .eq a3 a2) (IntOp.cmpi .sgt (BitVec.ofNat 32 c.val) (BitVec.ofNat 32 r.val)) = 1#1
      ↔ (a3 = a2 ∧ r.val < c.val) := by
  have hr : (BitVec.ofNat 32 r.val).toInt = (r.val : Int) := WordCmp.toInt_ofNat_of_lt (by omega)
  have hc : (BitVec.ofNat 32 c.val).toInt = (c.val : Int) := WordCmp.toInt_ofNat_of_lt (by omega)
  rw [IntOp.andi_eq_one]
  unfold IntOp.cmpi
  simp only [BitVec.slt, hr, hc, WordCmp.ofBool_eq_one_iff]
  simp

theorem score_product (r c : Fin 1024) : matmul (F := Ideal) (φ₁ := .bf16) (φ₂ := .bf16) dot_S1024x128_S1024x128_S1024x1024_1_1_0_0_n_n none (shapeCast S1024x128 q shapeCasts_S1x1x1024x128_S1024x128)
      (shapeCast S1024x128 k shapeCasts_S1x1x1024x128_S1024x128) (constant S1024x1024 .f32 0x00000000#32) (ix2 r c)
      = ∑ d : Fin 128, @HMul.hMul EReal EReal EReal instHMul (q (ix4 0 0 r d)) (k (ix4 0 0 c d)) := by
  refine (Ideal.matmul_transposedRhs_apply (M := 1024) (K := 128) (N := 1024) none _ _ _ r c).trans ?_
  show Ideal.ofBits .f32 0x00000000#32 + _ = _
  rw [Ideal.ofBits_zero_f32, zero_add]
  refine Finset.sum_congr rfl fun d _ => ?_
  rw [cast_val, cast_val]

theorem pay8_apply (r c : Fin 1024) : k0_pay8 a2 a3 q k f g (ix2 r c) = blockSc (a3 = a2) q k f g r c := by
  unfold k0_pay8 blockSc
  show Scalar.select (IntOp.andi (IntOp.cmpi .eq a3 a2)
      (IntOp.cmpi .sgt (iota .tc S1024x1024 32 [1] iota_S1024x1024_d1_w32 (ix2 r c)) (iota .tc S1024x1024 32 [0] iota_S1024x1024_d0_w32 (ix2 r c))))
    (Ideal.ofBits .f32 0xFF800000#32) (@HSub.hSub EReal EReal EReal instHSub (@HAdd.hAdd EReal EReal EReal instHAdd (@HMul.hMul EReal EReal EReal instHMul (matmul (F := Ideal) (φ₁ := .bf16) (φ₂ := .bf16) dot_S1024x128_S1024x128_S1024x1024_1_1_0_0_n_n none (shapeCast S1024x128 q shapeCasts_S1x1x1024x128_S1024x128)
      (shapeCast S1024x128 k shapeCasts_S1x1x1024x128_S1024x128) (constant S1024x1024 .f32 0x00000000#32) (ix2 r c)) (Ideal.ofBits .f32 0x3DB504F3#32))
        (broadcastTo S1024x1024 (shapeCast S1024x1 f shapeCasts_S1x1x1024x1_S1024x1) broadcasts_S1024x1_S1024x1024 (ix2 r c)))
      (broadcastTo S1024x1024 (shapeCast S1x1024 g shapeCasts_S1x1x1x1024_S1x1024) broadcasts_S1x1024_S1024x1024 (ix2 r c))) = _
  rw [score_product, spread_keys, spread_rows, cast_query, cast_key, iota_single_apply, iota_single_apply, FlashMath.neg_inf]
  unfold Scalar.select
  by_cases h : a3 = a2 ∧ r.val < c.val
  · rw [if_pos h]; exact if_pos ((mask_bit a2 a3 r c).2 h)
  · rw [if_neg h]; exact if_neg (fun e => h ((mask_bit a2 a3 r c).1 e))

theorem pay9_apply (m : Vec Ideal S1024x1 .f32) (r : Fin 1024) :
    k0_pay9 a2 a3 q k f g m (ix2 r 0) = max (m (ix2 r 0)) ((Finset.univ : Finset (Fin 1024)).fold max ⊥ (blockSc (a3 = a2) q k f g r)) := by
  unfold k0_pay9
  show max (m (ix2 r 0)) (shapeCast S1024x1 _ shapeCasts_S1024_S1024x1 (ix2 r 0)) = _
  rw [cast_col]
  refine (congrArg (max (m (ix2 r 0))) (Ideal.multiReduction_maximumf_single _ _ reduces_S1024x1024_S1024 (.inl rfl) rfl (ix1 r))).trans ?_
  show max _ ((Finset.univ : Finset (Fin 1024)).fold max (Ideal.ofBits .f32 0xFF800000#32) _) = _
  rw [FlashMath.neg_inf]
  congr 2
  funext c
  show k0_pay8 a2 a3 q k f g ((reduces_S1024x1024_S1024 : S1024x1024.Reduces [1] S1024).lift (ix1 r) c) = _
  rw [lift_row]
  exact pay8_apply a2 a3 q k f g r c

/-- How the state of a row is scaled when the maximum moves. -/
theorem pay10_apply (m : Vec Ideal S1024x1 .f32) (r : Fin 1024) :
    k0_pay10 a2 a3 q k f g m (ix2 r 0) = Ideal.exp (@HSub.hSub EReal EReal EReal instHSub (m (ix2 r 0)) (k0_pay9 a2 a3 q k f g m (ix2 r 0))) := rfl

theorem pay11_apply (m : Vec Ideal S1024x1 .f32) (r c : Fin 1024) :
    k0_pay11 a2 a3 q k f g m (ix2 r c) = Ideal.exp (@HSub.hSub EReal EReal EReal instHSub (blockSc (a3 = a2) q k f g r c) (k0_pay9 a2 a3 q k f g m (ix2 r 0))) := by
  unfold k0_pay11
  show Ideal.exp (@HSub.hSub EReal EReal EReal instHSub (k0_pay8 a2 a3 q k f g (ix2 r c)) (broadcastTo S1024x1024 _ broadcasts_S1024x1_S1024x1024 (ix2 r c))) = _
  rw [pay8_apply, spread_keys]

theorem pay4_apply (m l : Vec Ideal S1024x1 .f32) (r : Fin 1024) :
    k0_pay4 (k0_pay12 a2 a3 q k f g m l) (k0_pay13 a2 a3 q k f g m) (ix2 r 0)
      = @HAdd.hAdd EReal EReal EReal instHAdd (@HMul.hMul EReal EReal EReal instHMul (l (ix2 r 0)) (Ideal.exp (@HSub.hSub EReal EReal EReal instHSub (m (ix2 r 0)) (k0_pay9 a2 a3 q k f g m (ix2 r 0)))))
        (∑ c : Fin 1024, Ideal.exp (@HSub.hSub EReal EReal EReal instHSub (blockSc (a3 = a2) q k f g r c) (k0_pay9 a2 a3 q k f g m (ix2 r 0)))) := by
  unfold k0_pay4 k0_pay12 k0_pay13
  dsimp only
  rw [shapeCast_self]
  show @HAdd.hAdd EReal EReal EReal instHAdd (@HMul.hMul EReal EReal EReal instHMul (l (ix2 r 0)) (k0_pay10 a2 a3 q k f g m (ix2 r 0))) (shapeCast S1024x1 _ shapeCasts_S1024_S1024x1 (ix2 r 0)) = _
  rw [cast_col, pay10_apply]
  congr 1
  refine (Ideal.multiReduction_add_single _ _ reduces_S1024x1024_S1024 (.inl rfl) rfl (ix1 r)).trans ?_
  show ∑ c : Fin 1024, k0_pay11 a2 a3 q k f g m ((reduces_S1024x1024_S1024 : S1024x1024.Reduces [1] S1024).lift (ix1 r) c) = _
  refine Finset.sum_congr rfl fun c _ => ?_
  exact (congrArg (k0_pay11 a2 a3 q k f g m) (lift_row r c)).trans (pay11_apply a2 a3 q k f g m r c)

theorem pay5_apply (v : Vec Ideal S1x1x1024x128 .bf16) (m : Vec Ideal S1024x1 .f32) (a : Vec Ideal S1024x128 .f32) (r : Fin 1024) (e : Fin 128) :
    k0_pay5 (k0_pay10 a2 a3 q k f g m) (k0_pay11 a2 a3 q k f g m) a v (ix2 r e)
      = @HAdd.hAdd EReal EReal EReal instHAdd (@HMul.hMul EReal EReal EReal instHMul (a (ix2 r e)) (Ideal.exp (@HSub.hSub EReal EReal EReal instHSub (m (ix2 r 0)) (k0_pay9 a2 a3 q k f g m (ix2 r 0)))))
        (∑ c : Fin 1024, @HMul.hMul EReal EReal EReal instHMul (Ideal.exp (@HSub.hSub EReal EReal EReal instHSub (blockSc (a3 = a2) q k f g r c) (k0_pay9 a2 a3 q k f g m (ix2 r 0)))) (v (ix4 0 0 c e))) := by
  unfold k0_pay5
  rw [shapeCast_self]
  show @HAdd.hAdd EReal EReal EReal instHAdd (@HMul.hMul EReal EReal EReal instHMul (a (ix2 r e)) (broadcastTo S1024x128 _ broadcasts_S1024x1_S1024x128 (ix2 r e)))
    (matmul (F := Ideal) (φ₁ := .bf16) (φ₂ := .bf16) dot_S1024x1024_S1024x128_S1024x128_1_0_0_1_n_n none _ _ _ (ix2 r e)) = _
  rw [spread_vals, pay10_apply]
  congr 1
  refine (Ideal.matmul_plain_apply (M := 1024) (K := 1024) (N := 128) none _ _ _ r e).trans ?_
  show Ideal.ofBits .f32 0x00000000#32 + _ = _
  rw [Ideal.ofBits_zero_f32, zero_add]
  refine Finset.sum_congr rfl fun c _ => ?_
  rw [cast_val]
  exact congrArg (fun z : EReal => z * (show EReal from v (ix4 0 0 c e))) (pay11_apply a2 a3 q k f g m r c)

theorem pay7_apply (a : Vec Ideal S1024x128 .f32) (l : Vec Ideal S1024x1 .f32) (r : Fin 1024) (e : Fin 128) :
    k0_pay7 a l (ix3 0 r e) = Ideal.div (a (ix2 r e)) (l (ix2 r 0)) := by
  unfold k0_pay7
  refine (shapeCast_apply _ shapeCasts_S1024x128_S1x1024x128 (ix3 0 r e) (ix2 r e) (by
    rewrite [Shape.rowMajor_val_two, Shape.rowMajor_val_three]
    show r.val * 128 + e.val = (0 * 1024 + r.val) * 128 + e.val
    omega)).trans ?_
  show Ideal.div (a (ix2 r e)) (broadcastTo S1024x128 l broadcasts_S1024x1_S1024x128 (ix2 r e)) = _
  rw [spread_vals]

/-! ## A row of the state -/

/-- A row of the state, at one column of the values, has seen keys of total weight `W` and weighted values `A`. -/
def RowGood (W : ℝ) (A : EReal) (s : St Ideal) (r : Fin 1024) (e : Fin 128) : Prop :=
  FlashMath.Good W A (s.1 (ix2 r 0)) (s.2.1 (ix2 r 0)) (s.2.2 (ix2 r e))

theorem init_1 (r : Fin 1024) : (init0 (F := Ideal)).1 (ix2 r 0) = (⊥ : EReal) := by
  show k0_pay1 (F := Ideal) (ix2 r 0) = _
  unfold k0_pay1; rw [shapeCast_self]; exact FlashMath.neg_inf
theorem init_2 (r : Fin 1024) : (init0 (F := Ideal)).2.1 (ix2 r 0) = (0 : EReal) := by
  show k0_pay2 (F := Ideal) (ix2 r 0) = _
  unfold k0_pay2; rw [shapeCast_self]; exact Ideal.ofBits_zero_f32
theorem init_3 (r : Fin 1024) (e : Fin 128) : (init0 (F := Ideal)).2.2 (ix2 r e) = (0 : EReal) := by
  show k0_pay3 (F := Ideal) (ix2 r e) = _
  unfold k0_pay3; rw [shapeCast_self]; exact Ideal.ofBits_zero_f32

section
variable (i : grid0.Coords) (v : Vec Ideal S1x1x1024x128 .bf16) (s : St Ideal) (r : Fin 1024) (e : Fin 128) (w : Fin 1024 → ℝ)
  (hs : ∀ c, blockSc (keyW i = rowW i) q k f g r c < ⊤) (h0 : ⊥ < blockSc (keyW i = rowW i) q k f g r 0)
  (hw : ∀ c, FlashMath.Weight (blockSc (keyW i = rowW i) q k f g r c) (w c))

theorem step_1 : (step i q k v f g s).1 (ix2 r 0) = k0_pay9 (rowW i) (keyW i) q k f g s.1 (ix2 r 0) := by
  show k0_pay6 (F := Ideal) (k0_pay9 (rowW i) (keyW i) q k f g s.1) (ix2 r 0) = _
  unfold k0_pay6; rw [shapeCast_self]

include hs h0 hw

theorem step_first : RowGood (∑ c, w c) (∑ c, @HMul.hMul EReal EReal EReal instHMul (w c : EReal) (v (ix4 0 0 c e))) (step i q k v f g init0) r e := by
  unfold RowGood
  rw [step_1, show (step i q k v f g init0).2.1 (ix2 r 0) = k0_pay4 (k0_pay12 (rowW i) (keyW i) q k f g init0.1 init0.2.1) (k0_pay13 (rowW i) (keyW i) q k f g init0.1) (ix2 r 0) from rfl,
    show (step i q k v f g init0).2.2 (ix2 r e) = k0_pay5 (k0_pay10 (rowW i) (keyW i) q k f g init0.1) (k0_pay11 (rowW i) (keyW i) q k f g init0.1) init0.2.2 v (ix2 r e) from rfl,
    pay4_apply, pay5_apply, init_1, init_2, init_3]
  refine FlashMath.first _ _ w hs 0 h0 hw _ ?_
  rw [pay9_apply, init_1]

theorem step_next (W : ℝ) (A : EReal) (hg : RowGood W A s r e) :
    RowGood (W + ∑ c, w c) (A + ∑ c, @HMul.hMul EReal EReal EReal instHMul (w c : EReal) (v (ix4 0 0 c e))) (step i q k v f g s) r e := by
  unfold RowGood
  rw [step_1, show (step i q k v f g s).2.1 (ix2 r 0) = k0_pay4 (k0_pay12 (rowW i) (keyW i) q k f g s.1 s.2.1) (k0_pay13 (rowW i) (keyW i) q k f g s.1) (ix2 r 0) from rfl,
    show (step i q k v f g s).2.2 (ix2 r e) = k0_pay5 (k0_pay10 (rowW i) (keyW i) q k f g s.1) (k0_pay11 (rowW i) (keyW i) q k f g s.1) s.2.2 v (ix2 r e) from rfl,
    pay4_apply, pay5_apply]
  refine FlashMath.next _ _ w hs 0 h0 hw W A _ _ _ hg _ ?_
  rw [pay9_apply]
end

end Cert.Fox

end
-- ==== Proof.FoxSpec.lean ====
module

public import proofs.«01_k».proof.Proof.Gen.Reference7Ideal.Run
public import proofs.«01_k».proof.Proof.Gen.Reference7Ideal.Read
public import proofs.«01_k».proof.Proof.FlashMath
public import Idealize.ShloMosaic.Lib.ValueIdx
public import Idealize.ShloMosaic.Lib.WordCmp
public import Idealize.ShloMosaic.Lib.KernelVsHost

@[expose] public section

/-! Causal attention with forget biases as one formula, and the reference read as it.

The formula divides at the end: the sum of the keys' weights times their values, over the sum of the weights.  A
weight is the exponential of a score, and zero above the diagonal; four query heads share a key head; for real queries, keys and forget sums it is a real number. -/

set_option maxRecDepth 16384

noncomputable section

namespace Cert.FoxSpec

open Cert.Reference7Ideal Cert.Reference7Ideal.Gen Cert.Reference7Ideal.Read
open Idealize.ShloMosaic Idealize.ShloMosaic.TcCoe Idealize.ShloMosaic.ValueIdx
open scoped BigOperators

variable (q : S4x2048x8x128.Idx → EReal) (k v : S4x2048x2x128.Idx → EReal) (f : S4x2048x8.Idx → EReal)

/-- The key head a query head reads. -/
def kv (h : Fin 8) : Fin 2 := ⟨h.val / 4, by omega⟩

/-- The score of key `j` for query `i`: none above the diagonal. -/
def sc (b : Fin 4) (h : Fin 8) (i j : Fin 2048) : EReal :=
  if j.val ≤ i.val then (∑ d : Fin 128, q (ix4 b i h d) * k (ix4 b j (kv h) d)) * Ideal.ofBits .f32 0x3DB504F3#32 + f (ix3 b i h) - f (ix3 b j h) else ⊥

/-- The key's weight. -/
def wt (b : Fin 4) (h : Fin 8) (i j : Fin 2048) : ℝ := (Ideal.exp (sc q k f b h i j)).toReal

/-- One element of the result. -/
def attn (b : Fin 4) (h : Fin 8) (i : Fin 2048) (e : Fin 128) : EReal :=
  (((∑ j, wt q k f b h i j)⁻¹ : ℝ) : EReal) * ∑ j, (wt q k f b h i j : EReal) * v (ix4 b j (kv h) e)

/-- The result, the heads side by side. -/
def spec : S4x2048x1024.Idx → EReal := fun i =>
  attn q k v f (i 0) ⟨(i 2).val / 128, by have : (i 2).val < 1024 := (i 2).isLt; omega⟩ (i 1) ⟨(i 2).val % 128, by omega⟩

/-- The scale of the scores is a real number. -/
theorem scale_real : ∃ r : ℝ, Ideal.ofBits .f32 0x3DB504F3#32 = (r : EReal) := by
  refine ⟨_, (EReal.coe_toReal ?_ ?_).symm⟩ <;> simp [Ideal.ofBits, Ideal.ieee, -EReal.coe_mul]

/-- A scaled product of real rows is real. -/
theorem dot_real {n : ℕ} (x y : Fin n → EReal) (hx : ∀ k, ∃ r : ℝ, x k = (r : EReal)) (hy : ∀ k, ∃ r : ℝ, y k = (r : EReal)) :
    ∃ r : ℝ, (∑ k, x k * y k) * Ideal.ofBits .f32 0x3DB504F3#32 = (r : EReal) := by
  obtain ⟨c, hc⟩ := scale_real
  choose a ha using hx
  choose b hb using hy
  refine ⟨(∑ k, a k * b k) * c, ?_⟩
  rw [hc, EReal.coe_mul, ← FlashMath.coe_sum]
  congr 1
  refine Finset.sum_congr rfl fun k _ => ?_
  rw [ha, hb, EReal.coe_mul]

section
variable (hq : ∀ i, ∃ r : ℝ, q i = (r : EReal)) (hk : ∀ i, ∃ r : ℝ, k i = (r : EReal)) (hf : ∀ i, ∃ r : ℝ, f i = (r : EReal))
include hq hk hf

theorem sc_real (b : Fin 4) (h : Fin 8) (i j : Fin 2048) (hij : j.val ≤ i.val) : ∃ r : ℝ, sc q k f b h i j = (r : EReal) := by
  unfold sc
  rw [if_pos hij]
  obtain ⟨p, hp⟩ := dot_real (fun d : Fin 128 => q (ix4 b i h d)) (fun d => k (ix4 b j (kv h) d)) (fun d => hq _) (fun d => hk _)
  obtain ⟨x, hx⟩ := hf (ix3 b i h)
  obtain ⟨y, hy⟩ := hf (ix3 b j h)
  exact ⟨p + x - y, by rw [hp, hx, hy, ← EReal.coe_add, ← EReal.coe_sub]⟩

theorem sc_lt_top (b : Fin 4) (h : Fin 8) (i j : Fin 2048) : sc q k f b h i j < ⊤ := by
  by_cases hij : j.val ≤ i.val
  · obtain ⟨r, hr⟩ := sc_real q k f hq hk hf b h i j hij
    rw [hr]; exact EReal.coe_lt_top r
  · unfold sc; rw [if_neg hij]; exact bot_lt_top

theorem bot_lt_sc (b : Fin 4) (h : Fin 8) (i j : Fin 2048) (hij : j.val ≤ i.val) : ⊥ < sc q k f b h i j := by
  obtain ⟨r, hr⟩ := sc_real q k f hq hk hf b h i j hij
  rw [hr]; exact EReal.bot_lt_coe r

theorem weight (b : Fin 4) (h : Fin 8) (i j : Fin 2048) : FlashMath.Weight (sc q k f b h i j) (wt q k f b h i j) := by
  unfold wt
  by_cases hij : j.val ≤ i.val
  · obtain ⟨r, hr⟩ := sc_real q k f hq hk hf b h i j hij
    rw [hr]; exact FlashMath.weight_coe r
  · unfold sc; rw [if_neg hij]; exact FlashMath.weight_bot

theorem wt_sum_pos (b : Fin 4) (h : Fin 8) (i : Fin 2048) : 0 < ∑ j, wt q k f b h i j := by
  refine Finset.sum_pos' (fun j _ => (weight q k f hq hk hf b h i j).1) ⟨⟨0, by decide⟩, Finset.mem_univ _, ?_⟩
  obtain ⟨r, hr⟩ := sc_real q k f hq hk hf b h i ⟨0, by decide⟩ (Nat.zero_le _)
  unfold wt
  rw [hr]; exact Real.exp_pos r
end

theorem wt_above (b : Fin 4) (h : Fin 8) (i j : Fin 2048) (hij : i.val < j.val) : wt q k f b h i j = 0 := by
  unfold wt sc
  rw [if_neg (by omega)]
  rfl

/-! ## The reference, stage by stage -/

/-- The head a key head `n` and a place `g` in its group name. -/
def hd (n : Fin 2) (g : Fin 4) : Fin 8 := ⟨n.val * 4 + g.val, by omega⟩

theorem kv_hd (n : Fin 2) (g : Fin 4) : kv (hd n g) = n := Fin.ext (by show (n.val * 4 + g.val) / 4 = n.val; omega)

/-- An index of five axes from its values. -/
abbrev at5 (b : Fin 4) (n : Fin 2) (g : Fin 4) (i j : Fin 2048) : S4x2x4x2048x2048.Idx := fun a => match a with
  | ⟨0, _⟩ => b
  | ⟨1, _⟩ => n
  | ⟨2, _⟩ => g
  | ⟨3, _⟩ => i
  | ⟨4, _⟩ => j

theorem ref_mask (i : S4x2x4x2048x2048.Idx) : val_main_call0_v1 (F := Ideal) i = 1#1 ↔ (i 4).val ≤ (i 3).val := by
  rw [val_main_call0_v1_apply, val_main_v18_apply, val_main_v16_apply, val_main_v14_apply, val_main_v13_apply,
    val_main_v17_apply, val_main_v15_apply, val_main_v13_apply]
  have h2 : (i 3).val < 2048 := (i 3).isLt
  have h3 : (i 4).val < 2048 := (i 4).isLt
  show IntOp.cmpi .sge (BitVec.ofNat 32 (i 3).val) (BitVec.ofNat 32 (i 4).val) = 1#1 ↔ _
  have e2 : (BitVec.ofNat 32 (i 3).val).toInt = ((i 3).val : Int) := WordCmp.toInt_ofNat_of_lt (by omega)
  have e3 : (BitVec.ofNat 32 (i 4).val).toInt = ((i 4).val : Int) := WordCmp.toInt_ofNat_of_lt (by omega)
  unfold IntOp.cmpi
  simp only [BitVec.sle, e2, e3, WordCmp.ofBool_eq_one_iff]
  simp

theorem ref_query (b : Fin 4) (n : Fin 2) (g : Fin 4) (i : Fin 2048) (d : Fin 128) (y : S4x2048x2x4x128.Idx)
    (h0 : (y 0).val = b.val) (h1 : (y 1).val = i.val) (h2 : (y 2).val = n.val) (h3 : (y 3).val = g.val) (h4 : (y 4).val = d.val) :
    val_main_v2 (F := Ideal) q y = q (ix4 b i (hd n g) d) := by
  rw [val_main_v2_apply]
  refine congrArg q (funext fun a => Fin.ext ?_)
  match a with
  | ⟨0, _⟩ => show (((((y 0).val * 2048 + (y 1).val) * 2 + (y 2).val) * 4 + (y 3).val) * 128 + (y 4).val) / 2097152 = b.val; omega
  | ⟨1, _⟩ => show (((((y 0).val * 2048 + (y 1).val) * 2 + (y 2).val) * 4 + (y 3).val) * 128 + (y 4).val) / 1024 % 2048 = i.val; omega
  | ⟨2, _⟩ => show (((((y 0).val * 2048 + (y 1).val) * 2 + (y 2).val) * 4 + (y 3).val) * 128 + (y 4).val) / 128 % 8 = n.val * 4 + g.val; omega
  | ⟨3, _⟩ => show (((((y 0).val * 2048 + (y 1).val) * 2 + (y 2).val) * 4 + (y 3).val) * 128 + (y 4).val) % 128 = d.val; omega

theorem ref_forget (b : Fin 4) (n : Fin 2) (g : Fin 4) (i : Fin 2048) (y : S4x2x4x2048.Idx)
    (h0 : (y 0).val = b.val) (h1 : (y 1).val = n.val) (h2 : (y 2).val = g.val) (h3 : (y 3).val = i.val) :
    val_main_v1 (F := Ideal) f y = f (ix3 b i (hd n g)) := by
  rw [val_main_v1_apply, val_main_v0_apply]
  refine congrArg f (funext fun a => Fin.ext ?_)
  match a with
  | ⟨0, _⟩ => show ((((y 0).val * 2048 + (y 3).val) * 2 + (y 1).val) * 4 + (y 2).val) / 16384 = b.val; omega
  | ⟨1, _⟩ => show ((((y 0).val * 2048 + (y 3).val) * 2 + (y 1).val) * 4 + (y 2).val) / 8 % 2048 = i.val; omega
  | ⟨2, _⟩ => show ((((y 0).val * 2048 + (y 3).val) * 2 + (y 1).val) * 4 + (y 2).val) % 8 = n.val * 4 + g.val; omega

theorem ref_dot (b : Fin 4) (n : Fin 2) (g : Fin 4) (i j : Fin 2048) :
    val_main_v4 (F := Ideal) q k (at5 b n g i j) = ∑ d : Fin 128, q (ix4 b i (hd n g) d) * k (ix4 b j n d) := by
  rw [val_main_v4_apply, val_main_v3_apply]
  refine Finset.sum_congr rfl fun d _ => ?_
  refine Eq.trans ?_ (mul_comm (k (ix4 b j n d)) (q (ix4 b i (hd n g) d)))
  refine congrArg₂ (fun x y : EReal => x * y) ?_ ?_
  · exact congrArg k (funext fun a => by match a with | ⟨0, _⟩ => rfl | ⟨1, _⟩ => rfl | ⟨2, _⟩ => rfl | ⟨3, _⟩ => rfl)
  · exact ref_query q b n g i d _ rfl rfl rfl rfl rfl

theorem ref_bias_query (b : Fin 4) (n : Fin 2) (g : Fin 4) (i j : Fin 2048) :
    val_main_v8 (F := Ideal) f (at5 b n g i j) = f (ix3 b i (hd n g)) := by
  rw [val_main_v8_apply, val_main_v7_apply]
  exact ref_forget f b n g i _ rfl rfl rfl rfl

theorem ref_bias_key (b : Fin 4) (n : Fin 2) (g : Fin 4) (i j : Fin 2048) :
    val_main_v11 (F := Ideal) f (at5 b n g i j) = f (ix3 b j (hd n g)) := by
  rw [val_main_v11_apply, val_main_v10_apply]
  exact ref_forget f b n g j _ rfl rfl rfl rfl

theorem ref_sc (b : Fin 4) (n : Fin 2) (g : Fin 4) (i j : Fin 2048) :
    val_main_v19 (F := Ideal) q k f (at5 b n g i j) = sc q k f b (hd n g) i j := by
  rw [val_main_v19_apply]
  unfold sc Scalar.select
  by_cases hij : j.val ≤ i.val
  · refine Eq.trans (if_pos ((ref_mask (at5 b n g i j)).2 hij)) ?_
    rw [if_pos hij, val_main_v12_apply, val_main_v9_apply, val_main_v6_apply, ref_dot, ref_bias_query, ref_bias_key, val_main_v5_apply, kv_hd]
    rfl
  · refine Eq.trans (if_neg (fun e => hij ((ref_mask (at5 b n g i j)).1 e))) ?_
    rw [if_neg hij, val_main_call0_v2_apply]
    exact FlashMath.neg_inf

theorem reduces_keys : S4x2x4x2048x2048.Reduces [4] S4x2x4x2048 := by decide

theorem ref_max (b : Fin 4) (n : Fin 2) (g : Fin 4) (i : Fin 2048) : val_main_v22 (F := Ideal) q k f (ix4 b n g i)
    = max ⊥ ((Finset.univ : Finset (Fin 2048)).fold max ⊥ (sc q k f b (hd n g) i)) := by
  rw [val_main_v22_apply, val_main_v21_apply]
  show max (Ideal.ofBits .f32 0xFF800000#32) (val_main_v20 (F := Ideal) q k f (ix4 b n g i)) = _
  rw [FlashMath.neg_inf]
  unfold val_main_v20 val_main_cst_1
  refine congrArg (max ⊥) ?_
  refine (congrFun (hostReduce_maximumf_eq_multiReduction _ _ _ _ reduces_keys (.inl rfl) rfl) (ix4 b n g i)).trans ?_
  refine (Ideal.multiReduction_maximumf_single _ _ reduces_keys (.inl rfl) rfl (ix4 b n g i)).trans ?_
  show (Finset.univ : Finset (Fin 2048)).fold max (Ideal.ofBits .f32 0xFF800000#32) _ = _
  rw [FlashMath.neg_inf]
  congr 1
  funext j
  refine Eq.trans ?_ (ref_sc q k f b n g i j)
  exact congrArg (val_main_v19 (F := Ideal) q k f) (funext fun a => Fin.ext (by
    match a with | ⟨0, _⟩ => rfl | ⟨1, _⟩ => rfl | ⟨2, _⟩ => rfl | ⟨3, _⟩ => rfl | ⟨4, _⟩ => rfl))

theorem ref_exp (b : Fin 4) (n : Fin 2) (g : Fin 4) (i j : Fin 2048) (μ : ℝ) (hμ : val_main_v22 (F := Ideal) q k f (ix4 b n g i) = (μ : EReal)) :
    val_main_v26 (F := Ideal) q k f (at5 b n g i j) = Ideal.exp (sc q k f b (hd n g) i j - (μ : EReal)) := by
  rw [val_main_v26_apply, val_main_v25_apply, val_main_v24_apply, val_main_v23_apply, ref_sc]
  rw [show idx_main_v23 (idx_main_v24 (at5 b n g i j)) = ix4 b n g i from
    funext fun a => by match a with | ⟨0, _⟩ => rfl | ⟨1, _⟩ => rfl | ⟨2, _⟩ => rfl | ⟨3, _⟩ => rfl, hμ]
  rfl

theorem ref_div (b : Fin 4) (n : Fin 2) (g : Fin 4) (i j : Fin 2048) (μ : ℝ) (hμ : val_main_v22 (F := Ideal) q k f (ix4 b n g i) = (μ : EReal)) :
    val_main_v30 (F := Ideal) q k f (at5 b n g i j)
      = Ideal.div (Ideal.exp (sc q k f b (hd n g) i j - (μ : EReal))) (0 + ∑ j, Ideal.exp (sc q k f b (hd n g) i j - (μ : EReal))) := by
  rw [val_main_v30_apply, val_main_v29_apply, val_main_v28_apply, val_main_v27_apply, ref_exp q k f b n g i j μ hμ]
  show Ideal.div (Ideal.exp (sc q k f b (hd n g) i j - (μ : EReal))) (Ideal.ofBits .f32 0x00000000#32 + _) = _
  rw [Ideal.ofBits_zero_f32]
  refine congrArg (fun z => Ideal.div (Ideal.exp (sc q k f b (hd n g) i j - (μ : EReal))) (0 + z)) ?_
  refine Finset.sum_congr rfl fun j' _ => ?_
  refine Eq.trans ?_ (ref_exp q k f b n g i j' μ hμ)
  exact congrArg (val_main_v26 (F := Ideal) q k f) (funext fun a => by
    match a with | ⟨0, _⟩ => rfl | ⟨1, _⟩ => rfl | ⟨2, _⟩ => rfl | ⟨3, _⟩ => rfl | ⟨4, _⟩ => rfl)

section
variable (hq : ∀ i, ∃ r : ℝ, q i = (r : EReal)) (hk : ∀ i, ∃ r : ℝ, k i = (r : EReal)) (hf : ∀ i, ∃ r : ℝ, f i = (r : EReal))
include hq hk hf

/-- The reference's product with the values, at one place. -/
theorem ref_values (b : Fin 4) (n : Fin 2) (g : Fin 4) (i : Fin 2048) (e : Fin 128) (y : S4x2x128x4x2048.Idx)
    (h0 : (y 0).val = b.val) (h1 : (y 1).val = n.val) (h2 : (y 2).val = e.val) (h3 : (y 3).val = g.val) (h4 : (y 4).val = i.val) :
    val_main_v31 (F := Ideal) q k v f y = attn q k v f b (hd n g) i e := by
  rw [val_main_v31_apply]
  unfold attn
  obtain ⟨μ, hμ⟩ := FlashMath.max_real (sc q k f b (hd n g) i) (sc_lt_top q k f hq hk hf b (hd n g) i) ⟨0, by decide⟩
    (bot_lt_sc q k f hq hk hf b (hd n g) i _ (Nat.zero_le _)) ⊥ bot_lt_top
  rw [← ref_max] at hμ
  refine Eq.trans ?_ (FlashMath.softmax _ (fun j => v (ix4 b j (kv (hd n g)) e)) _ (weight q k f hq hk hf b (hd n g) i) (wt_sum_pos q k f hq hk hf b (hd n g) i) μ)
  refine Finset.sum_congr rfl fun j _ => ?_
  rw [← ref_div q k f b n g i j μ hμ, kv_hd]
  refine congrArg₂ (fun x y : EReal => x * y) ?_ ?_
  · refine congrArg v (funext fun a => Fin.ext ?_)
    match a with
    | ⟨0, _⟩ => exact h0
    | ⟨1, _⟩ => rfl
    | ⟨2, _⟩ => exact h1
    | ⟨3, _⟩ => exact h2
  · refine congrArg (val_main_v30 (F := Ideal) q k f) (funext fun a => Fin.ext ?_)
    match a with
    | ⟨0, _⟩ => exact h0
    | ⟨1, _⟩ => exact h1
    | ⟨2, _⟩ => exact h3
    | ⟨3, _⟩ => exact h4
    | ⟨4, _⟩ => rfl

theorem ref_eq : val_main_v34 (F := Ideal) q k v f = spec q k v f := by
  funext i
  have h0 : (i 0).val < 4 := (i 0).isLt
  have h1 : (i 1).val < 2048 := (i 1).isLt
  have h2 : (i 2).val < 1024 := (i 2).isLt
  rw [val_main_v34_apply]
  show val_main_v33 (F := Ideal) q k v f i = _
  rw [val_main_v33_apply, val_main_v32_apply]
  refine (ref_values q k v f hq hk hf (i 0) ⟨(i 2).val / 512, by omega⟩ ⟨(i 2).val / 128 % 4, by omega⟩ (i 1) ⟨(i 2).val % 128, by omega⟩ _ ?_ ?_ ?_ ?_ ?_).trans ?_
  · show (((i 0).val * 2048 + (i 1).val) * 1024 + (i 2).val) / 2097152 = (i 0).val; omega
  · show (((i 0).val * 2048 + (i 1).val) * 1024 + (i 2).val) / 512 % 2 = (i 2).val / 512; omega
  · show (((i 0).val * 2048 + (i 1).val) * 1024 + (i 2).val) % 128 = (i 2).val % 128; omega
  · show (((i 0).val * 2048 + (i 1).val) * 1024 + (i 2).val) / 128 % 4 = (i 2).val / 128 % 4; omega
  · show (((i 0).val * 2048 + (i 1).val) * 1024 + (i 2).val) / 1024 % 2048 = (i 1).val; omega
  · unfold spec
    exact congrArg (fun h : Fin 8 => attn q k v f (i 0) h (i 1) ⟨(i 2).val % 128, by omega⟩)
      (Fin.ext (by show (i 2).val / 512 * 4 + (i 2).val / 128 % 4 = (i 2).val / 128; omega))
end

end Cert.FoxSpec

end
-- ==== Proof.FoxBlocks.lean ====
module

public import proofs.«01_k».proof.Proof.FoxFrame
public import Idealize.ShloMosaic.Lib.ValueIdx
public import Idealize.ShloMosaic.Lib.StableHlo.Run

@[expose] public section

/-! The blocks of the forgetting heads' attention call, read from the arguments: the host transposes put the heads before the rows, and each
grid point's windows take one head's row block and key block, the key head
the one four query heads share. -/

set_option maxRecDepth 16384

noncomputable section

namespace Cert.Fox

open Cert.Kernel7Ideal Cert.Kernel7Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

theorem V_q (c : Dev nD) (i : S4x8x2048x128.Idx) :
    V m c main_v2 i = m ((c : Thread nD τ).loc main_arg0) (ix4 (i 0) (i 2) (i 1) (i 3)) := by
  have e : V m c main_v2 = truncf (F := Ideal) .bf16 (transpose S4x8x2048x128 [0, 2, 1, 3] (m ((c : Thread nD τ).loc main_arg0)) transposes_S4x2048x8x128_S4x8x2048x128_0_2_1_3) bitsLt_bf16_f32 := by
    unfold V
    after_results
  rw [e]
  exact transpose_apply [0, 2, 1, 3] (m ((c : Thread nD τ).loc main_arg0)) transposes_S4x2048x8x128_S4x8x2048x128_0_2_1_3 i (ix4 (i 0) (i 2) (i 1) (i 3))
    (fun b => match b with | ⟨0, _⟩ => rfl | ⟨1, _⟩ => rfl | ⟨2, _⟩ => rfl | ⟨3, _⟩ => rfl)

theorem V_k (c : Dev nD) (i : S4x2x2048x128.Idx) :
    V m c main_v4 i = m ((c : Thread nD τ).loc main_arg1) (ix4 (i 0) (i 2) (i 1) (i 3)) := by
  have e : V m c main_v4 = truncf (F := Ideal) .bf16 (transpose S4x2x2048x128 [0, 2, 1, 3] (m ((c : Thread nD τ).loc main_arg1)) transposes_S4x2048x2x128_S4x2x2048x128_0_2_1_3) bitsLt_bf16_f32 := by
    unfold V
    after_results
  rw [e]
  exact transpose_apply [0, 2, 1, 3] (m ((c : Thread nD τ).loc main_arg1)) transposes_S4x2048x2x128_S4x2x2048x128_0_2_1_3 i (ix4 (i 0) (i 2) (i 1) (i 3))
    (fun b => match b with | ⟨0, _⟩ => rfl | ⟨1, _⟩ => rfl | ⟨2, _⟩ => rfl | ⟨3, _⟩ => rfl)

theorem V_v (c : Dev nD) (i : S4x2x2048x128.Idx) :
    V m c main_v6 i = m ((c : Thread nD τ).loc main_arg2) (ix4 (i 0) (i 2) (i 1) (i 3)) := by
  have e : V m c main_v6 = truncf (F := Ideal) .bf16 (transpose S4x2x2048x128 [0, 2, 1, 3] (m ((c : Thread nD τ).loc main_arg2)) transposes_S4x2048x2x128_S4x2x2048x128_0_2_1_3) bitsLt_bf16_f32 := by
    unfold V
    after_results
  rw [e]
  exact transpose_apply [0, 2, 1, 3] (m ((c : Thread nD τ).loc main_arg2)) transposes_S4x2048x2x128_S4x2x2048x128_0_2_1_3 i (ix4 (i 0) (i 2) (i 1) (i 3))
    (fun b => match b with | ⟨0, _⟩ => rfl | ⟨1, _⟩ => rfl | ⟨2, _⟩ => rfl | ⟨3, _⟩ => rfl)

theorem sums_apply (x : FVec Ideal S4x2048x8 .f32) (b : Fin 4) (h : Fin 8) (i : Fin 2048) :
    transpose S4x8x2048 [0, 2, 1] x transposes_S4x2048x8_S4x8x2048_0_2_1 (ix3 b h i) = x (ix3 b i h) :=
  transpose_apply [0, 2, 1] x transposes_S4x2048x8_S4x8x2048_0_2_1 (ix3 b h i) (ix3 b i h)
    (fun b => match b with | ⟨0, _⟩ => rfl | ⟨1, _⟩ => rfl | ⟨2, _⟩ => rfl)

theorem V_f (c : Dev nD) (i : S4x8x2048x1.Idx) :
    V m c main_v7 i = m ((c : Thread nD τ).loc main_arg3) (ix3 (i 0) (i 2) (i 1)) := by
  have e : V m c main_v7 = broadcastInDim S4x8x2048x1 ![0, 1, 2] bcast_S4x8x2048_S4x8x2048x1_0_1_2 (transpose S4x8x2048 [0, 2, 1] (m ((c : Thread nD τ).loc main_arg3)) transposes_S4x2048x8_S4x8x2048_0_2_1) := by
    unfold V
    after_results
  rw [e]
  refine (broadcastInDim_apply _ bcast_S4x8x2048_S4x8x2048x1_0_1_2 (transpose S4x8x2048 [0, 2, 1] (m ((c : Thread nD τ).loc main_arg3)) transposes_S4x2048x8_S4x8x2048_0_2_1) i (ix3 (i 0) (i 1) (i 2))
    (fun a => match a with | ⟨0, _⟩ => rfl | ⟨1, _⟩ => rfl | ⟨2, _⟩ => rfl)).trans ?_
  exact sums_apply (m ((c : Thread nD τ).loc main_arg3)) (i 0) (i 1) (i 2)

theorem V_g (c : Dev nD) (i : S4x8x1x2048.Idx) :
    V m c main_v8 i = m ((c : Thread nD τ).loc main_arg3) (ix3 (i 0) (i 3) (i 1)) := by
  have e : V m c main_v8 = broadcastInDim S4x8x1x2048 ![0, 1, 3] bcast_S4x8x2048_S4x8x1x2048_0_1_3 (transpose S4x8x2048 [0, 2, 1] (m ((c : Thread nD τ).loc main_arg3)) transposes_S4x2048x8_S4x8x2048_0_2_1) := by
    unfold V
    after_results
  rw [e]
  refine (broadcastInDim_apply _ bcast_S4x8x2048_S4x8x1x2048_0_1_3 (transpose S4x8x2048 [0, 2, 1] (m ((c : Thread nD τ).loc main_arg3)) transposes_S4x2048x8_S4x8x2048_0_2_1) i (ix3 (i 0) (i 1) (i 3))
    (fun a => match a with | ⟨0, _⟩ => rfl | ⟨1, _⟩ => rfl | ⟨2, _⟩ => rfl)).trans ?_
  exact sums_apply (m ((c : Thread nD τ).loc main_arg3)) (i 0) (i 1) (i 3)

/-- Where each window's block lies, point by point; the key block above the diagonal is not read. -/
theorem places : ∀ t : Fin cfg0.N,
    (win0_0.index t 0 = t.val / 32 ∧ win0_0.index t 1 = t.val / 4 % 8 ∧ win0_0.index t 2 = t.val / 2 % 2 ∧ win0_0.index t 3 = 0)
      ∧ (win0_1.index t 0 = t.val / 32 ∧ win0_1.index t 1 = t.val / 4 % 8 / 4 ∧ win0_1.index t 2 = t.val % 4 / 3 ∧ win0_1.index t 3 = 0)
      ∧ (win0_2.index t 0 = t.val / 32 ∧ win0_2.index t 1 = t.val / 4 % 8 / 4 ∧ win0_2.index t 2 = t.val % 4 / 3 ∧ win0_2.index t 3 = 0)
      ∧ (win0_3.index t 0 = t.val / 32 ∧ win0_3.index t 1 = t.val / 4 % 8 ∧ win0_3.index t 2 = t.val / 2 % 2 ∧ win0_3.index t 3 = 0)
      ∧ (win0_4.index t 0 = t.val / 32 ∧ win0_4.index t 1 = t.val / 4 % 8 ∧ win0_4.index t 2 = 0 ∧ win0_4.index t 3 = t.val % 4 / 3)
      ∧ (win0_5.index t 0 = t.val / 32 ∧ win0_5.index t 1 = t.val / 2 % 2 ∧ win0_5.index t 2 = t.val / 4 % 8) :=
  (by decide +kernel : ∀ t : Fin grid0.N,
    (win0_0.index t 0 = t.val / 32 ∧ win0_0.index t 1 = t.val / 4 % 8 ∧ win0_0.index t 2 = t.val / 2 % 2 ∧ win0_0.index t 3 = 0)
      ∧ (win0_1.index t 0 = t.val / 32 ∧ win0_1.index t 1 = t.val / 4 % 8 / 4 ∧ win0_1.index t 2 = t.val % 4 / 3 ∧ win0_1.index t 3 = 0)
      ∧ (win0_2.index t 0 = t.val / 32 ∧ win0_2.index t 1 = t.val / 4 % 8 / 4 ∧ win0_2.index t 2 = t.val % 4 / 3 ∧ win0_2.index t 3 = 0)
      ∧ (win0_3.index t 0 = t.val / 32 ∧ win0_3.index t 1 = t.val / 4 % 8 ∧ win0_3.index t 2 = t.val / 2 % 2 ∧ win0_3.index t 3 = 0)
      ∧ (win0_4.index t 0 = t.val / 32 ∧ win0_4.index t 1 = t.val / 4 % 8 ∧ win0_4.index t 2 = 0 ∧ win0_4.index t 3 = t.val % 4 / 3)
      ∧ (win0_5.index t 0 = t.val / 32 ∧ win0_5.index t 1 = t.val / 2 % 2 ∧ win0_5.index t 2 = t.val / 4 % 8))

theorem diag_iff : ∀ t : Fin cfg0.N, keyW (grid0.coords t) = rowW (grid0.coords t) ↔ (t.val % 4 = 0 ∨ t.val % 4 = 3) :=
  (by decide +kernel : ∀ t : Fin grid0.N, keyW (grid0.coords t) = rowW (grid0.coords t) ↔ (t.val % 4 = 0 ∨ t.val % 4 = 3))

/-! ## A point's batch, head, query row and key row -/

theorem N_eq : cfg0.N = 128 := N_0

def bOf (t : Fin cfg0.N) : Fin 4 := ⟨t.val / 32, by have := t.isLt; have := N_eq; omega⟩
def hOf (t : Fin cfg0.N) : Fin 8 := ⟨t.val / 4 % 8, by omega⟩
def rowOf (t : Fin cfg0.N) (r : Fin 1024) : Fin 2048 := ⟨t.val / 2 % 2 * 1024 + r.val, by omega⟩
def keyOf (t : Fin cfg0.N) (r : Fin 1024) : Fin 2048 := ⟨t.val % 4 / 3 * 1024 + r.val, by omega⟩

def kvOf (t : Fin cfg0.N) : Fin 2 := ⟨t.val / 4 % 8 / 4, by omega⟩

theorem blk_q (c : Dev nD) (t : Fin cfg0.N) (r : Fin 1024) (d : Fin 128) :
    iblk m c 0 t (ix4 0 0 r d) = m ((c : Thread nD τ).loc main_arg0) (ix4 (bOf t) (rowOf t r) (hOf t) d) := by
  obtain ⟨p0, p1, p2, p3⟩ := (places t).1
  show V m c main_v2 ((win0_0.rect t).emb (ix4 0 0 r d)) = _
  refine (V_q m c _).trans (congrArg (m ((c : Thread nD τ).loc main_arg0)) (funext fun a => Fin.ext ?_))
  match a with
  | ⟨0, _⟩ => exact (Window.rect_emb_val win0_0 t _ (0 : Fin 4)).trans (by rw [p0]; show t.val / 32 * 1 + 0 = t.val / 32; omega)
  | ⟨1, _⟩ => exact (Window.rect_emb_val win0_0 t _ (2 : Fin 4)).trans (by rw [p2]; rfl)
  | ⟨2, _⟩ => exact (Window.rect_emb_val win0_0 t _ (1 : Fin 4)).trans (by rw [p1]; show t.val / 4 % 8 * 1 + 0 = t.val / 4 % 8; omega)
  | ⟨3, _⟩ => exact Window.rect_emb_val_of_index_zero win0_0 t (3 : Fin 4) p3 _

theorem blk_k (c : Dev nD) (t : Fin cfg0.N) (r : Fin 1024) (d : Fin 128) :
    iblk m c 1 t (ix4 0 0 r d) = m ((c : Thread nD τ).loc main_arg1) (ix4 (bOf t) (keyOf t r) (kvOf t) d) := by
  obtain ⟨p0, p1, p2, p3⟩ := (places t).2.1
  show V m c main_v4 ((win0_1.rect t).emb (ix4 0 0 r d)) = _
  refine (V_k m c _).trans (congrArg (m ((c : Thread nD τ).loc main_arg1)) (funext fun a => Fin.ext ?_))
  match a with
  | ⟨0, _⟩ => exact (Window.rect_emb_val win0_1 t _ (0 : Fin 4)).trans (by rw [p0]; show t.val / 32 * 1 + 0 = t.val / 32; omega)
  | ⟨1, _⟩ => exact (Window.rect_emb_val win0_1 t _ (2 : Fin 4)).trans (by rw [p2]; rfl)
  | ⟨2, _⟩ => exact (Window.rect_emb_val win0_1 t _ (1 : Fin 4)).trans (by rw [p1]; show t.val / 4 % 8 / 4 * 1 + 0 = t.val / 4 % 8 / 4; omega)
  | ⟨3, _⟩ => exact Window.rect_emb_val_of_index_zero win0_1 t (3 : Fin 4) p3 _

theorem blk_v (c : Dev nD) (t : Fin cfg0.N) (r : Fin 1024) (d : Fin 128) :
    iblk m c 2 t (ix4 0 0 r d) = m ((c : Thread nD τ).loc main_arg2) (ix4 (bOf t) (keyOf t r) (kvOf t) d) := by
  obtain ⟨p0, p1, p2, p3⟩ := (places t).2.2.1
  show V m c main_v6 ((win0_2.rect t).emb (ix4 0 0 r d)) = _
  refine (V_v m c _).trans (congrArg (m ((c : Thread nD τ).loc main_arg2)) (funext fun a => Fin.ext ?_))
  match a with
  | ⟨0, _⟩ => exact (Window.rect_emb_val win0_2 t _ (0 : Fin 4)).trans (by rw [p0]; show t.val / 32 * 1 + 0 = t.val / 32; omega)
  | ⟨1, _⟩ => exact (Window.rect_emb_val win0_2 t _ (2 : Fin 4)).trans (by rw [p2]; rfl)
  | ⟨2, _⟩ => exact (Window.rect_emb_val win0_2 t _ (1 : Fin 4)).trans (by rw [p1]; show t.val / 4 % 8 / 4 * 1 + 0 = t.val / 4 % 8 / 4; omega)
  | ⟨3, _⟩ => exact Window.rect_emb_val_of_index_zero win0_2 t (3 : Fin 4) p3 _

theorem blk_f (c : Dev nD) (t : Fin cfg0.N) (r : Fin 1024) :
    iblk m c 3 t (ix4 0 0 r 0) = m ((c : Thread nD τ).loc main_arg3) (ix3 (bOf t) (rowOf t r) (hOf t)) := by
  obtain ⟨p0, p1, p2, p3⟩ := (places t).2.2.2.1
  show V m c main_v7 ((win0_3.rect t).emb (ix4 0 0 r 0)) = _
  refine (V_f m c _).trans (congrArg (m ((c : Thread nD τ).loc main_arg3)) (funext fun a => Fin.ext ?_))
  match a with
  | ⟨0, _⟩ => exact (Window.rect_emb_val win0_3 t _ (0 : Fin 4)).trans (by rw [p0]; show t.val / 32 * 1 + 0 = t.val / 32; omega)
  | ⟨1, _⟩ => exact (Window.rect_emb_val win0_3 t _ (2 : Fin 4)).trans (by rw [p2]; rfl)
  | ⟨2, _⟩ => exact (Window.rect_emb_val win0_3 t _ (1 : Fin 4)).trans (by rw [p1]; show t.val / 4 % 8 * 1 + 0 = t.val / 4 % 8; omega)

theorem blk_g (c : Dev nD) (t : Fin cfg0.N) (r : Fin 1024) :
    iblk m c 4 t (ix4 0 0 0 r) = m ((c : Thread nD τ).loc main_arg3) (ix3 (bOf t) (keyOf t r) (hOf t)) := by
  obtain ⟨p0, p1, p2, p3⟩ := (places t).2.2.2.2.1
  show V m c main_v8 ((win0_4.rect t).emb (ix4 0 0 0 r)) = _
  refine (V_g m c _).trans (congrArg (m ((c : Thread nD τ).loc main_arg3)) (funext fun a => Fin.ext ?_))
  match a with
  | ⟨0, _⟩ => exact (Window.rect_emb_val win0_4 t _ (0 : Fin 4)).trans (by rw [p0]; show t.val / 32 * 1 + 0 = t.val / 32; omega)
  | ⟨1, _⟩ => exact (Window.rect_emb_val win0_4 t _ (3 : Fin 4)).trans (by rw [p3]; rfl)
  | ⟨2, _⟩ => exact (Window.rect_emb_val win0_4 t _ (1 : Fin 4)).trans (by rw [p1]; show t.val / 4 % 8 * 1 + 0 = t.val / 4 % 8; omega)

theorem at5 (t : Fin cfg0.N) (y) : ((win0_5.rect t).emb y 0).val = t.val / 32 + (y 0).val
    ∧ ((win0_5.rect t).emb y 1).val = t.val / 2 % 2 * 1024 + (y 1).val ∧ ((win0_5.rect t).emb y 2).val = t.val / 4 % 8 * 128 + (y 2).val := by
  obtain ⟨p0, p1, p2⟩ := (places t).2.2.2.2.2
  exact ⟨(Window.rect_emb_val win0_5 t y (0 : Fin 3)).trans (by rw [p0]; show t.val / 32 * 1 + _ = _; omega),
    (Window.rect_emb_val win0_5 t y (1 : Fin 3)).trans (by rw [p1]; rfl),
    (Window.rect_emb_val win0_5 t y (2 : Fin 3)).trans (by rw [p2]; rfl)⟩

end Cert.Fox

end
-- ==== Proof.FoxValue.lean ====
module

public import proofs.«01_k».proof.Proof.FoxPay
public import proofs.«01_k».proof.Proof.FoxSpec
public import proofs.«01_k».proof.Proof.FoxBlocks

@[expose] public section

/-! The value of the forgetting heads' attention call: after a row block's last key block each row's quotient is causal attention with forget biases, and the
blocks written cover the result. -/

set_option maxRecDepth 16384

noncomputable section

namespace Cert.Fox

open Cert.Kernel7Ideal Cert.Kernel7Ideal.Gen
open Idealize.ShloMosaic Idealize.ShloMosaic.TcCoe Idealize.ShloMosaic.ValueIdx Idealize.SL.Sem
open Idealize.ShloMosaic.Pipeline (Dat Window)
open Cert.FoxSpec (sc wt attn spec)
open scoped BigOperators

variable (m : (ℓ : Loc nD τ sig) → Buf (Elt Ideal) ℓ)

/-- The arguments as arrays of extended reals. -/
abbrev aQ (c : Dev nD) : S4x2048x8x128.Idx → EReal := m ((c : Thread nD τ).loc main_arg0)
abbrev aK (c : Dev nD) : S4x2048x2x128.Idx → EReal := m ((c : Thread nD τ).loc main_arg1)
abbrev aV (c : Dev nD) : S4x2048x2x128.Idx → EReal := m ((c : Thread nD τ).loc main_arg2)
abbrev aF (c : Dev nD) : S4x2048x8.Idx → EReal := m ((c : Thread nD τ).loc main_arg3)

/-- All 2048 keys are the first 1024 and the last 1024. -/
theorem sum_halves {M : Type} [AddCommMonoid M] (f : Fin 2048 → M) :
    ∑ j, f j = (∑ c : Fin 1024, f ⟨c.val, by omega⟩) + ∑ c : Fin 1024, f ⟨1024 + c.val, by omega⟩ :=
  Fin.sum_univ_add (a := 1024) (b := 1024) f

theorem blockSc_eq (c : Dev nD) (t : Fin cfg0.N) (ht : t.val % 4 ≠ 1) (r j : Fin 1024) :
    blockSc (keyW (grid0.coords t) = rowW (grid0.coords t)) (iblk m c 0 t) (iblk m c 1 t) (iblk m c 3 t) (iblk m c 4 t) r j
      = sc (aQ m c) (aK m c) (aF m c) (bOf t) (hOf t) (rowOf t r) (keyOf t j) := by
  unfold blockSc sc
  have hd := diag_iff t
  have hj := j.isLt
  have hr := r.isLt
  have hcond : (keyW (grid0.coords t) = rowW (grid0.coords t) ∧ r.val < j.val) ↔ ¬ ((keyOf t j).val ≤ (rowOf t r).val) := by
    rw [hd]
    show _ ↔ ¬ (t.val % 4 / 3 * 1024 + j.val ≤ t.val / 2 % 2 * 1024 + r.val)
    have h4 : t.val % 4 = 0 ∨ t.val % 4 = 2 ∨ t.val % 4 = 3 := by omega
    rcases h4 with h | h | h
    · have h2 : t.val / 2 % 2 = 0 := by omega
      rw [h, h2]; omega
    · have h2 : t.val / 2 % 2 = 1 := by omega
      rw [h, h2]; omega
    · have h2 : t.val / 2 % 2 = 1 := by omega
      rw [h, h2]; omega
  by_cases hc : (keyOf t j).val ≤ (rowOf t r).val
  · rw [if_pos hc, if_neg (fun e => hcond.1 e hc)]
    have hd : (∑ d : Fin 128, @HMul.hMul EReal EReal EReal instHMul (iblk m c 0 t (ix4 0 0 r d)) (iblk m c 1 t (ix4 0 0 j d)))
        = ∑ d : Fin 128, aQ m c (ix4 (bOf t) (rowOf t r) (hOf t) d) * aK m c (ix4 (bOf t) (keyOf t j) (FoxSpec.kv (hOf t)) d) :=
      Finset.sum_congr rfl fun d _ => congrArg₂ (fun x y : EReal => x * y) (blk_q m c t r d) (blk_k m c t j d)
    exact congrArg₂ (fun x y : EReal => x - y)
      (congrArg₂ (fun x y : EReal => x * Ideal.ofBits .f32 0x3DB504F3#32 + y) hd (blk_f m c t r)) (blk_g m c t j)
  · rw [if_neg hc, if_pos (hcond.2 hc)]

section
variable (c : Dev nD) (hq : ∀ i, ∃ r : ℝ, aQ m c i = (r : EReal)) (hk : ∀ i, ∃ r : ℝ, aK m c i = (r : EReal)) (hf : ∀ i, ∃ r : ℝ, aF m c i = (r : EReal))

/-- The weights and weighted values of one point's key block. -/
def blkW (t : Fin cfg0.N) (r : Fin 1024) : ℝ := ∑ j : Fin 1024, wt (aQ m c) (aK m c) (aF m c) (bOf t) (hOf t) (rowOf t r) (keyOf t j)
def blkA (t : Fin cfg0.N) (r : Fin 1024) (e : Fin 128) : EReal :=
  ∑ j : Fin 1024, (wt (aQ m c) (aK m c) (aF m c) (bOf t) (hOf t) (rowOf t r) (keyOf t j) : EReal) * aV m c (ix4 (bOf t) (keyOf t j) (FoxSpec.kv (hOf t)) e)

theorem vals_eq (t : Fin cfg0.N) (r : Fin 1024) (e : Fin 128) :
    (∑ j : Fin 1024, @HMul.hMul EReal EReal EReal instHMul (wt (aQ m c) (aK m c) (aF m c) (bOf t) (hOf t) (rowOf t r) (keyOf t j) : EReal) (iblk m c 2 t (ix4 0 0 j e)))
      = blkA m c t r e :=
  Finset.sum_congr rfl fun j _ => congrArg (fun z : EReal => (wt (aQ m c) (aK m c) (aF m c) (bOf t) (hOf t) (rowOf t r) (keyOf t j) : EReal) * z) (blk_v m c t j e)

include hq hk hf

theorem blk_lt_top (t : Fin cfg0.N) (ht : t.val % 4 ≠ 1) (r j : Fin 1024) :
    blockSc (keyW (grid0.coords t) = rowW (grid0.coords t)) (iblk m c 0 t) (iblk m c 1 t) (iblk m c 3 t) (iblk m c 4 t) r j < ⊤ := by
  rw [blockSc_eq m c t ht]; exact FoxSpec.sc_lt_top _ _ _ hq hk hf _ _ _ _
theorem bot_lt_blk (t : Fin cfg0.N) (ht : t.val % 4 ≠ 1) (r : Fin 1024) :
    ⊥ < blockSc (keyW (grid0.coords t) = rowW (grid0.coords t)) (iblk m c 0 t) (iblk m c 1 t) (iblk m c 3 t) (iblk m c 4 t) r 0 := by
  rw [blockSc_eq m c t ht]
  refine FoxSpec.bot_lt_sc _ _ _ hq hk hf _ _ _ _ ?_
  show t.val % 4 / 3 * 1024 + 0 ≤ t.val / 2 % 2 * 1024 + r.val
  have h4 : t.val % 4 = 0 ∨ t.val % 4 = 2 ∨ t.val % 4 = 3 := by omega
  rcases h4 with h | h | h
  · rw [h]; omega
  · rw [h]; omega
  · have h2 : t.val / 2 % 2 = 1 := by omega
    rw [h, h2]; omega
theorem blk_weight (t : Fin cfg0.N) (ht : t.val % 4 ≠ 1) (r j : Fin 1024) :
    FlashMath.Weight (blockSc (keyW (grid0.coords t) = rowW (grid0.coords t)) (iblk m c 0 t) (iblk m c 1 t) (iblk m c 3 t) (iblk m c 4 t) r j)
      (wt (aQ m c) (aK m c) (aF m c) (bOf t) (hOf t) (rowOf t r) (keyOf t j)) := by
  rw [blockSc_eq m c t ht]; exact FoxSpec.weight _ _ _ hq hk hf _ _ _ _

theorem good_first (t : Fin cfg0.N) (ht : t.val % 2 = 0) (r : Fin 1024) (e : Fin 128) :
    RowGood (blkW m c t r) (blkA m c t r e) (stAt m c t) r e := by
  rw [stAt_first m c t ht, ← vals_eq]
  exact step_first _ _ _ _ (grid0.coords t) (iblk m c 2 t) r e _ (blk_lt_top m c hq hk hf t (by omega) r) (bot_lt_blk m c hq hk hf t (by omega) r)
    (blk_weight m c hq hk hf t (by omega) r)

theorem good_diag (t : Fin cfg0.N) (ht : t.val % 4 = 3) (r : Fin 1024) (e : Fin 128) :
    RowGood (blkW m c (before t) r + blkW m c t r) (blkA m c (before t) r e + blkA m c t r e) (stAt m c t) r e := by
  have hg := good_first m c hq hk hf (before t) (by show (t.val - 1) % 2 = 0; omega) r e
  rw [stAt_diag m c t ht, ← vals_eq m c t]
  exact step_next _ _ _ _ (grid0.coords t) (iblk m c 2 t) _ r e _ (blk_lt_top m c hq hk hf t (by omega) r) (bot_lt_blk m c hq hk hf t (by omega) r)
    (blk_weight m c hq hk hf t (by omega) r) _ _ hg

/-- After a row block's last point each row has seen every key. -/
theorem good_all (t : Fin cfg0.N) (ht : t.val % 2 = 1) (r : Fin 1024) (e : Fin 128) :
    RowGood (∑ j, wt (aQ m c) (aK m c) (aF m c) (bOf t) (hOf t) (rowOf t r) j)
      (∑ j, (wt (aQ m c) (aK m c) (aF m c) (bOf t) (hOf t) (rowOf t r) j : EReal) * aV m c (ix4 (bOf t) j (FoxSpec.kv (hOf t)) e)) (stAt m c t) r e := by
  have hN := N_eq
  have hlt := t.isLt
  have hr := r.isLt
  have hb : bOf (before t) = bOf t := Fin.ext (by show (t.val - 1) / 32 = t.val / 32; omega)
  have hh : hOf (before t) = hOf t := Fin.ext (by show (t.val - 1) / 4 % 8 = t.val / 4 % 8; omega)
  have hrow : rowOf (before t) r = rowOf t r := Fin.ext (by show (t.val - 1) / 2 % 2 * 1024 + r.val = t.val / 2 % 2 * 1024 + r.val; omega)
  have hkey : ∀ j : Fin 1024, keyOf (before t) j = ⟨j.val, by omega⟩ := fun j => Fin.ext (by
    show (t.val - 1) % 4 / 3 * 1024 + j.val = j.val; omega)
  have hW : blkW m c (before t) r = ∑ j : Fin 1024, wt (aQ m c) (aK m c) (aF m c) (bOf t) (hOf t) (rowOf t r) ⟨j.val, by omega⟩ := by
    unfold blkW; rw [hb, hh, hrow]; exact Finset.sum_congr rfl fun j _ => by rw [hkey]
  have hA : blkA m c (before t) r e = ∑ j : Fin 1024, (wt (aQ m c) (aK m c) (aF m c) (bOf t) (hOf t) (rowOf t r) ⟨j.val, by omega⟩ : EReal)
      * aV m c (ix4 (bOf t) ⟨j.val, by omega⟩ (FoxSpec.kv (hOf t)) e) := by
    unfold blkA; rw [hb, hh, hrow]; exact Finset.sum_congr rfl fun j _ => by rw [hkey]
  rw [sum_halves (fun j => wt (aQ m c) (aK m c) (aF m c) (bOf t) (hOf t) (rowOf t r) j),
    sum_halves (fun j => (wt (aQ m c) (aK m c) (aF m c) (bOf t) (hOf t) (rowOf t r) j : EReal) * aV m c (ix4 (bOf t) j (FoxSpec.kv (hOf t)) e)), ← hW, ← hA]
  have h4 : t.val % 4 = 1 ∨ t.val % 4 = 3 := by omega
  rcases h4 with h | h
  · have h0 : ∀ j : Fin 1024, wt (aQ m c) (aK m c) (aF m c) (bOf t) (hOf t) (rowOf t r) ⟨1024 + j.val, by omega⟩ = 0 := fun j => by
      refine FoxSpec.wt_above _ _ _ _ _ _ _ ?_
      show t.val / 2 % 2 * 1024 + r.val < 1024 + j.val
      have h2 : t.val / 2 % 2 = 0 := by omega
      rw [h2]; omega
    rw [Finset.sum_eq_zero (fun j _ => h0 j), Finset.sum_eq_zero (fun j _ => by rw [h0 j, EReal.coe_zero, zero_mul]), add_zero, add_zero,
      stAt_above m c t h]
    exact good_first m c hq hk hf (before t) (by show (t.val - 1) % 2 = 0; omega) r e
  · have hkey' : ∀ j : Fin 1024, keyOf t j = ⟨1024 + j.val, by omega⟩ := fun j => Fin.ext (by
      show t.val % 4 / 3 * 1024 + j.val = 1024 + j.val; rw [h])
    have hg := good_diag m c hq hk hf t h r e
    have hW' : blkW m c t r = ∑ j : Fin 1024, wt (aQ m c) (aK m c) (aF m c) (bOf t) (hOf t) (rowOf t r) ⟨1024 + j.val, by omega⟩ := by
      unfold blkW; exact Finset.sum_congr rfl fun j _ => by rw [hkey']
    have hA' : blkA m c t r e = ∑ j : Fin 1024, (wt (aQ m c) (aK m c) (aF m c) (bOf t) (hOf t) (rowOf t r) ⟨1024 + j.val, by omega⟩ : EReal)
        * aV m c (ix4 (bOf t) ⟨1024 + j.val, by omega⟩ (FoxSpec.kv (hOf t)) e) := by
      unfold blkA; exact Finset.sum_congr rfl fun j _ => by rw [hkey']
    rw [hW', hA'] at hg
    exact hg

theorem out_apply (t : Fin cfg0.N) (ht : t.val % 2 = 1) (r : Fin 1024) (e : Fin 128) :
    outOf (stAt m c t) (ix3 0 r e) = attn (aQ m c) (aK m c) (aV m c) (aF m c) (bOf t) (hOf t) (rowOf t r) e :=
  (pay7_apply _ _ r e).trans (FlashMath.quotient _ (FoxSpec.wt_sum_pos _ _ _ hq hk hf _ _ _) _ _ _ _ (good_all m c hq hk hf t ht r e))

theorem flushed_eq (t : Fin cfg0.N) (hfl : (cfg0.win 5).flush t = true) :
    (dats m 0 c).flushed 5 t = (win0_5.blk t).view.read (Elt Ideal) (spec (aQ m c) (aK m c) (aV m c) (aF m c)) := by
  have ht := (flush0_5 t).1 hfl
  rw [show (dats m 0 c).flushed 5 t = outOf (stAt m c t) from rfl]
  funext j
  have hj : j = ix3 (0 : Fin 1) (j 1) (j 2) := (eq_ix3 (n0 := 1) (n1 := 1024) (n2 := 128) j).trans
    (congrArg (fun z : Fin 1 => ix3 z (j 1) (j 2)) (Subsingleton.elim (α := Fin 1) (j 0) 0))
  rw [hj]
  refine (out_apply m c hq hk hf t ht (j 1) (j 2)).trans ?_
  obtain ⟨e0, e1, e2⟩ := at5 t (ix3 (0 : Fin 1) (j 1) (j 2))
  show _ = spec (aQ m c) (aK m c) (aV m c) (aF m c) ((win0_5.rect t).emb (ix3 (0 : Fin 1) (j 1) (j 2)))
  unfold spec
  have h2 : (j 2).val < 128 := (j 2).isLt
  have x0 : bOf t = (win0_5.rect t).emb (ix3 (0 : Fin 1) (j 1) (j 2)) 0 := Fin.ext (e0.trans (Nat.add_zero _)).symm
  have x1 : rowOf t (j 1) = (win0_5.rect t).emb (ix3 (0 : Fin 1) (j 1) (j 2)) 1 := Fin.ext e1.symm
  have e2' : ((win0_5.rect t).emb (ix3 (0 : Fin 1) (j 1) (j 2)) 2).val = t.val / 4 % 8 * 128 + (j 2).val := e2
  rw [← x0, ← x1]
  congr 1
  · exact Fin.ext (by show t.val / 4 % 8 = ((win0_5.rect t).emb (ix3 (0 : Fin 1) (j 1) (j 2)) 2).val / 128; rw [e2']; omega)
  · exact Fin.ext (by show (j 2).val = ((win0_5.rect t).emb (ix3 (0 : Fin 1) (j 1) (j 2)) 2).val % 128; rw [e2']; omega)
end

/-- Every index of the result lies in some written block. -/
theorem cover (i : S4x2048x1024.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  have hN := N_eq
  have hlt : (i 0).val * 32 + (i 2).val / 128 * 4 + (i 1).val / 1024 * 2 + 1 < cfg0.N := by omega
  generalize hn : (i 0).val * 32 + (i 2).val / 128 * 4 + (i 1).val / 1024 * 2 + 1 = n at hlt
  obtain ⟨p0, p1, p2⟩ := (places ⟨n, hlt⟩).2.2.2.2.2
  refine ⟨⟨n, hlt⟩, (flush0_5 _).2 (by show n % 2 = 1; omega), ?_⟩
  show i ∈ ((View.whole main_v9).slice (win0_5.rect ⟨n, hlt⟩)).set
  rw [View.set_slice_whole, Rect.mem_set_unit]
  intro a
  match a with
  | ⟨0, _⟩ =>
    show win0_5.index ⟨n, hlt⟩ 0 * 1 ≤ (i 0).val ∧ (i 0).val < win0_5.index ⟨n, hlt⟩ 0 * 1 + 1
    rw [p0]; dsimp only; omega
  | ⟨1, _⟩ =>
    show win0_5.index ⟨n, hlt⟩ 1 * 1024 ≤ (i 1).val ∧ (i 1).val < win0_5.index ⟨n, hlt⟩ 1 * 1024 + 1024
    rw [p1]; dsimp only; omega
  | ⟨2, _⟩ =>
    show win0_5.index ⟨n, hlt⟩ 2 * 128 ≤ (i 2).val ∧ (i 2).val < win0_5.index ⟨n, hlt⟩ 2 * 128 + 128
    rw [p2]; dsimp only; omega

theorem final_eq (c : Dev nD) (hq : ∀ i, ∃ r : ℝ, aQ m c i = (r : EReal)) (hk : ∀ i, ∃ r : ℝ, aK m c i = (r : EReal)) (hf : ∀ i, ∃ r : ℝ, aF m c i = (r : EReal)) :
    (dats m 0 c).arrAt 5 cfg0.N = spec (aQ m c) (aK m c) (aV m c) (aF m c) :=
  (dats m 0 c).arrAt_eq_of_cover 5 _ (fun t ht => flushed_eq m c hq hk hf t ht) cover

end Cert.Fox

end
-- ==== Proof.FoxClaims.lean ====
module

public import proofs.«01_k».proof.Proof.FoxValue
public import proofs.«01_k».proof.Proof.FlashClaims
public import proofs.«01_k».proof.Defs
public import proofs.«01_k».proof.Proof.Gen.Pre_fox_finite
public import Idealize.ShloMosaic.Lib.ReduceAll
public import Idealize.ShloMosaic.Lib.WordCmp
public import Idealize.ShloMosaic.Lib.Quiescent

@[expose] public section

/-! The claims of the forgetting heads' attention call, under finite queries, keys and forget sums. -/

set_option maxRecDepth 16384

noncomputable section

namespace Cert.FoxClaims

open Idealize.ShloMosaic Idealize.ShloMosaic.TcCoe Idealize.ShloMosaic.ValueIdx Idealize.SL.Sem

theorem finite (x0 : FVec Ideal Cert.Pre_fox_finite.S4x2048x8x128 .f32) (x1 x2 : FVec Ideal Cert.Pre_fox_finite.S4x2048x2x128 .f32)
    (x3 : FVec Ideal Cert.Pre_fox_finite.S4x2048x8 .f32) (h : Cert.Pre_fox_finite.fn (F := Ideal) x0 x1 x2 x3 = fun _ => 1#1) :
    (∀ j, ∃ r : ℝ, x0 j = (r : EReal)) ∧ (∀ j, ∃ r : ℝ, x1 j = (r : EReal)) ∧ ∀ j, ∃ r : ℝ, x3 j = (r : EReal) := by
  have e := congrFun h (fun a => a.elim0)
  haveI : Subsingleton Cert.Pre_fox_finite.S_.Idx := ⟨fun a b => funext fun k => k.elim0⟩
  obtain ⟨eab, ec⟩ := IntOp.andi_eq_one.1 e
  obtain ⟨ea, eb⟩ := IntOp.andi_eq_one.1 eab
  exact ⟨fun j => FlashClaims.real_of_abs _ (Host.reduce_andi_all _ _ _ _ _ ea j), fun j => FlashClaims.real_of_abs _ (Host.reduce_andi_all _ _ _ _ _ eb j),
    fun j => FlashClaims.real_of_abs _ (Host.reduce_andi_all _ _ _ _ _ ec j)⟩

theorem frameI_pre : Cert.quiescent_Kernel7Ideal_pre_fox_finite (hKernel7Ideal := Cert.Kernel7Ideal.Gen.facts)
    (hPre_fox_finite := Cert.Pre_fox_finite.Gen.facts) := fun m ρ _ => Cert.Fox.frame m ρ

theorem frame_ref : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_ref_pre : Cert.quiescent_Reference7Ideal_pre_fox_finite (hReference7Ideal := Cert.Reference7Ideal.Gen.facts)
    (hPre_fox_finite := Cert.Pre_fox_finite.Gen.facts) := fun m ρ _ => frame_ref m ρ trivial

theorem algebraic : Cert.algebraic_Kernel7Ideal_Reference7Ideal_pre_fox_finite (hKernel7Ideal := Cert.Kernel7Ideal.Gen.facts)
    (hReference7Ideal := Cert.Reference7Ideal.Gen.facts) (hPre_fox_finite := Cert.Pre_fox_finite.Gen.facts) := by
  intro m ρ m' ρ' hpre hag
  refine ⟨fun c => (Cert.Fox.dats m 0 c).arrAt 5 Cert.Kernel7Ideal.cfg0.N, ?_, ?_⟩
  · exact (θ_run Cert.Kernel7Ideal.defs _ _).mono (fun _ h c => ⟨(h.1 c).1 (5 : Fin 6), h.2 c⟩)
      (θ_run_and (Cert.Fox.run_main m ρ)
        (Cert.Kernel7Ideal.Gen.frame_of m ρ (Cert.Fox.dats m) (Cert.Fox.A_eq m) (Cert.Fox.run_main m ρ)))
  refine (θ_run Cert.Reference7Ideal.defs _ _).mono (fun _ h c => ⟨(h c).1.trans ?_, (h c).2⟩)
    (Cert.Reference7Ideal.Value.run (F := Ideal) m' ρ')
  obtain ⟨hq, hk, hf⟩ := finite _ _ _ _ (hpre c)
  refine Eq.trans ?_ (Cert.Fox.final_eq m c hq hk hf).symm
  rw [Cert.Reference7Ideal.Read.val_main_v34_eq, (hag c).1, (hag c).2.1, (hag c).2.2.1, (hag c).2.2.2]
  exact Cert.FoxSpec.ref_eq _ _ _ _ hq hk hf

end Cert.FoxClaims

end
-- ==== Proof.AdalnValue.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Value
public import Idealize.ShloMosaic.Lib.ValueIdx
public import Idealize.ShloMosaic.Lib.MatmulPlain
public import Idealize.ShloMosaic.Lib.IdealHost
public import Idealize.ShloMosaic.Lib.Quiescent
public import Idealize.ShloMosaic.Lib.StableHlo.Run

@[expose] public section

/-! The value of the modulation tables' product: the silu of the conditioning rows times the weights, plus the bias. -/

set_option maxRecDepth 16384

noncomputable section

namespace Cert.AdalnValue

open Cert.Kernel8Ideal Cert.Kernel8Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The silu of the rows, times the weights, plus the bias. -/
def mod (x : S132x2048.Idx → EReal) (w : S2048x12288.Idx → EReal) (b : S12288.Idx → EReal) : S132x12288.Idx → EReal :=
  fun i => (∑ k : Fin 2048, (x (ix2 (i 0) k) * Ideal.logistic (x (ix2 (i 0) k))) * w (ix2 k (i 1))) + b (ix1 (i 1))

/-- Where each window's block lies, point by point. -/
theorem places : ∀ t : Fin cfg0.N,
    win0_0.index t 0 = 0 ∧ win0_0.index t 1 = 0 ∧ win0_1.index t 0 = 0 ∧ win0_1.index t 1 = t.val
      ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = 0 ∧ win0_1.index t 0 = 0 ∧ win0_1.index t 1 = t.val
      ∧ win0_2.index t 0 = 0 ∧ win0_2.index t 1 = t.val ∧ win0_3.index t 0 = 0 ∧ win0_3.index t 1 = t.val)

theorem zeros : (![0, 0] : Fin 2 → Nat) = fun _ => 0 := funext fun a => by fin_cases a <;> rfl

/-- The bias row, spread over the rows of a block. -/
theorem spread (b : FVec Ideal S1x1024 .f32) (r : Fin 132) (c : Fin 1024) :
    broadcastTo S132x1024 b broadcasts_S1x1024_S132x1024 (ix2 r c) = b (ix2 0 c) :=
  broadcastTo_apply b _ _ _ fun a => match a with | ⟨0, _⟩ => rfl | ⟨1, _⟩ => rfl

/-- The body's result, read at an index. -/
theorem pay_apply (x : Vec Ideal S132x2048 .f32) (w : Vec Ideal S2048x1024 .f32) (b : Vec Ideal S1x1024 .f32) (r : Fin 132) (c : Fin 1024) :
    k0_pay1 x w b (ix2 r c) = @HAdd.hAdd EReal EReal EReal instHAdd
      (∑ k : Fin 2048, @HMul.hMul EReal EReal EReal instHMul (@HMul.hMul EReal EReal EReal instHMul (x (ix2 r k)) (Ideal.logistic (x (ix2 r k)))) (w (ix2 k c))) (b (ix2 0 c)) := by
  unfold k0_pay1
  rw [shapeCast_self]
  refine congrArg₂ (@HAdd.hAdd EReal EReal EReal instHAdd) ?_ (spread b r c)
  refine (Ideal.matmul_plain_apply (M := 132) (K := 2048) (N := 1024) none _ _ _ r c).trans ?_
  show Ideal.ofBits .f32 0x00000000#32 + _ = _
  rw [Ideal.ofBits_zero_f32, zero_add]
  rfl

theorem at0 (t : Fin cfg0.N) (y) : ((win0_0.rect t).emb y 0).val = (y 0).val ∧ ((win0_0.rect t).emb y 1).val = (y 1).val :=
  ⟨Window.rect_emb_val_of_index_zero win0_0 t 0 (places t).1 y, Window.rect_emb_val_of_index_zero win0_0 t 1 (places t).2.1 y⟩
theorem at1 (t : Fin cfg0.N) (y) : ((win0_1.rect t).emb y 0).val = (y 0).val ∧ ((win0_1.rect t).emb y 1).val = t.val * 1024 + (y 1).val :=
  ⟨Window.rect_emb_val_of_index_zero win0_1 t 0 (places t).2.2.1 y, (Window.rect_emb_val win0_1 t y 1).trans (by rw [(places t).2.2.2.1]; rfl)⟩
theorem at2 (t : Fin cfg0.N) (y) : ((win0_2.rect t).emb y 0).val = (y 0).val ∧ ((win0_2.rect t).emb y 1).val = t.val * 1024 + (y 1).val :=
  ⟨Window.rect_emb_val_of_index_zero win0_2 t 0 (places t).2.2.2.2.1 y, (Window.rect_emb_val win0_2 t y 1).trans (by rw [(places t).2.2.2.2.2.1]; rfl)⟩
theorem at3 (t : Fin cfg0.N) (y) : ((win0_3.rect t).emb y 0).val = (y 0).val ∧ ((win0_3.rect t).emb y 1).val = t.val * 1024 + (y 1).val :=
  ⟨Window.rect_emb_val_of_index_zero win0_3 t 0 (places t).2.2.2.2.2.2.1 y, (Window.rect_emb_val win0_3 t y 1).trans (by rw [(places t).2.2.2.2.2.2.2]; rfl)⟩

/-- A vector reshaped to one row, read at an index. -/
theorem row_apply (x : FVec Ideal S12288 .f32) (n : Fin 12288) :
    shapeCast S1x12288 x shapeCasts_S12288_S1x12288 (ix2 0 n) = x (ix1 n) :=
  shapeCast_apply x _ _ _ (by
    rewrite [Shape.rowMajor_val_one, Shape.rowMajor_val_two]
    show n.val = 0 * 12288 + n.val
    omega)

/-- The bias laid out as a row. -/
theorem V_bias (c : Dev nD) (n : Fin 12288) :
    (V m c main_v0 : S1x12288.Idx → EReal) (ix2 0 n) = (m ((c : Thread nD τ).loc main_arg2) : S12288.Idx → EReal) (ix1 n) := by
  have e : V m c main_v0 = shapeCast S1x12288 (m ((c : Thread nD τ).loc main_arg2)) shapeCasts_S12288_S1x12288 := by
    unfold V
    after_results
    rfl
  rw [e]
  exact row_apply (m ((c : Thread nD τ).loc main_arg2)) n

theorem flushed_eq (c : Dev nD) (t : Fin cfg0.N) :
    (dats m 0 c).flushed 3 t = (win0_3.blk t).view.read (Elt Ideal)
      (mod (m ((c : Thread nD τ).loc main_arg0)) (m ((c : Thread nD τ).loc main_arg1)) (m ((c : Thread nD τ).loc main_arg2))) := by
  rw [Value.flushed3]
  unfold out0_3
  rw [View.canon_unit_zero zeros, View.ld_unit_zero zeros, View.ld_unit_zero zeros, View.ld_unit_zero zeros]
  funext j
  rw [eq_ix2 (n0 := 132) (n1 := 1024) j]
  refine (pay_apply _ _ _ _ _).trans ?_
  show _ = mod _ _ _ ((win0_3.rect t).emb (ix2 (j 0) (j 1)))
  unfold mod
  have ex : ∀ k : Fin 2048, iblk m c 0 t (ix2 (j 0) k)
      = (m ((c : Thread nD τ).loc main_arg0) : S132x2048.Idx → EReal) (ix2 ((win0_3.rect t).emb (ix2 (j 0) (j 1)) 0) k) := fun k => by
    show V m c main_arg0 ((win0_0.rect t).emb (ix2 (j 0) k)) = _
    rw [V_main_arg0]
    refine congrArg (m ((c : Thread nD τ).loc main_arg0)) (funext fun a => Fin.ext ?_)
    match a with
    | ⟨0, _⟩ => exact (at0 t _).1.trans (at3 t _).1.symm
    | ⟨1, _⟩ => exact (at0 t _).2
  have ew : ∀ k : Fin 2048, iblk m c 1 t (ix2 k (j 1))
      = (m ((c : Thread nD τ).loc main_arg1) : S2048x12288.Idx → EReal) (ix2 k ((win0_3.rect t).emb (ix2 (j 0) (j 1)) 1)) := fun k => by
    show V m c main_arg1 ((win0_1.rect t).emb (ix2 k (j 1))) = _
    rw [V_main_arg1]
    refine congrArg (m ((c : Thread nD τ).loc main_arg1)) (funext fun a => Fin.ext ?_)
    match a with
    | ⟨0, _⟩ => exact (at1 t _).1
    | ⟨1, _⟩ => exact (at1 t _).2.trans (at3 t _).2.symm
  have eb : iblk m c 2 t (ix2 0 (j 1))
      = (m ((c : Thread nD τ).loc main_arg2) : S12288.Idx → EReal) (ix1 ((win0_3.rect t).emb (ix2 (j 0) (j 1)) 1)) := by
    refine Eq.trans ?_ (V_bias m c _)
    show V m c main_v0 ((win0_2.rect t).emb (ix2 0 (j 1))) = _
    refine congrArg (V m c main_v0) (funext fun a => Fin.ext ?_)
    match a with
    | ⟨0, _⟩ => exact (at2 t _).1
    | ⟨1, _⟩ => exact (at2 t _).2.trans (at3 t _).2.symm
  refine congrArg₂ (@HAdd.hAdd EReal EReal EReal instHAdd) (Finset.sum_congr rfl fun k _ => ?_) eb
  exact congrArg₂ (@HMul.hMul EReal EReal EReal instHMul)
    (congrArg₂ (@HMul.hMul EReal EReal EReal instHMul) (ex k) (congrArg Ideal.logistic (ex k))) (ew k)

theorem flush_3 : ∀ t : Fin cfg0.N, (cfg0.win 3).flush t = true :=
  (by decide +kernel : ∀ t : Fin grid0.N, win0_3.flush t = true)

/-- Every index of the result lies in some point's block. -/
theorem cover (i : S132x12288.Idx) : ∃ t : Fin cfg0.N, (cfg0.win 3).flush t = true ∧ i ∈ ((cfg0.win 3).blk t).view.set := by
  have h0 : (i 0).val < 132 := (i 0).isLt
  have h1 : (i 1).val < 12288 := (i 1).isLt
  have hN : cfg0.N = 12 := N_0
  have hlt : (i 1).val / 1024 < cfg0.N := by omega
  obtain ⟨-, -, -, -, -, -, p30, p31⟩ := places ⟨(i 1).val / 1024, hlt⟩
  refine ⟨⟨(i 1).val / 1024, hlt⟩, flush_3 _, ?_⟩
  show i ∈ ((View.whole main_v1).slice (win0_3.rect ⟨(i 1).val / 1024, hlt⟩)).set
  rw [View.set_slice_whole, Rect.mem_set_unit]
  intro a
  match a with
  | ⟨0, _⟩ =>
    show win0_3.index ⟨(i 1).val / 1024, hlt⟩ 0 * 132 ≤ (i 0).val ∧ (i 0).val < win0_3.index ⟨(i 1).val / 1024, hlt⟩ 0 * 132 + 132
    rw [p30]; omega
  | ⟨1, _⟩ =>
    show win0_3.index ⟨(i 1).val / 1024, hlt⟩ 1 * 1024 ≤ (i 1).val ∧ (i 1).val < win0_3.index ⟨(i 1).val / 1024, hlt⟩ 1 * 1024 + 1024
    rw [p31]; dsimp only; omega

theorem final_eq (c : Dev nD) : (dats m 0 c).arrAt 3 cfg0.N
    = mod (m ((c : Thread nD τ).loc main_arg0)) (m ((c : Thread nD τ).loc main_arg1)) (m ((c : Thread nD τ).loc main_arg2)) :=
  (dats m 0 c).arrAt_eq_of_cover 3 _ (fun t _ => flushed_eq m c t) cover

section
open Cert.Reference8Ideal.Read

/-- The plain program computes the same. -/
theorem ref_eq (x : S132x2048.Idx → EReal) (w : S2048x12288.Idx → EReal) (b : S12288.Idx → EReal) :
    val_main_v4 (F := Ideal) x w b = mod x w b := by
  have hs : ∀ i : S132x2048.Idx, val_main_v0 (F := Ideal) x i = x i * Ideal.logistic (x i) := fun i => by
    rw [val_main_v0_apply, val_main_call0_v5_apply, val_main_call0_v4_apply, val_main_call0_cst_0_apply,
      val_main_call0_v3_apply, val_main_call0_v2_apply, val_main_call0_cst_apply, val_main_call0_v1_apply, val_main_call0_v0_apply]
    show x i * Ideal.div (Ideal.ofBits .f32 0x3F800000#32) (Ideal.ofBits .f32 0x3F800000#32 + Ideal.exp (-(x i))) = _
    rw [Ideal.ofBits_one_f32]
    rfl
  funext i
  rw [val_main_v4_apply, val_main_v1_apply, val_main_v3_apply, val_main_v2_apply]
  refine congrArg₂ (@HAdd.hAdd EReal EReal EReal instHAdd) (Finset.sum_congr rfl fun k _ => ?_) ?_
  · rw [hs]
    have e : lidx_main_v1 i k = ix2 (i 0) k := funext fun a => by match a with | ⟨0, _⟩ => rfl | ⟨1, _⟩ => rfl
    rw [e]
    exact congrArg₂ (· * ·) rfl (congrArg w (funext fun a => by match a with | ⟨0, _⟩ => rfl | ⟨1, _⟩ => rfl))
  · exact congrArg b (funext fun a => by match a with | ⟨0, _⟩ => rfl)
end

theorem algebraic : Cert.algebraic_Kernel8Ideal_Reference8Ideal (hKernel8Ideal := Cert.Kernel8Ideal.Gen.facts)
    (hReference8Ideal := Cert.Reference8Ideal.Gen.facts) := by
  intro m ρ m' ρ' _ hag
  refine ⟨fun c => (dats m 0 c).arrAt 3 cfg0.N, Value.run_blocks m ρ, ?_⟩
  refine (θ_run Cert.Reference8Ideal.defs _ _).mono (fun _ h c => ⟨(h c).1.trans ?_, (h c).2⟩)
    (Cert.Reference8Ideal.Value.run (F := Ideal) m' ρ')
  refine Eq.trans ?_ (final_eq m c).symm
  rw [Cert.Reference8Ideal.Read.val_main_v4_eq, (hag c).1, (hag c).2.1, (hag c).2.2]
  exact ref_eq _ _ _

theorem frame_ref : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

end Cert.AdalnValue

end
-- ==== Proof.QUpValue.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.ValueIdx
public import Idealize.ShloMosaic.Lib.MatmulPlain
public import Idealize.ShloMosaic.Lib.Quiescent

@[expose] public section

/-! The value of the product from the query latents to the query heads: each point's block of the result is that block of the whole product. -/

set_option maxRecDepth 16384

noncomputable section

namespace Cert.QUpValue

open Cert.Kernel9Ideal Cert.Kernel9Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The product of the two argument arrays. -/
def prod (x : S8320x512.Idx → EReal) (w : S512x1536.Idx → EReal) : S8320x1536.Idx → EReal :=
  fun i => ∑ k : Fin 512, x (ix2 (i 0) k) * w (ix2 k (i 1))

/-- Where each window's block lies, point by point. -/
theorem places : ∀ t : Fin cfg0.N,
    win0_0.index t 0 = t.val / 3 ∧ win0_0.index t 1 = 0 ∧ win0_1.index t 0 = 0 ∧ win0_1.index t 1 = t.val % 3
      ∧ win0_2.index t 0 = t.val / 3 ∧ win0_2.index t 1 = t.val % 3 :=
  (by decide +kernel : ∀ t : Fin grid0.N, win0_0.index t 0 = t.val / 3 ∧ win0_0.index t 1 = 0 ∧ win0_1.index t 0 = 0 ∧ win0_1.index t 1 = t.val % 3
      ∧ win0_2.index t 0 = t.val / 3 ∧ win0_2.index t 1 = t.val % 3)

theorem zeros : (![0, 0] : Fin 2 → Nat) = fun _ => 0 := funext fun a => by fin_cases a <;> rfl

/-- The body's product, read at an index. -/
theorem pay_apply (x : Vec Ideal S1040x512 .bf16) (w : Vec Ideal S512x512 .f32) (r : Fin 1040) (c : Fin 512) :
    k0_pay1 x w (ix2 r c) = ∑ k : Fin 512, x (ix2 r k) * w (ix2 k c) := by
  unfold k0_pay1
  refine (Ideal.matmul_plain_apply (M := 1040) (K := 512) (N := 512) none x _ _ r c).trans ?_
  show Ideal.ofBits .f32 0x00000000#32 + _ = _
  rw [Ideal.ofBits_zero_f32, zero_add]
  rfl

theorem at0 (t : Fin cfg0.N) (y) : ((win0_0.rect t).emb y 0).val = t.val / 3 * 1040 + (y 0).val ∧ ((win0_0.rect t).emb y 1).val = (y 1).val :=
  ⟨(Window.rect_emb_val win0_0 t y 0).trans (by rw [(places t).1]; rfl), Window.rect_emb_val_of_index_zero win0_0 t 1 (places t).2.1 y⟩
theorem at1 (t : Fin cfg0.N) (y) : ((win0_1.rect t).emb y 0).val = (y 0).val ∧ ((win0_1.rect t).emb y 1).val = t.val % 3 * 512 + (y 1).val :=
  ⟨Window.rect_emb_val_of_index_zero win0_1 t 0 (places t).2.2.1 y, (Window.rect_emb_val win0_1 t y 1).trans (by rw [(places t).2.2.2.1]; rfl)⟩
theorem at2 (t : Fin cfg0.N) (y) : ((win0_2.rect t).emb y 0).val = t.val / 3 * 1040 + (y 0).val ∧ ((win0_2.rect t).emb y 1).val = t.val % 3 * 512 + (y 1).val :=
  ⟨(Window.rect_emb_val win0_2 t y 0).trans (by rw [(places t).2.2.2.2.1]; rfl), (Window.rect_emb_val win0_2 t y 1).trans (by rw [(places t).2.2.2.2.2]; rfl)⟩

theorem flushed_eq (c : Dev nD) (t : Fin cfg0.N) :
    (dats m 0 c).flushed 2 t = (win0_2.blk t).view.read (Elt Ideal)
      (prod (m ((c : Thread nD τ).loc main_arg0)) (m ((c : Thread nD τ).loc main_arg1))) := by
  rw [Value.flushed2]
  unfold out0_2
  rw [View.canon_unit_zero zeros, View.ld_unit_zero zeros, View.ld_unit_zero zeros]
  funext j
  obtain ⟨p00, p01, p10, p11, p20, p21⟩ := places t
  rw [eq_ix2 (n0 := 1040) (n1 := 512) j]
  refine (pay_apply _ _ _ _).trans ?_
  show _ = prod _ _ ((win0_2.rect t).emb (ix2 (j 0) (j 1)))
  unfold prod
  refine Finset.sum_congr rfl fun k _ => ?_
  congr 1
  · show V m c (Pipeline.arrRef spec0 0) ((win0_0.rect t).emb (ix2 (j 0) k)) = _
    refine congrArg (m ((c : Thread nD τ).loc main_arg0)) (funext fun a => Fin.ext ?_)
    match a with
    | ⟨0, _⟩ => exact (at0 t _).1.trans (at2 t _).1.symm
    | ⟨1, _⟩ => exact (at0 t _).2
  · show V m c (Pipeline.arrRef spec0 1) ((win0_1.rect t).emb (ix2 k (j 1))) = _
    refine congrArg (m ((c : Thread nD τ).loc main_arg1)) (funext fun a => Fin.ext ?_)
    match a with
    | ⟨0, _⟩ => exact (at1 t _).1
    | ⟨1, _⟩ => exact (at1 t _).2.trans (at2 t _).2.symm

/-- Every index of the result lies in some point's block. -/
theorem cover (i : S8320x1536.Idx) : ∃ t : Fin cfg0.N, (cfg0.win 2).flush t = true ∧ i ∈ ((cfg0.win 2).blk t).view.set := by
  have h0 : (i 0).val < 8320 := (i 0).isLt
  have h1 : (i 1).val < 1536 := (i 1).isLt
  have hN : cfg0.N = 24 := N_0
  have hlt : (i 0).val / 1040 * 3 + (i 1).val / 512 < cfg0.N := by omega
  obtain ⟨-, -, -, -, p20, p21⟩ := places ⟨(i 0).val / 1040 * 3 + (i 1).val / 512, hlt⟩
  refine ⟨⟨(i 0).val / 1040 * 3 + (i 1).val / 512, hlt⟩, flush0_2 _, ?_⟩
  show i ∈ ((View.whole main_v0).slice (win0_2.rect ⟨(i 0).val / 1040 * 3 + (i 1).val / 512, hlt⟩)).set
  rw [View.set_slice_whole, Rect.mem_set_unit]
  intro a
  match a with
  | ⟨0, _⟩ =>
    show win0_2.index ⟨(i 0).val / 1040 * 3 + (i 1).val / 512, hlt⟩ 0 * 1040 ≤ (i 0).val ∧ (i 0).val < win0_2.index ⟨(i 0).val / 1040 * 3 + (i 1).val / 512, hlt⟩ 0 * 1040 + 1040
    rw [p20]; dsimp only; omega
  | ⟨1, _⟩ =>
    show win0_2.index ⟨(i 0).val / 1040 * 3 + (i 1).val / 512, hlt⟩ 1 * 512 ≤ (i 1).val ∧ (i 1).val < win0_2.index ⟨(i 0).val / 1040 * 3 + (i 1).val / 512, hlt⟩ 1 * 512 + 512
    rw [p21]; dsimp only; omega

theorem final_eq (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

/-- The host product is the same sum. -/
theorem ref_eq (x : S8320x512.Idx → EReal) (w : S512x1536.Idx → EReal) :
    Cert.Reference9Ideal.Read.val_main_v1 (F := Ideal) x w = prod x w := by
  funext i
  rw [Cert.Reference9Ideal.Read.val_main_v1_apply]
  unfold prod
  refine Finset.sum_congr rfl fun k _ => ?_
  congr 1
  · show x _ = x _
    exact congrArg x (funext fun a => by match a with | ⟨0, _⟩ => rfl | ⟨1, _⟩ => rfl)
  · exact congrArg w (funext fun a => by match a with | ⟨0, _⟩ => rfl | ⟨1, _⟩ => rfl)

theorem algebraic : Cert.algebraic_Kernel9Ideal_Reference9Ideal (hKernel9Ideal := Cert.Kernel9Ideal.Gen.facts)
    (hReference9Ideal := Cert.Reference9Ideal.Gen.facts) := by
  intro m ρ m' ρ' _ hag
  refine ⟨fun c => (dats m 0 c).arrAt 2 cfg0.N, Value.run_blocks m ρ, ?_⟩
  refine (θ_run Cert.Reference9Ideal.defs _ _).mono (fun _ h c => ⟨(h c).1.trans ?_, (h c).2⟩)
    (Cert.Reference9Ideal.Value.run (F := Ideal) m' ρ')
  refine Eq.trans ?_ (final_eq m c).symm
  rw [Cert.Reference9Ideal.Read.val_main_v1_eq, (hag c).1, (hag c).2]
  exact ref_eq _ _

theorem frame_ref : Cert.quiescent_Reference9Ideal (hReference9Ideal := Cert.Reference9Ideal.Gen.facts) := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

end Cert.QUpValue

end
-- ==== Proof.KvUpValue.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Value
public import Idealize.ShloMosaic.Lib.ValueIdx
public import Idealize.ShloMosaic.Lib.MatmulPlain
public import Idealize.ShloMosaic.Lib.Quiescent

@[expose] public section

/-! The value of the product from the key and value latents to the heads: each point's block of the result is that block of the whole product. -/

set_option maxRecDepth 16384

noncomputable section

namespace Cert.KvUpValue

open Cert.Kernel10Ideal Cert.Kernel10Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- The product of the two argument arrays. -/
def prod (x : S8192x256.Idx → EReal) (w : S256x2048.Idx → EReal) : S8192x2048.Idx → EReal :=
  fun i => ∑ k : Fin 256, x (ix2 (i 0) k) * w (ix2 k (i 1))

/-- Where each window's block lies, point by point. -/
theorem places : ∀ t : Fin cfg0.N,
    win0_0.index t 0 = t.val / 4 ∧ win0_0.index t 1 = 0 ∧ win0_1.index t 0 = 0 ∧ win0_1.index t 1 = t.val % 4
      ∧ win0_2.index t 0 = t.val / 4 ∧ win0_2.index t 1 = t.val % 4 :=
  (by decide +kernel : ∀ t : Fin grid0.N, win0_0.index t 0 = t.val / 4 ∧ win0_0.index t 1 = 0 ∧ win0_1.index t 0 = 0 ∧ win0_1.index t 1 = t.val % 4
      ∧ win0_2.index t 0 = t.val / 4 ∧ win0_2.index t 1 = t.val % 4)

theorem zeros : (![0, 0] : Fin 2 → Nat) = fun _ => 0 := funext fun a => by fin_cases a <;> rfl

/-- The body's product, read at an index. -/
theorem pay_apply (x : Vec Ideal S1024x256 .bf16) (w : Vec Ideal S256x512 .f32) (r : Fin 1024) (c : Fin 512) :
    k0_pay1 x w (ix2 r c) = ∑ k : Fin 256, x (ix2 r k) * w (ix2 k c) := by
  unfold k0_pay1
  refine (Ideal.matmul_plain_apply (φ₁ := .bf16) (M := 1024) (K := 256) (N := 512) none x _ _ r c).trans ?_
  show Ideal.ofBits .f32 0x00000000#32 + _ = _
  rw [Ideal.ofBits_zero_f32, zero_add]
  rfl

theorem at0 (t : Fin cfg0.N) (y) : ((win0_0.rect t).emb y 0).val = t.val / 4 * 1024 + (y 0).val ∧ ((win0_0.rect t).emb y 1).val = (y 1).val :=
  ⟨(Window.rect_emb_val win0_0 t y 0).trans (by rw [(places t).1]; rfl), Window.rect_emb_val_of_index_zero win0_0 t 1 (places t).2.1 y⟩
theorem at1 (t : Fin cfg0.N) (y) : ((win0_1.rect t).emb y 0).val = (y 0).val ∧ ((win0_1.rect t).emb y 1).val = t.val % 4 * 512 + (y 1).val :=
  ⟨Window.rect_emb_val_of_index_zero win0_1 t 0 (places t).2.2.1 y, (Window.rect_emb_val win0_1 t y 1).trans (by rw [(places t).2.2.2.1]; rfl)⟩
theorem at2 (t : Fin cfg0.N) (y) : ((win0_2.rect t).emb y 0).val = t.val / 4 * 1024 + (y 0).val ∧ ((win0_2.rect t).emb y 1).val = t.val % 4 * 512 + (y 1).val :=
  ⟨(Window.rect_emb_val win0_2 t y 0).trans (by rw [(places t).2.2.2.2.1]; rfl), (Window.rect_emb_val win0_2 t y 1).trans (by rw [(places t).2.2.2.2.2]; rfl)⟩

theorem flushed_eq (c : Dev nD) (t : Fin cfg0.N) :
    (dats m 0 c).flushed 2 t = (win0_2.blk t).view.read (Elt Ideal)
      (prod (m ((c : Thread nD τ).loc main_arg0)) (m ((c : Thread nD τ).loc main_arg1))) := by
  rw [Value.flushed2]
  unfold out0_2
  rw [View.canon_unit_zero zeros, View.ld_unit_zero zeros, View.ld_unit_zero zeros]
  funext j
  obtain ⟨p00, p01, p10, p11, p20, p21⟩ := places t
  rw [eq_ix2 (n0 := 1024) (n1 := 512) j]
  refine (pay_apply _ _ _ _).trans ?_
  show _ = prod _ _ ((win0_2.rect t).emb (ix2 (j 0) (j 1)))
  unfold prod
  refine Finset.sum_congr rfl fun k _ => ?_
  congr 1
  · show V m c (Pipeline.arrRef spec0 0) ((win0_0.rect t).emb (ix2 (j 0) k)) = _
    refine congrArg (m ((c : Thread nD τ).loc main_arg0)) (funext fun a => Fin.ext ?_)
    match a with
    | ⟨0, _⟩ => exact (at0 t _).1.trans (at2 t _).1.symm
    | ⟨1, _⟩ => exact (at0 t _).2
  · show V m c (Pipeline.arrRef spec0 1) ((win0_1.rect t).emb (ix2 k (j 1))) = _
    refine congrArg (m ((c : Thread nD τ).loc main_arg1)) (funext fun a => Fin.ext ?_)
    match a with
    | ⟨0, _⟩ => exact (at1 t _).1
    | ⟨1, _⟩ => exact (at1 t _).2.trans (at2 t _).2.symm

/-- Every index of the result lies in some point's block. -/
theorem cover (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 32 := N_0
  have hlt : (i 0).val / 1024 * 4 + (i 1).val / 512 < cfg0.N := by omega
  obtain ⟨-, -, -, -, p20, p21⟩ := places ⟨(i 0).val / 1024 * 4 + (i 1).val / 512, hlt⟩
  refine ⟨⟨(i 0).val / 1024 * 4 + (i 1).val / 512, hlt⟩, flush0_2 _, ?_⟩
  show i ∈ ((View.whole main_v0).slice (win0_2.rect ⟨(i 0).val / 1024 * 4 + (i 1).val / 512, hlt⟩)).set
  rw [View.set_slice_whole, Rect.mem_set_unit]
  intro a
  match a with
  | ⟨0, _⟩ =>
    show win0_2.index ⟨(i 0).val / 1024 * 4 + (i 1).val / 512, hlt⟩ 0 * 1024 ≤ (i 0).val ∧ (i 0).val < win0_2.index ⟨(i 0).val / 1024 * 4 + (i 1).val / 512, hlt⟩ 0 * 1024 + 1024
    rw [p20]; dsimp only; omega
  | ⟨1, _⟩ =>
    show win0_2.index ⟨(i 0).val / 1024 * 4 + (i 1).val / 512, hlt⟩ 1 * 512 ≤ (i 1).val ∧ (i 1).val < win0_2.index ⟨(i 0).val / 1024 * 4 + (i 1).val / 512, hlt⟩ 1 * 512 + 512
    rw [p21]; dsimp only; omega

theorem final_eq (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

/-- The host product is the same sum. -/
theorem ref_eq (x : S8192x256.Idx → EReal) (w : S256x2048.Idx → EReal) :
    Cert.Reference10Ideal.Read.val_main_v2 (F := Ideal) x w = prod x w := by
  funext i
  refine (Cert.Reference10Ideal.Read.val_main_v1_apply x w i).trans ?_
  unfold prod
  refine Finset.sum_congr rfl fun k _ => ?_
  congr 1
  · show x _ = x _
    exact congrArg x (funext fun a => by match a with | ⟨0, _⟩ => rfl | ⟨1, _⟩ => rfl)
  · exact congrArg w (funext fun a => by match a with | ⟨0, _⟩ => rfl | ⟨1, _⟩ => rfl)

theorem algebraic : Cert.algebraic_Kernel10Ideal_Reference10Ideal (hKernel10Ideal := Cert.Kernel10Ideal.Gen.facts)
    (hReference10Ideal := Cert.Reference10Ideal.Gen.facts) := by
  intro m ρ m' ρ' _ hag
  refine ⟨fun c => (dats m 0 c).arrAt 2 cfg0.N, Value.run_blocks m ρ, ?_⟩
  refine (θ_run Cert.Reference10Ideal.defs _ _).mono (fun _ h c => ⟨(h c).1.trans ?_, (h c).2⟩)
    (Cert.Reference10Ideal.Value.run (F := Ideal) m' ρ')
  refine Eq.trans ?_ (final_eq m c).symm
  rw [Cert.Reference10Ideal.Read.val_main_v2_eq, (hag c).1, (hag c).2]
  exact ref_eq _ _

theorem frame_ref : Cert.quiescent_Reference10Ideal (hReference10Ideal := Cert.Reference10Ideal.Gen.facts) := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

end Cert.KvUpValue

end
-- ==== Proof.LastPay.lean ====
module

public import proofs.«01_k».proof.Defs
public import proofs.«01_k».proof.Proof.Gen.Kernel11Ideal.Value
public import Idealize.ShloMosaic.Lib.Pipeline.Value
public import Idealize.ShloMosaic.Lib.ValueIdx
public import Idealize.ShloMosaic.Lib.IdealHost
public import Idealize.ShloMosaic.Lib.WordCmp
public import Idealize.ShloMosaic.Lib.StableHlo.Run

@[expose] public section

/-! What the last call computes of one block of rows, read at an index: the residual, the two experts' rows weighted and
gated, and the root-mean-square norm. -/

set_option maxRecDepth 16384

noncomputable section

namespace Cert.Last

open Cert.Kernel11Ideal Cert.Kernel11Ideal.Gen
open Idealize.ShloMosaic Idealize.ShloMosaic.TcCoe Idealize.ShloMosaic.ValueIdx Idealize.SL.Sem
open scoped BigOperators

/-- The row of the modulation product that the row `r` of the stream takes its gate from: of 2048 prompt rows the same
one, of a sample row its own. -/
def owner (r : Fin 8320) : Fin 132 := if h : r.val < 8192 then ⟨r.val / 2048, by omega⟩ else ⟨r.val - 8188, by omega⟩

/-- The residual stream after the two chosen experts' rows, weighted and gated, are added. -/
def stream (x : S8320x2048.Idx → EReal) (md : S132x12288.Idx → EReal) (a b : S8320x2048.Idx → EReal) (w : S2x8320.Idx → EReal)
    (r : Fin 8320) (k : Fin 2048) : EReal :=
  x (ix2 r k) + md (ix2 (owner r) (⟨10240 + k.val, by omega⟩ : Fin 12288)) * (w (ix2 0 r) * a (ix2 r k) + w (ix2 1 r) * b (ix2 r k))

/-- The factor of the norm of a row `z`: one over the root of the mean square plus the small constant. -/
def factor (z : Fin 2048 → EReal) : EReal :=
  Ideal.rsqrt (Ideal.div (∑ k : Fin 2048, z k * z k) (Ideal.ofBits .f32 0x45000000#32) + Ideal.ofBits .f32 0x358637BD#32)

/-- The normed stream times the gain: what the call returns. -/
def normed (x : S8320x2048.Idx → EReal) (md : S132x12288.Idx → EReal) (a b : S8320x2048.Idx → EReal) (w : S2x8320.Idx → EReal)
    (g : S2048.Idx → EReal) : S8320x2048.Idx → EReal :=
  fun i => stream x md a b w (i 0) (i 1) * factor (stream x md a b w (i 0)) * g (ix1 (i 1))

/-- A vector laid out as a column. -/
theorem col_apply (v : FVec Ideal S128 .f32) (r : Fin 128) : shapeCast S128x1 v shapeCasts_S128_S128x1 (ix2 r 0) = v (ix1 r) :=
  shapeCast_apply v _ _ _ (by
    rewrite [Shape.rowMajor_val_one, Shape.rowMajor_val_two]
    show r.val = r.val * 1 + 0
    omega)

/-- A column spread over the block's columns. -/
theorem spread_col (v : FVec Ideal S128x1 .f32) (r : Fin 128) (k : Fin 2048) :
    broadcastTo S128x2048 v broadcasts_S128x1_S128x2048 (ix2 r k) = v (ix2 r 0) :=
  broadcastTo_apply v _ _ _ fun a => match a with | ⟨0, _⟩ => rfl | ⟨1, _⟩ => rfl

/-- The gain's row spread over the block's rows. -/
theorem spread_row (v : FVec Ideal S1x2048 .f32) (r : Fin 128) (k : Fin 2048) :
    broadcastTo S128x2048 v broadcasts_S1x2048_S128x2048 (ix2 r k) = v (ix2 0 k) :=
  broadcastTo_apply v _ _ _ fun a => match a with | ⟨0, _⟩ => rfl | ⟨1, _⟩ => rfl

/-- The gate's block without its leading axis. -/
theorem gate_apply (v : FVec Ideal S1x128x2048 .f32) (r : Fin 128) (k : Fin 2048) :
    shapeCast S128x2048 v shapeCasts_S1x128x2048_S128x2048 (ix2 r k) = v (ix3 0 r k) :=
  shapeCast_apply v _ _ _ (by
    rewrite [Shape.rowMajor_val_three, Shape.rowMajor_val_two]
    show (0 * 128 + r.val) * 2048 + k.val = r.val * 2048 + k.val
    omega)

/-- The weights of one choice, given as a row, put on the diagonal and summed over the columns: a column. -/
def diag (v : FVec Ideal S1x128 .f32) : FVec Ideal S128x1 .f32 :=
  shapeCast S128x1 (multiReduction .add [1] S128
    (select (cmpi .eq (iota .tc S128x128 32 [0] iota_S128x128_d0_w32) (iota .tc S128x128 32 [1] iota_S128x128_d1_w32))
      (broadcastTo S128x128 (shapeCast S1x128 v shapeCasts_S1x128_S1x128) broadcasts_S1x128_S128x128)
      (broadcast S128x128 (Scalar.ofBits .f32 0x00000000#32)))
    0x00000000#32 reduces_S128x128_S128 (.inl rfl) rfl) shapeCasts_S128_S128x1

theorem lift_diag (r : Fin 128) (c : Fin (S128x128.size 1)) :
    (reduces_S128x128_S128 : S128x128.Reduces [1] S128).lift (ix1 r) c = ix2 r (⟨c.val, c.isLt⟩ : Fin 128) := by
  funext a; apply Fin.ext
  match a with
  | ⟨0, _⟩ => rfl
  | ⟨1, _⟩ => rfl

theorem lift_wide (r : Fin 128) (c : Fin (S128x2048.size 1)) :
    (reduces_S128x2048_S128 : S128x2048.Reduces [1] S128).lift (ix1 r) c = ix2 r (⟨c.val, c.isLt⟩ : Fin 2048) := by
  funext a; apply Fin.ext
  match a with
  | ⟨0, _⟩ => rfl
  | ⟨1, _⟩ => rfl

/-- Two small numbers are the same word only if they are the same. -/
theorem word_eq (r c : Fin 128) : IntOp.cmpi .eq (BitVec.ofNat 32 r.val) (BitVec.ofNat 32 c.val) = 1#1 ↔ r = c := by
  rw [WordCmp.cmpi_eq_eq, WordCmp.ofBool_eq_one_iff, decide_eq_true_iff]
  constructor
  · intro h
    have := congrArg BitVec.toNat h
    rw [BitVec.toNat_ofNat, BitVec.toNat_ofNat] at this
    exact Fin.ext (by omega)
  · rintro rfl; rfl

/-- The column at row `r` is the weight of row `r`. -/
theorem diag_apply (v : FVec Ideal S1x128 .f32) (r : Fin 128) : diag v (ix2 r 0) = v (ix2 0 r) := by
  unfold diag
  rw [col_apply]
  refine (Ideal.multiReduction_add_single _ _ reduces_S128x128_S128 (.inl rfl) rfl (ix1 r)).trans ?_
  have e : ∀ c : Fin 128, select (cmpi .eq (iota .tc S128x128 32 [0] iota_S128x128_d0_w32) (iota .tc S128x128 32 [1] iota_S128x128_d1_w32))
      (broadcastTo S128x128 (shapeCast S1x128 v shapeCasts_S1x128_S1x128) broadcasts_S1x128_S128x128)
      (broadcast S128x128 (Scalar.ofBits (F := Ideal) .f32 0x00000000#32)) (ix2 r c) = if r = c then (v (ix2 0 c) : EReal) else 0 := fun c => by
    show Scalar.select (IntOp.cmpi .eq (iota .tc S128x128 32 [0] iota_S128x128_d0_w32 (ix2 r c)) (iota .tc S128x128 32 [1] iota_S128x128_d1_w32 (ix2 r c)))
      (broadcastTo S128x128 (shapeCast S1x128 v shapeCasts_S1x128_S1x128) broadcasts_S1x128_S128x128 (ix2 r c)) (Ideal.ofBits .f32 0x00000000#32) = _
    rw [iota_single_apply, iota_single_apply, Ideal.ofBits_zero_f32, shapeCast_self]
    unfold Scalar.select
    by_cases h : r = c
    · rw [if_pos h]
      refine (if_pos ((word_eq r c).2 h)).trans ?_
      exact broadcastTo_apply v _ _ _ fun a => match a with | ⟨0, _⟩ => rfl | ⟨1, _⟩ => rfl
    · rw [if_neg h]; exact if_neg (fun e => h ((word_eq r c).1 e))
  refine (Finset.sum_congr rfl fun c _ => ?_ : _ = ∑ c : Fin 128, if r = c then (v (ix2 0 c) : EReal) else 0).trans ?_
  · exact (congrArg (select _ _ _) (lift_diag r c)).trans (e c)
  · rw [Finset.sum_ite_eq]; exact if_pos (Finset.mem_univ r)

/-- The stream of one block of rows. -/
def mix (a : Vec Ideal S128x2048 .f32) (w : Vec Ideal S2x128 .f32) (b x : Vec Ideal S128x2048 .f32) (g : Vec Ideal S1x128x2048 .f32) : FVec Ideal S128x2048 .f32 :=
  addf x (mulf (shapeCast S128x2048 g shapeCasts_S1x128x2048_S128x2048)
    (addf (mulf (broadcastTo S128x2048 (diag (extractStridedSlice S1x128 ![0, 0] w slices_S2x128_o0_0_S1x128)) broadcasts_S128x1_S128x2048) a)
      (mulf (broadcastTo S128x2048 (diag (extractStridedSlice S1x128 ![1, 0] w slices_S2x128_o1_0_S1x128)) broadcasts_S128x1_S128x2048) b)))

theorem mix_apply (a : Vec Ideal S128x2048 .f32) (w : Vec Ideal S2x128 .f32) (b x : Vec Ideal S128x2048 .f32) (g : Vec Ideal S1x128x2048 .f32)
    (r : Fin 128) (k : Fin 2048) : mix a w b x g (ix2 r k)
      = @HAdd.hAdd EReal EReal EReal instHAdd (x (ix2 r k)) (@HMul.hMul EReal EReal EReal instHMul (g (ix3 0 r k))
          (@HAdd.hAdd EReal EReal EReal instHAdd (@HMul.hMul EReal EReal EReal instHMul (w (ix2 0 r)) (a (ix2 r k)))
            (@HMul.hMul EReal EReal EReal instHMul (w (ix2 1 r)) (b (ix2 r k))))) := by
  have e0 : broadcastTo S128x2048 (diag (extractStridedSlice S1x128 ![0, 0] w slices_S2x128_o0_0_S1x128)) broadcasts_S128x1_S128x2048 (ix2 r k) = w (ix2 0 r) := by
    rw [spread_col, diag_apply]
    exact extractStridedSlice_apply _ w _ _ _ fun a => match a with | ⟨0, _⟩ => rfl | ⟨1, _⟩ => (Nat.zero_add _).symm
  have e1 : broadcastTo S128x2048 (diag (extractStridedSlice S1x128 ![1, 0] w slices_S2x128_o1_0_S1x128)) broadcasts_S128x1_S128x2048 (ix2 r k) = w (ix2 1 r) := by
    rw [spread_col, diag_apply]
    exact extractStridedSlice_apply _ w _ _ _ fun a => match a with | ⟨0, _⟩ => rfl | ⟨1, _⟩ => (Nat.zero_add _).symm
  refine congrArg₂ (@HAdd.hAdd EReal EReal EReal instHAdd) rfl (congrArg₂ (@HMul.hMul EReal EReal EReal instHMul) (gate_apply g r k) ?_)
  exact congrArg₂ (@HAdd.hAdd EReal EReal EReal instHAdd) (congrArg (fun z : EReal => z * (show EReal from a (ix2 r k))) e0)
    (congrArg (fun z : EReal => z * (show EReal from b (ix2 r k))) e1)

/-- The factors of a block's rows, as a column. -/
def factors (z : FVec Ideal S128x2048 .f32) : FVec Ideal S128x1 .f32 :=
  rsqrt (addf (divf (shapeCast S128x1 (multiReduction .add [1] S128 (mulf z z) 0x00000000#32 reduces_S128x2048_S128 (.inl rfl) rfl) shapeCasts_S128_S128x1)
    (broadcast S128x1 (Scalar.ofBits .f32 0x45000000#32))) (broadcast S128x1 (Scalar.ofBits .f32 0x358637BD#32)))

theorem factors_apply (z : FVec Ideal S128x2048 .f32) (r : Fin 128) : factors z (ix2 r 0) = factor fun k => z (ix2 r k) := by
  show Ideal.rsqrt (Ideal.div (shapeCast S128x1 (multiReduction .add [1] S128 (mulf z z) 0x00000000#32 reduces_S128x2048_S128 (.inl rfl) rfl) shapeCasts_S128_S128x1 (ix2 r 0))
    (Ideal.ofBits .f32 0x45000000#32) + Ideal.ofBits .f32 0x358637BD#32) = _
  unfold factor
  rw [col_apply]
  have e : multiReduction .add [1] S128 (mulf z z) 0x00000000#32 reduces_S128x2048_S128 (.inl rfl) rfl (ix1 r)
      = ∑ k : Fin 2048, @HMul.hMul EReal EReal EReal instHMul (z (ix2 r k)) (z (ix2 r k)) := by
    refine (Ideal.multiReduction_add_single _ _ reduces_S128x2048_S128 (.inl rfl) rfl (ix1 r)).trans ?_
    refine Finset.sum_congr rfl fun c _ => ?_
    rw [lift_wide]
    rfl
  rw [e]

theorem pay2_eq (a : Vec Ideal S128x2048 .f32) (w : Vec Ideal S2x128 .f32) (b x : Vec Ideal S128x2048 .f32) (g : Vec Ideal S1x128x2048 .f32) :
    k0_pay2 a w b x g = mulf (mix a w b x g) (broadcastTo S128x2048 (factors (mix a w b x g)) broadcasts_S128x1_S128x2048) := rfl

/-- The body's result, read at an index. -/
theorem pay_apply (a : Vec Ideal S128x2048 .f32) (w : Vec Ideal S2x128 .f32) (b x : Vec Ideal S128x2048 .f32) (g : Vec Ideal S1x128x2048 .f32)
    (gain : Vec Ideal S1x2048 .f32) (r : Fin 128) (k : Fin 2048) : k0_pay1 (k0_pay2 a w b x g) gain (ix2 r k)
      = @HMul.hMul EReal EReal EReal instHMul (@HMul.hMul EReal EReal EReal instHMul (mix a w b x g (ix2 r k)) (factor fun j => mix a w b x g (ix2 r j))) (gain (ix2 0 k)) := by
  rw [pay2_eq]
  unfold k0_pay1
  rw [shapeCast_self]
  refine congrArg₂ (@HMul.hMul EReal EReal EReal instHMul) (congrArg₂ (@HMul.hMul EReal EReal EReal instHMul) rfl ?_) (spread_row gain r k)
  exact (spread_col _ r k).trans (factors_apply _ r)

/-- The table of the modulation rows, as the host lays it out before the call: of each of the six parts 128 copies of each
prompt row and then the sample rows. -/
def table (md : FVec Ideal S132x12288 .f32) : FVec Ideal S6x640x2048 .f32 :=
  concatenate S6x640x2048 1 [⟨S6x512x2048, shapeCast S6x512x2048 (broadcastInDim S6x4x128x2048 ![0, 1, 3] bcast_S6x4x2048_S6x4x128x2048_0_1_3
      (extractStridedSlice S6x4x2048 ![0, 0, 0] (transpose S6x132x2048 [1, 0, 2] (shapeCast S132x6x2048 md shapeCasts_S132x12288_S132x6x2048) transposes_S132x6x2048_S6x132x2048_1_0_2)
        slices_S6x132x2048_S6x4x2048_0_0_0)) shapeCasts_S6x4x128x2048_S6x512x2048⟩,
    ⟨S6x128x2048, extractStridedSlice S6x128x2048 ![0, 4, 0] (transpose S6x132x2048 [1, 0, 2] (shapeCast S132x6x2048 md shapeCasts_S132x12288_S132x6x2048) transposes_S132x6x2048_S6x132x2048_1_0_2)
        slices_S6x132x2048_S6x128x2048_0_4_0⟩] concatenates_S6x512x2048_S6x128x2048_S6x640x2048_d1

/-- The modulation product split in its six parts, part first. -/
theorem parts_apply (md : FVec Ideal S132x12288 .f32) (p : Fin 6) (r : Fin 132) (k : Fin 2048) :
    transpose S6x132x2048 [1, 0, 2] (shapeCast S132x6x2048 md shapeCasts_S132x12288_S132x6x2048) transposes_S132x6x2048_S6x132x2048_1_0_2 (ix3 p r k)
      = md (ix2 r (⟨p.val * 2048 + k.val, by omega⟩ : Fin 12288)) := by
  refine (transpose_apply _ _ _ _ (ix3 r p k) fun b => ?_).trans (shapeCast_apply md _ _ _ ?_)
  · match b with | ⟨0, _⟩ => rfl | ⟨1, _⟩ => rfl | ⟨2, _⟩ => rfl
  · rewrite [Shape.rowMajor_val_three, Shape.rowMajor_val_two]
    show r.val * 12288 + (p.val * 2048 + k.val) = (r.val * 6 + p.val) * 2048 + k.val
    omega

/-- The table's first 512 rows: row `s` is prompt row `s / 128`. -/
theorem table_prompt (md : FVec Ideal S132x12288 .f32) (p : Fin 6) (s : Fin 640) (k : Fin 2048) (h : s.val < 512) :
    table md (ix3 p s k) = md (ix2 (⟨s.val / 128, by omega⟩ : Fin 132) (⟨p.val * 2048 + k.val, by omega⟩ : Fin 12288)) := by
  unfold table
  refine (concatenate_pair_apply_left (t := S6x640x2048) (s₁ := S6x512x2048) (s₂ := S6x128x2048) 1 _ _ _ (ix3 p s k) rfl (ix3 p (⟨s.val, h⟩ : Fin 512) k) fun b => ?_).trans ?_
  · match b with | ⟨0, _⟩ => rfl | ⟨1, _⟩ => rfl | ⟨2, _⟩ => rfl
  refine (shapeCast_apply _ _ _ (ix4 p (⟨s.val / 128, by omega⟩ : Fin 4) (⟨s.val % 128, by omega⟩ : Fin 128) k) ?_).trans ?_
  · rewrite [Shape.rowMajor_val_four, Shape.rowMajor_val_three]
    show ((p.val * 4 + s.val / 128) * 128 + s.val % 128) * 2048 + k.val = (p.val * 512 + s.val) * 2048 + k.val
    omega
  refine (broadcastInDim_apply _ _ _ _ (ix3 p (⟨s.val / 128, by omega⟩ : Fin 4) k) fun b => ?_).trans ?_
  · match b with | ⟨0, _⟩ => rfl | ⟨1, _⟩ => rfl | ⟨2, _⟩ => rfl
  refine (extractStridedSlice_apply _ _ _ _ (ix3 p (⟨s.val / 128, by omega⟩ : Fin 132) k) fun b => ?_).trans (parts_apply md p _ k)
  match b with | ⟨0, _⟩ => exact (Nat.zero_add _).symm | ⟨1, _⟩ => exact (Nat.zero_add _).symm | ⟨2, _⟩ => exact (Nat.zero_add _).symm

/-- The table's last 128 rows are the sample rows. -/
theorem table_sample (md : FVec Ideal S132x12288 .f32) (p : Fin 6) (s : Fin 640) (k : Fin 2048) (h : 512 ≤ s.val) :
    table md (ix3 p s k) = md (ix2 (⟨s.val - 508, by omega⟩ : Fin 132) (⟨p.val * 2048 + k.val, by omega⟩ : Fin 12288)) := by
  unfold table
  refine (concatenate_pair_apply_right (t := S6x640x2048) (s₁ := S6x512x2048) (s₂ := S6x128x2048) 1 _ _ _ (ix3 p s k) rfl rfl (ix3 p (⟨s.val - 512, by omega⟩ : Fin 128) k) (fun b hb => ?_) ?_).trans ?_
  · match b with | ⟨0, _⟩ => rfl | ⟨1, _⟩ => exact absurd rfl hb | ⟨2, _⟩ => rfl
  · show s.val - 512 + 512 = s.val
    omega
  refine (extractStridedSlice_apply _ _ _ _ (ix3 p (⟨s.val - 508, by omega⟩ : Fin 132) k) fun b => ?_).trans (parts_apply md p _ k)
  match b with
  | ⟨0, _⟩ => exact (Nat.zero_add _).symm
  | ⟨1, _⟩ => show s.val - 508 = 4 + (s.val - 512); omega
  | ⟨2, _⟩ => exact (Nat.zero_add _).symm

end Cert.Last

end
-- ==== Proof.LastValue.lean ====
module

public import proofs.«01_k».proof.Proof.LastPay
public import proofs.«01_k».proof.Proof.Gen.Reference11Ideal.Run
public import proofs.«01_k».proof.Proof.Gen.Reference11Ideal.Read
public import Idealize.ShloMosaic.Lib.Quiescent

@[expose] public section

/-! The value of the last call: the array it returns is the normed stream, and the plain program computes the same. -/

set_option maxRecDepth 16384

noncomputable section

namespace Cert.Last

open Cert.Kernel11Ideal Cert.Kernel11Ideal.Gen
open Idealize.ShloMosaic Idealize.ShloMosaic.TcCoe Idealize.ShloMosaic.ValueIdx Idealize.SL.Sem
open Idealize.ShloMosaic.Pipeline (Dat Window)
open scoped BigOperators

variable (m : (ℓ : Loc nD τ sig) → Buf (Elt Ideal) ℓ) (ρ : Dev nD → PrngReg)

/-- Where the blocks of the row windows lie, point by point. -/
theorem places : ∀ t : Fin cfg0.N,
    (win0_0.index t 0 = t.val ∧ win0_0.index t 1 = 0) ∧ (win0_2.index t 0 = t.val ∧ win0_2.index t 1 = 0)
      ∧ (win0_3.index t 0 = t.val ∧ win0_3.index t 1 = 0) ∧ (win0_6.index t 0 = t.val ∧ win0_6.index t 1 = 0) :=
  (by decide +kernel : ∀ t : Fin grid0.N, (win0_0.index t 0 = t.val ∧ win0_0.index t 1 = 0) ∧ (win0_2.index t 0 = t.val ∧ win0_2.index t 1 = 0)
      ∧ (win0_3.index t 0 = t.val ∧ win0_3.index t 1 = 0) ∧ (win0_6.index t 0 = t.val ∧ win0_6.index t 1 = 0))

/-- Where the blocks of the gate, the weights and the gain lie: sixteen points of one prompt batch share a gate's block. -/
theorem places' : ∀ t : Fin cfg0.N,
    (win0_1.index t 0 = 5 ∧ win0_1.index t 1 = min (t.val / 16) 4 ∧ win0_1.index t 2 = 0)
      ∧ (win0_4.index t 0 = 0 ∧ win0_4.index t 1 = t.val) ∧ (win0_5.index t 0 = 0 ∧ win0_5.index t 1 = 0) :=
  (by decide +kernel : ∀ t : Fin grid0.N, (win0_1.index t 0 = 5 ∧ win0_1.index t 1 = min (t.val / 16) 4 ∧ win0_1.index t 2 = 0)
      ∧ (win0_4.index t 0 = 0 ∧ win0_4.index t 1 = t.val) ∧ (win0_5.index t 0 = 0 ∧ win0_5.index t 1 = 0))

theorem zeros2 : (![0, 0] : Fin 2 → Nat) = fun _ => 0 := funext fun a => by fin_cases a <;> rfl
theorem zeros3 : (![0, 0, 0] : Fin 3 → Nat) = fun _ => 0 := funext fun a => by fin_cases a <;> rfl

theorem at0 (t : Fin cfg0.N) (y) : ((win0_0.rect t).emb y 0).val = t.val * 128 + (y 0).val ∧ ((win0_0.rect t).emb y 1).val = (y 1).val :=
  ⟨(Window.rect_emb_val win0_0 t y 0).trans (by rw [(places t).1.1]; rfl), Window.rect_emb_val_of_index_zero win0_0 t 1 (places t).1.2 y⟩
theorem at2 (t : Fin cfg0.N) (y) : ((win0_2.rect t).emb y 0).val = t.val * 128 + (y 0).val ∧ ((win0_2.rect t).emb y 1).val = (y 1).val :=
  ⟨(Window.rect_emb_val win0_2 t y 0).trans (by rw [(places t).2.1.1]; rfl), Window.rect_emb_val_of_index_zero win0_2 t 1 (places t).2.1.2 y⟩
theorem at3 (t : Fin cfg0.N) (y) : ((win0_3.rect t).emb y 0).val = t.val * 128 + (y 0).val ∧ ((win0_3.rect t).emb y 1).val = (y 1).val :=
  ⟨(Window.rect_emb_val win0_3 t y 0).trans (by rw [(places t).2.2.1.1]; rfl), Window.rect_emb_val_of_index_zero win0_3 t 1 (places t).2.2.1.2 y⟩
theorem at6 (t : Fin cfg0.N) (y) : ((win0_6.rect t).emb y 0).val = t.val * 128 + (y 0).val ∧ ((win0_6.rect t).emb y 1).val = (y 1).val :=
  ⟨(Window.rect_emb_val win0_6 t y 0).trans (by rw [(places t).2.2.2.1]; rfl), Window.rect_emb_val_of_index_zero win0_6 t 1 (places t).2.2.2.2 y⟩
theorem at1 (t : Fin cfg0.N) (y) : ((win0_1.rect t).emb y 0).val = 5 + (y 0).val ∧ ((win0_1.rect t).emb y 1).val = min (t.val / 16) 4 * 128 + (y 1).val
    ∧ ((win0_1.rect t).emb y 2).val = (y 2).val :=
  ⟨(Window.rect_emb_val win0_1 t y 0).trans (by rw [(places' t).1.1]; rfl), (Window.rect_emb_val win0_1 t y 1).trans (by rw [(places' t).1.2.1]; rfl),
    Window.rect_emb_val_of_index_zero win0_1 t 2 (places' t).1.2.2 y⟩
theorem at4 (t : Fin cfg0.N) (y) : ((win0_4.rect t).emb y 0).val = (y 0).val ∧ ((win0_4.rect t).emb y 1).val = t.val * 128 + (y 1).val :=
  ⟨Window.rect_emb_val_of_index_zero win0_4 t 0 (places' t).2.1.1 y, (Window.rect_emb_val win0_4 t y 1).trans (by rw [(places' t).2.1.2]; rfl)⟩
theorem at5 (t : Fin cfg0.N) (y) : ((win0_5.rect t).emb y 0).val = (y 0).val ∧ ((win0_5.rect t).emb y 1).val = (y 1).val :=
  ⟨Window.rect_emb_val_of_index_zero win0_5 t 0 (places' t).2.2.1 y, Window.rect_emb_val_of_index_zero win0_5 t 1 (places' t).2.2.2 y⟩

/-- The table that the call finds is the host's layout of the modulation product. -/
theorem V_table (c : Dev nD) : (V m c main_v6 : S6x640x2048.Idx → EReal) = table (m ((c : Thread nD τ).loc main_arg1)) := by
  unfold V
  after_results
  rfl

/-- A vector reshaped to one row, read at an index. -/
theorem row_apply (x : FVec Ideal S2048 .f32) (n : Fin 2048) : shapeCast S1x2048 x shapeCasts_S2048_S1x2048 (ix2 0 n) = x (ix1 n) :=
  shapeCast_apply x _ _ _ (by
    rewrite [Shape.rowMajor_val_one, Shape.rowMajor_val_two]
    show n.val = 0 * 2048 + n.val
    omega)

/-- The gain laid out as a row. -/
theorem V_gain (c : Dev nD) (n : Fin 2048) :
    (V m c main_v7 : S1x2048.Idx → EReal) (ix2 0 n) = (m ((c : Thread nD τ).loc main_arg5) : S2048.Idx → EReal) (ix1 n) := by
  have e : V m c main_v7 = shapeCast S1x2048 (m ((c : Thread nD τ).loc main_arg5)) shapeCasts_S2048_S1x2048 := by
    unfold V
    after_results
    rfl
  rw [e]
  exact row_apply (m ((c : Thread nD τ).loc main_arg5)) n

/-- The row of the whole stream that is row `r` of point `t`'s block. -/
def rowAt (t : Fin cfg0.N) (r : Fin 128) : Fin 8320 := ⟨t.val * 128 + r.val, by
  have h : t.val < cfg0.N := t.isLt
  have hN : cfg0.N = 65 := N_0
  omega⟩

/-- The gate that point `t` finds for its row is that of the row's owner. -/
theorem gate_eq (c : Dev nD) (t : Fin cfg0.N) (r : Fin 128) (k : Fin 2048) :
    iblk m c 1 t (ix3 0 r k) = (m ((c : Thread nD τ).loc main_arg1) : S132x12288.Idx → EReal) (ix2 (owner (rowAt t r)) (⟨10240 + k.val, by omega⟩ : Fin 12288)) := by
  have ht : t.val < cfg0.N := t.isLt
  have hN : cfg0.N = 65 := N_0
  have hs : min (t.val / 16) 4 * 128 + r.val < 640 := by omega
  have e : iblk m c 1 t (ix3 0 r k) = table (m ((c : Thread nD τ).loc main_arg1)) (ix3 5 (⟨min (t.val / 16) 4 * 128 + r.val, hs⟩ : Fin 640) k) := by
    show (V m c main_v6 : S6x640x2048.Idx → EReal) ((win0_1.rect t).emb (ix3 0 r k)) = _
    rw [V_table]
    refine congrArg (table _) (funext fun a => Fin.ext ?_)
    match a with
    | ⟨0, _⟩ => exact (at1 t _).1
    | ⟨1, _⟩ => exact (at1 t _).2.1
    | ⟨2, _⟩ => exact (at1 t _).2.2
  rw [e]
  by_cases h : t.val < 64
  · refine (table_prompt _ 5 _ k (by dsimp only; omega)).trans (congrArg (m ((c : Thread nD τ).loc main_arg1)) (funext fun a => Fin.ext ?_))
    have ho : (owner (rowAt t r)).val = (t.val * 128 + r.val) / 2048 := by
      unfold owner rowAt
      rw [dif_pos (by dsimp only; omega)]
    match a with
    | ⟨0, _⟩ =>
      show (min (t.val / 16) 4 * 128 + r.val) / 128 = (owner (rowAt t r)).val
      rw [ho]; omega
    | ⟨1, _⟩ => rfl
  · refine (table_sample _ 5 _ k (by dsimp only; omega)).trans (congrArg (m ((c : Thread nD τ).loc main_arg1)) (funext fun a => Fin.ext ?_))
    have ho : (owner (rowAt t r)).val = t.val * 128 + r.val - 8188 := by
      unfold owner rowAt
      rw [dif_neg (by dsimp only; omega)]
    match a with
    | ⟨0, _⟩ =>
      show min (t.val / 16) 4 * 128 + r.val - 508 = (owner (rowAt t r)).val
      rw [ho]; omega
    | ⟨1, _⟩ => rfl

/-- A block of point `t` of the stream's rows. -/
theorem x_eq (c : Dev nD) (t : Fin cfg0.N) (r : Fin 128) (k : Fin 2048) :
    iblk m c 0 t (ix2 r k) = (m ((c : Thread nD τ).loc main_arg0) : S8320x2048.Idx → EReal) (ix2 (rowAt t r) k) := by
  show V m c main_arg0 ((win0_0.rect t).emb (ix2 r k)) = _
  rw [V_main_arg0]
  refine congrArg (m ((c : Thread nD τ).loc main_arg0)) (funext fun a => Fin.ext ?_)
  match a with
  | ⟨0, _⟩ => exact (at0 t _).1
  | ⟨1, _⟩ => exact (at0 t _).2

/-- A block of the first expert's rows. -/
theorem a_eq (c : Dev nD) (t : Fin cfg0.N) (r : Fin 128) (k : Fin 2048) :
    iblk m c 2 t (ix2 r k) = (m ((c : Thread nD τ).loc main_arg2) : S8320x2048.Idx → EReal) (ix2 (rowAt t r) k) := by
  show V m c main_arg2 ((win0_2.rect t).emb (ix2 r k)) = _
  rw [V_main_arg2]
  refine congrArg (m ((c : Thread nD τ).loc main_arg2)) (funext fun a => Fin.ext ?_)
  match a with
  | ⟨0, _⟩ => exact (at2 t _).1
  | ⟨1, _⟩ => exact (at2 t _).2

/-- A block of the second expert's rows. -/
theorem b_eq (c : Dev nD) (t : Fin cfg0.N) (r : Fin 128) (k : Fin 2048) :
    iblk m c 3 t (ix2 r k) = (m ((c : Thread nD τ).loc main_arg3) : S8320x2048.Idx → EReal) (ix2 (rowAt t r) k) := by
  show V m c main_arg3 ((win0_3.rect t).emb (ix2 r k)) = _
  rw [V_main_arg3]
  refine congrArg (m ((c : Thread nD τ).loc main_arg3)) (funext fun a => Fin.ext ?_)
  match a with
  | ⟨0, _⟩ => exact (at3 t _).1
  | ⟨1, _⟩ => exact (at3 t _).2

/-- A block of the two experts' weights. -/
theorem w_eq (c : Dev nD) (t : Fin cfg0.N) (e : Fin 2) (r : Fin 128) :
    iblk m c 4 t (ix2 e r) = (m ((c : Thread nD τ).loc main_arg4) : S2x8320.Idx → EReal) (ix2 e (rowAt t r)) := by
  show V m c main_arg4 ((win0_4.rect t).emb (ix2 e r)) = _
  rw [V_main_arg4]
  refine congrArg (m ((c : Thread nD τ).loc main_arg4)) (funext fun a => Fin.ext ?_)
  match a with
  | ⟨0, _⟩ => exact (at4 t _).1
  | ⟨1, _⟩ => exact (at4 t _).2

/-- The gain. -/
theorem g_eq (c : Dev nD) (t : Fin cfg0.N) (k : Fin 2048) :
    iblk m c 5 t (ix2 0 k) = (m ((c : Thread nD τ).loc main_arg5) : S2048.Idx → EReal) (ix1 k) := by
  refine Eq.trans ?_ (V_gain m c k)
  show V m c main_v7 ((win0_5.rect t).emb (ix2 0 k)) = _
  refine congrArg (V m c main_v7) (funext fun a => Fin.ext ?_)
  match a with
  | ⟨0, _⟩ => exact (at5 t _).1
  | ⟨1, _⟩ => exact (at5 t _).2

/-- The stream of point `t`'s block is the stream of the block's rows. -/
theorem block_eq (c : Dev nD) (t : Fin cfg0.N) (r : Fin 128) (k : Fin 2048) :
    mix (iblk m c 2 t) (iblk m c 4 t) (iblk m c 3 t) (iblk m c 0 t) (iblk m c 1 t) (ix2 r k)
      = stream (m ((c : Thread nD τ).loc main_arg0)) (m ((c : Thread nD τ).loc main_arg1)) (m ((c : Thread nD τ).loc main_arg2))
          (m ((c : Thread nD τ).loc main_arg3)) (m ((c : Thread nD τ).loc main_arg4)) (rowAt t r) k := by
  refine (mix_apply _ _ _ _ _ r k).trans ?_
  unfold stream
  exact congrArg₂ (@HAdd.hAdd EReal EReal EReal instHAdd) (x_eq m c t r k)
    (congrArg₂ (@HMul.hMul EReal EReal EReal instHMul) (gate_eq m c t r k)
      (congrArg₂ (@HAdd.hAdd EReal EReal EReal instHAdd)
        (congrArg₂ (@HMul.hMul EReal EReal EReal instHMul) (w_eq m c t 0 r) (a_eq m c t r k))
        (congrArg₂ (@HMul.hMul EReal EReal EReal instHMul) (w_eq m c t 1 r) (b_eq m c t r k))))

/-- What the call returns, from the arguments. -/
abbrev goal (c : Dev nD) : S8320x2048.Idx → EReal :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed_eq (c : Dev nD) (t : Fin cfg0.N) :
    (dats m 0 c).flushed 6 t = (win0_6.blk t).view.read (Elt Ideal) (goal m c) := by
  rw [Value.flushed6]
  unfold out0_6
  rw [View.canon_unit_zero zeros2, View.ld_unit_zero zeros2, View.ld_unit_zero zeros2, View.ld_unit_zero zeros2, View.ld_unit_zero zeros2,
    View.ld_unit_zero zeros3, View.ld_unit_zero zeros2]
  funext j
  rw [eq_ix2 (n0 := 128) (n1 := 2048) j]
  refine (pay_apply _ _ _ _ _ _ _ _).trans ?_
  show _ = goal m c ((win0_6.rect t).emb (ix2 (j 0) (j 1)))
  have ei : (win0_6.rect t).emb (ix2 (j 0) (j 1)) = ix2 (rowAt t (j 0)) (j 1) := funext fun a => Fin.ext (by
    match a with
    | ⟨0, _⟩ => exact (at6 t _).1
    | ⟨1, _⟩ => exact (at6 t _).2)
  rw [ei]
  exact congrArg₂ (@HMul.hMul EReal EReal EReal instHMul)
    (congrArg₂ (@HMul.hMul EReal EReal EReal instHMul) (block_eq m c t (j 0) (j 1))
      (congrArg factor (funext fun k => block_eq m c t (j 0) k))) (g_eq m c t (j 1))

theorem flush_6 : ∀ t : Fin cfg0.N, (cfg0.win 6).flush t = true :=
  (by decide +kernel : ∀ t : Fin grid0.N, win0_6.flush t = true)

/-- Every index of the result lies in some point's block. -/
theorem cover (i : S8320x2048.Idx) : ∃ t : Fin cfg0.N, (cfg0.win 6).flush t = true ∧ i ∈ ((cfg0.win 6).blk t).view.set := by
  have h0 : (i 0).val < 8320 := (i 0).isLt
  have h1 : (i 1).val < 2048 := (i 1).isLt
  have hN : cfg0.N = 65 := N_0
  have hlt : (i 0).val / 128 < cfg0.N := by omega
  obtain ⟨-, -, -, p60, p61⟩ := places ⟨(i 0).val / 128, hlt⟩
  refine ⟨⟨(i 0).val / 128, hlt⟩, flush_6 _, ?_⟩
  show i ∈ ((View.whole main_v8).slice (win0_6.rect ⟨(i 0).val / 128, hlt⟩)).set
  rw [View.set_slice_whole, Rect.mem_set_unit]
  intro a
  match a with
  | ⟨0, _⟩ =>
    show win0_6.index ⟨(i 0).val / 128, hlt⟩ 0 * 128 ≤ (i 0).val ∧ (i 0).val < win0_6.index ⟨(i 0).val / 128, hlt⟩ 0 * 128 + 128
    rw [p60]; dsimp only; omega
  | ⟨1, _⟩ =>
    show win0_6.index ⟨(i 0).val / 128, hlt⟩ 1 * 2048 ≤ (i 1).val ∧ (i 1).val < win0_6.index ⟨(i 0).val / 128, hlt⟩ 1 * 2048 + 2048
    rw [p61]; omega

theorem final_eq (c : Dev nD) : (dats m 0 c).arrAt 6 cfg0.N = goal m c :=
  (dats m 0 c).arrAt_eq_of_cover 6 _ (fun t _ => flushed_eq m c t) cover

section
open Cert.Reference11Ideal.Read

variable (x : S8320x2048.Idx → EReal) (md : S132x12288.Idx → EReal) (a b : S8320x2048.Idx → EReal) (w : S2x8320.Idx → EReal) (g : S2048.Idx → EReal)

/-- The plain program's gate of row `r` is that of the row's owner. -/
theorem ref_gate (r : Fin 8320) (k : Fin 2048) :
    val_main_v5 (F := Ideal) md (ix2 r k) = md (ix2 (owner r) (⟨10240 + k.val, by omega⟩ : Fin 12288)) := by
  unfold val_main_v5
  by_cases h : r.val < 8192
  · refine (concatenate_pair_apply_left (t := Cert.Reference11Ideal.S8320x2048) (s₁ := Cert.Reference11Ideal.S8192x2048) (s₂ := Cert.Reference11Ideal.S128x2048) 0 _ _ _ (ix2 r k) rfl
      (ix2 (⟨r.val, h⟩ : Fin 8192) k) fun b => ?_).trans ?_
    · match b with | ⟨0, _⟩ => rfl | ⟨1, _⟩ => rfl
    rw [val_main_v3_apply, val_main_v2_apply, val_main_v1_apply, val_main_v0_apply]
    refine congrArg md (funext fun a => Fin.ext ?_)
    match a with
    | ⟨0, _⟩ =>
      show (r.val * 2048 + k.val) / 4194304 = (owner r).val
      unfold owner; rw [dif_pos h]; dsimp only; omega
    | ⟨1, _⟩ =>
      show 10240 + (r.val * 2048 + k.val) % 2048 = 10240 + k.val
      omega
  · refine (concatenate_pair_apply_right (t := Cert.Reference11Ideal.S8320x2048) (s₁ := Cert.Reference11Ideal.S8192x2048) (s₂ := Cert.Reference11Ideal.S128x2048) 0 _ _ _ (ix2 r k) rfl rfl
      (ix2 (⟨r.val - 8192, by omega⟩ : Fin 128) k) (fun b hb => ?_) ?_).trans ?_
    · match b with | ⟨0, _⟩ => exact absurd rfl hb | ⟨1, _⟩ => rfl
    · show r.val - 8192 + 8192 = r.val
      omega
    rw [val_main_v4_apply, val_main_v0_apply]
    refine congrArg md (funext fun a => Fin.ext ?_)
    match a with
    | ⟨0, _⟩ =>
      show 4 + (r.val - 8192) = (owner r).val
      unfold owner; rw [dif_neg h]; dsimp only; omega
    | ⟨1, _⟩ => rfl

/-- The plain program's stream. -/
theorem ref_stream (r : Fin 8320) (k : Fin 2048) : val_main_v18 (F := Ideal) x md a b w (ix2 r k) = stream x md a b w r k := by
  have hr : r.val < 8320 := r.isLt
  have e0 : val_main_v9 (F := Ideal) w (ix2 r k) = w (ix2 0 r) := by
    rw [val_main_v9_apply, val_main_v8_apply, val_main_v7_apply, val_main_v6_apply]
    refine congrArg w (funext fun a => Fin.ext ?_)
    match a with
    | ⟨0, _⟩ => rfl
    | ⟨1, _⟩ => exact Nat.mod_eq_of_lt hr
  have e1 : val_main_v14 (F := Ideal) w (ix2 r k) = w (ix2 1 r) := by
    rw [val_main_v14_apply, val_main_v13_apply, val_main_v12_apply, val_main_v11_apply]
    refine congrArg w (funext fun a => Fin.ext ?_)
    match a with
    | ⟨0, _⟩ => rfl
    | ⟨1, _⟩ => exact Nat.mod_eq_of_lt hr
  rw [val_main_v18_apply, val_main_v17_apply, val_main_v16_apply, val_main_v10_apply, val_main_v15_apply, ref_gate, e0, e1]
  rfl

/-- The plain program's factor of a row. -/
theorem ref_factor (r : Fin 8320) (k : Fin 2048) : val_main_v27 (F := Ideal) x md a b w (ix2 r k) = factor (stream x md a b w r) := by
  rw [val_main_v27_apply, val_main_v26_apply, val_main_v25_apply, val_main_v23_apply, val_main_v24_apply, val_main_v22_apply, val_main_v21_apply,
    val_main_v20_apply, val_main_cst_apply, val_main_cst_0_apply, val_main_cst_1_apply]
  show Ideal.rsqrt (Ideal.div (Ideal.ofBits .f32 0x00000000#32 + _) (Ideal.ofBits .f32 0x45000000#32) + Ideal.ofBits .f32 0x358637BD#32) = _
  rw [Ideal.ofBits_zero_f32, zero_add]
  unfold factor
  refine congrArg Ideal.rsqrt (congrArg (· + Ideal.ofBits .f32 0x358637BD#32) (congrArg (Ideal.div · (Ideal.ofBits .f32 0x45000000#32)) (Finset.sum_congr rfl fun j _ => ?_)))
  have e : idx_main_v20 (idx_main_v21 (idx_main_v27 (ix2 r k))) j = ix2 r j := funext fun a => by match a with | ⟨0, _⟩ => rfl | ⟨1, _⟩ => rfl
  rw [val_main_v19_apply, e, ref_stream]
  rfl

/-- The plain program computes the same. -/
theorem ref_eq : val_main_v31 (F := Ideal) x md a b w g = normed x md a b w g := by
  have key : ∀ (r : Fin 8320) (k : Fin 2048), val_main_v31 (F := Ideal) x md a b w g (ix2 r k) = normed x md a b w g (ix2 r k) := fun r k => by
    rw [val_main_v31_apply, val_main_v28_apply, ref_stream, ref_factor, val_main_v30_apply, val_main_v29_apply]
    refine congrArg₂ (@HMul.hMul EReal EReal EReal instHMul) rfl ?_
    exact congrArg g (funext fun a => by match a with | ⟨0, _⟩ => rfl)
  funext i
  have ei : i = ix2 (i 0) (i 1) := eq_ix2 (n0 := 8320) (n1 := 2048) i
  exact (congrArg (val_main_v31 (F := Ideal) x md a b w g) ei).trans ((key (i 0) (i 1)).trans (congrArg (normed x md a b w g) ei.symm))
end

theorem algebraic : Cert.algebraic_Kernel11Ideal_Reference11Ideal (hKernel11Ideal := Cert.Kernel11Ideal.Gen.facts)
    (hReference11Ideal := Cert.Reference11Ideal.Gen.facts) := by
  intro m ρ m' ρ' _ hag
  refine ⟨fun c => (dats m 0 c).arrAt 6 cfg0.N, Value.run_blocks m ρ, ?_⟩
  refine (θ_run Cert.Reference11Ideal.defs _ _).mono (fun _ h c => ⟨(h c).1.trans ?_, (h c).2⟩)
    (Cert.Reference11Ideal.Value.run (F := Ideal) m' ρ')
  refine Eq.trans ?_ (final_eq m c).symm
  rw [Cert.Reference11Ideal.Read.val_main_v31_eq, (hag c).1, (hag c).2.1, (hag c).2.2.1, (hag c).2.2.2.1, (hag c).2.2.2.2.1, (hag c).2.2.2.2.2]
  exact ref_eq _ _ _ _ _ _

theorem frame_ref : Cert.quiescent_Reference11Ideal (hReference11Ideal := Cert.Reference11Ideal.Gen.facts) := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

end Cert.Last

end
-- ==== Proof.GdnPay.lean ====
module

public import proofs.«01_k».proof.Proof.Gen.Kernel12Ideal.Value
public import proofs.«01_k».proof.Proof.LastPay
public import Idealize.ShloMosaic.Lib.MatmulPlain
public import Idealize.ShloMosaic.Lib.Pipeline.ValueKit.Geometry
public import Idealize.ShloMosaic.Lib.Pipeline.ValueKit.Tiles

@[expose] public section

/-! The decoding step of the delta rule for one sample: each of its sixteen heads decays its state, corrects it by a
product of the key with what the value lacks, and reads it out with the query. -/

set_option maxRecDepth 16384

noncomputable section

namespace Cert.Gdn

open Cert.Kernel12Ideal Cert.Kernel12Ideal.Gen
open Idealize.ShloMosaic Idealize.ShloMosaic.TcCoe Idealize.ShloMosaic.ValueIdx Idealize.SL.Sem
open scoped BigOperators

/-- The new state of one head: `s` its old state, `k` and `v` its key and value, `e` its decay and `b` its rate. -/
def step (s : Fin 128 → Fin 128 → EReal) (k v : Fin 128 → EReal) (e b : EReal) (i j : Fin 128) : EReal :=
  s i j * e + k i * (b * (v j - ∑ l : Fin 128, k l * (s l j * e)))

/-- Where element `a` of head `h` lies in a row of all heads. -/
def col (h : Fin 16) (a : Fin 128) : Fin 2048 := ⟨h.val * 128 + a.val, by omega⟩

/-- The head of an element of a row of all heads, and its place there. -/
def head (n : Fin 2048) : Fin 16 := ⟨n.val / 128, by omega⟩
def lane (n : Fin 2048) : Fin 128 := ⟨n.val % 128, by omega⟩

/-- The new states of all heads of one sample. -/
def states (k v : Fin 2048 → EReal) (g b : Fin 16 → EReal) (s : Fin 16 → Fin 128 → Fin 128 → EReal) (h : Fin 16) (i j : Fin 128) : EReal :=
  step (s h) (fun a => k (col h a)) (fun a => v (col h a)) (Ideal.exp (g h)) (b h) i j

/-- What the queries read out of the new states. -/
def readout (q k v : Fin 2048 → EReal) (g b : Fin 16 → EReal) (s : Fin 16 → Fin 128 → Fin 128 → EReal) (n : Fin 2048) : EReal :=
  ∑ l : Fin 128, q (col (head n) l) * states k v g b s (head n) l (lane n)

theorem square_apply (v : FVec Ideal S1x1x128x128 .f32) (i j : Fin 128) :
    shapeCast S128x128 v shapeCasts_S1x1x128x128_S128x128 (ix2 i j) = v (ix4 0 0 i j) :=
  shapeCast_apply v _ _ _ (by
    rewrite [Shape.rowMajor_val_four, Shape.rowMajor_val_two]
    show ((0 * 1 + 0) * 128 + i.val) * 128 + j.val = i.val * 128 + j.val
    omega)

theorem unsquare_apply (v : FVec Ideal S128x128 .f32) (i j : Fin 128) :
    shapeCast S1x1x128x128 v shapeCasts_S128x128_S1x1x128x128 (ix4 0 0 i j) = v (ix2 i j) :=
  shapeCast_apply v _ _ _ (by
    rewrite [Shape.rowMajor_val_four, Shape.rowMajor_val_two]
    show i.val * 128 + j.val = ((0 * 1 + 0) * 128 + i.val) * 128 + j.val
    omega)

theorem row_apply (v : FVec Ideal S1x1x128 .f32) (j : Fin 128) : shapeCast S1x128 v shapeCasts_S1x1x128_S1x128 (ix2 0 j) = v (ix3 0 0 j) :=
  shapeCast_apply v _ _ _ (by
    rewrite [Shape.rowMajor_val_three, Shape.rowMajor_val_two]
    show (0 * 1 + 0) * 128 + j.val = 0 * 128 + j.val
    omega)

theorem unrow_apply (v : FVec Ideal S1x128 .f32) (j : Fin 128) : shapeCast S1x1x128 v shapeCasts_S1x128_S1x1x128 (ix3 0 0 j) = v (ix2 0 j) :=
  shapeCast_apply v _ _ _ (by
    rewrite [Shape.rowMajor_val_three, Shape.rowMajor_val_two]
    show 0 * 128 + j.val = (0 * 1 + 0) * 128 + j.val
    omega)

/-- The key, a row, put on the diagonal and summed over the columns: a column. -/
def diag (v : FVec Ideal S1x128 .f32) : FVec Ideal S128x1 .f32 :=
  shapeCast S128x1 (multiReduction .add [1] S128
    (select k0_pay5 (broadcastTo S128x128 (shapeCast S1x128 v shapeCasts_S1x128_S1x128) broadcasts_S1x128_S128x128)
      (broadcast S128x128 (Scalar.ofBits .f32 0x00000000#32)))
    0x00000000#32 reduces_S128x128_S128 (.inl rfl) rfl) shapeCasts_S128_S128x1

theorem diag_apply (v : FVec Ideal S1x128 .f32) (r : Fin 128) : diag v (ix2 r 0) = v (ix2 0 r) := by
  unfold diag
  rw [Last.col_apply]
  refine (Ideal.multiReduction_add_single _ _ reduces_S128x128_S128 (.inl rfl) rfl (ix1 r)).trans ?_
  have e : ∀ c : Fin 128, select k0_pay5
      (broadcastTo S128x128 (shapeCast S1x128 v shapeCasts_S1x128_S1x128) broadcasts_S1x128_S128x128)
      (broadcast S128x128 (Scalar.ofBits (F := Ideal) .f32 0x00000000#32)) (ix2 r c) = if r = c then (v (ix2 0 c) : EReal) else 0 := fun c => by
    show Scalar.select (IntOp.cmpi .eq (iota .tc S128x128 32 [0] iota_S128x128_d0_w32 (ix2 r c)) (iota .tc S128x128 32 [1] iota_S128x128_d1_w32 (ix2 r c)))
      (broadcastTo S128x128 (shapeCast S1x128 v shapeCasts_S1x128_S1x128) broadcasts_S1x128_S128x128 (ix2 r c)) (Ideal.ofBits .f32 0x00000000#32) = _
    rw [iota_single_apply, iota_single_apply, Ideal.ofBits_zero_f32, shapeCast_self]
    unfold Scalar.select
    by_cases h : r = c
    · rw [if_pos h]
      refine (if_pos ((Last.word_eq r c).2 h)).trans ?_
      exact broadcastTo_apply v _ _ _ fun a => match a with | ⟨0, _⟩ => rfl | ⟨1, _⟩ => rfl
    · rw [if_neg h]; exact if_neg (fun e => h ((Last.word_eq r c).1 e))
  refine (Finset.sum_congr rfl fun c _ => ?_ : _ = ∑ c : Fin 128, if r = c then (v (ix2 0 c) : EReal) else 0).trans ?_
  · exact (congrArg (select _ _ _) (Last.lift_diag r c)).trans (e c)
  · rw [Finset.sum_ite_eq]; exact if_pos (Finset.mem_univ r)

/-- A row, eight times over, times a square; of the eight equal rows the first. -/
def times (r : FVec Ideal S1x128 .f32) (s : FVec Ideal S128x128 .f32) : FVec Ideal S1x128 .f32 :=
  extractStridedSlice S1x128 ![0, 0] (matmul dot_S8x128_S128x128_S8x128_1_0_0_1_n_n none
    (truncf .bf16 (broadcastTo S8x128 (shapeCast S1x128 r shapeCasts_S1x128_S1x128) broadcasts_S1x128_S8x128) bitsLt_bf16_f32 : FVec Ideal S8x128 .bf16)
    (truncf .bf16 s bitsLt_bf16_f32 : FVec Ideal S128x128 .bf16) (constant S8x128 .f32 0x00000000#32)) slices_S8x128_o0_0_S1x128

theorem times_apply (r : FVec Ideal S1x128 .f32) (s : FVec Ideal S128x128 .f32) (j : Fin 128) :
    times r s (ix2 0 j) = ∑ l : Fin 128, @HMul.hMul EReal EReal EReal instHMul (r (ix2 0 l)) (s (ix2 l j)) := by
  unfold times
  refine (extractStridedSlice_apply _ _ _ _ (ix2 0 j) fun a => match a with | ⟨0, _⟩ => rfl | ⟨1, _⟩ => (Nat.zero_add _).symm).trans ?_
  refine (Ideal.matmul_plain_apply (M := 8) (K := 128) (N := 128) none _ _ _ 0 j).trans ?_
  show Ideal.ofBits .f32 0x00000000#32 + _ = _
  rw [Ideal.ofBits_zero_f32, zero_add]
  refine Finset.sum_congr rfl fun l _ => congrArg₂ (@HMul.hMul EReal EReal EReal instHMul) ?_ rfl
  show broadcastTo S8x128 (shapeCast S1x128 r shapeCasts_S1x128_S1x128) broadcasts_S1x128_S8x128 (ix2 0 l) = _
  rw [shapeCast_self]
  exact broadcastTo_apply r _ _ _ fun a => match a with | ⟨0, _⟩ => rfl | ⟨1, _⟩ => rfl

/-- The decayed state of one head. -/
def decayed (e : FVec Ideal S1x1 .f32) (s : Vec Ideal S1x1x128x128 .f32) : FVec Ideal S128x128 .f32 :=
  mulf (shapeCast S128x128 s shapeCasts_S1x1x128x128_S128x128) (broadcastTo S128x128 e broadcasts_S1x1_S128x128)

theorem decayed_apply (e : FVec Ideal S1x1 .f32) (s : Vec Ideal S1x1x128x128 .f32) (i j : Fin 128) :
    decayed e s (ix2 i j) = @HMul.hMul EReal EReal EReal instHMul (s (ix4 0 0 i j)) (e (ix2 0 0)) :=
  congrArg₂ (@HMul.hMul EReal EReal EReal instHMul) (square_apply s i j)
    (broadcastTo_apply e _ _ _ fun a => match a with | ⟨0, _⟩ => rfl | ⟨1, _⟩ => rfl)

/-- The correction of one head, a row. -/
def lack (e : FVec Ideal S1x1 .f32) (s : Vec Ideal S1x1x128x128 .f32) (k : Vec Ideal S1x1x128 .f32) (b : Vec Ideal S1x1x1 .f32)
    (v : Vec Ideal S1x1x128 .f32) : FVec Ideal S1x128 .f32 :=
  mulf (broadcastTo S1x128 (shapeCast S1x1 b shapeCasts_S1x1x1_S1x1) broadcasts_S1x1_S1x128)
    (subf (shapeCast S1x128 v shapeCasts_S1x1x128_S1x128) (times (shapeCast S1x128 k shapeCasts_S1x1x128_S1x128) (decayed e s)))

theorem lack_apply (e : FVec Ideal S1x1 .f32) (s : Vec Ideal S1x1x128x128 .f32) (k : Vec Ideal S1x1x128 .f32) (b : Vec Ideal S1x1x1 .f32)
    (v : Vec Ideal S1x1x128 .f32) (j : Fin 128) : lack e s k b v (ix2 0 j)
      = @HMul.hMul EReal EReal EReal instHMul (b (ix3 0 0 0)) (@HSub.hSub EReal EReal EReal instHSub (v (ix3 0 0 j))
          (∑ l : Fin 128, @HMul.hMul EReal EReal EReal instHMul (k (ix3 0 0 l)) (@HMul.hMul EReal EReal EReal instHMul (s (ix4 0 0 l j)) (e (ix2 0 0))))) := by
  refine congrArg₂ (@HMul.hMul EReal EReal EReal instHMul) ?_ (congrArg₂ (@HSub.hSub EReal EReal EReal instHSub) (row_apply v j) ?_)
  · refine (broadcastTo_apply _ _ _ (ix2 0 0) fun a => match a with | ⟨0, _⟩ => rfl | ⟨1, _⟩ => rfl).trans ?_
    exact shapeCast_apply b _ _ _ (by rewrite [Shape.rowMajor_val_three, Shape.rowMajor_val_two]; rfl)
  · refine (times_apply _ _ j).trans (Finset.sum_congr rfl fun l _ => ?_)
    exact congrArg₂ (@HMul.hMul EReal EReal EReal instHMul) (row_apply k l) (decayed_apply e s l j)

/-- The new state of one head, a square. -/
def cell (e : FVec Ideal S1x1 .f32) (s : Vec Ideal S1x1x128x128 .f32) (k : Vec Ideal S1x1x128 .f32) (b : Vec Ideal S1x1x1 .f32)
    (v : Vec Ideal S1x1x128 .f32) : FVec Ideal S128x128 .f32 :=
  addf (decayed e s) (mulf (broadcastTo S128x128 (diag (shapeCast S1x128 k shapeCasts_S1x1x128_S1x128)) broadcasts_S128x1_S128x128)
    (broadcastTo S128x128 (lack e s k b v) broadcasts_S1x128_S128x128))

theorem cell_apply (e : FVec Ideal S1x1 .f32) (s : Vec Ideal S1x1x128x128 .f32) (k : Vec Ideal S1x1x128 .f32) (b : Vec Ideal S1x1x1 .f32)
    (v : Vec Ideal S1x1x128 .f32) (i j : Fin 128) : cell e s k b v (ix2 i j)
      = step (fun a c => s (ix4 0 0 a c)) (fun a => k (ix3 0 0 a)) (fun a => v (ix3 0 0 a)) (e (ix2 0 0)) (b (ix3 0 0 0)) i j := by
  refine congrArg₂ (@HAdd.hAdd EReal EReal EReal instHAdd) (decayed_apply e s i j) (congrArg₂ (@HMul.hMul EReal EReal EReal instHMul) ?_ ?_)
  · refine (broadcastTo_apply _ _ _ (ix2 i 0) fun a => match a with | ⟨0, _⟩ => rfl | ⟨1, _⟩ => rfl).trans ?_
    exact (diag_apply _ i).trans (row_apply k i)
  · refine (broadcastTo_apply _ _ _ (ix2 0 j) fun a => match a with | ⟨0, _⟩ => rfl | ⟨1, _⟩ => rfl).trans ?_
    exact lack_apply e s k b v j

/-- What the query of one head reads out of its new state. -/
theorem read_apply (s : FVec Ideal S128x128 .f32) (q : Vec Ideal S1x1x128 .f32) (j : Fin 128) :
    k0_pay7 s q (ix3 0 0 j) = ∑ l : Fin 128, @HMul.hMul EReal EReal EReal instHMul (q (ix3 0 0 l)) (s (ix2 l j)) := by
  show shapeCast S1x1x128 (times (shapeCast S1x128 q shapeCasts_S1x1x128_S1x128) s) shapeCasts_S1x128_S1x1x128 (ix3 0 0 j) = _
  rw [unrow_apply, times_apply]
  exact Finset.sum_congr rfl fun l _ => congrArg₂ (@HMul.hMul EReal EReal EReal instHMul) (row_apply q l) rfl

section
variable (x0 x1 x2 : Vec Ideal S1x1x2048 .f32) (x3 x4 : Vec Ideal S1x1x16 .f32) (x5 : Vec Ideal S1x16x128x128 .f32)

/-- One sample's new states and its read-out, from the sample's blocks. -/
abbrev states' : Fin 16 → Fin 128 → Fin 128 → EReal :=
  states (fun n => x1 (ix3 0 0 n)) (fun n => x2 (ix3 0 0 n)) (fun h => x3 (ix3 0 0 h)) (fun h => x4 (ix3 0 0 h)) (fun h i j => x5 (ix4 0 h i j))
abbrev readout' : Fin 2048 → EReal :=
  readout (fun n => x0 (ix3 0 0 n)) (fun n => x1 (ix3 0 0 n)) (fun n => x2 (ix3 0 0 n)) (fun h => x3 (ix3 0 0 h)) (fun h => x4 (ix3 0 0 h))
    (fun h i j => x5 (ix4 0 h i j))

/-- The decay of one head. -/
theorem decay_apply (h : Nat) (hh : h < 16) (sl : S1x16.Slices ![0, h] S1x1) :
    extractStridedSlice S1x1 ![0, h] (k0_pay4 (View.ld x3 r0_0)) sl (ix2 0 0) = Ideal.exp (x3 (ix3 0 0 (⟨h, hh⟩ : Fin 16))) := by
  refine (extractStridedSlice_apply _ _ _ _ (ix2 0 (⟨h, hh⟩ : Fin 16)) fun a => match a with | ⟨0, _⟩ => rfl | ⟨1, _⟩ => rfl).trans ?_
  refine congrArg Ideal.exp ((shapeCast_apply (View.ld x3 r0_0) _ _ (ix3 0 0 (⟨h, hh⟩ : Fin 16)) (by
    rewrite [Shape.rowMajor_val_three, Shape.rowMajor_val_two]
    show (0 * 1 + 0) * 16 + h = 0 * 16 + h
    omega)).trans ?_)
  exact View.ld_unit_apply_of x3 _ _ _ _ _ fun a => match a with | ⟨0, _⟩ => rfl | ⟨1, _⟩ => rfl | ⟨2, _⟩ => (Nat.zero_add _).symm

variable (h : Nat) (hh : h < 16) (o : Nat) (ho : o = h * 128) (sl : S1x16.Slices ![0, h] S1x1)
  (i5 : ∀ a, (![0, h, 0, 0] : Fin 4 → Nat) a + S1x1x128x128.size a ≤ S1x16x128x128.size a)
  (i1 : ∀ a, (![0, 0, o] : Fin 3 → Nat) a + S1x1x128.size a ≤ S1x1x2048.size a)
  (i4 : ∀ a, (![0, 0, h] : Fin 3 → Nat) a + S1x1x1.size a ≤ S1x1x16.size a)

/-- The new state of head `h` as the body computes it. -/
abbrev headCell : FVec Ideal S128x128 .f32 :=
  cell (extractStridedSlice S1x1 ![0, h] (k0_pay4 (View.ld x3 r0_0)) sl) (View.ld x5 (Rect.unit (s := S1x16x128x128) ![0, h, 0, 0] S1x1x128x128.size i5))
    (View.ld x1 (Rect.unit (s := S1x1x2048) ![0, 0, o] S1x1x128.size i1)) (View.ld x4 (Rect.unit (s := S1x1x16) ![0, 0, h] S1x1x1.size i4))
    (View.ld x2 (Rect.unit (s := S1x1x2048) ![0, 0, o] S1x1x128.size i1))

include hh ho in
theorem ld_row (x : Vec Ideal S1x1x2048 .f32) (a : Fin 128) :
    View.ld x (Rect.unit (s := S1x1x2048) ![0, 0, o] S1x1x128.size i1) (ix3 0 0 a) = x (ix3 0 0 (col ⟨h, hh⟩ a)) :=
  View.ld_unit_apply_of x _ _ _ _ _ fun b => match b with
    | ⟨0, _⟩ => rfl | ⟨1, _⟩ => rfl | ⟨2, _⟩ => by show h * 128 + a.val = o + a.val; rw [ho]

include hh ho in
theorem head_apply (i j : Fin 128) : headCell x1 x2 x3 x4 x5 h o sl i5 i1 i4 (ix2 i j) = states' x1 x2 x3 x4 x5 ⟨h, hh⟩ i j := by
  refine (cell_apply _ _ _ _ _ i j).trans ?_
  have e1 : (fun a c => View.ld x5 (Rect.unit (s := S1x16x128x128) ![0, h, 0, 0] S1x1x128x128.size i5) (ix4 0 0 a c))
      = fun a c => x5 (ix4 0 (⟨h, hh⟩ : Fin 16) a c) := funext fun a => funext fun c => View.ld_unit_apply_of x5 _ _ _ _ _ fun b => match b with
    | ⟨0, _⟩ => rfl | ⟨1, _⟩ => rfl | ⟨2, _⟩ => (Nat.zero_add _).symm | ⟨3, _⟩ => (Nat.zero_add _).symm
  have e4 : View.ld x4 (Rect.unit (s := S1x1x16) ![0, 0, h] S1x1x1.size i4) (ix3 0 0 0) = x4 (ix3 0 0 (⟨h, hh⟩ : Fin 16)) :=
    View.ld_unit_apply_of x4 _ _ _ _ _ fun b => match b with | ⟨0, _⟩ => rfl | ⟨1, _⟩ => rfl | ⟨2, _⟩ => rfl
  have er (x : Vec Ideal S1x1x2048 .f32) : (fun a => View.ld x (Rect.unit (s := S1x1x2048) ![0, 0, o] S1x1x128.size i1) (ix3 0 0 a))
      = fun a => x (ix3 0 0 (col ⟨h, hh⟩ a)) := funext fun a => ld_row h hh o ho i1 x a
  rw [decay_apply x3 h hh sl, e4]
  exact congr (congr (congr (congr (congr (congr (congrArg step e1) (er x1)) (er x2)) rfl) rfl) rfl) rfl

include hh ho in
/-- What the body stores of head `h`'s new state. -/
theorem piece7 (y : (Rect.unit (s := S1x16x128x128) ![0, h, 0, 0] S1x1x128x128.size i5).shape.Idx) :
    k0_pay8 (headCell x1 x2 x3 x4 x5 h o sl i5 i1 i4) y
      = (fun y : S1x16x128x128.Idx => states' x1 x2 x3 x4 x5 (y 1) (y 2) (y 3)) ((Rect.unit (s := S1x16x128x128) ![0, h, 0, 0] S1x1x128x128.size i5).emb y) := by
  have h0 : (y 0).val < 1 := (y 0).isLt
  have h1 : (y 1).val < 1 := (y 1).isLt
  have ey : y = ix4 (n0 := 1) (n1 := 1) (n2 := 128) (n3 := 128) 0 0 (y 2) (y 3) := funext fun a => Fin.ext (by
    match a with | ⟨0, _⟩ => (show (y 0).val = 0; omega) | ⟨1, _⟩ => (show (y 1).val = 0; omega) | ⟨2, _⟩ => rfl | ⟨3, _⟩ => rfl)
  refine ((congrArg (k0_pay8 (headCell x1 x2 x3 x4 x5 h o sl i5 i1 i4)) ey).trans (unsquare_apply (headCell x1 x2 x3 x4 x5 h o sl i5 i1 i4) (y 2) (y 3))).trans ?_
  refine (head_apply x1 x2 x3 x4 x5 h hh o ho sl i5 i1 i4 (y 2) (y 3)).trans ?_
  refine congr (congr (congrArg (states' x1 x2 x3 x4 x5) (Fin.ext ?_)) (Fin.ext ?_)) (Fin.ext ?_)
  · exact ((Idealize.ShloMosaic.ValueKit.rect_emb_unit_val _ _ _ y 1).trans (by show h + (y 1).val = h; omega)).symm
  · exact ((Idealize.ShloMosaic.ValueKit.rect_emb_unit_val _ _ _ y 2).trans (Nat.zero_add _)).symm
  · exact ((Idealize.ShloMosaic.ValueKit.rect_emb_unit_val _ _ _ y 3).trans (Nat.zero_add _)).symm

include hh ho in
/-- What the body stores of head `h`'s read-out. -/
theorem piece6 (y : (Rect.unit (s := S1x1x2048) ![0, 0, o] S1x1x128.size i1).shape.Idx) :
    k0_pay7 (headCell x1 x2 x3 x4 x5 h o sl i5 i1 i4) (View.ld x0 (Rect.unit (s := S1x1x2048) ![0, 0, o] S1x1x128.size i1)) y
      = (fun y : S1x1x2048.Idx => readout' x0 x1 x2 x3 x4 x5 (y 2)) ((Rect.unit (s := S1x1x2048) ![0, 0, o] S1x1x128.size i1).emb y) := by
  have h0 : (y 0).val < 1 := (y 0).isLt
  have h1 : (y 1).val < 1 := (y 1).isLt
  have h2 : (y 2).val < 128 := (y 2).isLt
  have ey : y = ix3 (n0 := 1) (n1 := 1) (n2 := 128) 0 0 (y 2) := funext fun a => Fin.ext (by
    match a with | ⟨0, _⟩ => (show (y 0).val = 0; omega) | ⟨1, _⟩ => (show (y 1).val = 0; omega) | ⟨2, _⟩ => rfl)
  have e2 : ((Rect.unit (s := S1x1x2048) ![0, 0, o] S1x1x128.size i1).emb y 2).val = h * 128 + (y 2).val :=
    (Idealize.ShloMosaic.ValueKit.rect_emb_unit_val _ _ _ y 2).trans (congrArg (· + (y 2).val) ho)
  refine ((congrArg (k0_pay7 _ _) ey).trans (read_apply _ _ (y 2))).trans ?_
  have eh : head ((Rect.unit (s := S1x1x2048) ![0, 0, o] S1x1x128.size i1).emb y 2) = ⟨h, hh⟩ :=
    Fin.ext (by show ((Rect.unit (s := S1x1x2048) ![0, 0, o] S1x1x128.size i1).emb y 2).val / 128 = h; rw [e2]; omega)
  have el : lane ((Rect.unit (s := S1x1x2048) ![0, 0, o] S1x1x128.size i1).emb y 2) = y 2 :=
    Fin.ext (by show ((Rect.unit (s := S1x1x2048) ![0, 0, o] S1x1x128.size i1).emb y 2).val % 128 = _; rw [e2]; omega)
  show _ = readout' x0 x1 x2 x3 x4 x5 _
  unfold readout' readout
  rw [eh, el]
  exact Finset.sum_congr rfl fun l _ => congrArg₂ (@HMul.hMul EReal EReal EReal instHMul) (ld_row h hh o ho i1 x0 l)
    (head_apply x1 x2 x3 x4 x5 h hh o ho sl i5 i1 i4 l (y 2))
end

end Cert.Gdn

end
-- ==== Proof.GdnValue.lean ====
module

public import proofs.«01_k».proof.Proof.GdnPay
public import proofs.«01_k».proof.Proof.Gen.Reference12Ideal.Run
public import proofs.«01_k».proof.Proof.Gen.Reference12Ideal.Read
public import Idealize.ShloMosaic.Lib.Quiescent

@[expose] public section

/-! The value of the decoding step: each sample's new states and what its queries read out of them, by the kernel and by
the plain program alike. -/

set_option maxRecDepth 16384

noncomputable section

namespace Cert.Gdn

open Cert.Kernel12Ideal Cert.Kernel12Ideal.Gen
open Idealize.ShloMosaic Idealize.ShloMosaic.TcCoe Idealize.ShloMosaic.ValueIdx Idealize.SL.Sem
open Idealize.ShloMosaic.Pipeline (Dat Window)
open scoped BigOperators

section
variable (x0 x1 x2 : Vec Ideal S1x1x2048 .f32) (x3 x4 : Vec Ideal S1x1x16 .f32) (x5 : Vec Ideal S1x16x128x128 .f32)

/-- The sixteen stores of new states, read at an index. -/
theorem out7_apply (y : S1x16x128x128.Idx) : out0_7 x0 x1 x2 x3 x4 x5 y = states' x1 x2 x3 x4 x5 (y 1) (y 2) (y 3) := by
  refine View.canon_apply_of_pieces (Val := Elt Ideal) (e := .f32) (fun y : S1x16x128x128.Idx => states' x1 x2 x3 x4 x5 (y 1) (y 2) (y 3)) _ ?_ y (cover0_7 _ _ _ _ _ _ _ _ _ _ _ _ _ _ _ _ y)
  refine List.forall_mem_cons.2 ⟨fun y => piece7 x1 x2 x3 x4 x5 15 (by decide) 1920 rfl _ _ _ _ y, ?_⟩
  refine List.forall_mem_cons.2 ⟨fun y => piece7 x1 x2 x3 x4 x5 14 (by decide) 1792 rfl _ _ _ _ y, ?_⟩
  refine List.forall_mem_cons.2 ⟨fun y => piece7 x1 x2 x3 x4 x5 13 (by decide) 1664 rfl _ _ _ _ y, ?_⟩
  refine List.forall_mem_cons.2 ⟨fun y => piece7 x1 x2 x3 x4 x5 12 (by decide) 1536 rfl _ _ _ _ y, ?_⟩
  refine List.forall_mem_cons.2 ⟨fun y => piece7 x1 x2 x3 x4 x5 11 (by decide) 1408 rfl _ _ _ _ y, ?_⟩
  refine List.forall_mem_cons.2 ⟨fun y => piece7 x1 x2 x3 x4 x5 10 (by decide) 1280 rfl _ _ _ _ y, ?_⟩
  refine List.forall_mem_cons.2 ⟨fun y => piece7 x1 x2 x3 x4 x5 9 (by decide) 1152 rfl _ _ _ _ y, ?_⟩
  refine List.forall_mem_cons.2 ⟨fun y => piece7 x1 x2 x3 x4 x5 8 (by decide) 1024 rfl _ _ _ _ y, ?_⟩
  refine List.forall_mem_cons.2 ⟨fun y => piece7 x1 x2 x3 x4 x5 7 (by decide) 896 rfl _ _ _ _ y, ?_⟩
  refine List.forall_mem_cons.2 ⟨fun y => piece7 x1 x2 x3 x4 x5 6 (by decide) 768 rfl _ _ _ _ y, ?_⟩
  refine List.forall_mem_cons.2 ⟨fun y => piece7 x1 x2 x3 x4 x5 5 (by decide) 640 rfl _ _ _ _ y, ?_⟩
  refine List.forall_mem_cons.2 ⟨fun y => piece7 x1 x2 x3 x4 x5 4 (by decide) 512 rfl _ _ _ _ y, ?_⟩
  refine List.forall_mem_cons.2 ⟨fun y => piece7 x1 x2 x3 x4 x5 3 (by decide) 384 rfl _ _ _ _ y, ?_⟩
  refine List.forall_mem_cons.2 ⟨fun y => piece7 x1 x2 x3 x4 x5 2 (by decide) 256 rfl _ _ _ _ y, ?_⟩
  refine List.forall_mem_cons.2 ⟨fun y => piece7 x1 x2 x3 x4 x5 1 (by decide) 128 rfl _ _ _ _ y, ?_⟩
  refine List.forall_mem_cons.2 ⟨fun y => piece7 x1 x2 x3 x4 x5 0 (by decide) 0 rfl _ _ _ _ y, ?_⟩
  exact List.forall_mem_nil _

/-- The sixteen stores of read-outs, read at an index. -/
theorem out6_apply (y : S1x1x2048.Idx) : out0_6 x0 x1 x2 x3 x4 x5 y = readout' x0 x1 x2 x3 x4 x5 (y 2) := by
  refine View.canon_apply_of_pieces (Val := Elt Ideal) (e := .f32) (fun y : S1x1x2048.Idx => readout' x0 x1 x2 x3 x4 x5 (y 2)) _ ?_ y (cover0_6 _ _ _ _ _ _ _ _ _ _ _ _ _ _ _ _ y)
  refine List.forall_mem_cons.2 ⟨fun y => piece6 x0 x1 x2 x3 x4 x5 15 (by decide) 1920 rfl _ _ _ _ y, ?_⟩
  refine List.forall_mem_cons.2 ⟨fun y => piece6 x0 x1 x2 x3 x4 x5 14 (by decide) 1792 rfl _ _ _ _ y, ?_⟩
  refine List.forall_mem_cons.2 ⟨fun y => piece6 x0 x1 x2 x3 x4 x5 13 (by decide) 1664 rfl _ _ _ _ y, ?_⟩
  refine List.forall_mem_cons.2 ⟨fun y => piece6 x0 x1 x2 x3 x4 x5 12 (by decide) 1536 rfl _ _ _ _ y, ?_⟩
  refine List.forall_mem_cons.2 ⟨fun y => piece6 x0 x1 x2 x3 x4 x5 11 (by decide) 1408 rfl _ _ _ _ y, ?_⟩
  refine List.forall_mem_cons.2 ⟨fun y => piece6 x0 x1 x2 x3 x4 x5 10 (by decide) 1280 rfl _ _ _ _ y, ?_⟩
  refine List.forall_mem_cons.2 ⟨fun y => piece6 x0 x1 x2 x3 x4 x5 9 (by decide) 1152 rfl _ _ _ _ y, ?_⟩
  refine List.forall_mem_cons.2 ⟨fun y => piece6 x0 x1 x2 x3 x4 x5 8 (by decide) 1024 rfl _ _ _ _ y, ?_⟩
  refine List.forall_mem_cons.2 ⟨fun y => piece6 x0 x1 x2 x3 x4 x5 7 (by decide) 896 rfl _ _ _ _ y, ?_⟩
  refine List.forall_mem_cons.2 ⟨fun y => piece6 x0 x1 x2 x3 x4 x5 6 (by decide) 768 rfl _ _ _ _ y, ?_⟩
  refine List.forall_mem_cons.2 ⟨fun y => piece6 x0 x1 x2 x3 x4 x5 5 (by decide) 640 rfl _ _ _ _ y, ?_⟩
  refine List.forall_mem_cons.2 ⟨fun y => piece6 x0 x1 x2 x3 x4 x5 4 (by decide) 512 rfl _ _ _ _ y, ?_⟩
  refine List.forall_mem_cons.2 ⟨fun y => piece6 x0 x1 x2 x3 x4 x5 3 (by decide) 384 rfl _ _ _ _ y, ?_⟩
  refine List.forall_mem_cons.2 ⟨fun y => piece6 x0 x1 x2 x3 x4 x5 2 (by decide) 256 rfl _ _ _ _ y, ?_⟩
  refine List.forall_mem_cons.2 ⟨fun y => piece6 x0 x1 x2 x3 x4 x5 1 (by decide) 128 rfl _ _ _ _ y, ?_⟩
  refine List.forall_mem_cons.2 ⟨fun y => piece6 x0 x1 x2 x3 x4 x5 0 (by decide) 0 rfl _ _ _ _ y, ?_⟩
  exact List.forall_mem_nil _
end

/-- The new states of sample `t`, and its read-out, from the whole arrays. -/
def statesOf (k v : S128x1x2048.Idx → EReal) (g b : S128x1x16.Idx → EReal) (s : S128x16x128x128.Idx → EReal) (t : Fin 128) :
    Fin 16 → Fin 128 → Fin 128 → EReal :=
  states (fun n => k (ix3 t 0 n)) (fun n => v (ix3 t 0 n)) (fun h => g (ix3 t 0 h)) (fun h => b (ix3 t 0 h)) (fun h i j => s (ix4 t h i j))
def readoutOf (q k v : S128x1x2048.Idx → EReal) (g b : S128x1x16.Idx → EReal) (s : S128x16x128x128.Idx → EReal) (t : Fin 128) : Fin 2048 → EReal :=
  readout (fun n => q (ix3 t 0 n)) (fun n => k (ix3 t 0 n)) (fun n => v (ix3 t 0 n)) (fun h => g (ix3 t 0 h)) (fun h => b (ix3 t 0 h))
    (fun h i j => s (ix4 t h i j))

variable (m : (ℓ : Loc nD τ sig) → Buf (Elt Ideal) ℓ) (ρ : Dev nD → PrngReg)

/-! Every window's block of point `t` is sample `t`'s. -/
theorem places0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem places1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem places2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem places3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem places4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem places5 : ∀ t : Fin cfg0.N, win0_5.index t 0 = t.val ∧ win0_5.index t 1 = 0 ∧ win0_5.index t 2 = 0 ∧ win0_5.index t 3 = 0 :=
  (by decide +kernel : ∀ t : Fin grid0.N, win0_5.index t 0 = t.val ∧ win0_5.index t 1 = 0 ∧ win0_5.index t 2 = 0 ∧ win0_5.index t 3 = 0)
theorem places6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem places7 : ∀ t : Fin cfg0.N, win0_7.index t 0 = t.val ∧ win0_7.index t 1 = 0 ∧ win0_7.index t 2 = 0 ∧ win0_7.index t 3 = 0 :=
  (by decide +kernel : ∀ t : Fin grid0.N, win0_7.index t 0 = t.val ∧ win0_7.index t 1 = 0 ∧ win0_7.index t 2 = 0 ∧ win0_7.index t 3 = 0)

/-- The sample of a point. -/
def sample (t : Fin cfg0.N) : Fin 128 := ⟨t.val, by
  have h : t.val < cfg0.N := t.isLt
  have hN : cfg0.N = 128 := N_0
  omega⟩

theorem q_eq (c : Dev nD) (t : Fin cfg0.N) (n : Fin 2048) :
    iblk m c 0 t (ix3 0 0 n) = (m ((c : Thread nD τ).loc main_arg0) : S128x1x2048.Idx → EReal) (ix3 (sample t) 0 n) :=
  congrArg (m ((c : Thread nD τ).loc main_arg0)) (funext fun a => Fin.ext (by
    match a with
    | ⟨0, _⟩ => exact (Window.rect_emb_val win0_0 t _ 0).trans (by rw [(places0 t).1]; exact Nat.mul_one _)
    | ⟨1, _⟩ => exact Window.rect_emb_val_of_index_zero win0_0 t 1 (places0 t).2.1 _
    | ⟨2, _⟩ => exact Window.rect_emb_val_of_index_zero win0_0 t 2 (places0 t).2.2 _))
theorem k_eq (c : Dev nD) (t : Fin cfg0.N) (n : Fin 2048) :
    iblk m c 1 t (ix3 0 0 n) = (m ((c : Thread nD τ).loc main_arg1) : S128x1x2048.Idx → EReal) (ix3 (sample t) 0 n) :=
  congrArg (m ((c : Thread nD τ).loc main_arg1)) (funext fun a => Fin.ext (by
    match a with
    | ⟨0, _⟩ => exact (Window.rect_emb_val win0_1 t _ 0).trans (by rw [(places1 t).1]; exact Nat.mul_one _)
    | ⟨1, _⟩ => exact Window.rect_emb_val_of_index_zero win0_1 t 1 (places1 t).2.1 _
    | ⟨2, _⟩ => exact Window.rect_emb_val_of_index_zero win0_1 t 2 (places1 t).2.2 _))
theorem v_eq (c : Dev nD) (t : Fin cfg0.N) (n : Fin 2048) :
    iblk m c 2 t (ix3 0 0 n) = (m ((c : Thread nD τ).loc main_arg2) : S128x1x2048.Idx → EReal) (ix3 (sample t) 0 n) :=
  congrArg (m ((c : Thread nD τ).loc main_arg2)) (funext fun a => Fin.ext (by
    match a with
    | ⟨0, _⟩ => exact (Window.rect_emb_val win0_2 t _ 0).trans (by rw [(places2 t).1]; exact Nat.mul_one _)
    | ⟨1, _⟩ => exact Window.rect_emb_val_of_index_zero win0_2 t 1 (places2 t).2.1 _
    | ⟨2, _⟩ => exact Window.rect_emb_val_of_index_zero win0_2 t 2 (places2 t).2.2 _))
theorem g_eq (c : Dev nD) (t : Fin cfg0.N) (h : Fin 16) :
    iblk m c 3 t (ix3 0 0 h) = (m ((c : Thread nD τ).loc main_arg3) : S128x1x16.Idx → EReal) (ix3 (sample t) 0 h) :=
  congrArg (m ((c : Thread nD τ).loc main_arg3)) (funext fun a => Fin.ext (by
    match a with
    | ⟨0, _⟩ => exact (Window.rect_emb_val win0_3 t _ 0).trans (by rw [(places3 t).1]; exact Nat.mul_one _)
    | ⟨1, _⟩ => exact Window.rect_emb_val_of_index_zero win0_3 t 1 (places3 t).2.1 _
    | ⟨2, _⟩ => exact Window.rect_emb_val_of_index_zero win0_3 t 2 (places3 t).2.2 _))
theorem b_eq (c : Dev nD) (t : Fin cfg0.N) (h : Fin 16) :
    iblk m c 4 t (ix3 0 0 h) = (m ((c : Thread nD τ).loc main_arg4) : S128x1x16.Idx → EReal) (ix3 (sample t) 0 h) :=
  congrArg (m ((c : Thread nD τ).loc main_arg4)) (funext fun a => Fin.ext (by
    match a with
    | ⟨0, _⟩ => exact (Window.rect_emb_val win0_4 t _ 0).trans (by rw [(places4 t).1]; exact Nat.mul_one _)
    | ⟨1, _⟩ => exact Window.rect_emb_val_of_index_zero win0_4 t 1 (places4 t).2.1 _
    | ⟨2, _⟩ => exact Window.rect_emb_val_of_index_zero win0_4 t 2 (places4 t).2.2 _))
theorem s_eq (c : Dev nD) (t : Fin cfg0.N) (h : Fin 16) (i j : Fin 128) :
    iblk m c 5 t (ix4 0 h i j) = (m ((c : Thread nD τ).loc main_arg5) : S128x16x128x128.Idx → EReal) (ix4 (sample t) h i j) :=
  congrArg (m ((c : Thread nD τ).loc main_arg5)) (funext fun a => Fin.ext (by
    match a with
    | ⟨0, _⟩ => exact (Window.rect_emb_val win0_5 t _ 0).trans (by rw [(places5 t).1]; exact Nat.mul_one _)
    | ⟨1, _⟩ => exact Window.rect_emb_val_of_index_zero win0_5 t 1 (places5 t).2.1 _
    | ⟨2, _⟩ => exact Window.rect_emb_val_of_index_zero win0_5 t 2 (places5 t).2.2.1 _
    | ⟨3, _⟩ => exact Window.rect_emb_val_of_index_zero win0_5 t 3 (places5 t).2.2.2 _))

/-- The states that the call returns, and the read-outs, from the arguments. -/
abbrev goal7 (c : Dev nD) : S128x16x128x128.Idx → EReal := fun i =>
  statesOf (m ((c : Thread nD τ).loc main_arg1)) (m ((c : Thread nD τ).loc main_arg2)) (m ((c : Thread nD τ).loc main_arg3))
    (m ((c : Thread nD τ).loc main_arg4)) (m ((c : Thread nD τ).loc main_arg5)) (i 0) (i 1) (i 2) (i 3)
abbrev goal6 (c : Dev nD) : S128x1x2048.Idx → EReal := fun i =>
  readoutOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 2)

theorem flushed7_eq (c : Dev nD) (t : Fin cfg0.N) : (dats m 0 c).flushed 7 t = (win0_7.blk t).view.read (Elt Ideal) (goal7 m c) := by
  rw [Value.flushed7]
  funext y
  refine (out7_apply _ _ _ _ _ _ y).trans ?_
  show _ = goal7 m c ((win0_7.rect t).emb y)
  have h0 : (y 0).val < 1 := (y 0).isLt
  have ei : (win0_7.rect t).emb y = ix4 (sample t) (y 1) (y 2) (y 3) := funext fun a => Fin.ext (by
    match a with
    | ⟨0, _⟩ => exact (Window.rect_emb_val win0_7 t y 0).trans (by rw [(places7 t).1]; show t.val * 1 + (y 0).val = t.val; omega)
    | ⟨1, _⟩ => exact Window.rect_emb_val_of_index_zero win0_7 t 1 (places7 t).2.1 y
    | ⟨2, _⟩ => exact Window.rect_emb_val_of_index_zero win0_7 t 2 (places7 t).2.2.1 y
    | ⟨3, _⟩ => exact Window.rect_emb_val_of_index_zero win0_7 t 3 (places7 t).2.2.2 y)
  rw [ei]
  show states _ _ _ _ _ (y 1) (y 2) (y 3) = states _ _ _ _ _ (y 1) (y 2) (y 3)
  rw [funext (k_eq m c t), funext (v_eq m c t), funext (g_eq m c t), funext (b_eq m c t),
    funext fun h => funext fun i => funext fun j => s_eq m c t h i j]

theorem flushed6_eq (c : Dev nD) (t : Fin cfg0.N) : (dats m 0 c).flushed 6 t = (win0_6.blk t).view.read (Elt Ideal) (goal6 m c) := by
  rw [Value.flushed6]
  funext y
  refine (out6_apply _ _ _ _ _ _ y).trans ?_
  show _ = goal6 m c ((win0_6.rect t).emb y)
  have h0 : (y 0).val < 1 := (y 0).isLt
  have ei : (win0_6.rect t).emb y = ix3 (sample t) (y 1) (y 2) := funext fun a => Fin.ext (by
    match a with
    | ⟨0, _⟩ => exact (Window.rect_emb_val win0_6 t y 0).trans (by rw [(places6 t).1]; show t.val * 1 + (y 0).val = t.val; omega)
    | ⟨1, _⟩ => exact Window.rect_emb_val_of_index_zero win0_6 t 1 (places6 t).2.1 y
    | ⟨2, _⟩ => exact Window.rect_emb_val_of_index_zero win0_6 t 2 (places6 t).2.2 y)
  rw [ei]
  show readout _ _ _ _ _ _ (y 2) = readout _ _ _ _ _ _ (y 2)
  rw [funext (q_eq m c t), funext (k_eq m c t), funext (v_eq m c t), funext (g_eq m c t), funext (b_eq m c t),
    funext fun h => funext fun i => funext fun j => s_eq m c t h i j]

theorem flush_6 : ∀ t : Fin cfg0.N, (cfg0.win 6).flush t = true := (by decide +kernel : ∀ t : Fin grid0.N, win0_6.flush t = true)
theorem flush_7 : ∀ t : Fin cfg0.N, (cfg0.win 7).flush t = true := (by decide +kernel : ∀ t : Fin grid0.N, win0_7.flush t = true)

/-- Every index of either result lies in its sample's block. -/
theorem cover7 (i : S128x16x128x128.Idx) : ∃ t : Fin cfg0.N, (cfg0.win 7).flush t = true ∧ i ∈ ((cfg0.win 7).blk t).view.set := by
  have h0 : (i 0).val < 128 := (i 0).isLt
  have hlt : (i 0).val < cfg0.N := by have hN : cfg0.N = 128 := N_0; omega
  refine ⟨⟨(i 0).val, hlt⟩, flush_7 _, ?_⟩
  show i ∈ ((View.whole main_v0_1).slice (win0_7.rect ⟨(i 0).val, hlt⟩)).set
  rw [View.set_slice_whole, Rect.mem_set_unit]
  obtain ⟨p0, p1, p2, p3⟩ := places7 ⟨(i 0).val, hlt⟩
  intro a
  match a with
  | ⟨0, _⟩ => show win0_7.index ⟨(i 0).val, hlt⟩ 0 * 1 ≤ (i 0).val ∧ (i 0).val < win0_7.index ⟨(i 0).val, hlt⟩ 0 * 1 + 1; rw [p0]; dsimp only; omega
  | ⟨1, _⟩ =>
    have h1 : (i 1).val < 16 := (i 1).isLt
    show win0_7.index ⟨(i 0).val, hlt⟩ 1 * 16 ≤ (i 1).val ∧ (i 1).val < win0_7.index ⟨(i 0).val, hlt⟩ 1 * 16 + 16; rw [p1]; omega
  | ⟨2, _⟩ =>
    have h2 : (i 2).val < 128 := (i 2).isLt
    show win0_7.index ⟨(i 0).val, hlt⟩ 2 * 128 ≤ (i 2).val ∧ (i 2).val < win0_7.index ⟨(i 0).val, hlt⟩ 2 * 128 + 128; rw [p2]; omega
  | ⟨3, _⟩ =>
    have h3 : (i 3).val < 128 := (i 3).isLt
    show win0_7.index ⟨(i 0).val, hlt⟩ 3 * 128 ≤ (i 3).val ∧ (i 3).val < win0_7.index ⟨(i 0).val, hlt⟩ 3 * 128 + 128; rw [p3]; omega

theorem cover6 (i : S128x1x2048.Idx) : ∃ t : Fin cfg0.N, (cfg0.win 6).flush t = true ∧ i ∈ ((cfg0.win 6).blk t).view.set := by
  have h0 : (i 0).val < 128 := (i 0).isLt
  have hlt : (i 0).val < cfg0.N := by have hN : cfg0.N = 128 := N_0; omega
  refine ⟨⟨(i 0).val, hlt⟩, flush_6 _, ?_⟩
  show i ∈ ((View.whole main_v0_0).slice (win0_6.rect ⟨(i 0).val, hlt⟩)).set
  rw [View.set_slice_whole, Rect.mem_set_unit]
  obtain ⟨p0, p1, p2⟩ := places6 ⟨(i 0).val, hlt⟩
  intro a
  match a with
  | ⟨0, _⟩ => show win0_6.index ⟨(i 0).val, hlt⟩ 0 * 1 ≤ (i 0).val ∧ (i 0).val < win0_6.index ⟨(i 0).val, hlt⟩ 0 * 1 + 1; rw [p0]; dsimp only; omega
  | ⟨1, _⟩ =>
    have h1 : (i 1).val < 1 := (i 1).isLt
    show win0_6.index ⟨(i 0).val, hlt⟩ 1 * 1 ≤ (i 1).val ∧ (i 1).val < win0_6.index ⟨(i 0).val, hlt⟩ 1 * 1 + 1; rw [p1]; omega
  | ⟨2, _⟩ =>
    have h2 : (i 2).val < 2048 := (i 2).isLt
    show win0_6.index ⟨(i 0).val, hlt⟩ 2 * 2048 ≤ (i 2).val ∧ (i 2).val < win0_6.index ⟨(i 0).val, hlt⟩ 2 * 2048 + 2048; rw [p2]; omega

theorem final7 (c : Dev nD) : (dats m 0 c).arrAt 7 cfg0.N = goal7 m c :=
  (dats m 0 c).arrAt_eq_of_cover 7 _ (fun t _ => flushed7_eq m c t) cover7
theorem final6 (c : Dev nD) : (dats m 0 c).arrAt 6 cfg0.N = goal6 m c :=
  (dats m 0 c).arrAt_eq_of_cover 6 _ (fun t _ => flushed6_eq m c t) cover6

section
open Cert.Reference12Ideal.Read

variable (q k v : S128x1x2048.Idx → EReal) (g b : S128x1x16.Idx → EReal) (s : S128x16x128x128.Idx → EReal)

/-- A row split into heads. -/
theorem split_idx (t : Fin 128) (h : Fin 16) (i : Fin 128) : idx_main_v0 (ix3 t h i) = ix3 t 0 (col h i) := funext fun a => Fin.ext (by
  match a with
  | ⟨0, _⟩ => show ((t.val * 16 + h.val) * 128 + i.val) / 2048 = t.val; omega
  | ⟨1, _⟩ => rfl
  | ⟨2, _⟩ => show ((t.val * 16 + h.val) * 128 + i.val) % 2048 = h.val * 128 + i.val; omega)
theorem rate_idx (t : Fin 128) (h : Fin 16) : idx_main_v3 (ix2 t h) = ix3 t 0 h := funext fun a => Fin.ext (by
  match a with
  | ⟨0, _⟩ => show (t.val * 16 + h.val) / 16 = t.val; omega
  | ⟨1, _⟩ => rfl
  | ⟨2, _⟩ => show (t.val * 16 + h.val) % 16 = h.val; omega)

/-- The plain program's decayed states. -/
theorem ref_decayed (t : Fin 128) (h : Fin 16) (i j : Fin 128) :
    val_main_v8 (F := Ideal) g s (ix4 t h i j) = @HMul.hMul EReal EReal EReal instHMul (s (ix4 t h i j)) (Ideal.exp (g (ix3 t 0 h))) := by
  rw [val_main_v8_apply, val_main_v7_apply, val_main_v6_apply, val_main_v5_apply, val_main_v3_apply]
  have e : idx_main_v3 (idx_main_v6 (idx_main_v7 (ix4 t h i j))) = ix3 t 0 h :=
    (congrArg idx_main_v3 (funext fun a => by match a with | ⟨0, _⟩ => rfl | ⟨1, _⟩ => rfl)).trans (rate_idx t h)
  rw [e]
  rfl

/-- The plain program's correction. -/
theorem ref_lack (t : Fin 128) (h : Fin 16) (j : Fin 128) : val_main_v13 (F := Ideal) k v g b s (ix3 t h j)
    = @HMul.hMul EReal EReal EReal instHMul (b (ix3 t 0 h)) (@HSub.hSub EReal EReal EReal instHSub (v (ix3 t 0 (col h j)))
        (∑ l : Fin 128, @HMul.hMul EReal EReal EReal instHMul (k (ix3 t 0 (col h l)))
          (@HMul.hMul EReal EReal EReal instHMul (s (ix4 t h l j)) (Ideal.exp (g (ix3 t 0 h)))))) := by
  rw [val_main_v13_apply, val_main_v12_apply, val_main_v9_apply, val_main_v4_apply, val_main_v11_apply, val_main_v2_apply, val_main_v10_apply]
  refine congrArg₂ (@HMul.hMul EReal EReal EReal instHMul) (congrArg b ?_) (congrArg₂ (@HSub.hSub EReal EReal EReal instHSub) (congrArg v (split_idx t h j))
    (Finset.sum_congr rfl fun l _ => congrArg₂ (@HMul.hMul EReal EReal EReal instHMul) ?_ ?_))
  · exact (congrArg idx_main_v3 (funext fun a => by match a with | ⟨0, _⟩ => rfl | ⟨1, _⟩ => rfl)).trans (rate_idx t h)
  · rw [val_main_v1_apply]
    exact congrArg k ((congrArg idx_main_v0 (funext fun a => by match a with | ⟨0, _⟩ => rfl | ⟨1, _⟩ => rfl | ⟨2, _⟩ => rfl)).trans (split_idx t h l))
  · exact (congrArg (val_main_v8 (F := Ideal) g s) (funext fun a => by
      match a with | ⟨0, _⟩ => rfl | ⟨1, _⟩ => rfl | ⟨2, _⟩ => rfl | ⟨3, _⟩ => rfl)).trans (ref_decayed g s t h l j)

/-- The plain program's new states. -/
theorem ref_states (t : Fin 128) (h : Fin 16) (i j : Fin 128) :
    val_main_v19 (F := Ideal) k v g b s (ix4 t h i j) = statesOf k v g b s t h i j := by
  rw [val_main_v19_apply, val_main_v18_apply, val_main_v16_apply, val_main_v14_apply, val_main_v1_apply, val_main_v17_apply, val_main_v15_apply]
  refine congrArg₂ (@HAdd.hAdd EReal EReal EReal instHAdd) (ref_decayed g s t h i j) (congrArg₂ (@HMul.hMul EReal EReal EReal instHMul) (congrArg k ?_) ?_)
  · exact (congrArg idx_main_v0 (funext fun a => by match a with | ⟨0, _⟩ => rfl | ⟨1, _⟩ => rfl | ⟨2, _⟩ => rfl)).trans (split_idx t h i)
  · exact (congrArg (val_main_v13 (F := Ideal) k v g b s) (funext fun a => by
      match a with | ⟨0, _⟩ => rfl | ⟨1, _⟩ => rfl | ⟨2, _⟩ => rfl)).trans (ref_lack k v g b s t h j)

theorem ref7 : val_main_v19 (F := Ideal) k v g b s = fun i => statesOf k v g b s (i 0) (i 1) (i 2) (i 3) := funext fun i =>
  (congrArg (val_main_v19 (F := Ideal) k v g b s) (eq_ix4 (n0 := 128) (n1 := 16) (n2 := 128) (n3 := 128) i)).trans
    (ref_states k v g b s (i 0) (i 1) (i 2) (i 3))

/-- The plain program's read-out. -/
theorem ref_read (t : Fin 128) (n : Fin 2048) : val_main_v21 (F := Ideal) q k v g b s (ix3 t 0 n) = readoutOf q k v g b s t n := by
  have e : idx_main_v21 (ix3 t 0 n) = ix3 t (head n) (lane n) := funext fun a => Fin.ext (by
    match a with
    | ⟨0, _⟩ => show ((t.val * 1 + 0) * 2048 + n.val) / 2048 = t.val; omega
    | ⟨1, _⟩ => show ((t.val * 1 + 0) * 2048 + n.val) / 128 % 16 = n.val / 128; omega
    | ⟨2, _⟩ => show ((t.val * 1 + 0) * 2048 + n.val) % 128 = n.val % 128; omega)
  rw [val_main_v21_apply, e, val_main_v20_apply]
  unfold readoutOf readout
  refine Finset.sum_congr rfl fun l _ => congrArg₂ (@HMul.hMul EReal EReal EReal instHMul) ?_ ?_
  · rw [val_main_v0_apply]
    exact congrArg q ((congrArg idx_main_v0 (funext fun a => by match a with | ⟨0, _⟩ => rfl | ⟨1, _⟩ => rfl | ⟨2, _⟩ => rfl)).trans
      (split_idx t (head n) l))
  · exact (congrArg (val_main_v19 (F := Ideal) k v g b s) (funext fun a => by
      match a with | ⟨0, _⟩ => rfl | ⟨1, _⟩ => rfl | ⟨2, _⟩ => rfl | ⟨3, _⟩ => rfl)).trans (ref_states k v g b s t (head n) l (lane n))

theorem ref6 : val_main_v21 (F := Ideal) q k v g b s = fun i => readoutOf q k v g b s (i 0) (i 2) := funext fun i =>
  (congrArg (val_main_v21 (F := Ideal) q k v g b s) (funext fun a => by
    match a with
    | ⟨0, _⟩ => rfl
    | ⟨1, _⟩ => exact Fin.ext (by have h1 : (i 1).val < 1 := (i 1).isLt; show (i 1).val = 0; omega)
    | ⟨2, _⟩ => rfl : i = ix3 (n0 := 128) (n1 := 1) (n2 := 2048) (i 0) 0 (i 2))).trans (ref_read q k v g b s (i 0) (i 2))
end

theorem algebraic : Cert.algebraic_Kernel12Ideal_Reference12Ideal (hKernel12Ideal := Cert.Kernel12Ideal.Gen.facts)
    (hReference12Ideal := Cert.Reference12Ideal.Gen.facts) := by
  intro m ρ m' ρ' _ hag
  refine ⟨fun c => (dats m 0 c).arrAt 6 cfg0.N, fun c => (dats m 0 c).arrAt 7 cfg0.N, Value.run_blocks m ρ, ?_⟩
  refine (θ_run Cert.Reference12Ideal.defs _ _).mono (fun _ h c => ⟨(h c).1.trans ?_, (h c).2.1.trans ?_, (h c).2.2⟩)
    (Cert.Reference12Ideal.Value.run (F := Ideal) m' ρ')
  · refine Eq.trans ?_ (final6 m c).symm
    rw [Cert.Reference12Ideal.Read.val_main_v21_eq, (hag c).1, (hag c).2.1, (hag c).2.2.1, (hag c).2.2.2.1, (hag c).2.2.2.2.1, (hag c).2.2.2.2.2]
    exact ref6 _ _ _ _ _ _
  · refine Eq.trans ?_ (final7 m c).symm
    rw [Cert.Reference12Ideal.Read.val_main_v19_eq, (hag c).2.1, (hag c).2.2.1, (hag c).2.2.2.1, (hag c).2.2.2.2.1, (hag c).2.2.2.2.2]
    exact ref7 _ _ _ _ _

theorem frame_ref : Cert.quiescent_Reference12Ideal (hReference12Ideal := Cert.Reference12Ideal.Gen.facts) := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

end Cert.Gdn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Flash
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Flash
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_mla_finite
public import proofs.«01_k».proof.Proof.Gen.Pre_ffn_tables
public import proofs.«01_k».proof.Proof.Gen.Pre_fox_finite
public import proofs.«01_k».proof.Proof.Gen.Pre_moe_tables
public import proofs.«01_k».proof.Proof.FlashBitsFrame
public import proofs.«01_k».proof.Proof.FlashFrame
public import proofs.«01_k».proof.Proof.FlashClaims
public import proofs.«01_k».proof.Proof.FfnClaims
public import proofs.«01_k».proof.Proof.OutValue
public import proofs.«01_k».proof.Proof.MoeClaims
public import proofs.«01_k».proof.Proof.ProjBitsFrame
public import proofs.«01_k».proof.Proof.ProjValue
public import proofs.«01_k».proof.Proof.ProjZeroBitsFrame
public import proofs.«01_k».proof.Proof.ProjZeroValue
public import proofs.«01_k».proof.Proof.FoxBitsFrame
public import proofs.«01_k».proof.Proof.FoxFrame
public import proofs.«01_k».proof.Proof.FoxClaims
public import proofs.«01_k».proof.Proof.AdalnValue
public import proofs.«01_k».proof.Proof.QUpValue
public import proofs.«01_k».proof.Proof.KvUpValue
public import proofs.«01_k».proof.Proof.LastValue
public import proofs.«01_k».proof.Proof.GdnValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_mla_finite.Gen.facts, Cert.Pre_ffn_tables.Gen.facts, Cert.Pre_moe_tables.Gen.facts, Cert.Pre_fox_finite.Gen.facts,
    fun m ρ _ => Cert.FlashBits.frame m ρ, fun m ρ _ => Cert.Flash.frame m ρ, Cert.FlashClaims.frameI_pre, Cert.FlashClaims.frame_ref, Cert.FlashClaims.frame_ref_pre,
    Cert.FfnClaims.frame, Cert.FfnClaims.frameI, Cert.FfnClaims.frame_ref, Cert.FfnClaims.frame_ref_pre,
    fun m ρ _ => Cert.Kernel3.Gen.frame m ρ, fun m ρ _ => Cert.Kernel3Ideal.Gen.frame m ρ, Cert.OutValue.frame_ref,
    Cert.MoeClaims.frame, Cert.MoeClaims.frameI, Cert.MoeClaims.frame_ref, Cert.MoeClaims.frame_ref_pre,
    fun m ρ _ => Cert.ProjBits.frame m ρ, Cert.Proj.frame, Cert.Proj.frame_ref,
    fun m ρ _ => Cert.ProjZeroBits.frame m ρ, Cert.ProjZero.frame, Cert.ProjZero.frame_ref,
    fun m ρ _ => Cert.FoxBits.frame m ρ, fun m ρ _ => Cert.Fox.frame m ρ, Cert.FoxClaims.frameI_pre, Cert.FoxClaims.frame_ref, Cert.FoxClaims.frame_ref_pre,
    fun m ρ _ => Cert.Kernel8.Gen.frame m ρ, fun m ρ _ => Cert.Kernel8Ideal.Gen.frame m ρ, Cert.AdalnValue.frame_ref,
    fun m ρ _ => Cert.Kernel9.Gen.frame m ρ, fun m ρ _ => Cert.Kernel9Ideal.Gen.frame m ρ, Cert.QUpValue.frame_ref,
    fun m ρ _ => Cert.Kernel10.Gen.frame m ρ, fun m ρ _ => Cert.Kernel10Ideal.Gen.frame m ρ, Cert.KvUpValue.frame_ref,
    fun m ρ _ => Cert.Kernel11.Gen.frame m ρ, fun m ρ _ => Cert.Kernel11Ideal.Gen.frame m ρ, Cert.Last.frame_ref,
    fun m ρ _ => Cert.Kernel12.Gen.frame m ρ, fun m ρ _ => Cert.Kernel12Ideal.Gen.frame m ρ, Cert.Gdn.frame_ref,
    trivial, Cert.FlashClaims.algebraic, trivial, Cert.FfnClaims.algebraic, trivial, Cert.OutValue.algebraic, trivial, Cert.MoeClaims.algebraic,
    trivial, Cert.Proj.algebraic, trivial, Cert.ProjZero.algebraic,
    trivial, Cert.FoxClaims.algebraic,
    trivial, Cert.AdalnValue.algebraic, trivial, Cert.QUpValue.algebraic, trivial, Cert.KvUpValue.algebraic, trivial, Cert.Last.algebraic,
    trivial, Cert.Gdn.algebraic⟩

end Cert.Proof

end
